-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OKernel (m : (ℓ : Loc Cert.OKernel.nD Cert.OKernel.τ Cert.OKernel.sig) → Buf (Elt Bits) ℓ) : Prop :=
  True

def Pre_OKernelIdeal (m : (ℓ : Loc Cert.OKernelIdeal.nD Cert.OKernelIdeal.τ Cert.OKernelIdeal.sig) → Buf (Elt Ideal) ℓ) : Prop :=
  True

def Pre_OReferenceIdeal (m : (ℓ : Loc Cert.OReferenceIdeal.nD Cert.OReferenceIdeal.τ Cert.OReferenceIdeal.sig) → Buf (Elt Ideal) ℓ) : Prop :=
  True

def Pre_GKernel (m : (ℓ : Loc Cert.GKernel.nD Cert.GKernel.τ Cert.GKernel.sig) → Buf (Elt Bits) ℓ) : Prop :=
  True

def Pre_GKernelIdeal (m : (ℓ : Loc Cert.GKernelIdeal.nD Cert.GKernelIdeal.τ Cert.GKernelIdeal.sig) → Buf (Elt Ideal) ℓ) : Prop :=
  True

def Pre_GReferenceIdeal (m : (ℓ : Loc Cert.GReferenceIdeal.nD Cert.GReferenceIdeal.τ Cert.GReferenceIdeal.sig) → Buf (Elt Ideal) ℓ) : Prop :=
  True

def Pre_QKernel (m : (ℓ : Loc Cert.QKernel.nD Cert.QKernel.τ Cert.QKernel.sig) → Buf (Elt Bits) ℓ) : Prop :=
  True

def Pre_QKernelIdeal (m : (ℓ : Loc Cert.QKernelIdeal.nD Cert.QKernelIdeal.τ Cert.QKernelIdeal.sig) → Buf (Elt Ideal) ℓ) : Prop :=
  True

def Pre_QReferenceIdeal (m : (ℓ : Loc Cert.QReferenceIdeal.nD Cert.QReferenceIdeal.τ Cert.QReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_OKernel [hOKernel : Cert.OKernel.Facts] : Prop :=
  ∀ (m : (ℓ : Loc Cert.OKernel.nD Cert.OKernel.τ Cert.OKernel.sig) → Buf (Elt Bits) ℓ) (g : Dev Cert.OKernel.nD → PrngReg), Pre_OKernel m →
    θ_run (Cert.OKernel.defs (F := Bits)) (onTc (τ := Cert.OKernel.τ) (Cert.OKernel.main (F := Bits))) ⟨m, fun _ => 0, g⟩ (fun r => (∀ c : Dev Cert.OKernel.nD,
      r.2.mem ((c.tc : Thread Cert.OKernel.nD Cert.OKernel.τ).loc Cert.OKernel.main_arg0) = m ((c.tc : Thread Cert.OKernel.nD Cert.OKernel.τ).loc Cert.OKernel.main_arg0)
      ∧ r.2.mem ((c.tc : Thread Cert.OKernel.nD Cert.OKernel.τ).loc Cert.OKernel.main_arg1) = m ((c.tc : Thread Cert.OKernel.nD Cert.OKernel.τ).loc Cert.OKernel.main_arg1)
      ∧ r.2.mem ((c.tc : Thread Cert.OKernel.nD Cert.OKernel.τ).loc Cert.OKernel.main_arg2) = m ((c.tc : Thread Cert.OKernel.nD Cert.OKernel.τ).loc Cert.OKernel.main_arg2))
      ∧ r.2.sem = fun _ => 0)

def quiescent_OKernelIdeal [hOKernelIdeal : Cert.OKernelIdeal.Facts] : Prop :=
  ∀ (m : (ℓ : Loc Cert.OKernelIdeal.nD Cert.OKernelIdeal.τ Cert.OKernelIdeal.sig) → Buf (Elt Ideal) ℓ) (g : Dev Cert.OKernelIdeal.nD → PrngReg), Pre_OKernelIdeal m →
    θ_run (Cert.OKernelIdeal.defs (F := Ideal)) (onTc (τ := Cert.OKernelIdeal.τ) (Cert.OKernelIdeal.main (F := Ideal))) ⟨m, fun _ => 0, g⟩ (fun r => (∀ c : Dev Cert.OKernelIdeal.nD,
      r.2.mem ((c.tc : Thread Cert.OKernelIdeal.nD Cert.OKernelIdeal.τ).loc Cert.OKernelIdeal.main_arg0) = m ((c.tc : Thread Cert.OKernelIdeal.nD Cert.OKernelIdeal.τ).loc Cert.OKernelIdeal.main_arg0)
      ∧ r.2.mem ((c.tc : Thread Cert.OKernelIdeal.nD Cert.OKernelIdeal.τ).loc Cert.OKernelIdeal.main_arg1) = m ((c.tc : Thread Cert.OKernelIdeal.nD Cert.OKernelIdeal.τ).loc Cert.OKernelIdeal.main_arg1)
      ∧ r.2.mem ((c.tc : Thread Cert.OKernelIdeal.nD Cert.OKernelIdeal.τ).loc Cert.OKernelIdeal.main_arg2) = m ((c.tc : Thread Cert.OKernelIdeal.nD Cert.OKernelIdeal.τ).loc Cert.OKernelIdeal.main_arg2))
      ∧ r.2.sem = fun _ => 0)

def quiescent_OReferenceIdeal [hOReferenceIdeal : Cert.OReferenceIdeal.Facts] : Prop :=
  ∀ (m : (ℓ : Loc Cert.OReferenceIdeal.nD Cert.OReferenceIdeal.τ Cert.OReferenceIdeal.sig) → Buf (Elt Ideal) ℓ) (g : Dev Cert.OReferenceIdeal.nD → PrngReg), Pre_OReferenceIdeal m →
    θ_run (Cert.OReferenceIdeal.defs (F := Ideal)) (onTc (τ := Cert.OReferenceIdeal.τ) (Cert.OReferenceIdeal.main (F := Ideal))) ⟨m, fun _ => 0, g⟩ (fun r => (∀ c : Dev Cert.OReferenceIdeal.nD,
      r.2.mem ((c.tc : Thread Cert.OReferenceIdeal.nD Cert.OReferenceIdeal.τ).loc Cert.OReferenceIdeal.main_arg0) = m ((c.tc : Thread Cert.OReferenceIdeal.nD Cert.OReferenceIdeal.τ).loc Cert.OReferenceIdeal.main_arg0)
      ∧ r.2.mem ((c.tc : Thread Cert.OReferenceIdeal.nD Cert.OReferenceIdeal.τ).loc Cert.OReferenceIdeal.main_arg1) = m ((c.tc : Thread Cert.OReferenceIdeal.nD Cert.OReferenceIdeal.τ).loc Cert.OReferenceIdeal.main_arg1)
      ∧ r.2.mem ((c.tc : Thread Cert.OReferenceIdeal.nD Cert.OReferenceIdeal.τ).loc Cert.OReferenceIdeal.main_arg2) = m ((c.tc : Thread Cert.OReferenceIdeal.nD Cert.OReferenceIdeal.τ).loc Cert.OReferenceIdeal.main_arg2))
      ∧ r.2.sem = fun _ => 0)

def quiescent_GKernel [hGKernel : Cert.GKernel.Facts] : Prop :=
  ∀ (m : (ℓ : Loc Cert.GKernel.nD Cert.GKernel.τ Cert.GKernel.sig) → Buf (Elt Bits) ℓ) (g : Dev Cert.GKernel.nD → PrngReg), Pre_GKernel m →
    θ_run (Cert.GKernel.defs (F := Bits)) (onTc (τ := Cert.GKernel.τ) (Cert.GKernel.main (F := Bits))) ⟨m, fun _ => 0, g⟩ (fun r => (∀ c : Dev Cert.GKernel.nD,
      r.2.mem ((c.tc : Thread Cert.GKernel.nD Cert.GKernel.τ).loc Cert.GKernel.main_arg0) = m ((c.tc : Thread Cert.GKernel.nD Cert.GKernel.τ).loc Cert.GKernel.main_arg0)
      ∧ r.2.mem ((c.tc : Thread Cert.GKernel.nD Cert.GKernel.τ).loc Cert.GKernel.main_arg1) = m ((c.tc : Thread Cert.GKernel.nD Cert.GKernel.τ).loc Cert.GKernel.main_arg1)
      ∧ r.2.mem ((c.tc : Thread Cert.GKernel.nD Cert.GKernel.τ).loc Cert.GKernel.main_arg2) = m ((c.tc : Thread Cert.GKernel.nD Cert.GKernel.τ).loc Cert.GKernel.main_arg2))
      ∧ r.2.sem = fun _ => 0)

def quiescent_GKernelIdeal [hGKernelIdeal : Cert.GKernelIdeal.Facts] : Prop :=
  ∀ (m : (ℓ : Loc Cert.GKernelIdeal.nD Cert.GKernelIdeal.τ Cert.GKernelIdeal.sig) → Buf (Elt Ideal) ℓ) (g : Dev Cert.GKernelIdeal.nD → PrngReg), Pre_GKernelIdeal m →
    θ_run (Cert.GKernelIdeal.defs (F := Ideal)) (onTc (τ := Cert.GKernelIdeal.τ) (Cert.GKernelIdeal.main (F := Ideal))) ⟨m, fun _ => 0, g⟩ (fun r => (∀ c : Dev Cert.GKernelIdeal.nD,
      r.2.mem ((c.tc : Thread Cert.GKernelIdeal.nD Cert.GKernelIdeal.τ).loc Cert.GKernelIdeal.main_arg0) = m ((c.tc : Thread Cert.GKernelIdeal.nD Cert.GKernelIdeal.τ).loc Cert.GKernelIdeal.main_arg0)
      ∧ r.2.mem ((c.tc : Thread Cert.GKernelIdeal.nD Cert.GKernelIdeal.τ).loc Cert.GKernelIdeal.main_arg1) = m ((c.tc : Thread Cert.GKernelIdeal.nD Cert.GKernelIdeal.τ).loc Cert.GKernelIdeal.main_arg1)
      ∧ r.2.mem ((c.tc : Thread Cert.GKernelIdeal.nD Cert.GKernelIdeal.τ).loc Cert.GKernelIdeal.main_arg2) = m ((c.tc : Thread Cert.GKernelIdeal.nD Cert.GKernelIdeal.τ).loc Cert.GKernelIdeal.main_arg2))
      ∧ r.2.sem = fun _ => 0)

def quiescent_GReferenceIdeal [hGReferenceIdeal : Cert.GReferenceIdeal.Facts] : Prop :=
  ∀ (m : (ℓ : Loc Cert.GReferenceIdeal.nD Cert.GReferenceIdeal.τ Cert.GReferenceIdeal.sig) → Buf (Elt Ideal) ℓ) (g : Dev Cert.GReferenceIdeal.nD → PrngReg), Pre_GReferenceIdeal m →
    θ_run (Cert.GReferenceIdeal.defs (F := Ideal)) (onTc (τ := Cert.GReferenceIdeal.τ) (Cert.GReferenceIdeal.main (F := Ideal))) ⟨m, fun _ => 0, g⟩ (fun r => (∀ c : Dev Cert.GReferenceIdeal.nD,
      r.2.mem ((c.tc : Thread Cert.GReferenceIdeal.nD Cert.GReferenceIdeal.τ).loc Cert.GReferenceIdeal.main_arg0) = m ((c.tc : Thread Cert.GReferenceIdeal.nD Cert.GReferenceIdeal.τ).loc Cert.GReferenceIdeal.main_arg0)
      ∧ r.2.mem ((c.tc : Thread Cert.GReferenceIdeal.nD Cert.GReferenceIdeal.τ).loc Cert.GReferenceIdeal.main_arg1) = m ((c.tc : Thread Cert.GReferenceIdeal.nD Cert.GReferenceIdeal.τ).loc Cert.GReferenceIdeal.main_arg1)
      ∧ r.2.mem ((c.tc : Thread Cert.GReferenceIdeal.nD Cert.GReferenceIdeal.τ).loc Cert.GReferenceIdeal.main_arg2) = m ((c.tc : Thread Cert.GReferenceIdeal.nD Cert.GReferenceIdeal.τ).loc Cert.GReferenceIdeal.main_arg2))
      ∧ r.2.sem = fun _ => 0)

def quiescent_QKernel [hQKernel : Cert.QKernel.Facts] : Prop :=
  ∀ (m : (ℓ : Loc Cert.QKernel.nD Cert.QKernel.τ Cert.QKernel.sig) → Buf (Elt Bits) ℓ) (g : Dev Cert.QKernel.nD → PrngReg), Pre_QKernel m →
    θ_run (Cert.QKernel.defs (F := Bits)) (onTc (τ := Cert.QKernel.τ) (Cert.QKernel.main (F := Bits))) ⟨m, fun _ => 0, g⟩ (fun r => (∀ c : Dev Cert.QKernel.nD,
      r.2.mem ((c.tc : Thread Cert.QKernel.nD Cert.QKernel.τ).loc Cert.QKernel.main_arg0) = m ((c.tc : Thread Cert.QKernel.nD Cert.QKernel.τ).loc Cert.QKernel.main_arg0)
      ∧ r.2.mem ((c.tc : Thread Cert.QKernel.nD Cert.QKernel.τ).loc Cert.QKernel.main_arg1) = m ((c.tc : Thread Cert.QKernel.nD Cert.QKernel.τ).loc Cert.QKernel.main_arg1)
      ∧ r.2.mem ((c.tc : Thread Cert.QKernel.nD Cert.QKernel.τ).loc Cert.QKernel.main_arg2) = m ((c.tc : Thread Cert.QKernel.nD Cert.QKernel.τ).loc Cert.QKernel.main_arg2)
      ∧ r.2.mem ((c.tc : Thread Cert.QKernel.nD Cert.QKernel.τ).loc Cert.QKernel.main_arg3) = m ((c.tc : Thread Cert.QKernel.nD Cert.QKernel.τ).loc Cert.QKernel.main_arg3)
      ∧ r.2.mem ((c.tc : Thread Cert.QKernel.nD Cert.QKernel.τ).loc Cert.QKernel.main_arg4) = m ((c.tc : Thread Cert.QKernel.nD Cert.QKernel.τ).loc Cert.QKernel.main_arg4))
      ∧ r.2.sem = fun _ => 0)

def quiescent_QKernelIdeal [hQKernelIdeal : Cert.QKernelIdeal.Facts] : Prop :=
  ∀ (m : (ℓ : Loc Cert.QKernelIdeal.nD Cert.QKernelIdeal.τ Cert.QKernelIdeal.sig) → Buf (Elt Ideal) ℓ) (g : Dev Cert.QKernelIdeal.nD → PrngReg), Pre_QKernelIdeal m →
    θ_run (Cert.QKernelIdeal.defs (F := Ideal)) (onTc (τ := Cert.QKernelIdeal.τ) (Cert.QKernelIdeal.main (F := Ideal))) ⟨m, fun _ => 0, g⟩ (fun r => (∀ c : Dev Cert.QKernelIdeal.nD,
      r.2.mem ((c.tc : Thread Cert.QKernelIdeal.nD Cert.QKernelIdeal.τ).loc Cert.QKernelIdeal.main_arg0) = m ((c.tc : Thread Cert.QKernelIdeal.nD Cert.QKernelIdeal.τ).loc Cert.QKernelIdeal.main_arg0)
      ∧ r.2.mem ((c.tc : Thread Cert.QKernelIdeal.nD Cert.QKernelIdeal.τ).loc Cert.QKernelIdeal.main_arg1) = m ((c.tc : Thread Cert.QKernelIdeal.nD Cert.QKernelIdeal.τ).loc Cert.QKernelIdeal.main_arg1)
      ∧ r.2.mem ((c.tc : Thread Cert.QKernelIdeal.nD Cert.QKernelIdeal.τ).loc Cert.QKernelIdeal.main_arg2) = m ((c.tc : Thread Cert.QKernelIdeal.nD Cert.QKernelIdeal.τ).loc Cert.QKernelIdeal.main_arg2)
      ∧ r.2.mem ((c.tc : Thread Cert.QKernelIdeal.nD Cert.QKernelIdeal.τ).loc Cert.QKernelIdeal.main_arg3) = m ((c.tc : Thread Cert.QKernelIdeal.nD Cert.QKernelIdeal.τ).loc Cert.QKernelIdeal.main_arg3)
      ∧ r.2.mem ((c.tc : Thread Cert.QKernelIdeal.nD Cert.QKernelIdeal.τ).loc Cert.QKernelIdeal.main_arg4) = m ((c.tc : Thread Cert.QKernelIdeal.nD Cert.QKernelIdeal.τ).loc Cert.QKernelIdeal.main_arg4))
      ∧ r.2.sem = fun _ => 0)

def quiescent_QReferenceIdeal [hQReferenceIdeal : Cert.QReferenceIdeal.Facts] : Prop :=
  ∀ (m : (ℓ : Loc Cert.QReferenceIdeal.nD Cert.QReferenceIdeal.τ Cert.QReferenceIdeal.sig) → Buf (Elt Ideal) ℓ) (g : Dev Cert.QReferenceIdeal.nD → PrngReg), Pre_QReferenceIdeal m →
    θ_run (Cert.QReferenceIdeal.defs (F := Ideal)) (onTc (τ := Cert.QReferenceIdeal.τ) (Cert.QReferenceIdeal.main (F := Ideal))) ⟨m, fun _ => 0, g⟩ (fun r => (∀ c : Dev Cert.QReferenceIdeal.nD,
      r.2.mem ((c.tc : Thread Cert.QReferenceIdeal.nD Cert.QReferenceIdeal.τ).loc Cert.QReferenceIdeal.main_arg0) = m ((c.tc : Thread Cert.QReferenceIdeal.nD Cert.QReferenceIdeal.τ).loc Cert.QReferenceIdeal.main_arg0)
      ∧ r.2.mem ((c.tc : Thread Cert.QReferenceIdeal.nD Cert.QReferenceIdeal.τ).loc Cert.QReferenceIdeal.main_arg1) = m ((c.tc : Thread Cert.QReferenceIdeal.nD Cert.QReferenceIdeal.τ).loc Cert.QReferenceIdeal.main_arg1)
      ∧ r.2.mem ((c.tc : Thread Cert.QReferenceIdeal.nD Cert.QReferenceIdeal.τ).loc Cert.QReferenceIdeal.main_arg2) = m ((c.tc : Thread Cert.QReferenceIdeal.nD Cert.QReferenceIdeal.τ).loc Cert.QReferenceIdeal.main_arg2)
      ∧ r.2.mem ((c.tc : Thread Cert.QReferenceIdeal.nD Cert.QReferenceIdeal.τ).loc Cert.QReferenceIdeal.main_arg3) = m ((c.tc : Thread Cert.QReferenceIdeal.nD Cert.QReferenceIdeal.τ).loc Cert.QReferenceIdeal.main_arg3)
      ∧ r.2.mem ((c.tc : Thread Cert.QReferenceIdeal.nD Cert.QReferenceIdeal.τ).loc Cert.QReferenceIdeal.main_arg4) = m ((c.tc : Thread Cert.QReferenceIdeal.nD Cert.QReferenceIdeal.τ).loc Cert.QReferenceIdeal.main_arg4))
      ∧ r.2.sem = fun _ => 0)

def preserves_Kernel_KernelIdeal : Prop :=
  IdealRules.bf16_pair.BufferStatement Cert.KernelIdeal.S3584x2x512 Cert.KernelIdeal.S3584x1x512
  ∧ IdealRules.bf16_pair.Statement Cert.KernelIdeal.S32x512 Cert.KernelIdeal.S16x512
  ∧ IdealRules.bf16_pair.Statement Cert.KernelIdeal.S16x2x512 Cert.KernelIdeal.S16x1x512
  ∧ IdealRules.bf16_pair.Statement Cert.KernelIdeal.S3584x2x512 Cert.KernelIdeal.S3584x1x512
  ∧ IdealRules.bf16_pair.Statement Cert.KernelIdeal.S7168x512 Cert.KernelIdeal.S3584x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_OKernel_OKernelIdeal : Prop :=
  IdealRules.bf16_pair.BufferStatement Cert.OKernelIdeal.S1024x2x512 Cert.OKernelIdeal.S1024x1x512
  ∧ IdealRules.bf16_pair.Statement Cert.OKernelIdeal.S32x512 Cert.OKernelIdeal.S16x512
  ∧ IdealRules.bf16_pair.Statement Cert.OKernelIdeal.S16x2x512 Cert.OKernelIdeal.S16x1x512
  ∧ IdealRules.bf16_pair.Statement Cert.OKernelIdeal.S1024x2x512 Cert.OKernelIdeal.S1024x1x512
  ∧ IdealRules.bf16_pair.Statement Cert.OKernelIdeal.S2048x512 Cert.OKernelIdeal.S1024x512

def algebraic_OKernelIdeal_OReferenceIdeal [hOKernelIdeal : Cert.OKernelIdeal.Facts] [hOReferenceIdeal : Cert.OReferenceIdeal.Facts] : Prop :=
  ∀ (m : (ℓ : Loc Cert.OKernelIdeal.nD Cert.OKernelIdeal.τ Cert.OKernelIdeal.sig) → Buf (Elt Ideal) ℓ) (g : Dev Cert.OKernelIdeal.nD → PrngReg)
    (m' : (ℓ : Loc Cert.OReferenceIdeal.nD Cert.OReferenceIdeal.τ Cert.OReferenceIdeal.sig) → Buf (Elt Ideal) ℓ) (g' : Dev Cert.OReferenceIdeal.nD → PrngReg), Pre_OKernelIdeal m →
    (∀ c : Dev Cert.OKernelIdeal.nD,
      m' ((c.tc : Thread Cert.OReferenceIdeal.nD Cert.OReferenceIdeal.τ).loc Cert.OReferenceIdeal.main_arg0) = m ((c.tc : Thread Cert.OKernelIdeal.nD Cert.OKernelIdeal.τ).loc Cert.OKernelIdeal.main_arg0)
      ∧ m' ((c.tc : Thread Cert.OReferenceIdeal.nD Cert.OReferenceIdeal.τ).loc Cert.OReferenceIdeal.main_arg1) = m ((c.tc : Thread Cert.OKernelIdeal.nD Cert.OKernelIdeal.τ).loc Cert.OKernelIdeal.main_arg1)
      ∧ m' ((c.tc : Thread Cert.OReferenceIdeal.nD Cert.OReferenceIdeal.τ).loc Cert.OReferenceIdeal.main_arg2) = m ((c.tc : Thread Cert.OKernelIdeal.nD Cert.OKernelIdeal.τ).loc Cert.OKernelIdeal.main_arg2)) →
    ∃ (v0 : (c : Dev Cert.OKernelIdeal.nD) → Buf (Elt Ideal) ((c.tc : Thread Cert.OKernelIdeal.nD Cert.OKernelIdeal.τ).loc Cert.OKernelIdeal.main_v0)),
      θ_run (Cert.OKernelIdeal.defs (F := Ideal)) (onTc (τ := Cert.OKernelIdeal.τ) (Cert.OKernelIdeal.main (F := Ideal))) ⟨m, fun _ => 0, g⟩ (fun r => ∀ c : Dev Cert.OKernelIdeal.nD,
          r.2.mem ((c.tc : Thread Cert.OKernelIdeal.nD Cert.OKernelIdeal.τ).loc Cert.OKernelIdeal.main_v0) = v0 c
          ∧ r.2.mem ((c.tc : Thread Cert.OKernelIdeal.nD Cert.OKernelIdeal.τ).loc Cert.OKernelIdeal.main_arg0) = m ((c.tc : Thread Cert.OKernelIdeal.nD Cert.OKernelIdeal.τ).loc Cert.OKernelIdeal.main_arg0)
          ∧ r.2.mem ((c.tc : Thread Cert.OKernelIdeal.nD Cert.OKernelIdeal.τ).loc Cert.OKernelIdeal.main_arg1) = m ((c.tc : Thread Cert.OKernelIdeal.nD Cert.OKernelIdeal.τ).loc Cert.OKernelIdeal.main_arg1)
          ∧ r.2.mem ((c.tc : Thread Cert.OKernelIdeal.nD Cert.OKernelIdeal.τ).loc Cert.OKernelIdeal.main_arg2) = m ((c.tc : Thread Cert.OKernelIdeal.nD Cert.OKernelIdeal.τ).loc Cert.OKernelIdeal.main_arg2))
      ∧ θ_run (Cert.OReferenceIdeal.defs (F := Ideal)) (onTc (τ := Cert.OReferenceIdeal.τ) (Cert.OReferenceIdeal.main (F := Ideal))) ⟨m', fun _ => 0, g'⟩ (fun r => ∀ c : Dev Cert.OReferenceIdeal.nD,
          r.2.mem ((c.tc : Thread Cert.OReferenceIdeal.nD Cert.OReferenceIdeal.τ).loc Cert.OReferenceIdeal.main_v84) = v0 c
          ∧ r.2.mem ((c.tc : Thread Cert.OReferenceIdeal.nD Cert.OReferenceIdeal.τ).loc Cert.OReferenceIdeal.main_arg0) = m' ((c.tc : Thread Cert.OReferenceIdeal.nD Cert.OReferenceIdeal.τ).loc Cert.OReferenceIdeal.main_arg0)
          ∧ r.2.mem ((c.tc : Thread Cert.OReferenceIdeal.nD Cert.OReferenceIdeal.τ).loc Cert.OReferenceIdeal.main_arg1) = m' ((c.tc : Thread Cert.OReferenceIdeal.nD Cert.OReferenceIdeal.τ).loc Cert.OReferenceIdeal.main_arg1)
          ∧ r.2.mem ((c.tc : Thread Cert.OReferenceIdeal.nD Cert.OReferenceIdeal.τ).loc Cert.OReferenceIdeal.main_arg2) = m' ((c.tc : Thread Cert.OReferenceIdeal.nD Cert.OReferenceIdeal.τ).loc Cert.OReferenceIdeal.main_arg2))

def preserves_GKernel_GKernelIdeal : Prop :=
  IdealRules.bf16_pair.BufferStatement Cert.GKernelIdeal.S4096x2x512 Cert.GKernelIdeal.S4096x1x512
  ∧ IdealRules.bf16_pair.Statement Cert.GKernelIdeal.S32x256 Cert.GKernelIdeal.S16x256
  ∧ IdealRules.bf16_pair.Statement Cert.GKernelIdeal.S16x2x256 Cert.GKernelIdeal.S16x1x256
  ∧ IdealRules.bf16_pair.Statement Cert.GKernelIdeal.S4096x2x512 Cert.GKernelIdeal.S4096x1x512
  ∧ IdealRules.bf16_pair.Statement Cert.GKernelIdeal.S8192x512 Cert.GKernelIdeal.S4096x512
  ∧ IdealRules.bf16_pack.Statement Cert.GKernelIdeal.S256x128
  ∧ IdealRules.bf16_pair.Statement Cert.GKernelIdeal.S256x128 Cert.GKernelIdeal.S128x128
  ∧ IdealRules.bf16_pair.PackStatement Cert.GKernelIdeal.S128x128
  ∧ IdealRules.bf16_pair.Statement Cert.GKernelIdeal.S64x128 Cert.GKernelIdeal.S32x128
  ∧ IdealRules.bf16_pair.Statement Cert.GKernelIdeal.S16x128 Cert.GKernelIdeal.S8x128

def algebraic_GKernelIdeal_GReferenceIdeal [hGKernelIdeal : Cert.GKernelIdeal.Facts] [hGReferenceIdeal : Cert.GReferenceIdeal.Facts] : Prop :=
  ∀ (m : (ℓ : Loc Cert.GKernelIdeal.nD Cert.GKernelIdeal.τ Cert.GKernelIdeal.sig) → Buf (Elt Ideal) ℓ) (g : Dev Cert.GKernelIdeal.nD → PrngReg)
    (m' : (ℓ : Loc Cert.GReferenceIdeal.nD Cert.GReferenceIdeal.τ Cert.GReferenceIdeal.sig) → Buf (Elt Ideal) ℓ) (g' : Dev Cert.GReferenceIdeal.nD → PrngReg), Pre_GKernelIdeal m →
    (∀ c : Dev Cert.GKernelIdeal.nD,
      m' ((c.tc : Thread Cert.GReferenceIdeal.nD Cert.GReferenceIdeal.τ).loc Cert.GReferenceIdeal.main_arg0) = m ((c.tc : Thread Cert.GKernelIdeal.nD Cert.GKernelIdeal.τ).loc Cert.GKernelIdeal.main_arg0)
      ∧ m' ((c.tc : Thread Cert.GReferenceIdeal.nD Cert.GReferenceIdeal.τ).loc Cert.GReferenceIdeal.main_arg1) = m ((c.tc : Thread Cert.GKernelIdeal.nD Cert.GKernelIdeal.τ).loc Cert.GKernelIdeal.main_arg1)
      ∧ m' ((c.tc : Thread Cert.GReferenceIdeal.nD Cert.GReferenceIdeal.τ).loc Cert.GReferenceIdeal.main_arg2) = m ((c.tc : Thread Cert.GKernelIdeal.nD Cert.GKernelIdeal.τ).loc Cert.GKernelIdeal.main_arg2)) →
    ∃ (v0 : (c : Dev Cert.GKernelIdeal.nD) → Buf (Elt Ideal) ((c.tc : Thread Cert.GKernelIdeal.nD Cert.GKernelIdeal.τ).loc Cert.GKernelIdeal.main_v0_0)),
      θ_run (Cert.GKernelIdeal.defs (F := Ideal)) (onTc (τ := Cert.GKernelIdeal.τ) (Cert.GKernelIdeal.main (F := Ideal))) ⟨m, fun _ => 0, g⟩ (fun r => ∀ c : Dev Cert.GKernelIdeal.nD,
          r.2.mem ((c.tc : Thread Cert.GKernelIdeal.nD Cert.GKernelIdeal.τ).loc Cert.GKernelIdeal.main_v0_0) = v0 c
          ∧ r.2.mem ((c.tc : Thread Cert.GKernelIdeal.nD Cert.GKernelIdeal.τ).loc Cert.GKernelIdeal.main_arg0) = m ((c.tc : Thread Cert.GKernelIdeal.nD Cert.GKernelIdeal.τ).loc Cert.GKernelIdeal.main_arg0)
          ∧ r.2.mem ((c.tc : Thread Cert.GKernelIdeal.nD Cert.GKernelIdeal.τ).loc Cert.GKernelIdeal.main_arg1) = m ((c.tc : Thread Cert.GKernelIdeal.nD Cert.GKernelIdeal.τ).loc Cert.GKernelIdeal.main_arg1)
          ∧ r.2.mem ((c.tc : Thread Cert.GKernelIdeal.nD Cert.GKernelIdeal.τ).loc Cert.GKernelIdeal.main_arg2) = m ((c.tc : Thread Cert.GKernelIdeal.nD Cert.GKernelIdeal.τ).loc Cert.GKernelIdeal.main_arg2))
      ∧ θ_run (Cert.GReferenceIdeal.defs (F := Ideal)) (onTc (τ := Cert.GReferenceIdeal.τ) (Cert.GReferenceIdeal.main (F := Ideal))) ⟨m', fun _ => 0, g'⟩ (fun r => ∀ c : Dev Cert.GReferenceIdeal.nD,
          r.2.mem ((c.tc : Thread Cert.GReferenceIdeal.nD Cert.GReferenceIdeal.τ).loc Cert.GReferenceIdeal.main_v121) = v0 c
          ∧ r.2.mem ((c.tc : Thread Cert.GReferenceIdeal.nD Cert.GReferenceIdeal.τ).loc Cert.GReferenceIdeal.main_arg0) = m' ((c.tc : Thread Cert.GReferenceIdeal.nD Cert.GReferenceIdeal.τ).loc Cert.GReferenceIdeal.main_arg0)
          ∧ r.2.mem ((c.tc : Thread Cert.GReferenceIdeal.nD Cert.GReferenceIdeal.τ).loc Cert.GReferenceIdeal.main_arg1) = m' ((c.tc : Thread Cert.GReferenceIdeal.nD Cert.GReferenceIdeal.τ).loc Cert.GReferenceIdeal.main_arg1)
          ∧ r.2.mem ((c.tc : Thread Cert.GReferenceIdeal.nD Cert.GReferenceIdeal.τ).loc Cert.GReferenceIdeal.main_arg2) = m' ((c.tc : Thread Cert.GReferenceIdeal.nD Cert.GReferenceIdeal.τ).loc Cert.GReferenceIdeal.main_arg2))

def preserves_QKernel_QKernelIdeal : Prop :=
  IdealRules.bf16_pair.BufferStatement Cert.QKernelIdeal.S3072x2x256 Cert.QKernelIdeal.S3072x1x256
  ∧ IdealRules.bf16_pair.BufferStatement Cert.QKernelIdeal.S512x2x256 Cert.QKernelIdeal.S512x1x256
  ∧ IdealRules.bf16_pair.BufferStatement Cert.QKernelIdeal.S4096x2x512 Cert.QKernelIdeal.S4096x1x512
  ∧ IdealRules.bf16_pair.Statement Cert.QKernelIdeal.S32x512 Cert.QKernelIdeal.S16x512
  ∧ IdealRules.bf16_pair.Statement Cert.QKernelIdeal.S16x2x512 Cert.QKernelIdeal.S16x1x512
  ∧ IdealRules.bf16_pair.Statement Cert.QKernelIdeal.S4096x2x512 Cert.QKernelIdeal.S4096x1x512
  ∧ IdealRules.bf16_pair.Statement Cert.QKernelIdeal.S8192x512 Cert.QKernelIdeal.S4096x512
  ∧ IdealRules.bf16_pack.Statement Cert.QKernelIdeal.S256x128
  ∧ IdealRules.bf16_pair.Statement Cert.QKernelIdeal.S256x128 Cert.QKernelIdeal.S128x128
  ∧ IdealRules.bf16_pair.PackStatement Cert.QKernelIdeal.S128x128
  ∧ IdealRules.bf16_pair.Statement Cert.QKernelIdeal.S64x128 Cert.QKernelIdeal.S32x128
  ∧ IdealRules.bf16_pair.Statement Cert.QKernelIdeal.S16x128 Cert.QKernelIdeal.S8x128
  ∧ IdealRules.bf16_pair.Statement Cert.QKernelIdeal.S256x256 Cert.QKernelIdeal.S128x256
  ∧ IdealRules.bf16_pair.Statement Cert.QKernelIdeal.S128x2x256 Cert.QKernelIdeal.S128x1x256

def algebraic_QKernelIdeal_QReferenceIdeal [hQKernelIdeal : Cert.QKernelIdeal.Facts] [hQReferenceIdeal : Cert.QReferenceIdeal.Facts] : Prop :=
  ∀ (m : (ℓ : Loc Cert.QKernelIdeal.nD Cert.QKernelIdeal.τ Cert.QKernelIdeal.sig) → Buf (Elt Ideal) ℓ) (g : Dev Cert.QKernelIdeal.nD → PrngReg)
    (m' : (ℓ : Loc Cert.QReferenceIdeal.nD Cert.QReferenceIdeal.τ Cert.QReferenceIdeal.sig) → Buf (Elt Ideal) ℓ) (g' : Dev Cert.QReferenceIdeal.nD → PrngReg), Pre_QKernelIdeal m →
    (∀ c : Dev Cert.QKernelIdeal.nD,
      m' ((c.tc : Thread Cert.QReferenceIdeal.nD Cert.QReferenceIdeal.τ).loc Cert.QReferenceIdeal.main_arg0) = m ((c.tc : Thread Cert.QKernelIdeal.nD Cert.QKernelIdeal.τ).loc Cert.QKernelIdeal.main_arg0)
      ∧ m' ((c.tc : Thread Cert.QReferenceIdeal.nD Cert.QReferenceIdeal.τ).loc Cert.QReferenceIdeal.main_arg1) = m ((c.tc : Thread Cert.QKernelIdeal.nD Cert.QKernelIdeal.τ).loc Cert.QKernelIdeal.main_arg1)
      ∧ m' ((c.tc : Thread Cert.QReferenceIdeal.nD Cert.QReferenceIdeal.τ).loc Cert.QReferenceIdeal.main_arg2) = m ((c.tc : Thread Cert.QKernelIdeal.nD Cert.QKernelIdeal.τ).loc Cert.QKernelIdeal.main_arg2)
      ∧ m' ((c.tc : Thread Cert.QReferenceIdeal.nD Cert.QReferenceIdeal.τ).loc Cert.QReferenceIdeal.main_arg3) = m ((c.tc : Thread Cert.QKernelIdeal.nD Cert.QKernelIdeal.τ).loc Cert.QKernelIdeal.main_arg3)
      ∧ m' ((c.tc : Thread Cert.QReferenceIdeal.nD Cert.QReferenceIdeal.τ).loc Cert.QReferenceIdeal.main_arg4) = m ((c.tc : Thread Cert.QKernelIdeal.nD Cert.QKernelIdeal.τ).loc Cert.QKernelIdeal.main_arg4)) →
    ∃ (v0 : (c : Dev Cert.QKernelIdeal.nD) → Buf (Elt Ideal) ((c.tc : Thread Cert.QKernelIdeal.nD Cert.QKernelIdeal.τ).loc Cert.QKernelIdeal.main_v0_0)) (v1 : (c : Dev Cert.QKernelIdeal.nD) → Buf (Elt Ideal) ((c.tc : Thread Cert.QKernelIdeal.nD Cert.QKernelIdeal.τ).loc Cert.QKernelIdeal.main_v0_1)) (v2 : (c : Dev Cert.QKernelIdeal.nD) → Buf (Elt Ideal) ((c.tc : Thread Cert.QKernelIdeal.nD Cert.QKernelIdeal.τ).loc Cert.QKernelIdeal.main_v0_4)),
      θ_run (Cert.QKernelIdeal.defs (F := Ideal)) (onTc (τ := Cert.QKernelIdeal.τ) (Cert.QKernelIdeal.main (F := Ideal))) ⟨m, fun _ => 0, g⟩ (fun r => ∀ c : Dev Cert.QKernelIdeal.nD,
          r.2.mem ((c.tc : Thread Cert.QKernelIdeal.nD Cert.QKernelIdeal.τ).loc Cert.QKernelIdeal.main_v0_0) = v0 c
          ∧ r.2.mem ((c.tc : Thread Cert.QKernelIdeal.nD Cert.QKernelIdeal.τ).loc Cert.QKernelIdeal.main_v0_1) = v1 c
          ∧ r.2.mem ((c.tc : Thread Cert.QKernelIdeal.nD Cert.QKernelIdeal.τ).loc Cert.QKernelIdeal.main_v0_4) = v2 c
          ∧ r.2.mem ((c.tc : Thread Cert.QKernelIdeal.nD Cert.QKernelIdeal.τ).loc Cert.QKernelIdeal.main_arg0) = m ((c.tc : Thread Cert.QKernelIdeal.nD Cert.QKernelIdeal.τ).loc Cert.QKernelIdeal.main_arg0)
          ∧ r.2.mem ((c.tc : Thread Cert.QKernelIdeal.nD Cert.QKernelIdeal.τ).loc Cert.QKernelIdeal.main_arg1) = m ((c.tc : Thread Cert.QKernelIdeal.nD Cert.QKernelIdeal.τ).loc Cert.QKernelIdeal.main_arg1)
          ∧ r.2.mem ((c.tc : Thread Cert.QKernelIdeal.nD Cert.QKernelIdeal.τ).loc Cert.QKernelIdeal.main_arg2) = m ((c.tc : Thread Cert.QKernelIdeal.nD Cert.QKernelIdeal.τ).loc Cert.QKernelIdeal.main_arg2)
          ∧ r.2.mem ((c.tc : Thread Cert.QKernelIdeal.nD Cert.QKernelIdeal.τ).loc Cert.QKernelIdeal.main_arg3) = m ((c.tc : Thread Cert.QKernelIdeal.nD Cert.QKernelIdeal.τ).loc Cert.QKernelIdeal.main_arg3)
          ∧ r.2.mem ((c.tc : Thread Cert.QKernelIdeal.nD Cert.QKernelIdeal.τ).loc Cert.QKernelIdeal.main_arg4) = m ((c.tc : Thread Cert.QKernelIdeal.nD Cert.QKernelIdeal.τ).loc Cert.QKernelIdeal.main_arg4))
      ∧ θ_run (Cert.QReferenceIdeal.defs (F := Ideal)) (onTc (τ := Cert.QReferenceIdeal.τ) (Cert.QReferenceIdeal.main (F := Ideal))) ⟨m', fun _ => 0, g'⟩ (fun r => ∀ c : Dev Cert.QReferenceIdeal.nD,
          r.2.mem ((c.tc : Thread Cert.QReferenceIdeal.nD Cert.QReferenceIdeal.τ).loc Cert.QReferenceIdeal.main_v103) = v0 c
          ∧ r.2.mem ((c.tc : Thread Cert.QReferenceIdeal.nD Cert.QReferenceIdeal.τ).loc Cert.QReferenceIdeal.main_v168_0) = v1 c
          ∧ r.2.mem ((c.tc : Thread Cert.QReferenceIdeal.nD Cert.QReferenceIdeal.τ).loc Cert.QReferenceIdeal.main_v168_1) = v2 c
          ∧ r.2.mem ((c.tc : Thread Cert.QReferenceIdeal.nD Cert.QReferenceIdeal.τ).loc Cert.QReferenceIdeal.main_arg0) = m' ((c.tc : Thread Cert.QReferenceIdeal.nD Cert.QReferenceIdeal.τ).loc Cert.QReferenceIdeal.main_arg0)
          ∧ r.2.mem ((c.tc : Thread Cert.QReferenceIdeal.nD Cert.QReferenceIdeal.τ).loc Cert.QReferenceIdeal.main_arg1) = m' ((c.tc : Thread Cert.QReferenceIdeal.nD Cert.QReferenceIdeal.τ).loc Cert.QReferenceIdeal.main_arg1)
          ∧ r.2.mem ((c.tc : Thread Cert.QReferenceIdeal.nD Cert.QReferenceIdeal.τ).loc Cert.QReferenceIdeal.main_arg2) = m' ((c.tc : Thread Cert.QReferenceIdeal.nD Cert.QReferenceIdeal.τ).loc Cert.QReferenceIdeal.main_arg2)
          ∧ r.2.mem ((c.tc : Thread Cert.QReferenceIdeal.nD Cert.QReferenceIdeal.τ).loc Cert.QReferenceIdeal.main_arg3) = m' ((c.tc : Thread Cert.QReferenceIdeal.nD Cert.QReferenceIdeal.τ).loc Cert.QReferenceIdeal.main_arg3)
          ∧ r.2.mem ((c.tc : Thread Cert.QReferenceIdeal.nD Cert.QReferenceIdeal.τ).loc Cert.QReferenceIdeal.main_arg4) = m' ((c.tc : Thread Cert.QReferenceIdeal.nD Cert.QReferenceIdeal.τ).loc Cert.QReferenceIdeal.main_arg4))

def Claim : Prop :=
  ∃ (hKernel : Cert.Kernel.Facts) (hKernelIdeal : Cert.KernelIdeal.Facts) (hReferenceIdeal : Cert.ReferenceIdeal.Facts) (hOKernel : Cert.OKernel.Facts) (hOKernelIdeal : Cert.OKernelIdeal.Facts) (hOReferenceIdeal : Cert.OReferenceIdeal.Facts) (hGKernel : Cert.GKernel.Facts) (hGKernelIdeal : Cert.GKernelIdeal.Facts) (hGReferenceIdeal : Cert.GReferenceIdeal.Facts) (hQKernel : Cert.QKernel.Facts) (hQKernelIdeal : Cert.QKernelIdeal.Facts) (hQReferenceIdeal : Cert.QReferenceIdeal.Facts),
    quiescent_Kernel (hKernel := hKernel)
    ∧ quiescent_KernelIdeal (hKernelIdeal := hKernelIdeal)
    ∧ quiescent_ReferenceIdeal (hReferenceIdeal := hReferenceIdeal)
    ∧ quiescent_OKernel (hOKernel := hOKernel)
    ∧ quiescent_OKernelIdeal (hOKernelIdeal := hOKernelIdeal)
    ∧ quiescent_OReferenceIdeal (hOReferenceIdeal := hOReferenceIdeal)
    ∧ quiescent_GKernel (hGKernel := hGKernel)
    ∧ quiescent_GKernelIdeal (hGKernelIdeal := hGKernelIdeal)
    ∧ quiescent_GReferenceIdeal (hGReferenceIdeal := hGReferenceIdeal)
    ∧ quiescent_QKernel (hQKernel := hQKernel)
    ∧ quiescent_QKernelIdeal (hQKernelIdeal := hQKernelIdeal)
    ∧ quiescent_QReferenceIdeal (hQReferenceIdeal := hQReferenceIdeal)
    ∧ preserves_Kernel_KernelIdeal
    ∧ algebraic_KernelIdeal_ReferenceIdeal (hKernelIdeal := hKernelIdeal) (hReferenceIdeal := hReferenceIdeal)
    ∧ preserves_OKernel_OKernelIdeal
    ∧ algebraic_OKernelIdeal_OReferenceIdeal (hOKernelIdeal := hOKernelIdeal) (hOReferenceIdeal := hOReferenceIdeal)
    ∧ preserves_GKernel_GKernelIdeal
    ∧ algebraic_GKernelIdeal_GReferenceIdeal (hGKernelIdeal := hGKernelIdeal) (hGReferenceIdeal := hGReferenceIdeal)
    ∧ preserves_QKernel_QKernelIdeal
    ∧ algebraic_QKernelIdeal_QReferenceIdeal (hQKernelIdeal := hQKernelIdeal) (hQReferenceIdeal := hQReferenceIdeal)
-- ==== Kernel.lean ====
abbrev S3072x7168 : Shape := ⟨2, ![3072, 7168]⟩
abbrev S3584x8192 : Shape := ⟨2, ![3584, 8192]⟩
abbrev S224x8192 : Shape := ⟨2, ![224, 8192]⟩
abbrev S6144x8192 : Shape := ⟨2, ![6144, 8192]⟩
abbrev S512x7168 : Shape := ⟨2, ![512, 7168]⟩
abbrev S3584x512 : Shape := ⟨2, ![3584, 512]⟩
abbrev S224x512 : Shape := ⟨2, ![224, 512]⟩
abbrev S1024x512 : Shape := ⟨2, ![1024, 512]⟩
abbrev S128x512 : Shape := ⟨2, ![128, 512]⟩
abbrev S256x512 : Shape := ⟨2, ![256, 512]⟩
abbrev S8x512 : Shape := ⟨2, ![8, 512]⟩
abbrev S1x512 : Shape := ⟨2, ![1, 512]⟩
abbrev S16x512 : Shape := ⟨2, ![16, 512]⟩
abbrev S32x512 : Shape := ⟨2, ![32, 512]⟩
abbrev S1024x7168 : Shape := ⟨2, ![1024, 7168]⟩
abbrev S7168x512 : Shape := ⟨2, ![7168, 512]⟩

abbrev nBuf : Space → Nat
  | .hbm => 4
  | .vmem => 10
  | .smem => 0
  | _ => 0

abbrev bufTy : (tb : Table) → Fin (tcTables nBuf tb) → BufTy
  | .hbm, ⟨0, _⟩ => ⟨S3072x7168, .i32⟩
  | .hbm, ⟨1, _⟩ => ⟨S3584x8192, .i8⟩
  | .hbm, ⟨2, _⟩ => ⟨S224x8192, .i8⟩
  | .hbm, ⟨3, _⟩ => ⟨S6144x8192, .bf16⟩
  | .local _ .vmem, ⟨0, _⟩ => ⟨S512x7168, .i32⟩
  | .local _ .vmem, ⟨1, _⟩ => ⟨S512x7168, .i32⟩
  | .local _ .vmem, ⟨2, _⟩ => ⟨S3584x512, .i8⟩
  | .local _ .vmem, ⟨3, _⟩ => ⟨S3584x512, .i8⟩
  | .local _ .vmem, ⟨4, _⟩ => ⟨S224x512, .i8⟩
  | .local _ .vmem, ⟨5, _⟩ => ⟨S224x512, .i8⟩
  | .local _ .vmem, ⟨6, _⟩ => ⟨S1024x512, .bf16⟩
  | .local _ .vmem, ⟨7, _⟩ => ⟨S1024x512, .bf16⟩
  | .local _ .vmem, ⟨8, _⟩ => ⟨S224x512, .i32⟩
  | .local _ .vmem, ⟨9, _⟩ => ⟨S3584x512, .i32⟩
  | _, _ => ⟨S3072x7168, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨2, ![6, 16], ![false, false]⟩

@[reducible] def k0_t1_loop : Scf.Loop 32 :=
  let c0_i32 : BitVec 32 := 0#32
  let c28_i32 : BitVec 32 := 28#32
  let v7 : BitVec 32 := Scalar.addi c0_i32 c28_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v15 : BitVec 32 := Scalar.muli arg8 c128_i32
  v15
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v15 : BitVec 32 := Scalar.muli arg8 c128_i32
  let v16 : BitVec 32 := v15
  let v17 : Index := Scalar.indexCast v16
  let c0_10 : Index := 0#32
  ![v17.toNat, 0]
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_20 : BitVec 32 := 8#32
  let v60 : BitVec 32 := Scalar.muli arg8 c8_i32_20
  v60
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_20 : BitVec 32 := 8#32
  let v60 : BitVec 32 := Scalar.muli arg8 c8_i32_20
  let v61 : BitVec 32 := v60
  let v62 : Index := Scalar.indexCast v61
  let c0_21 : Index := 0#32
  ![v62.toNat, 0]
def k0_mult3 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_22 : BitVec 32 := 128#32
  let v71 : BitVec 32 := Scalar.muli arg8 c128_i32_22
  let c0_i32_23 : BitVec 32 := 0#32
  let v72 : BitVec 32 := Scalar.addi v71 c0_i32_23
  v72
def k0_off3 (k0_t1 : Fin k0_t1_loop.trips) (c0_i32_23 : BitVec 32) : Fin 2 → Nat :=
  let c0_i32 : BitVec 32 := 0#32
  let c1_i32 : BitVec 32 := 1#32
  let arg8 : BitVec 32 := Scf.iv c0_i32 c1_i32 k0_t1
  let c128_i32_22 : BitVec 32 := 128#32
  let v71 : BitVec 32 := Scalar.muli arg8 c128_i32_22
  let v72 : BitVec 32 := Scalar.addi v71 c0_i32_23
  let v73 : BitVec 32 := v72
  let v74 : Index := Scalar.indexCast v73
  let c0_24 : Index := 0#32
  ![v74.toNat, 0]
def k0_mult4 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_25 : BitVec 32 := 128#32
  let v85 : BitVec 32 := Scalar.muli arg8 c128_i32_25
  let c16_i32_26 : BitVec 32 := 16#32
  let v86 : BitVec 32 := Scalar.addi v85 c16_i32_26
  v86
def k0_mult5 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_28 : BitVec 32 := 128#32
  let v99 : BitVec 32 := Scalar.muli arg8 c128_i32_28
  let c32_i32 : BitVec 32 := 32#32
  let v100 : BitVec 32 := Scalar.addi v99 c32_i32
  v100
def k0_mult6 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_30 : BitVec 32 := 128#32
  let v113 : BitVec 32 := Scalar.muli arg8 c128_i32_30
  let c48_i32 : BitVec 32 := 48#32
  let v114 : BitVec 32 := Scalar.addi v113 c48_i32
  v114
def k0_mult7 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_32 : BitVec 32 := 128#32
  let v127 : BitVec 32 := Scalar.muli arg8 c128_i32_32
  let c64_i32_33 : BitVec 32 := 64#32
  let v128 : BitVec 32 := Scalar.addi v127 c64_i32_33
  v128
def k0_mult8 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_35 : BitVec 32 := 128#32
  let v141 : BitVec 32 := Scalar.muli arg8 c128_i32_35
  let c80_i32 : BitVec 32 := 80#32
  let v142 : BitVec 32 := Scalar.addi v141 c80_i32
  v142
def k0_mult9 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_37 : BitVec 32 := 128#32
  let v155 : BitVec 32 := Scalar.muli arg8 c128_i32_37
  let c96_i32 : BitVec 32 := 96#32
  let v156 : BitVec 32 := Scalar.addi v155 c96_i32
  v156
def k0_mult10 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_39 : BitVec 32 := 128#32
  let v169 : BitVec 32 := Scalar.muli arg8 c128_i32_39
  let c112_i32 : BitVec 32 := 112#32
  let v170 : BitVec 32 := Scalar.addi v169 c112_i32
  v170
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x7168 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3584x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S224x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
abbrev S3072x7168 : Shape := ⟨2, ![3072, 7168]⟩
abbrev S3584x8192 : Shape := ⟨2, ![3584, 8192]⟩
abbrev S224x8192 : Shape := ⟨2, ![224, 8192]⟩
abbrev S6144x8192 : Shape := ⟨2, ![6144, 8192]⟩
abbrev S512x7168 : Shape := ⟨2, ![512, 7168]⟩
abbrev S3584x512 : Shape := ⟨2, ![3584, 512]⟩
abbrev S224x512 : Shape := ⟨2, ![224, 512]⟩
abbrev S1024x512 : Shape := ⟨2, ![1024, 512]⟩
abbrev S3584x2x512 : Shape := ⟨3, ![3584, 2, 512]⟩
abbrev S3584x1x512 : Shape := ⟨3, ![3584, 1, 512]⟩
abbrev S128x512 : Shape := ⟨2, ![128, 512]⟩
abbrev S256x512 : Shape := ⟨2, ![256, 512]⟩
abbrev S8x512 : Shape := ⟨2, ![8, 512]⟩
abbrev S1x512 : Shape := ⟨2, ![1, 512]⟩
abbrev S16x512 : Shape := ⟨2, ![16, 512]⟩
abbrev S32x512 : Shape := ⟨2, ![32, 512]⟩
abbrev S16x2x512 : Shape := ⟨3, ![16, 2, 512]⟩
abbrev S16x1x512 : Shape := ⟨3, ![16, 1, 512]⟩
abbrev S1024x7168 : Shape := ⟨2, ![1024, 7168]⟩
abbrev S7168x512 : Shape := ⟨2, ![7168, 512]⟩

abbrev nBuf : Space → Nat
  | .hbm => 4
  | .vmem => 10
  | .smem => 0
  | _ => 0

abbrev bufTy : (tb : Table) → Fin (tcTables nBuf tb) → BufTy
  | .hbm, ⟨0, _⟩ => ⟨S3072x7168, .i32⟩
  | .hbm, ⟨1, _⟩ => ⟨S3584x8192, .i8⟩
  | .hbm, ⟨2, _⟩ => ⟨S224x8192, .i8⟩
  | .hbm, ⟨3, _⟩ => ⟨S6144x8192, .bf16⟩
  | .local _ .vmem, ⟨0, _⟩ => ⟨S512x7168, .i32⟩
  | .local _ .vmem, ⟨1, _⟩ => ⟨S512x7168, .i32⟩
  | .local _ .vmem, ⟨2, _⟩ => ⟨S3584x512, .i8⟩
  | .local _ .vmem, ⟨3, _⟩ => ⟨S3584x512, .i8⟩
  | .local _ .vmem, ⟨4, _⟩ => ⟨S224x512, .i8⟩
  | .local _ .vmem, ⟨5, _⟩ => ⟨S224x512, .i8⟩
  | .local _ .vmem, ⟨6, _⟩ => ⟨S1024x512, .bf16⟩
  | .local _ .vmem, ⟨7, _⟩ => ⟨S1024x512, .bf16⟩
  | .local _ .vmem, ⟨8, _⟩ => ⟨S224x512, .i32⟩
  | .local _ .vmem, ⟨9, _⟩ => ⟨S3584x2x512, .bf16⟩
  | _, _ => ⟨S3072x7168, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 16], ![false, false]⟩

@[reducible] def k0_t1_loop : Scf.Loop 32 :=
  let c0_i32 : BitVec 32 := 0#32
  let c28_i32 : BitVec 32 := 28#32
  let v7 : BitVec 32 := Scalar.addi c0_i32 c28_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v15 : BitVec 32 := Scalar.muli arg8 c128_i32
  v15
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v15 : BitVec 32 := Scalar.muli arg8 c128_i32
  let v16 : BitVec 32 := v15
  let v17 : Index := Scalar.indexCast v16
  let c0_10 : Index := 0#32
  ![v17.toNat, 0]
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_20 : BitVec 32 := 8#32
  let v60 : BitVec 32 := Scalar.muli arg8 c8_i32_20
  v60
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_20 : BitVec 32 := 8#32
  let v60 : BitVec 32 := Scalar.muli arg8 c8_i32_20
  let v61 : BitVec 32 := v60
  let v62 : Index := Scalar.indexCast v61
  let c0_21 : Index := 0#32
  ![v62.toNat, 0]
def k0_mult3 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_22 : BitVec 32 := 128#32
  let v71 : BitVec 32 := Scalar.muli arg8 c128_i32_22
  let c0_i32_23 : BitVec 32 := 0#32
  let v72 : BitVec 32 := Scalar.addi v71 c0_i32_23
  v72
def k0_off3 (k0_t1 : Fin k0_t1_loop.trips) (c0_i32_23 : BitVec 32) : Fin 3 → Nat :=
  let c0_i32 : BitVec 32 := 0#32
  let c1_i32 : BitVec 32 := 1#32
  let arg8 : BitVec 32 := Scf.iv c0_i32 c1_i32 k0_t1
  let c128_i32_22 : BitVec 32 := 128#32
  let v71 : BitVec 32 := Scalar.muli arg8 c128_i32_22
  let v72 : BitVec 32 := Scalar.addi v71 c0_i32_23
  let v73 : BitVec 32 := v72
  let v74 : Index := Scalar.indexCast v73
  let c0_24 : Index := 0#32
  ![v74.toNat, 0, 0]
def k0_mult4 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_25 : BitVec 32 := 128#32
  let v85 : BitVec 32 := Scalar.muli arg8 c128_i32_25
  let c16_i32_26 : BitVec 32 := 16#32
  let v86 : BitVec 32 := Scalar.addi v85 c16_i32_26
  v86
def k0_mult5 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_28 : BitVec 32 := 128#32
  let v99 : BitVec 32 := Scalar.muli arg8 c128_i32_28
  let c32_i32 : BitVec 32 := 32#32
  let v100 : BitVec 32 := Scalar.addi v99 c32_i32
  v100
def k0_mult6 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_30 : BitVec 32 := 128#32
  let v113 : BitVec 32 := Scalar.muli arg8 c128_i32_30
  let c48_i32 : BitVec 32 := 48#32
  let v114 : BitVec 32 := Scalar.addi v113 c48_i32
  v114
def k0_mult7 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_32 : BitVec 32 := 128#32
  let v127 : BitVec 32 := Scalar.muli arg8 c128_i32_32
  let c64_i32_33 : BitVec 32 := 64#32
  let v128 : BitVec 32 := Scalar.addi v127 c64_i32_33
  v128
def k0_mult8 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_35 : BitVec 32 := 128#32
  let v141 : BitVec 32 := Scalar.muli arg8 c128_i32_35
  let c80_i32 : BitVec 32 := 80#32
  let v142 : BitVec 32 := Scalar.addi v141 c80_i32
  v142
def k0_mult9 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_37 : BitVec 32 := 128#32
  let v155 : BitVec 32 := Scalar.muli arg8 c128_i32_37
  let c96_i32 : BitVec 32 := 96#32
  let v156 : BitVec 32 := Scalar.addi v155 c96_i32
  v156
def k0_mult10 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_39 : BitVec 32 := 128#32
  let v169 : BitVec 32 := Scalar.muli arg8 c128_i32_39
  let c112_i32 : BitVec 32 := 112#32
  let v170 : BitVec 32 := Scalar.addi v169 c112_i32
  v170
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x7168 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3584x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S224x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S3072x7168 : Shape := ⟨2, ![3072, 7168]⟩
abbrev S3584x8192 : Shape := ⟨2, ![3584, 8192]⟩
abbrev S224x8192 : Shape := ⟨2, ![224, 8192]⟩
abbrev S3072x7168x2 : Shape := ⟨3, ![3072, 7168, 2]⟩
abbrev S3072x2x7168 : Shape := ⟨3, ![3072, 2, 7168]⟩
abbrev S6144x7168 : Shape := ⟨2, ![6144, 7168]⟩
abbrev S_ : Shape := ⟨0, ![]⟩
abbrev S224x16x8192 : Shape := ⟨3, ![224, 16, 8192]⟩
abbrev S3584x1x8192 : Shape := ⟨3, ![3584, 1, 8192]⟩
abbrev S3584x2x8192 : Shape := ⟨3, ![3584, 2, 8192]⟩
abbrev S7168x8192 : Shape := ⟨2, ![7168, 8192]⟩
abbrev S6144x8192 : Shape := ⟨2, ![6144, 8192]⟩

abbrev nBuf : Space → Nat
  | .hbm => 145
  | .vmem => 0
  | .smem => 0
  | _ => 0

abbrev hbmTy0_0 (i : Nat) : BufTy := match i % 128 with
  | 0 => ⟨S3072x7168, .i32⟩
  | 1 => ⟨S3584x8192, .i8⟩
  | 2 => ⟨S224x8192, .i8⟩
  | 3 => ⟨S3072x7168x2, .bf16⟩
  | 4 => ⟨S3072x2x7168, .bf16⟩
  | 5 => ⟨S6144x7168, .bf16⟩
  | 6 => ⟨S224x8192, .i32⟩
  | 7 => ⟨S_, .i32⟩
  | 8 => ⟨S224x8192, .i32⟩
  | 9 => ⟨S224x8192, .i32⟩
  | 10 => ⟨S224x8192, .f32⟩
  | 11 => ⟨S224x8192, .bf16⟩
  | 12 => ⟨S224x16x8192, .bf16⟩
  | 13 => ⟨S3584x8192, .bf16⟩
  | 14 => ⟨S3584x8192, .i32⟩
  | 15 => ⟨S_, .i32⟩
  | 16 => ⟨S3584x8192, .i32⟩
  | 17 => ⟨S3584x8192, .i32⟩
  | 18 => ⟨S_, .i32⟩
  | 19 => ⟨S3584x8192, .i32⟩
  | 20 => ⟨S3584x8192, .i32⟩
  | 21 => ⟨S_, .i32⟩
  | 22 => ⟨S3584x8192, .i32⟩
  | 23 => ⟨S3584x8192, .i32⟩
  | 24 => ⟨S_, .i32⟩
  | 25 => ⟨S3584x8192, .i32⟩
  | 26 => ⟨S3584x8192, .i1⟩
  | 27 => ⟨S_, .bf16⟩
  | 28 => ⟨S_, .bf16⟩
  | 29 => ⟨S3584x8192, .bf16⟩
  | 30 => ⟨S3584x8192, .bf16⟩
  | 31 => ⟨S3584x8192, .bf16⟩
  | 32 => ⟨S_, .bf16⟩
  | 33 => ⟨S_, .bf16⟩
  | 34 => ⟨S3584x8192, .bf16⟩
  | 35 => ⟨S3584x8192, .bf16⟩
  | 36 => ⟨S3584x8192, .bf16⟩
  | 37 => ⟨S_, .bf16⟩
  | 38 => ⟨S_, .bf16⟩
  | 39 => ⟨S3584x8192, .bf16⟩
  | 40 => ⟨S3584x8192, .bf16⟩
  | 41 => ⟨S3584x8192, .bf16⟩
  | 42 => ⟨S_, .bf16⟩
  | 43 => ⟨S_, .bf16⟩
  | 44 => ⟨S3584x8192, .bf16⟩
  | 45 => ⟨S3584x8192, .bf16⟩
  | 46 => ⟨S3584x8192, .bf16⟩
  | 47 => ⟨S_, .i32⟩
  | 48 => ⟨S3584x8192, .i32⟩
  | 49 => ⟨S3584x8192, .i32⟩
  | 50 => ⟨S_, .i32⟩
  | 51 => ⟨S3584x8192, .i32⟩
  | 52 => ⟨S3584x8192, .i32⟩
  | 53 => ⟨S_, .i32⟩
  | 54 => ⟨S3584x8192, .i32⟩
  | 55 => ⟨S3584x8192, .i1⟩
  | 56 => ⟨S3584x8192, .bf16⟩
  | 57 => ⟨S3584x8192, .bf16⟩
  | 58 => ⟨S_, .i32⟩
  | 59 => ⟨S3584x8192, .i32⟩
  | 60 => ⟨S3584x8192, .i32⟩
  | 61 => ⟨S_, .i32⟩
  | 62 => ⟨S3584x8192, .i32⟩
  | 63 => ⟨S3584x8192, .i32⟩
  | 64 => ⟨S_, .i32⟩
  | 65 => ⟨S3584x8192, .i32⟩
  | 66 => ⟨S3584x8192, .i1⟩
  | 67 => ⟨S3584x8192, .bf16⟩
  | 68 => ⟨S_, .i32⟩
  | 69 => ⟨S3584x8192, .i32⟩
  | 70 => ⟨S3584x8192, .i32⟩
  | 71 => ⟨S_, .i32⟩
  | 72 => ⟨S3584x8192, .i32⟩
  | 73 => ⟨S3584x8192, .i1⟩
  | 74 => ⟨S3584x8192, .bf16⟩
  | 75 => ⟨S3584x8192, .bf16⟩
  | 76 => ⟨S3584x8192, .bf16⟩
  | 77 => ⟨S_, .i32⟩
  | 78 => ⟨S3584x8192, .i32⟩
  | 79 => ⟨S3584x8192, .i32⟩
  | 80 => ⟨S_, .i32⟩
  | 81 => ⟨S3584x8192, .i32⟩
  | 82 => ⟨S3584x8192, .i32⟩
  | 83 => ⟨S_, .i32⟩
  | 84 => ⟨S3584x8192, .i32⟩
  | 85 => ⟨S3584x8192, .i32⟩
  | 86 => ⟨S_, .i32⟩
  | 87 => ⟨S3584x8192, .i32⟩
  | 88 => ⟨S3584x8192, .i1⟩
  | 89 => ⟨S_, .bf16⟩
  | 90 => ⟨S_, .bf16⟩
  | 91 => ⟨S3584x8192, .bf16⟩
  | 92 => ⟨S3584x8192, .bf16⟩
  | 93 => ⟨S3584x8192, .bf16⟩
  | 94 => ⟨S_, .bf16⟩
  | 95 => ⟨S_, .bf16⟩
  | 96 => ⟨S3584x8192, .bf16⟩
  | 97 => ⟨S3584x8192, .bf16⟩
  | 98 => ⟨S3584x8192, .bf16⟩
  | 99 => ⟨S_, .bf16⟩
  | 100 => ⟨S_, .bf16⟩
  | 101 => ⟨S3584x8192, .bf16⟩
  | 102 => ⟨S3584x8192, .bf16⟩
  | 103 => ⟨S3584x8192, .bf16⟩
  | 104 => ⟨S_, .bf16⟩
  | 105 => ⟨S_, .bf16⟩
  | 106 => ⟨S3584x8192, .bf16⟩
  | 107 => ⟨S3584x8192, .bf16⟩
  | 108 => ⟨S3584x8192, .bf16⟩
  | 109 => ⟨S_, .i32⟩
  | 110 => ⟨S3584x8192, .i32⟩
  | 111 => ⟨S3584x8192, .i32⟩
  | 112 => ⟨S_, .i32⟩
  | 113 => ⟨S3584x8192, .i32⟩
  | 114 => ⟨S3584x8192, .i32⟩
  | 115 => ⟨S_, .i32⟩
  | 116 => ⟨S3584x8192, .i32⟩
  | 117 => ⟨S3584x8192, .i1⟩
  | 118 => ⟨S3584x8192, .bf16⟩
  | 119 => ⟨S3584x8192, .bf16⟩
  | 120 => ⟨S_, .i32⟩
  | 121 => ⟨S3584x8192, .i32⟩
  | 122 => ⟨S3584x8192, .i32⟩
  | 123 => ⟨S_, .i32⟩
  | 124 => ⟨S3584x8192, .i32⟩
  | 125 => ⟨S3584x8192, .i32⟩
  | 126 => ⟨S_, .i32⟩
  | 127 => ⟨S3584x8192, .i32⟩
  | _ => ⟨S3072x7168, .i32⟩

abbrev hbmTy0_1 (i : Nat) : BufTy := match i % 128 with
  | 0 => ⟨S3584x8192, .i1⟩
  | 1 => ⟨S3584x8192, .bf16⟩
  | 2 => ⟨S_, .i32⟩
  | 3 => ⟨S3584x8192, .i32⟩
  | 4 => ⟨S3584x8192, .i32⟩
  | 5 => ⟨S_, .i32⟩
  | 6 => ⟨S3584x8192, .i32⟩
  | 7 => ⟨S3584x8192, .i1⟩
  | 8 => ⟨S3584x8192, .bf16⟩
  | 9 => ⟨S3584x8192, .bf16⟩
  | 10 => ⟨S3584x8192, .bf16⟩
  | 11 => ⟨S3584x1x8192, .bf16⟩
  | 12 => ⟨S3584x1x8192, .bf16⟩
  | 13 => ⟨S3584x2x8192, .bf16⟩
  | 14 => ⟨S7168x8192, .bf16⟩
  | 15 => ⟨S6144x8192, .f32⟩
  | 16 => ⟨S6144x8192, .bf16⟩
  | _ => ⟨S3072x7168, .i32⟩

abbrev hbmTy (i : Nat) : BufTy := match i / 128 with
  | 0 => hbmTy0_0 i
  | 1 => hbmTy0_1 i
  | _ => ⟨S3072x7168, .i32⟩

abbrev bufTy : (tb : Table) → Fin (tcTables nBuf tb) → BufTy
  | .hbm, ⟨i, _⟩ => hbmTy i
  | _, _ => ⟨S3072x7168, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_cst_5 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v20 : Ref sig .tc := ⟨.hbm, 36, rfl⟩
abbrev main_cst_7 : Ref sig .tc := ⟨.hbm, 37, rfl⟩
abbrev main_cst_8 : Ref sig .tc := ⟨.hbm, 38, rfl⟩
abbrev main_call2_v0 : Ref sig .tc := ⟨.hbm, 39, rfl⟩
abbrev main_call2_v1 : Ref sig .tc := ⟨.hbm, 40, rfl⟩
abbrev main_v21 : Ref sig .tc := ⟨.hbm, 41, rfl⟩
abbrev main_cst_9 : Ref sig .tc := ⟨.hbm, 42, rfl⟩
abbrev main_cst_10 : Ref sig .tc := ⟨.hbm, 43, rfl⟩
abbrev main_call3_v0 : Ref sig .tc := ⟨.hbm, 44, rfl⟩
abbrev main_call3_v1 : Ref sig .tc := ⟨.hbm, 45, rfl⟩
abbrev main_v22 : Ref sig .tc := ⟨.hbm, 46, rfl⟩
abbrev main_c_11 : Ref sig .tc := ⟨.hbm, 47, rfl⟩
abbrev main_v23 : Ref sig .tc := ⟨.hbm, 48, rfl⟩
abbrev main_v24 : Ref sig .tc := ⟨.hbm, 49, rfl⟩
abbrev main_c_12 : Ref sig .tc := ⟨.hbm, 50, rfl⟩
abbrev main_v25 : Ref sig .tc := ⟨.hbm, 51, rfl⟩
abbrev main_v26 : Ref sig .tc := ⟨.hbm, 52, rfl⟩
abbrev main_c_13 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_14 : Ref sig .tc := ⟨.hbm, 58, rfl⟩
abbrev main_v31 : Ref sig .tc := ⟨.hbm, 59, rfl⟩
abbrev main_v32 : Ref sig .tc := ⟨.hbm, 60, rfl⟩
abbrev main_c_15 : Ref sig .tc := ⟨.hbm, 61, rfl⟩
abbrev main_v33 : Ref sig .tc := ⟨.hbm, 62, rfl⟩
abbrev main_v34 : Ref sig .tc := ⟨.hbm, 63, rfl⟩
abbrev main_c_16 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_17 : Ref sig .tc := ⟨.hbm, 68, rfl⟩
abbrev main_v38 : Ref sig .tc := ⟨.hbm, 69, rfl⟩
abbrev main_v39 : Ref sig .tc := ⟨.hbm, 70, rfl⟩
abbrev main_c_18 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_19 : Ref sig .tc := ⟨.hbm, 77, rfl⟩
abbrev main_v45 : Ref sig .tc := ⟨.hbm, 78, rfl⟩
abbrev main_v46 : Ref sig .tc := ⟨.hbm, 79, rfl⟩
abbrev main_c_20 : Ref sig .tc := ⟨.hbm, 80, rfl⟩
abbrev main_v47 : Ref sig .tc := ⟨.hbm, 81, rfl⟩
abbrev main_v48 : Ref sig .tc := ⟨.hbm, 82, rfl⟩
abbrev main_c_21 : Ref sig .tc := ⟨.hbm, 83, rfl⟩
abbrev main_v49 : Ref sig .tc := ⟨.hbm, 84, rfl⟩
abbrev main_v50 : Ref sig .tc := ⟨.hbm, 85, rfl⟩
abbrev main_c_22 : Ref sig .tc := ⟨.hbm, 86, rfl⟩
abbrev main_v51 : Ref sig .tc := ⟨.hbm, 87, rfl⟩
abbrev main_v52 : Ref sig .tc := ⟨.hbm, 88, rfl⟩
abbrev main_cst_23 : Ref sig .tc := ⟨.hbm, 89, rfl⟩
abbrev main_cst_24 : Ref sig .tc := ⟨.hbm, 90, rfl⟩
abbrev main_call8_v0 : Ref sig .tc := ⟨.hbm, 91, rfl⟩
abbrev main_call8_v1 : Ref sig .tc := ⟨.hbm, 92, rfl⟩
abbrev main_v53 : Ref sig .tc := ⟨.hbm, 93, rfl⟩
abbrev main_cst_25 : Ref sig .tc := ⟨.hbm, 94, rfl⟩
abbrev main_cst_26 : Ref sig .tc := ⟨.hbm, 95, rfl⟩
abbrev main_call9_v0 : Ref sig .tc := ⟨.hbm, 96, rfl⟩
abbrev main_call9_v1 : Ref sig .tc := ⟨.hbm, 97, rfl⟩
abbrev main_v54 : Ref sig .tc := ⟨.hbm, 98, rfl⟩
abbrev main_cst_27 : Ref sig .tc := ⟨.hbm, 99, rfl⟩
abbrev main_cst_28 : Ref sig .tc := ⟨.hbm, 100, rfl⟩
abbrev main_call10_v0 : Ref sig .tc := ⟨.hbm, 101, rfl⟩
abbrev main_call10_v1 : Ref sig .tc := ⟨.hbm, 102, rfl⟩
abbrev main_v55 : Ref sig .tc := ⟨.hbm, 103, rfl⟩
abbrev main_cst_29 : Ref sig .tc := ⟨.hbm, 104, rfl⟩
abbrev main_cst_30 : Ref sig .tc := ⟨.hbm, 105, rfl⟩
abbrev main_call11_v0 : Ref sig .tc := ⟨.hbm, 106, rfl⟩
abbrev main_call11_v1 : Ref sig .tc := ⟨.hbm, 107, rfl⟩
abbrev main_v56 : Ref sig .tc := ⟨.hbm, 108, rfl⟩
abbrev main_c_31 : Ref sig .tc := ⟨.hbm, 109, rfl⟩
abbrev main_v57 : Ref sig .tc := ⟨.hbm, 110, rfl⟩
abbrev main_v58 : Ref sig .tc := ⟨.hbm, 111, rfl⟩
abbrev main_c_32 : Ref sig .tc := ⟨.hbm, 112, rfl⟩
abbrev main_v59 : Ref sig .tc := ⟨.hbm, 113, rfl⟩
abbrev main_v60 : Ref sig .tc := ⟨.hbm, 114, rfl⟩
abbrev main_c_33 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_c_34 : Ref sig .tc := ⟨.hbm, 120, rfl⟩
abbrev main_v65 : Ref sig .tc := ⟨.hbm, 121, rfl⟩
abbrev main_v66 : Ref sig .tc := ⟨.hbm, 122, rfl⟩
abbrev main_c_35 : Ref sig .tc := ⟨.hbm, 123, rfl⟩
abbrev main_v67 : Ref sig .tc := ⟨.hbm, 124, rfl⟩
abbrev main_v68 : Ref sig .tc := ⟨.hbm, 125, rfl⟩
abbrev main_c_36 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_c_37 : Ref sig .tc := ⟨.hbm, 130, rfl⟩
abbrev main_v72 : Ref sig .tc := ⟨.hbm, 131, rfl⟩
abbrev main_v73 : Ref sig .tc := ⟨.hbm, 132, rfl⟩
abbrev main_c_38 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩

abbrev nD : Nat := 1
abbrev τ : Topo := Topo.v7x

variable {F : FTy → Type} [FloatOps F]
-- ==== OKernel.lean ====
abbrev S3072x2048 : Shape := ⟨2, ![3072, 2048]⟩
abbrev S1024x8192 : Shape := ⟨2, ![1024, 8192]⟩
abbrev S64x8192 : Shape := ⟨2, ![64, 8192]⟩
abbrev S6144x8192 : Shape := ⟨2, ![6144, 8192]⟩
abbrev S512x2048 : Shape := ⟨2, ![512, 2048]⟩
abbrev S1024x512 : Shape := ⟨2, ![1024, 512]⟩
abbrev S64x512 : Shape := ⟨2, ![64, 512]⟩
abbrev S128x512 : Shape := ⟨2, ![128, 512]⟩
abbrev S256x512 : Shape := ⟨2, ![256, 512]⟩
abbrev S8x512 : Shape := ⟨2, ![8, 512]⟩
abbrev S1x512 : Shape := ⟨2, ![1, 512]⟩
abbrev S16x512 : Shape := ⟨2, ![16, 512]⟩
abbrev S32x512 : Shape := ⟨2, ![32, 512]⟩
abbrev S1024x2048 : Shape := ⟨2, ![1024, 2048]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S3072x2048, .i32⟩
  | .hbm, ⟨1, _⟩ => ⟨S1024x8192, .i8⟩
  | .hbm, ⟨2, _⟩ => ⟨S64x8192, .i8⟩
  | .hbm, ⟨3, _⟩ => ⟨S6144x8192, .bf16⟩
  | .local _ .vmem, ⟨0, _⟩ => ⟨S512x2048, .i32⟩
  | .local _ .vmem, ⟨1, _⟩ => ⟨S512x2048, .i32⟩
  | .local _ .vmem, ⟨2, _⟩ => ⟨S1024x512, .i8⟩
  | .local _ .vmem, ⟨3, _⟩ => ⟨S1024x512, .i8⟩
  | .local _ .vmem, ⟨4, _⟩ => ⟨S64x512, .i8⟩
  | .local _ .vmem, ⟨5, _⟩ => ⟨S64x512, .i8⟩
  | .local _ .vmem, ⟨6, _⟩ => ⟨S1024x512, .bf16⟩
  | .local _ .vmem, ⟨7, _⟩ => ⟨S1024x512, .bf16⟩
  | .local _ .vmem, ⟨8, _⟩ => ⟨S64x512, .i32⟩
  | .local _ .vmem, ⟨9, _⟩ => ⟨S1024x512, .i32⟩
  | _, _ => ⟨S3072x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨2, ![6, 16], ![false, false]⟩

@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v15 : BitVec 32 := Scalar.muli arg8 c128_i32
  v15
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v15 : BitVec 32 := Scalar.muli arg8 c128_i32
  let v16 : BitVec 32 := v15
  let v17 : Index := Scalar.indexCast v16
  let c0_10 : Index := 0#32
  ![v17.toNat, 0]
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_21 : BitVec 32 := 8#32
  let v60 : BitVec 32 := Scalar.muli arg8 c8_i32_21
  v60
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_21 : BitVec 32 := 8#32
  let v60 : BitVec 32 := Scalar.muli arg8 c8_i32_21
  let v61 : BitVec 32 := v60
  let v62 : Index := Scalar.indexCast v61
  let c0_22 : Index := 0#32
  ![v62.toNat, 0]
def k0_mult3 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_23 : BitVec 32 := 128#32
  let v71 : BitVec 32 := Scalar.muli arg8 c128_i32_23
  let c0_i32_24 : BitVec 32 := 0#32
  let v72 : BitVec 32 := Scalar.addi v71 c0_i32_24
  v72
def k0_off3 (k0_t1 : Fin k0_t1_loop.trips) (c0_i32_24 : BitVec 32) : Fin 2 → Nat :=
  let c0_i32 : BitVec 32 := 0#32
  let c1_i32 : BitVec 32 := 1#32
  let arg8 : BitVec 32 := Scf.iv c0_i32 c1_i32 k0_t1
  let c128_i32_23 : BitVec 32 := 128#32
  let v71 : BitVec 32 := Scalar.muli arg8 c128_i32_23
  let v72 : BitVec 32 := Scalar.addi v71 c0_i32_24
  let v73 : BitVec 32 := v72
  let v74 : Index := Scalar.indexCast v73
  let c0_25 : Index := 0#32
  ![v74.toNat, 0]
def k0_mult4 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_26 : BitVec 32 := 128#32
  let v85 : BitVec 32 := Scalar.muli arg8 c128_i32_26
  let c16_i32_27 : BitVec 32 := 16#32
  let v86 : BitVec 32 := Scalar.addi v85 c16_i32_27
  v86
def k0_mult5 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_29 : BitVec 32 := 128#32
  let v99 : BitVec 32 := Scalar.muli arg8 c128_i32_29
  let c32_i32 : BitVec 32 := 32#32
  let v100 : BitVec 32 := Scalar.addi v99 c32_i32
  v100
def k0_mult6 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_31 : BitVec 32 := 128#32
  let v113 : BitVec 32 := Scalar.muli arg8 c128_i32_31
  let c48_i32 : BitVec 32 := 48#32
  let v114 : BitVec 32 := Scalar.addi v113 c48_i32
  v114
def k0_mult7 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_33 : BitVec 32 := 128#32
  let v127 : BitVec 32 := Scalar.muli arg8 c128_i32_33
  let c64_i32_34 : BitVec 32 := 64#32
  let v128 : BitVec 32 := Scalar.addi v127 c64_i32_34
  v128
def k0_mult8 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_36 : BitVec 32 := 128#32
  let v141 : BitVec 32 := Scalar.muli arg8 c128_i32_36
  let c80_i32 : BitVec 32 := 80#32
  let v142 : BitVec 32 := Scalar.addi v141 c80_i32
  v142
def k0_mult9 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_38 : BitVec 32 := 128#32
  let v155 : BitVec 32 := Scalar.muli arg8 c128_i32_38
  let c96_i32 : BitVec 32 := 96#32
  let v156 : BitVec 32 := Scalar.addi v155 c96_i32
  v156
def k0_mult10 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_40 : BitVec 32 := 128#32
  let v169 : BitVec 32 := Scalar.muli arg8 c128_i32_40
  let c112_i32 : BitVec 32 := 112#32
  let v170 : BitVec 32 := Scalar.addi v169 c112_i32
  v170
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OKernelIdeal.lean ====
abbrev S3072x2048 : Shape := ⟨2, ![3072, 2048]⟩
abbrev S1024x8192 : Shape := ⟨2, ![1024, 8192]⟩
abbrev S64x8192 : Shape := ⟨2, ![64, 8192]⟩
abbrev S6144x8192 : Shape := ⟨2, ![6144, 8192]⟩
abbrev S512x2048 : Shape := ⟨2, ![512, 2048]⟩
abbrev S1024x512 : Shape := ⟨2, ![1024, 512]⟩
abbrev S64x512 : Shape := ⟨2, ![64, 512]⟩
abbrev S1024x2x512 : Shape := ⟨3, ![1024, 2, 512]⟩
abbrev S1024x1x512 : Shape := ⟨3, ![1024, 1, 512]⟩
abbrev S128x512 : Shape := ⟨2, ![128, 512]⟩
abbrev S256x512 : Shape := ⟨2, ![256, 512]⟩
abbrev S8x512 : Shape := ⟨2, ![8, 512]⟩
abbrev S1x512 : Shape := ⟨2, ![1, 512]⟩
abbrev S16x512 : Shape := ⟨2, ![16, 512]⟩
abbrev S32x512 : Shape := ⟨2, ![32, 512]⟩
abbrev S16x2x512 : Shape := ⟨3, ![16, 2, 512]⟩
abbrev S16x1x512 : Shape := ⟨3, ![16, 1, 512]⟩
abbrev S1024x2048 : Shape := ⟨2, ![1024, 2048]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S3072x2048, .i32⟩
  | .hbm, ⟨1, _⟩ => ⟨S1024x8192, .i8⟩
  | .hbm, ⟨2, _⟩ => ⟨S64x8192, .i8⟩
  | .hbm, ⟨3, _⟩ => ⟨S6144x8192, .bf16⟩
  | .local _ .vmem, ⟨0, _⟩ => ⟨S512x2048, .i32⟩
  | .local _ .vmem, ⟨1, _⟩ => ⟨S512x2048, .i32⟩
  | .local _ .vmem, ⟨2, _⟩ => ⟨S1024x512, .i8⟩
  | .local _ .vmem, ⟨3, _⟩ => ⟨S1024x512, .i8⟩
  | .local _ .vmem, ⟨4, _⟩ => ⟨S64x512, .i8⟩
  | .local _ .vmem, ⟨5, _⟩ => ⟨S64x512, .i8⟩
  | .local _ .vmem, ⟨6, _⟩ => ⟨S1024x512, .bf16⟩
  | .local _ .vmem, ⟨7, _⟩ => ⟨S1024x512, .bf16⟩
  | .local _ .vmem, ⟨8, _⟩ => ⟨S64x512, .i32⟩
  | .local _ .vmem, ⟨9, _⟩ => ⟨S1024x2x512, .bf16⟩
  | _, _ => ⟨S3072x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 16], ![false, false]⟩

@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v15 : BitVec 32 := Scalar.muli arg8 c128_i32
  v15
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v15 : BitVec 32 := Scalar.muli arg8 c128_i32
  let v16 : BitVec 32 := v15
  let v17 : Index := Scalar.indexCast v16
  let c0_10 : Index := 0#32
  ![v17.toNat, 0]
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_21 : BitVec 32 := 8#32
  let v60 : BitVec 32 := Scalar.muli arg8 c8_i32_21
  v60
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_21 : BitVec 32 := 8#32
  let v60 : BitVec 32 := Scalar.muli arg8 c8_i32_21
  let v61 : BitVec 32 := v60
  let v62 : Index := Scalar.indexCast v61
  let c0_22 : Index := 0#32
  ![v62.toNat, 0]
def k0_mult3 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_23 : BitVec 32 := 128#32
  let v71 : BitVec 32 := Scalar.muli arg8 c128_i32_23
  let c0_i32_24 : BitVec 32 := 0#32
  let v72 : BitVec 32 := Scalar.addi v71 c0_i32_24
  v72
def k0_off3 (k0_t1 : Fin k0_t1_loop.trips) (c0_i32_24 : BitVec 32) : Fin 3 → Nat :=
  let c0_i32 : BitVec 32 := 0#32
  let c1_i32 : BitVec 32 := 1#32
  let arg8 : BitVec 32 := Scf.iv c0_i32 c1_i32 k0_t1
  let c128_i32_23 : BitVec 32 := 128#32
  let v71 : BitVec 32 := Scalar.muli arg8 c128_i32_23
  let v72 : BitVec 32 := Scalar.addi v71 c0_i32_24
  let v73 : BitVec 32 := v72
  let v74 : Index := Scalar.indexCast v73
  let c0_25 : Index := 0#32
  ![v74.toNat, 0, 0]
def k0_mult4 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_26 : BitVec 32 := 128#32
  let v85 : BitVec 32 := Scalar.muli arg8 c128_i32_26
  let c16_i32_27 : BitVec 32 := 16#32
  let v86 : BitVec 32 := Scalar.addi v85 c16_i32_27
  v86
def k0_mult5 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_29 : BitVec 32 := 128#32
  let v99 : BitVec 32 := Scalar.muli arg8 c128_i32_29
  let c32_i32 : BitVec 32 := 32#32
  let v100 : BitVec 32 := Scalar.addi v99 c32_i32
  v100
def k0_mult6 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_31 : BitVec 32 := 128#32
  let v113 : BitVec 32 := Scalar.muli arg8 c128_i32_31
  let c48_i32 : BitVec 32 := 48#32
  let v114 : BitVec 32 := Scalar.addi v113 c48_i32
  v114
def k0_mult7 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_33 : BitVec 32 := 128#32
  let v127 : BitVec 32 := Scalar.muli arg8 c128_i32_33
  let c64_i32_34 : BitVec 32 := 64#32
  let v128 : BitVec 32 := Scalar.addi v127 c64_i32_34
  v128
def k0_mult8 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_36 : BitVec 32 := 128#32
  let v141 : BitVec 32 := Scalar.muli arg8 c128_i32_36
  let c80_i32 : BitVec 32 := 80#32
  let v142 : BitVec 32 := Scalar.addi v141 c80_i32
  v142
def k0_mult9 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_38 : BitVec 32 := 128#32
  let v155 : BitVec 32 := Scalar.muli arg8 c128_i32_38
  let c96_i32 : BitVec 32 := 96#32
  let v156 : BitVec 32 := Scalar.addi v155 c96_i32
  v156
def k0_mult10 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_40 : BitVec 32 := 128#32
  let v169 : BitVec 32 := Scalar.muli arg8 c128_i32_40
  let c112_i32 : BitVec 32 := 112#32
  let v170 : BitVec 32 := Scalar.addi v169 c112_i32
  v170
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OReferenceIdeal.lean ====
abbrev S3072x2048 : Shape := ⟨2, ![3072, 2048]⟩
abbrev S1024x8192 : Shape := ⟨2, ![1024, 8192]⟩
abbrev S64x8192 : Shape := ⟨2, ![64, 8192]⟩
abbrev S3072x2048x2 : Shape := ⟨3, ![3072, 2048, 2]⟩
abbrev S3072x2x2048 : Shape := ⟨3, ![3072, 2, 2048]⟩
abbrev S6144x2048 : Shape := ⟨2, ![6144, 2048]⟩
abbrev S_ : Shape := ⟨0, ![]⟩
abbrev S64x16x8192 : Shape := ⟨3, ![64, 16, 8192]⟩
abbrev S1024x1x8192 : Shape := ⟨3, ![1024, 1, 8192]⟩
abbrev S1024x2x8192 : Shape := ⟨3, ![1024, 2, 8192]⟩
abbrev S2048x8192 : Shape := ⟨2, ![2048, 8192]⟩
abbrev S6144x8192 : Shape := ⟨2, ![6144, 8192]⟩

abbrev nBuf : Space → Nat
  | .hbm => 145
  | .vmem => 0
  | .smem => 0
  | _ => 0

abbrev hbmTy0_0 (i : Nat) : BufTy := match i % 128 with
  | 0 => ⟨S3072x2048, .i32⟩
  | 1 => ⟨S1024x8192, .i8⟩
  | 2 => ⟨S64x8192, .i8⟩
  | 3 => ⟨S3072x2048x2, .bf16⟩
  | 4 => ⟨S3072x2x2048, .bf16⟩
  | 5 => ⟨S6144x2048, .bf16⟩
  | 6 => ⟨S64x8192, .i32⟩
  | 7 => ⟨S_, .i32⟩
  | 8 => ⟨S64x8192, .i32⟩
  | 9 => ⟨S64x8192, .i32⟩
  | 10 => ⟨S64x8192, .f32⟩
  | 11 => ⟨S64x8192, .bf16⟩
  | 12 => ⟨S64x16x8192, .bf16⟩
  | 13 => ⟨S1024x8192, .bf16⟩
  | 14 => ⟨S1024x8192, .i32⟩
  | 15 => ⟨S_, .i32⟩
  | 16 => ⟨S1024x8192, .i32⟩
  | 17 => ⟨S1024x8192, .i32⟩
  | 18 => ⟨S_, .i32⟩
  | 19 => ⟨S1024x8192, .i32⟩
  | 20 => ⟨S1024x8192, .i32⟩
  | 21 => ⟨S_, .i32⟩
  | 22 => ⟨S1024x8192, .i32⟩
  | 23 => ⟨S1024x8192, .i32⟩
  | 24 => ⟨S_, .i32⟩
  | 25 => ⟨S1024x8192, .i32⟩
  | 26 => ⟨S1024x8192, .i1⟩
  | 27 => ⟨S_, .bf16⟩
  | 28 => ⟨S_, .bf16⟩
  | 29 => ⟨S1024x8192, .bf16⟩
  | 30 => ⟨S1024x8192, .bf16⟩
  | 31 => ⟨S1024x8192, .bf16⟩
  | 32 => ⟨S_, .bf16⟩
  | 33 => ⟨S_, .bf16⟩
  | 34 => ⟨S1024x8192, .bf16⟩
  | 35 => ⟨S1024x8192, .bf16⟩
  | 36 => ⟨S1024x8192, .bf16⟩
  | 37 => ⟨S_, .bf16⟩
  | 38 => ⟨S_, .bf16⟩
  | 39 => ⟨S1024x8192, .bf16⟩
  | 40 => ⟨S1024x8192, .bf16⟩
  | 41 => ⟨S1024x8192, .bf16⟩
  | 42 => ⟨S_, .bf16⟩
  | 43 => ⟨S_, .bf16⟩
  | 44 => ⟨S1024x8192, .bf16⟩
  | 45 => ⟨S1024x8192, .bf16⟩
  | 46 => ⟨S1024x8192, .bf16⟩
  | 47 => ⟨S_, .i32⟩
  | 48 => ⟨S1024x8192, .i32⟩
  | 49 => ⟨S1024x8192, .i32⟩
  | 50 => ⟨S_, .i32⟩
  | 51 => ⟨S1024x8192, .i32⟩
  | 52 => ⟨S1024x8192, .i32⟩
  | 53 => ⟨S_, .i32⟩
  | 54 => ⟨S1024x8192, .i32⟩
  | 55 => ⟨S1024x8192, .i1⟩
  | 56 => ⟨S1024x8192, .bf16⟩
  | 57 => ⟨S1024x8192, .bf16⟩
  | 58 => ⟨S_, .i32⟩
  | 59 => ⟨S1024x8192, .i32⟩
  | 60 => ⟨S1024x8192, .i32⟩
  | 61 => ⟨S_, .i32⟩
  | 62 => ⟨S1024x8192, .i32⟩
  | 63 => ⟨S1024x8192, .i32⟩
  | 64 => ⟨S_, .i32⟩
  | 65 => ⟨S1024x8192, .i32⟩
  | 66 => ⟨S1024x8192, .i1⟩
  | 67 => ⟨S1024x8192, .bf16⟩
  | 68 => ⟨S_, .i32⟩
  | 69 => ⟨S1024x8192, .i32⟩
  | 70 => ⟨S1024x8192, .i32⟩
  | 71 => ⟨S_, .i32⟩
  | 72 => ⟨S1024x8192, .i32⟩
  | 73 => ⟨S1024x8192, .i1⟩
  | 74 => ⟨S1024x8192, .bf16⟩
  | 75 => ⟨S1024x8192, .bf16⟩
  | 76 => ⟨S1024x8192, .bf16⟩
  | 77 => ⟨S_, .i32⟩
  | 78 => ⟨S1024x8192, .i32⟩
  | 79 => ⟨S1024x8192, .i32⟩
  | 80 => ⟨S_, .i32⟩
  | 81 => ⟨S1024x8192, .i32⟩
  | 82 => ⟨S1024x8192, .i32⟩
  | 83 => ⟨S_, .i32⟩
  | 84 => ⟨S1024x8192, .i32⟩
  | 85 => ⟨S1024x8192, .i32⟩
  | 86 => ⟨S_, .i32⟩
  | 87 => ⟨S1024x8192, .i32⟩
  | 88 => ⟨S1024x8192, .i1⟩
  | 89 => ⟨S_, .bf16⟩
  | 90 => ⟨S_, .bf16⟩
  | 91 => ⟨S1024x8192, .bf16⟩
  | 92 => ⟨S1024x8192, .bf16⟩
  | 93 => ⟨S1024x8192, .bf16⟩
  | 94 => ⟨S_, .bf16⟩
  | 95 => ⟨S_, .bf16⟩
  | 96 => ⟨S1024x8192, .bf16⟩
  | 97 => ⟨S1024x8192, .bf16⟩
  | 98 => ⟨S1024x8192, .bf16⟩
  | 99 => ⟨S_, .bf16⟩
  | 100 => ⟨S_, .bf16⟩
  | 101 => ⟨S1024x8192, .bf16⟩
  | 102 => ⟨S1024x8192, .bf16⟩
  | 103 => ⟨S1024x8192, .bf16⟩
  | 104 => ⟨S_, .bf16⟩
  | 105 => ⟨S_, .bf16⟩
  | 106 => ⟨S1024x8192, .bf16⟩
  | 107 => ⟨S1024x8192, .bf16⟩
  | 108 => ⟨S1024x8192, .bf16⟩
  | 109 => ⟨S_, .i32⟩
  | 110 => ⟨S1024x8192, .i32⟩
  | 111 => ⟨S1024x8192, .i32⟩
  | 112 => ⟨S_, .i32⟩
  | 113 => ⟨S1024x8192, .i32⟩
  | 114 => ⟨S1024x8192, .i32⟩
  | 115 => ⟨S_, .i32⟩
  | 116 => ⟨S1024x8192, .i32⟩
  | 117 => ⟨S1024x8192, .i1⟩
  | 118 => ⟨S1024x8192, .bf16⟩
  | 119 => ⟨S1024x8192, .bf16⟩
  | 120 => ⟨S_, .i32⟩
  | 121 => ⟨S1024x8192, .i32⟩
  | 122 => ⟨S1024x8192, .i32⟩
  | 123 => ⟨S_, .i32⟩
  | 124 => ⟨S1024x8192, .i32⟩
  | 125 => ⟨S1024x8192, .i32⟩
  | 126 => ⟨S_, .i32⟩
  | 127 => ⟨S1024x8192, .i32⟩
  | _ => ⟨S3072x2048, .i32⟩

abbrev hbmTy0_1 (i : Nat) : BufTy := match i % 128 with
  | 0 => ⟨S1024x8192, .i1⟩
  | 1 => ⟨S1024x8192, .bf16⟩
  | 2 => ⟨S_, .i32⟩
  | 3 => ⟨S1024x8192, .i32⟩
  | 4 => ⟨S1024x8192, .i32⟩
  | 5 => ⟨S_, .i32⟩
  | 6 => ⟨S1024x8192, .i32⟩
  | 7 => ⟨S1024x8192, .i1⟩
  | 8 => ⟨S1024x8192, .bf16⟩
  | 9 => ⟨S1024x8192, .bf16⟩
  | 10 => ⟨S1024x8192, .bf16⟩
  | 11 => ⟨S1024x1x8192, .bf16⟩
  | 12 => ⟨S1024x1x8192, .bf16⟩
  | 13 => ⟨S1024x2x8192, .bf16⟩
  | 14 => ⟨S2048x8192, .bf16⟩
  | 15 => ⟨S6144x8192, .f32⟩
  | 16 => ⟨S6144x8192, .bf16⟩
  | _ => ⟨S3072x2048, .i32⟩

abbrev hbmTy (i : Nat) : BufTy := match i / 128 with
  | 0 => hbmTy0_0 i
  | 1 => hbmTy0_1 i
  | _ => ⟨S3072x2048, .i32⟩

abbrev bufTy : (tb : Table) → Fin (tcTables nBuf tb) → BufTy
  | .hbm, ⟨i, _⟩ => hbmTy i
  | _, _ => ⟨S3072x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_cst_5 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v20 : Ref sig .tc := ⟨.hbm, 36, rfl⟩
abbrev main_cst_7 : Ref sig .tc := ⟨.hbm, 37, rfl⟩
abbrev main_cst_8 : Ref sig .tc := ⟨.hbm, 38, rfl⟩
abbrev main_call2_v0 : Ref sig .tc := ⟨.hbm, 39, rfl⟩
abbrev main_call2_v1 : Ref sig .tc := ⟨.hbm, 40, rfl⟩
abbrev main_v21 : Ref sig .tc := ⟨.hbm, 41, rfl⟩
abbrev main_cst_9 : Ref sig .tc := ⟨.hbm, 42, rfl⟩
abbrev main_cst_10 : Ref sig .tc := ⟨.hbm, 43, rfl⟩
abbrev main_call3_v0 : Ref sig .tc := ⟨.hbm, 44, rfl⟩
abbrev main_call3_v1 : Ref sig .tc := ⟨.hbm, 45, rfl⟩
abbrev main_v22 : Ref sig .tc := ⟨.hbm, 46, rfl⟩
abbrev main_c_11 : Ref sig .tc := ⟨.hbm, 47, rfl⟩
abbrev main_v23 : Ref sig .tc := ⟨.hbm, 48, rfl⟩
abbrev main_v24 : Ref sig .tc := ⟨.hbm, 49, rfl⟩
abbrev main_c_12 : Ref sig .tc := ⟨.hbm, 50, rfl⟩
abbrev main_v25 : Ref sig .tc := ⟨.hbm, 51, rfl⟩
abbrev main_v26 : Ref sig .tc := ⟨.hbm, 52, rfl⟩
abbrev main_c_13 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_14 : Ref sig .tc := ⟨.hbm, 58, rfl⟩
abbrev main_v31 : Ref sig .tc := ⟨.hbm, 59, rfl⟩
abbrev main_v32 : Ref sig .tc := ⟨.hbm, 60, rfl⟩
abbrev main_c_15 : Ref sig .tc := ⟨.hbm, 61, rfl⟩
abbrev main_v33 : Ref sig .tc := ⟨.hbm, 62, rfl⟩
abbrev main_v34 : Ref sig .tc := ⟨.hbm, 63, rfl⟩
abbrev main_c_16 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_17 : Ref sig .tc := ⟨.hbm, 68, rfl⟩
abbrev main_v38 : Ref sig .tc := ⟨.hbm, 69, rfl⟩
abbrev main_v39 : Ref sig .tc := ⟨.hbm, 70, rfl⟩
abbrev main_c_18 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_19 : Ref sig .tc := ⟨.hbm, 77, rfl⟩
abbrev main_v45 : Ref sig .tc := ⟨.hbm, 78, rfl⟩
abbrev main_v46 : Ref sig .tc := ⟨.hbm, 79, rfl⟩
abbrev main_c_20 : Ref sig .tc := ⟨.hbm, 80, rfl⟩
abbrev main_v47 : Ref sig .tc := ⟨.hbm, 81, rfl⟩
abbrev main_v48 : Ref sig .tc := ⟨.hbm, 82, rfl⟩
abbrev main_c_21 : Ref sig .tc := ⟨.hbm, 83, rfl⟩
abbrev main_v49 : Ref sig .tc := ⟨.hbm, 84, rfl⟩
abbrev main_v50 : Ref sig .tc := ⟨.hbm, 85, rfl⟩
abbrev main_c_22 : Ref sig .tc := ⟨.hbm, 86, rfl⟩
abbrev main_v51 : Ref sig .tc := ⟨.hbm, 87, rfl⟩
abbrev main_v52 : Ref sig .tc := ⟨.hbm, 88, rfl⟩
abbrev main_cst_23 : Ref sig .tc := ⟨.hbm, 89, rfl⟩
abbrev main_cst_24 : Ref sig .tc := ⟨.hbm, 90, rfl⟩
abbrev main_call8_v0 : Ref sig .tc := ⟨.hbm, 91, rfl⟩
abbrev main_call8_v1 : Ref sig .tc := ⟨.hbm, 92, rfl⟩
abbrev main_v53 : Ref sig .tc := ⟨.hbm, 93, rfl⟩
abbrev main_cst_25 : Ref sig .tc := ⟨.hbm, 94, rfl⟩
abbrev main_cst_26 : Ref sig .tc := ⟨.hbm, 95, rfl⟩
abbrev main_call9_v0 : Ref sig .tc := ⟨.hbm, 96, rfl⟩
abbrev main_call9_v1 : Ref sig .tc := ⟨.hbm, 97, rfl⟩
abbrev main_v54 : Ref sig .tc := ⟨.hbm, 98, rfl⟩
abbrev main_cst_27 : Ref sig .tc := ⟨.hbm, 99, rfl⟩
abbrev main_cst_28 : Ref sig .tc := ⟨.hbm, 100, rfl⟩
abbrev main_call10_v0 : Ref sig .tc := ⟨.hbm, 101, rfl⟩
abbrev main_call10_v1 : Ref sig .tc := ⟨.hbm, 102, rfl⟩
abbrev main_v55 : Ref sig .tc := ⟨.hbm, 103, rfl⟩
abbrev main_cst_29 : Ref sig .tc := ⟨.hbm, 104, rfl⟩
abbrev main_cst_30 : Ref sig .tc := ⟨.hbm, 105, rfl⟩
abbrev main_call11_v0 : Ref sig .tc := ⟨.hbm, 106, rfl⟩
abbrev main_call11_v1 : Ref sig .tc := ⟨.hbm, 107, rfl⟩
abbrev main_v56 : Ref sig .tc := ⟨.hbm, 108, rfl⟩
abbrev main_c_31 : Ref sig .tc := ⟨.hbm, 109, rfl⟩
abbrev main_v57 : Ref sig .tc := ⟨.hbm, 110, rfl⟩
abbrev main_v58 : Ref sig .tc := ⟨.hbm, 111, rfl⟩
abbrev main_c_32 : Ref sig .tc := ⟨.hbm, 112, rfl⟩
abbrev main_v59 : Ref sig .tc := ⟨.hbm, 113, rfl⟩
abbrev main_v60 : Ref sig .tc := ⟨.hbm, 114, rfl⟩
abbrev main_c_33 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_c_34 : Ref sig .tc := ⟨.hbm, 120, rfl⟩
abbrev main_v65 : Ref sig .tc := ⟨.hbm, 121, rfl⟩
abbrev main_v66 : Ref sig .tc := ⟨.hbm, 122, rfl⟩
abbrev main_c_35 : Ref sig .tc := ⟨.hbm, 123, rfl⟩
abbrev main_v67 : Ref sig .tc := ⟨.hbm, 124, rfl⟩
abbrev main_v68 : Ref sig .tc := ⟨.hbm, 125, rfl⟩
abbrev main_c_36 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_c_37 : Ref sig .tc := ⟨.hbm, 130, rfl⟩
abbrev main_v72 : Ref sig .tc := ⟨.hbm, 131, rfl⟩
abbrev main_v73 : Ref sig .tc := ⟨.hbm, 132, rfl⟩
abbrev main_c_38 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩

abbrev nD : Nat := 1
abbrev τ : Topo := Topo.v7x

variable {F : FTy → Type} [FloatOps F]
-- ==== GKernel.lean ====
abbrev S3072x8192 : Shape := ⟨2, ![3072, 8192]⟩
abbrev S4096x14336 : Shape := ⟨2, ![4096, 14336]⟩
abbrev S256x14336 : Shape := ⟨2, ![256, 14336]⟩
abbrev S6144x7168 : Shape := ⟨2, ![6144, 7168]⟩
abbrev S6144x224 : Shape := ⟨2, ![6144, 224]⟩
abbrev S512x8192 : Shape := ⟨2, ![512, 8192]⟩
abbrev S4096x256 : Shape := ⟨2, ![4096, 256]⟩
abbrev S256x256 : Shape := ⟨2, ![256, 256]⟩
abbrev S1024x256 : Shape := ⟨2, ![1024, 256]⟩
abbrev S1024x224 : Shape := ⟨2, ![1024, 224]⟩
abbrev S4096x512 : Shape := ⟨2, ![4096, 512]⟩
abbrev S1024x512 : Shape := ⟨2, ![1024, 512]⟩
abbrev S128x128 : Shape := ⟨2, ![128, 128]⟩
abbrev S128x256 : Shape := ⟨2, ![128, 256]⟩
abbrev S8x256 : Shape := ⟨2, ![8, 256]⟩
abbrev S1x256 : Shape := ⟨2, ![1, 256]⟩
abbrev S16x256 : Shape := ⟨2, ![16, 256]⟩
abbrev S32x256 : Shape := ⟨2, ![32, 256]⟩
abbrev S1024x8192 : Shape := ⟨2, ![1024, 8192]⟩
abbrev S8192x512 : Shape := ⟨2, ![8192, 512]⟩
abbrev S256x128 : Shape := ⟨2, ![256, 128]⟩
abbrev S32x128 : Shape := ⟨2, ![32, 128]⟩
abbrev S64x128 : Shape := ⟨2, ![64, 128]⟩
abbrev S16x128 : Shape := ⟨2, ![16, 128]⟩
abbrev S8x128 : Shape := ⟨2, ![8, 128]⟩
abbrev S1x128 : Shape := ⟨2, ![1, 128]⟩
abbrev S256x8 : Shape := ⟨2, ![256, 8]⟩

abbrev nBuf : Space → Nat
  | .hbm => 6
  | .vmem => 21
  | .smem => 0
  | _ => 0

abbrev bufTy : (tb : Table) → Fin (tcTables nBuf tb) → BufTy
  | .hbm, ⟨0, _⟩ => ⟨S3072x8192, .i32⟩
  | .hbm, ⟨1, _⟩ => ⟨S4096x14336, .i8⟩
  | .hbm, ⟨2, _⟩ => ⟨S256x14336, .i8⟩
  | .hbm, ⟨3, _⟩ => ⟨S6144x7168, .fp8e4m3⟩
  | .hbm, ⟨4, _⟩ => ⟨S6144x224, .i8⟩
  | .hbm, ⟨5, _⟩ => ⟨S6144x7168, .bf16⟩
  | .local _ .vmem, ⟨0, _⟩ => ⟨S512x8192, .i32⟩
  | .local _ .vmem, ⟨1, _⟩ => ⟨S512x8192, .i32⟩
  | .local _ .vmem, ⟨2, _⟩ => ⟨S4096x256, .i8⟩
  | .local _ .vmem, ⟨3, _⟩ => ⟨S4096x256, .i8⟩
  | .local _ .vmem, ⟨4, _⟩ => ⟨S4096x256, .i8⟩
  | .local _ .vmem, ⟨5, _⟩ => ⟨S4096x256, .i8⟩
  | .local _ .vmem, ⟨6, _⟩ => ⟨S256x256, .i8⟩
  | .local _ .vmem, ⟨7, _⟩ => ⟨S256x256, .i8⟩
  | .local _ .vmem, ⟨8, _⟩ => ⟨S256x256, .i8⟩
  | .local _ .vmem, ⟨9, _⟩ => ⟨S256x256, .i8⟩
  | .local _ .vmem, ⟨10, _⟩ => ⟨S1024x256, .fp8e4m3⟩
  | .local _ .vmem, ⟨11, _⟩ => ⟨S1024x256, .fp8e4m3⟩
  | .local _ .vmem, ⟨12, _⟩ => ⟨S1024x224, .i8⟩
  | .local _ .vmem, ⟨13, _⟩ => ⟨S1024x224, .i8⟩
  | .local _ .vmem, ⟨14, _⟩ => ⟨S1024x256, .bf16⟩
  | .local _ .vmem, ⟨15, _⟩ => ⟨S1024x256, .bf16⟩
  | .local _ .vmem, ⟨16, _⟩ => ⟨S256x256, .i32⟩
  | .local _ .vmem, ⟨17, _⟩ => ⟨S4096x512, .i32⟩
  | .local _ .vmem, ⟨18, _⟩ => ⟨S1024x512, .f32⟩
  | .local _ .vmem, ⟨19, _⟩ => ⟨S128x128, .i32⟩
  | .local _ .vmem, ⟨20, _⟩ => ⟨S1024x256, .i32⟩
  | _, _ => ⟨S3072x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨2, ![6, 28], ![false, false]⟩

@[reducible] def k0_t1_loop : Scf.Loop 32 :=
  let c0_i32_4 : BitVec 32 := 0#32
  let c32_i32 : BitVec 32 := 32#32
  let v10 : BitVec 32 := Scalar.addi c0_i32_4 c32_i32
  let c1_i32 : BitVec 32 := 1#32
  ⟨c0_i32_4, v10, c1_i32⟩
def k0_mult1 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c128_i32 : BitVec 32 := 128#32
  let v31 : BitVec 32 := Scalar.muli arg15 c128_i32
  v31
def k0_off1 (k0_t1 : Fin k0_t1_loop.trips) : Fin 2 → Nat :=
  let c0_i32_4 : BitVec 32 := 0#32
  let c1_i32 : BitVec 32 := 1#32
  let arg15 : BitVec 32 := Scf.iv c0_i32_4 c1_i32 k0_t1
  let c128_i32 : BitVec 32 := 128#32
  let v31 : BitVec 32 := Scalar.muli arg15 c128_i32
  let v32 : BitVec 32 := v31
  let v33 : Index := Scalar.indexCast v32
  let c0_25 : Index := 0#32
  ![v33.toNat, 0]
def k0_mult2 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c8_i32_36 : BitVec 32 := 8#32
  let v76 : BitVec 32 := Scalar.muli arg15 c8_i32_36
  v76
def k0_off2 (k0_t1 : Fin k0_t1_loop.trips) : Fin 2 → Nat :=
  let c0_i32_4 : BitVec 32 := 0#32
  let c1_i32 : BitVec 32 := 1#32
  let arg15 : BitVec 32 := Scf.iv c0_i32_4 c1_i32 k0_t1
  let c8_i32_36 : BitVec 32 := 8#32
  let v76 : BitVec 32 := Scalar.muli arg15 c8_i32_36
  let v77 : BitVec 32 := v76
  let v78 : Index := Scalar.indexCast v77
  let c0_37 : Index := 0#32
  ![v78.toNat, 0]
def k0_mult3 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c128_i32_38 : BitVec 32 := 128#32
  let v87 : BitVec 32 := Scalar.muli arg15 c128_i32_38
  let c0_i32_39 : BitVec 32 := 0#32
  let v88 : BitVec 32 := Scalar.addi v87 c0_i32_39
  v88
def k0_off3 (k0_t1 : Fin k0_t1_loop.trips) (c0_i32_39 : BitVec 32) : Fin 2 → Nat :=
  let c0_i32_4 : BitVec 32 := 0#32
  let c1_i32 : BitVec 32 := 1#32
  let arg15 : BitVec 32 := Scf.iv c0_i32_4 c1_i32 k0_t1
  let c128_i32_38 : BitVec 32 := 128#32
  let v87 : BitVec 32 := Scalar.muli arg15 c128_i32_38
  let v88 : BitVec 32 := Scalar.addi v87 c0_i32_39
  let v89 : BitVec 32 := v88
  let v90 : Index := Scalar.indexCast v89
  let c0_40 : Index := 0#32
  ![v90.toNat, 0]
def k0_mult4 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c128_i32_41 : BitVec 32 := 128#32
  let v101 : BitVec 32 := Scalar.muli arg15 c128_i32_41
  let c16_i32_42 : BitVec 32 := 16#32
  let v102 : BitVec 32 := Scalar.addi v101 c16_i32_42
  v102
def k0_mult5 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c128_i32_44 : BitVec 32 := 128#32
  let v115 : BitVec 32 := Scalar.muli arg15 c128_i32_44
  let c32_i32_45 : BitVec 32 := 32#32
  let v116 : BitVec 32 := Scalar.addi v115 c32_i32_45
  v116
def k0_mult6 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c128_i32_47 : BitVec 32 := 128#32
  let v129 : BitVec 32 := Scalar.muli arg15 c128_i32_47
  let c48_i32 : BitVec 32 := 48#32
  let v130 : BitVec 32 := Scalar.addi v129 c48_i32
  v130
def k0_mult7 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c128_i32_49 : BitVec 32 := 128#32
  let v143 : BitVec 32 := Scalar.muli arg15 c128_i32_49
  let c64_i32_50 : BitVec 32 := 64#32
  let v144 : BitVec 32 := Scalar.addi v143 c64_i32_50
  v144
def k0_mult8 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c128_i32_52 : BitVec 32 := 128#32
  let v157 : BitVec 32 := Scalar.muli arg15 c128_i32_52
  let c80_i32 : BitVec 32 := 80#32
  let v158 : BitVec 32 := Scalar.addi v157 c80_i32
  v158
def k0_mult9 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c128_i32_54 : BitVec 32 := 128#32
  let v171 : BitVec 32 := Scalar.muli arg15 c128_i32_54
  let c96_i32 : BitVec 32 := 96#32
  let v172 : BitVec 32 := Scalar.addi v171 c96_i32
  v172
def k0_mult10 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c128_i32_56 : BitVec 32 := 128#32
  let v185 : BitVec 32 := Scalar.muli arg15 c128_i32_56
  let c112_i32 : BitVec 32 := 112#32
  let v186 : BitVec 32 := Scalar.addi v185 c112_i32
  v186
@[reducible] def k0_t2_loop : Scf.Loop 32 :=
  let c0_i32_11 : BitVec 32 := 0#32
  let c32_i32_12 : BitVec 32 := 32#32
  let v18 : BitVec 32 := Scalar.addi c0_i32_11 c32_i32_12
  let c1_i32_13 : BitVec 32 := 1#32
  ⟨c0_i32_11, v18, c1_i32_13⟩
def k0_mult11 (k0_t2 : Fin k0_t2_loop.trips) : BitVec 32 :=
  let c0_i32_11 : BitVec 32 := 0#32
  let c1_i32_13 : BitVec 32 := 1#32
  let arg15 : BitVec 32 := Scf.iv c0_i32_11 c1_i32_13 k0_t2
  let c128_i32 : BitVec 32 := 128#32
  let v31 : BitVec 32 := Scalar.muli arg15 c128_i32
  v31
def k0_off4 (k0_t2 : Fin k0_t2_loop.trips) : Fin 2 → Nat :=
  let c0_i32_11 : BitVec 32 := 0#32
  let c1_i32_13 : BitVec 32 := 1#32
  let arg15 : BitVec 32 := Scf.iv c0_i32_11 c1_i32_13 k0_t2
  let c128_i32 : BitVec 32 := 128#32
  let v31 : BitVec 32 := Scalar.muli arg15 c128_i32
  let v32 : BitVec 32 := v31
  let v33 : Index := Scalar.indexCast v32
  let c0_25 : Index := 0#32
  ![v33.toNat, 0]
def k0_mult12 (k0_t2 : Fin k0_t2_loop.trips) : BitVec 32 :=
  let c0_i32_11 : BitVec 32 := 0#32
  let c1_i32_13 : BitVec 32 := 1#32
  let arg15 : BitVec 32 := Scf.iv c0_i32_11 c1_i32_13 k0_t2
  let c8_i32_36 : BitVec 32 := 8#32
  let v76 : BitVec 32 := Scalar.muli arg15 c8_i32_36
  v76
def k0_off5 (k0_t2 : Fin k0_t2_loop.trips) : Fin 2 → Nat :=
  let c0_i32_11 : BitVec 32 := 0#32
  let c1_i32_13 : BitVec 32 := 1#32
  let arg15 : BitVec 32 := Scf.iv c0_i32_11 c1_i32_13 k0_t2
  let c8_i32_36 : BitVec 32 := 8#32
  let v76 : BitVec 32 := Scalar.muli arg15 c8_i32_36
  let v77 : BitVec 32 := v76
  let v78 : Index := Scalar.indexCast v77
  let c0_37 : Index := 0#32
  ![v78.toNat, 0]
def k0_mult13 (k0_t2 : Fin k0_t2_loop.trips) : BitVec 32 :=
  let c0_i32_11 : BitVec 32 := 0#32
  let c1_i32_13 : BitVec 32 := 1#32
  let arg15 : BitVec 32 := Scf.iv c0_i32_11 c1_i32_13 k0_t2
  let c128_i32_38 : BitVec 32 := 128#32
  let v87 : BitVec 32 := Scalar.muli arg15 c128_i32_38
  let c0_i32_39 : BitVec 32 := 0#32
  let v88 : BitVec 32 := Scalar.addi v87 c0_i32_39
  v88
def k0_off6 (k0_t2 : Fin k0_t2_loop.trips) (c0_i32_39 : BitVec 32) : Fin 2 → Nat :=
  let c0_i32_11 : BitVec 32 := 0#32
  let c1_i32_13 : BitVec 32 := 1#32
  let arg15 : BitVec 32 := Scf.iv c0_i32_11 c1_i32_13 k0_t2
  let c128_i32_38 : BitVec 32 := 128#32
  let v87 : BitVec 32 := Scalar.muli arg15 c128_i32_38
  let v88 : BitVec 32 := Scalar.addi v87 c0_i32_39
  let v89 : BitVec 32 := v88
  let v90 : Index := Scalar.indexCast v89
  let c256 : Index := 256#32
  ![v90.toNat, 256]
def k0_mult14 (k0_t2 : Fin k0_t2_loop.trips) : BitVec 32 :=
  let c0_i32_11 : BitVec 32 := 0#32
  let c1_i32_13 : BitVec 32 := 1#32
  let arg15 : BitVec 32 := Scf.iv c0_i32_11 c1_i32_13 k0_t2
  let c128_i32_40 : BitVec 32 := 128#32
  let v101 : BitVec 32 := Scalar.muli arg15 c128_i32_40
  let c16_i32_41 : BitVec 32 := 16#32
  let v102 : BitVec 32 := Scalar.addi v101 c16_i32_41
  v102
def k0_mult15 (k0_t2 : Fin k0_t2_loop.trips) : BitVec 32 :=
  let c0_i32_11 : BitVec 32 := 0#32
  let c1_i32_13 : BitVec 32 := 1#32
  let arg15 : BitVec 32 := Scf.iv c0_i32_11 c1_i32_13 k0_t2
  let c128_i32_43 : BitVec 32 := 128#32
  let v115 : BitVec 32 := Scalar.muli arg15 c128_i32_43
  let c32_i32_44 : BitVec 32 := 32#32
  let v116 : BitVec 32 := Scalar.addi v115 c32_i32_44
  v116
def k0_mult16 (k0_t2 : Fin k0_t2_loop.trips) : BitVec 32 :=
  let c0_i32_11 : BitVec 32 := 0#32
  let c1_i32_13 : BitVec 32 := 1#32
  let arg15 : BitVec 32 := Scf.iv c0_i32_11 c1_i32_13 k0_t2
  let c128_i32_46 : BitVec 32 := 128#32
  let v129 : BitVec 32 := Scalar.muli arg15 c128_i32_46
  let c48_i32 : BitVec 32 := 48#32
  let v130 : BitVec 32 := Scalar.addi v129 c48_i32
  v130
def k0_mult17 (k0_t2 : Fin k0_t2_loop.trips) : BitVec 32 :=
  let c0_i32_11 : BitVec 32 := 0#32
  let c1_i32_13 : BitVec 32 := 1#32
  let arg15 : BitVec 32 := Scf.iv c0_i32_11 c1_i32_13 k0_t2
  let c128_i32_48 : BitVec 32 := 128#32
  let v143 : BitVec 32 := Scalar.muli arg15 c128_i32_48
  let c64_i32_49 : BitVec 32 := 64#32
  let v144 : BitVec 32 := Scalar.addi v143 c64_i32_49
  v144
def k0_mult18 (k0_t2 : Fin k0_t2_loop.trips) : BitVec 32 :=
  let c0_i32_11 : BitVec 32 := 0#32
  let c1_i32_13 : BitVec 32 := 1#32
  let arg15 : BitVec 32 := Scf.iv c0_i32_11 c1_i32_13 k0_t2
  let c128_i32_51 : BitVec 32 := 128#32
  let v157 : BitVec 32 := Scalar.muli arg15 c128_i32_51
  let c80_i32 : BitVec 32 := 80#32
  let v158 : BitVec 32 := Scalar.addi v157 c80_i32
  v158
def k0_mult19 (k0_t2 : Fin k0_t2_loop.trips) : BitVec 32 :=
  let c0_i32_11 : BitVec 32 := 0#32
  let c1_i32_13 : BitVec 32 := 1#32
  let arg15 : BitVec 32 := Scf.iv c0_i32_11 c1_i32_13 k0_t2
  let c128_i32_53 : BitVec 32 := 128#32
  let v171 : BitVec 32 := Scalar.muli arg15 c128_i32_53
  let c96_i32 : BitVec 32 := 96#32
  let v172 : BitVec 32 := Scalar.addi v171 c96_i32
  v172
def k0_mult20 (k0_t2 : Fin k0_t2_loop.trips) : BitVec 32 :=
  let c0_i32_11 : BitVec 32 := 0#32
  let c1_i32_13 : BitVec 32 := 1#32
  let arg15 : BitVec 32 := Scf.iv c0_i32_11 c1_i32_13 k0_t2
  let c128_i32_55 : BitVec 32 := 128#32
  let v185 : BitVec 32 := Scalar.muli arg15 c128_i32_55
  let c112_i32 : BitVec 32 := 112#32
  let v186 : BitVec 32 := Scalar.addi v185 c112_i32
  v186
@[reducible] def k0_t3_loop : Scf.Loop 32 :=
  let c0_i32_21 : BitVec 32 := 0#32
  let c4_i32 : BitVec 32 := 4#32
  let v27 : BitVec 32 := Scalar.addi c0_i32_21 c4_i32
  let c1_i32_22 : BitVec 32 := 1#32
  ⟨c0_i32_21, v27, c1_i32_22⟩
def k0_mult21 (k0_t3 : Fin k0_t3_loop.trips) : BitVec 32 :=
  let c0_i32_21 : BitVec 32 := 0#32
  let c1_i32_22 : BitVec 32 := 1#32
  let arg15 : BitVec 32 := Scf.iv c0_i32_21 c1_i32_22 k0_t3
  let c256_i32 : BitVec 32 := 256#32
  let v31 : BitVec 32 := Scalar.muli arg15 c256_i32
  v31
def k0_off7 (k0_t3 : Fin k0_t3_loop.trips) : Fin 2 → Nat :=
  let c0_i32_21 : BitVec 32 := 0#32
  let c1_i32_22 : BitVec 32 := 1#32
  let arg15 : BitVec 32 := Scf.iv c0_i32_21 c1_i32_22 k0_t3
  let c256_i32 : BitVec 32 := 256#32
  let v31 : BitVec 32 := Scalar.muli arg15 c256_i32
  let v32 : BitVec 32 := v31
  let v33 : Index := Scalar.indexCast v32
  let c0_25 : Index := 0#32
  ![v33.toNat, 0]
def k0_off8 (k0_t3 : Fin k0_t3_loop.trips) : Fin 2 → Nat :=
  let c0_i32_21 : BitVec 32 := 0#32
  let c1_i32_22 : BitVec 32 := 1#32
  let arg15 : BitVec 32 := Scf.iv c0_i32_21 c1_i32_22 k0_t3
  let c256_i32 : BitVec 32 := 256#32
  let v31 : BitVec 32 := Scalar.muli arg15 c256_i32
  let v32 : BitVec 32 := v31
  let v35 : Index := Scalar.indexCast v32
  let c256 : Index := 256#32
  ![v35.toNat, 256]
def k0_off9 (k0_t3 : Fin k0_t3_loop.trips) : Fin 2 → Nat :=
  let c0_i32_21 : BitVec 32 := 0#32
  let c1_i32_22 : BitVec 32 := 1#32
  let arg15 : BitVec 32 := Scf.iv c0_i32_21 c1_i32_22 k0_t3
  let c256_i32 : BitVec 32 := 256#32
  let v31 : BitVec 32 := Scalar.muli arg15 c256_i32
  let v32 : BitVec 32 := v31
  let v1107 : Index := Scalar.indexCast v32
  let c0_362 : Index := 0#32
  ![v1107.toNat, 0]
def k0_mult22 (i : grid0.Coords) : BitVec 32 :=
  let arg1 : BitVec 32 := BitVec.ofNat 32 (i 1).val
  let c0_i32_407 : BitVec 32 := 0#32
  let v1224 : BitVec 1 := Scalar.cmpi .sgt arg1 c0_i32_407
  let v1225 : BitVec 32 := Scalar.extui v1224
  let c0_i32_408 : BitVec 32 := 0#32
  let v1226 : BitVec 1 := Scalar.cmpi .slt arg1 c0_i32_408
  let v1227 : BitVec 32 := Scalar.extui v1226
  let v1228 : BitVec 32 := Scalar.subi v1225 v1227
  let c16_i32_406 : BitVec 32 := 16#32
  let c0_i32_409 : BitVec 32 := 0#32
  let v1229 : BitVec 1 := Scalar.cmpi .sgt c16_i32_406 c0_i32_409
  let v1230 : BitVec 32 := Scalar.extui v1229
  let c0_i32_410 : BitVec 32 := 0#32
  let v1231 : BitVec 1 := Scalar.cmpi .slt c16_i32_406 c0_i32_410
  let v1232 : BitVec 32 := Scalar.extui v1231
  let v1233 : BitVec 32 := Scalar.subi v1230 v1232
  let v1234 : BitVec 1 := Scalar.cmpi .ne v1228 v1233
  let v1235 : BitVec 32 := Scalar.remsi arg1 c16_i32_406
  let c0_i32_411 : BitVec 32 := 0#32
  let v1236 : BitVec 1 := Scalar.cmpi .ne v1235 c0_i32_411
  let v1237 : BitVec 1 := Scalar.andi v1234 v1236
  let v1223 : BitVec 32 := Scalar.divsi arg1 c16_i32_406
  let c1_i32_412 : BitVec 32 := 1#32
  let v1238 : BitVec 32 := Scalar.subi v1223 c1_i32_412
  let v1239 : BitVec 32 := Scalar.select v1237 v1238 v1223
  let c128_i32_413 : BitVec 32 := 128#32
  let v1240 : BitVec 32 := Scalar.muli v1239 c128_i32_413
  v1240
def k0_off10 (k0_t3 : Fin k0_t3_loop.trips) : Fin 2 → Nat :=
  let c0_i32_21 : BitVec 32 := 0#32
  let c1_i32_22 : BitVec 32 := 1#32
  let arg15 : BitVec 32 := Scf.iv c0_i32_21 c1_i32_22 k0_t3
  let c256_i32 : BitVec 32 := 256#32
  let v31 : BitVec 32 := Scalar.muli arg15 c256_i32
  let v32 : BitVec 32 := v31
  let c0_i32_420 : BitVec 32 := 0#32
  ![v32.toNat, 0]
def k0_off11 (i : grid0.Coords) : Fin 2 → Nat :=
  let c0_421 : Index := 0#32
  let arg1 : BitVec 32 := BitVec.ofNat 32 (i 1).val
  let c0_i32_407 : BitVec 32 := 0#32
  let v1224 : BitVec 1 := Scalar.cmpi .sgt arg1 c0_i32_407
  let v1225 : BitVec 32 := Scalar.extui v1224
  let c0_i32_408 : BitVec 32 := 0#32
  let v1226 : BitVec 1 := Scalar.cmpi .slt arg1 c0_i32_408
  let v1227 : BitVec 32 := Scalar.extui v1226
  let v1228 : BitVec 32 := Scalar.subi v1225 v1227
  let c16_i32_406 : BitVec 32 := 16#32
  let c0_i32_409 : BitVec 32 := 0#32
  let v1229 : BitVec 1 := Scalar.cmpi .sgt c16_i32_406 c0_i32_409
  let v1230 : BitVec 32 := Scalar.extui v1229
  let c0_i32_410 : BitVec 32 := 0#32
  let v1231 : BitVec 1 := Scalar.cmpi .slt c16_i32_406 c0_i32_410
  let v1232 : BitVec 32 := Scalar.extui v1231
  let v1233 : BitVec 32 := Scalar.subi v1230 v1232
  let v1234 : BitVec 1 := Scalar.cmpi .ne v1228 v1233
  let v1235 : BitVec 32 := Scalar.remsi arg1 c16_i32_406
  let c0_i32_411 : BitVec 32 := 0#32
  let v1236 : BitVec 1 := Scalar.cmpi .ne v1235 c0_i32_411
  let v1237 : BitVec 1 := Scalar.andi v1234 v1236
  let v1223 : BitVec 32 := Scalar.divsi arg1 c16_i32_406
  let c1_i32_412 : BitVec 32 := 1#32
  let v1238 : BitVec 32 := Scalar.subi v1223 c1_i32_412
  let v1239 : BitVec 32 := Scalar.select v1237 v1238 v1223
  let c128_i32_413 : BitVec 32 := 128#32
  let v1240 : BitVec 32 := Scalar.muli v1239 c128_i32_413
  let v1241 : BitVec 32 := v1240
  let v1255 : Index := Scalar.indexCast v1241
  ![0, v1255.toNat]
def k0_cond2 (i : grid0.Coords) : BitVec 1 :=
  let arg1 : BitVec 32 := BitVec.ofNat 32 (i 1).val
  let c27_i32 : BitVec 32 := 27#32
  let v28 : BitVec 1 := Scalar.cmpi .eq arg1 c27_i32
  let v29 : BitVec 32 := Scalar.extui v28
  let c0_i32_24 : BitVec 32 := 0#32
  let v30 : BitVec 1 := Scalar.cmpi .ne v29 c0_i32_24
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x224 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GKernelIdeal.lean ====
abbrev S3072x8192 : Shape := ⟨2, ![3072, 8192]⟩
abbrev S4096x14336 : Shape := ⟨2, ![4096, 14336]⟩
abbrev S256x14336 : Shape := ⟨2, ![256, 14336]⟩
abbrev S6144x7168 : Shape := ⟨2, ![6144, 7168]⟩
abbrev S6144x224 : Shape := ⟨2, ![6144, 224]⟩
abbrev S512x8192 : Shape := ⟨2, ![512, 8192]⟩
abbrev S4096x256 : Shape := ⟨2, ![4096, 256]⟩
abbrev S256x256 : Shape := ⟨2, ![256, 256]⟩
abbrev S1024x256 : Shape := ⟨2, ![1024, 256]⟩
abbrev S1024x224 : Shape := ⟨2, ![1024, 224]⟩
abbrev S4096x512 : Shape := ⟨2, ![4096, 512]⟩
abbrev S4096x2x512 : Shape := ⟨3, ![4096, 2, 512]⟩
abbrev S4096x1x512 : Shape := ⟨3, ![4096, 1, 512]⟩
abbrev S1024x512 : Shape := ⟨2, ![1024, 512]⟩
abbrev S128x128 : Shape := ⟨2, ![128, 128]⟩
abbrev S128x256 : Shape := ⟨2, ![128, 256]⟩
abbrev S8x256 : Shape := ⟨2, ![8, 256]⟩
abbrev S1x256 : Shape := ⟨2, ![1, 256]⟩
abbrev S16x256 : Shape := ⟨2, ![16, 256]⟩
abbrev S32x256 : Shape := ⟨2, ![32, 256]⟩
abbrev S16x2x256 : Shape := ⟨3, ![16, 2, 256]⟩
abbrev S16x1x256 : Shape := ⟨3, ![16, 1, 256]⟩
abbrev S1024x8192 : Shape := ⟨2, ![1024, 8192]⟩
abbrev S8192x512 : Shape := ⟨2, ![8192, 512]⟩
abbrev S256x128 : Shape := ⟨2, ![256, 128]⟩
abbrev S32x128 : Shape := ⟨2, ![32, 128]⟩
abbrev S64x128 : Shape := ⟨2, ![64, 128]⟩
abbrev S16x128 : Shape := ⟨2, ![16, 128]⟩
abbrev S8x128 : Shape := ⟨2, ![8, 128]⟩
abbrev S1x128 : Shape := ⟨2, ![1, 128]⟩
abbrev S256x8 : Shape := ⟨2, ![256, 8]⟩

abbrev nBuf : Space → Nat
  | .hbm => 6
  | .vmem => 21
  | .smem => 0
  | _ => 0

abbrev bufTy : (tb : Table) → Fin (tcTables nBuf tb) → BufTy
  | .hbm, ⟨0, _⟩ => ⟨S3072x8192, .i32⟩
  | .hbm, ⟨1, _⟩ => ⟨S4096x14336, .i8⟩
  | .hbm, ⟨2, _⟩ => ⟨S256x14336, .i8⟩
  | .hbm, ⟨3, _⟩ => ⟨S6144x7168, .fp8e4m3⟩
  | .hbm, ⟨4, _⟩ => ⟨S6144x224, .i8⟩
  | .hbm, ⟨5, _⟩ => ⟨S6144x7168, .bf16⟩
  | .local _ .vmem, ⟨0, _⟩ => ⟨S512x8192, .i32⟩
  | .local _ .vmem, ⟨1, _⟩ => ⟨S512x8192, .i32⟩
  | .local _ .vmem, ⟨2, _⟩ => ⟨S4096x256, .i8⟩
  | .local _ .vmem, ⟨3, _⟩ => ⟨S4096x256, .i8⟩
  | .local _ .vmem, ⟨4, _⟩ => ⟨S4096x256, .i8⟩
  | .local _ .vmem, ⟨5, _⟩ => ⟨S4096x256, .i8⟩
  | .local _ .vmem, ⟨6, _⟩ => ⟨S256x256, .i8⟩
  | .local _ .vmem, ⟨7, _⟩ => ⟨S256x256, .i8⟩
  | .local _ .vmem, ⟨8, _⟩ => ⟨S256x256, .i8⟩
  | .local _ .vmem, ⟨9, _⟩ => ⟨S256x256, .i8⟩
  | .local _ .vmem, ⟨10, _⟩ => ⟨S1024x256, .fp8e4m3⟩
  | .local _ .vmem, ⟨11, _⟩ => ⟨S1024x256, .fp8e4m3⟩
  | .local _ .vmem, ⟨12, _⟩ => ⟨S1024x224, .i8⟩
  | .local _ .vmem, ⟨13, _⟩ => ⟨S1024x224, .i8⟩
  | .local _ .vmem, ⟨14, _⟩ => ⟨S1024x256, .bf16⟩
  | .local _ .vmem, ⟨15, _⟩ => ⟨S1024x256, .bf16⟩
  | .local _ .vmem, ⟨16, _⟩ => ⟨S256x256, .i32⟩
  | .local _ .vmem, ⟨17, _⟩ => ⟨S4096x2x512, .bf16⟩
  | .local _ .vmem, ⟨18, _⟩ => ⟨S1024x512, .f32⟩
  | .local _ .vmem, ⟨19, _⟩ => ⟨S128x128, .i32⟩
  | .local _ .vmem, ⟨20, _⟩ => ⟨S1024x256, .i32⟩
  | _, _ => ⟨S3072x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![6, 28], ![false, false]⟩

@[reducible] def k0_t1_loop : Scf.Loop 32 :=
  let c0_i32_4 : BitVec 32 := 0#32
  let c32_i32 : BitVec 32 := 32#32
  let v10 : BitVec 32 := Scalar.addi c0_i32_4 c32_i32
  let c1_i32 : BitVec 32 := 1#32
  ⟨c0_i32_4, v10, c1_i32⟩
def k0_mult1 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c128_i32 : BitVec 32 := 128#32
  let v31 : BitVec 32 := Scalar.muli arg15 c128_i32
  v31
def k0_off1 (k0_t1 : Fin k0_t1_loop.trips) : Fin 2 → Nat :=
  let c0_i32_4 : BitVec 32 := 0#32
  let c1_i32 : BitVec 32 := 1#32
  let arg15 : BitVec 32 := Scf.iv c0_i32_4 c1_i32 k0_t1
  let c128_i32 : BitVec 32 := 128#32
  let v31 : BitVec 32 := Scalar.muli arg15 c128_i32
  let v32 : BitVec 32 := v31
  let v33 : Index := Scalar.indexCast v32
  let c0_25 : Index := 0#32
  ![v33.toNat, 0]
def k0_mult2 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c8_i32_36 : BitVec 32 := 8#32
  let v76 : BitVec 32 := Scalar.muli arg15 c8_i32_36
  v76
def k0_off2 (k0_t1 : Fin k0_t1_loop.trips) : Fin 2 → Nat :=
  let c0_i32_4 : BitVec 32 := 0#32
  let c1_i32 : BitVec 32 := 1#32
  let arg15 : BitVec 32 := Scf.iv c0_i32_4 c1_i32 k0_t1
  let c8_i32_36 : BitVec 32 := 8#32
  let v76 : BitVec 32 := Scalar.muli arg15 c8_i32_36
  let v77 : BitVec 32 := v76
  let v78 : Index := Scalar.indexCast v77
  let c0_37 : Index := 0#32
  ![v78.toNat, 0]
def k0_mult3 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c128_i32_38 : BitVec 32 := 128#32
  let v87 : BitVec 32 := Scalar.muli arg15 c128_i32_38
  let c0_i32_39 : BitVec 32 := 0#32
  let v88 : BitVec 32 := Scalar.addi v87 c0_i32_39
  v88
def k0_off3 (k0_t1 : Fin k0_t1_loop.trips) (c0_i32_39 : BitVec 32) : Fin 3 → Nat :=
  let c0_i32_4 : BitVec 32 := 0#32
  let c1_i32 : BitVec 32 := 1#32
  let arg15 : BitVec 32 := Scf.iv c0_i32_4 c1_i32 k0_t1
  let c128_i32_38 : BitVec 32 := 128#32
  let v87 : BitVec 32 := Scalar.muli arg15 c128_i32_38
  let v88 : BitVec 32 := Scalar.addi v87 c0_i32_39
  let v89 : BitVec 32 := v88
  let v90 : Index := Scalar.indexCast v89
  let c0_40 : Index := 0#32
  ![v90.toNat, 0, 0]
def k0_mult4 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c128_i32_41 : BitVec 32 := 128#32
  let v101 : BitVec 32 := Scalar.muli arg15 c128_i32_41
  let c16_i32_42 : BitVec 32 := 16#32
  let v102 : BitVec 32 := Scalar.addi v101 c16_i32_42
  v102
def k0_mult5 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c128_i32_44 : BitVec 32 := 128#32
  let v115 : BitVec 32 := Scalar.muli arg15 c128_i32_44
  let c32_i32_45 : BitVec 32 := 32#32
  let v116 : BitVec 32 := Scalar.addi v115 c32_i32_45
  v116
def k0_mult6 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c128_i32_47 : BitVec 32 := 128#32
  let v129 : BitVec 32 := Scalar.muli arg15 c128_i32_47
  let c48_i32 : BitVec 32 := 48#32
  let v130 : BitVec 32 := Scalar.addi v129 c48_i32
  v130
def k0_mult7 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c128_i32_49 : BitVec 32 := 128#32
  let v143 : BitVec 32 := Scalar.muli arg15 c128_i32_49
  let c64_i32_50 : BitVec 32 := 64#32
  let v144 : BitVec 32 := Scalar.addi v143 c64_i32_50
  v144
def k0_mult8 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c128_i32_52 : BitVec 32 := 128#32
  let v157 : BitVec 32 := Scalar.muli arg15 c128_i32_52
  let c80_i32 : BitVec 32 := 80#32
  let v158 : BitVec 32 := Scalar.addi v157 c80_i32
  v158
def k0_mult9 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c128_i32_54 : BitVec 32 := 128#32
  let v171 : BitVec 32 := Scalar.muli arg15 c128_i32_54
  let c96_i32 : BitVec 32 := 96#32
  let v172 : BitVec 32 := Scalar.addi v171 c96_i32
  v172
def k0_mult10 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c128_i32_56 : BitVec 32 := 128#32
  let v185 : BitVec 32 := Scalar.muli arg15 c128_i32_56
  let c112_i32 : BitVec 32 := 112#32
  let v186 : BitVec 32 := Scalar.addi v185 c112_i32
  v186
@[reducible] def k0_t2_loop : Scf.Loop 32 :=
  let c0_i32_11 : BitVec 32 := 0#32
  let c32_i32_12 : BitVec 32 := 32#32
  let v18 : BitVec 32 := Scalar.addi c0_i32_11 c32_i32_12
  let c1_i32_13 : BitVec 32 := 1#32
  ⟨c0_i32_11, v18, c1_i32_13⟩
def k0_mult11 (k0_t2 : Fin k0_t2_loop.trips) : BitVec 32 :=
  let c0_i32_11 : BitVec 32 := 0#32
  let c1_i32_13 : BitVec 32 := 1#32
  let arg15 : BitVec 32 := Scf.iv c0_i32_11 c1_i32_13 k0_t2
  let c128_i32 : BitVec 32 := 128#32
  let v31 : BitVec 32 := Scalar.muli arg15 c128_i32
  v31
def k0_off4 (k0_t2 : Fin k0_t2_loop.trips) : Fin 2 → Nat :=
  let c0_i32_11 : BitVec 32 := 0#32
  let c1_i32_13 : BitVec 32 := 1#32
  let arg15 : BitVec 32 := Scf.iv c0_i32_11 c1_i32_13 k0_t2
  let c128_i32 : BitVec 32 := 128#32
  let v31 : BitVec 32 := Scalar.muli arg15 c128_i32
  let v32 : BitVec 32 := v31
  let v33 : Index := Scalar.indexCast v32
  let c0_25 : Index := 0#32
  ![v33.toNat, 0]
def k0_mult12 (k0_t2 : Fin k0_t2_loop.trips) : BitVec 32 :=
  let c0_i32_11 : BitVec 32 := 0#32
  let c1_i32_13 : BitVec 32 := 1#32
  let arg15 : BitVec 32 := Scf.iv c0_i32_11 c1_i32_13 k0_t2
  let c8_i32_36 : BitVec 32 := 8#32
  let v76 : BitVec 32 := Scalar.muli arg15 c8_i32_36
  v76
def k0_off5 (k0_t2 : Fin k0_t2_loop.trips) : Fin 2 → Nat :=
  let c0_i32_11 : BitVec 32 := 0#32
  let c1_i32_13 : BitVec 32 := 1#32
  let arg15 : BitVec 32 := Scf.iv c0_i32_11 c1_i32_13 k0_t2
  let c8_i32_36 : BitVec 32 := 8#32
  let v76 : BitVec 32 := Scalar.muli arg15 c8_i32_36
  let v77 : BitVec 32 := v76
  let v78 : Index := Scalar.indexCast v77
  let c0_37 : Index := 0#32
  ![v78.toNat, 0]
def k0_mult13 (k0_t2 : Fin k0_t2_loop.trips) : BitVec 32 :=
  let c0_i32_11 : BitVec 32 := 0#32
  let c1_i32_13 : BitVec 32 := 1#32
  let arg15 : BitVec 32 := Scf.iv c0_i32_11 c1_i32_13 k0_t2
  let c128_i32_38 : BitVec 32 := 128#32
  let v87 : BitVec 32 := Scalar.muli arg15 c128_i32_38
  let c0_i32_39 : BitVec 32 := 0#32
  let v88 : BitVec 32 := Scalar.addi v87 c0_i32_39
  v88
def k0_off6 (k0_t2 : Fin k0_t2_loop.trips) (c0_i32_39 : BitVec 32) : Fin 3 → Nat :=
  let c0_i32_11 : BitVec 32 := 0#32
  let c1_i32_13 : BitVec 32 := 1#32
  let arg15 : BitVec 32 := Scf.iv c0_i32_11 c1_i32_13 k0_t2
  let c128_i32_38 : BitVec 32 := 128#32
  let v87 : BitVec 32 := Scalar.muli arg15 c128_i32_38
  let v88 : BitVec 32 := Scalar.addi v87 c0_i32_39
  let v89 : BitVec 32 := v88
  let v90 : Index := Scalar.indexCast v89
  let c256 : Index := 256#32
  ![v90.toNat, 0, 256]
def k0_mult14 (k0_t2 : Fin k0_t2_loop.trips) : BitVec 32 :=
  let c0_i32_11 : BitVec 32 := 0#32
  let c1_i32_13 : BitVec 32 := 1#32
  let arg15 : BitVec 32 := Scf.iv c0_i32_11 c1_i32_13 k0_t2
  let c128_i32_40 : BitVec 32 := 128#32
  let v101 : BitVec 32 := Scalar.muli arg15 c128_i32_40
  let c16_i32_41 : BitVec 32 := 16#32
  let v102 : BitVec 32 := Scalar.addi v101 c16_i32_41
  v102
def k0_mult15 (k0_t2 : Fin k0_t2_loop.trips) : BitVec 32 :=
  let c0_i32_11 : BitVec 32 := 0#32
  let c1_i32_13 : BitVec 32 := 1#32
  let arg15 : BitVec 32 := Scf.iv c0_i32_11 c1_i32_13 k0_t2
  let c128_i32_43 : BitVec 32 := 128#32
  let v115 : BitVec 32 := Scalar.muli arg15 c128_i32_43
  let c32_i32_44 : BitVec 32 := 32#32
  let v116 : BitVec 32 := Scalar.addi v115 c32_i32_44
  v116
def k0_mult16 (k0_t2 : Fin k0_t2_loop.trips) : BitVec 32 :=
  let c0_i32_11 : BitVec 32 := 0#32
  let c1_i32_13 : BitVec 32 := 1#32
  let arg15 : BitVec 32 := Scf.iv c0_i32_11 c1_i32_13 k0_t2
  let c128_i32_46 : BitVec 32 := 128#32
  let v129 : BitVec 32 := Scalar.muli arg15 c128_i32_46
  let c48_i32 : BitVec 32 := 48#32
  let v130 : BitVec 32 := Scalar.addi v129 c48_i32
  v130
def k0_mult17 (k0_t2 : Fin k0_t2_loop.trips) : BitVec 32 :=
  let c0_i32_11 : BitVec 32 := 0#32
  let c1_i32_13 : BitVec 32 := 1#32
  let arg15 : BitVec 32 := Scf.iv c0_i32_11 c1_i32_13 k0_t2
  let c128_i32_48 : BitVec 32 := 128#32
  let v143 : BitVec 32 := Scalar.muli arg15 c128_i32_48
  let c64_i32_49 : BitVec 32 := 64#32
  let v144 : BitVec 32 := Scalar.addi v143 c64_i32_49
  v144
def k0_mult18 (k0_t2 : Fin k0_t2_loop.trips) : BitVec 32 :=
  let c0_i32_11 : BitVec 32 := 0#32
  let c1_i32_13 : BitVec 32 := 1#32
  let arg15 : BitVec 32 := Scf.iv c0_i32_11 c1_i32_13 k0_t2
  let c128_i32_51 : BitVec 32 := 128#32
  let v157 : BitVec 32 := Scalar.muli arg15 c128_i32_51
  let c80_i32 : BitVec 32 := 80#32
  let v158 : BitVec 32 := Scalar.addi v157 c80_i32
  v158
def k0_mult19 (k0_t2 : Fin k0_t2_loop.trips) : BitVec 32 :=
  let c0_i32_11 : BitVec 32 := 0#32
  let c1_i32_13 : BitVec 32 := 1#32
  let arg15 : BitVec 32 := Scf.iv c0_i32_11 c1_i32_13 k0_t2
  let c128_i32_53 : BitVec 32 := 128#32
  let v171 : BitVec 32 := Scalar.muli arg15 c128_i32_53
  let c96_i32 : BitVec 32 := 96#32
  let v172 : BitVec 32 := Scalar.addi v171 c96_i32
  v172
def k0_mult20 (k0_t2 : Fin k0_t2_loop.trips) : BitVec 32 :=
  let c0_i32_11 : BitVec 32 := 0#32
  let c1_i32_13 : BitVec 32 := 1#32
  let arg15 : BitVec 32 := Scf.iv c0_i32_11 c1_i32_13 k0_t2
  let c128_i32_55 : BitVec 32 := 128#32
  let v185 : BitVec 32 := Scalar.muli arg15 c128_i32_55
  let c112_i32 : BitVec 32 := 112#32
  let v186 : BitVec 32 := Scalar.addi v185 c112_i32
  v186
@[reducible] def k0_t3_loop : Scf.Loop 32 :=
  let c0_i32_21 : BitVec 32 := 0#32
  let c4_i32 : BitVec 32 := 4#32
  let v27 : BitVec 32 := Scalar.addi c0_i32_21 c4_i32
  let c1_i32_22 : BitVec 32 := 1#32
  ⟨c0_i32_21, v27, c1_i32_22⟩
def k0_mult21 (k0_t3 : Fin k0_t3_loop.trips) : BitVec 32 :=
  let c0_i32_21 : BitVec 32 := 0#32
  let c1_i32_22 : BitVec 32 := 1#32
  let arg15 : BitVec 32 := Scf.iv c0_i32_21 c1_i32_22 k0_t3
  let c256_i32 : BitVec 32 := 256#32
  let v31 : BitVec 32 := Scalar.muli arg15 c256_i32
  v31
def k0_off7 (k0_t3 : Fin k0_t3_loop.trips) : Fin 2 → Nat :=
  let c0_i32_21 : BitVec 32 := 0#32
  let c1_i32_22 : BitVec 32 := 1#32
  let arg15 : BitVec 32 := Scf.iv c0_i32_21 c1_i32_22 k0_t3
  let c256_i32 : BitVec 32 := 256#32
  let v31 : BitVec 32 := Scalar.muli arg15 c256_i32
  let v32 : BitVec 32 := v31
  let v33 : Index := Scalar.indexCast v32
  let c0_25 : Index := 0#32
  ![v33.toNat, 0]
def k0_off8 (k0_t3 : Fin k0_t3_loop.trips) : Fin 2 → Nat :=
  let c0_i32_21 : BitVec 32 := 0#32
  let c1_i32_22 : BitVec 32 := 1#32
  let arg15 : BitVec 32 := Scf.iv c0_i32_21 c1_i32_22 k0_t3
  let c256_i32 : BitVec 32 := 256#32
  let v31 : BitVec 32 := Scalar.muli arg15 c256_i32
  let v32 : BitVec 32 := v31
  let v35 : Index := Scalar.indexCast v32
  let c256 : Index := 256#32
  ![v35.toNat, 256]
def k0_off9 (k0_t3 : Fin k0_t3_loop.trips) : Fin 2 → Nat :=
  let c0_i32_21 : BitVec 32 := 0#32
  let c1_i32_22 : BitVec 32 := 1#32
  let arg15 : BitVec 32 := Scf.iv c0_i32_21 c1_i32_22 k0_t3
  let c256_i32 : BitVec 32 := 256#32
  let v31 : BitVec 32 := Scalar.muli arg15 c256_i32
  let v32 : BitVec 32 := v31
  let v1107 : Index := Scalar.indexCast v32
  let c0_362 : Index := 0#32
  ![v1107.toNat, 0]
def k0_mult22 (i : grid0.Coords) : BitVec 32 :=
  let arg1 : BitVec 32 := BitVec.ofNat 32 (i 1).val
  let c0_i32_407 : BitVec 32 := 0#32
  let v1224 : BitVec 1 := Scalar.cmpi .sgt arg1 c0_i32_407
  let v1225 : BitVec 32 := Scalar.extui v1224
  let c0_i32_408 : BitVec 32 := 0#32
  let v1226 : BitVec 1 := Scalar.cmpi .slt arg1 c0_i32_408
  let v1227 : BitVec 32 := Scalar.extui v1226
  let v1228 : BitVec 32 := Scalar.subi v1225 v1227
  let c16_i32_406 : BitVec 32 := 16#32
  let c0_i32_409 : BitVec 32 := 0#32
  let v1229 : BitVec 1 := Scalar.cmpi .sgt c16_i32_406 c0_i32_409
  let v1230 : BitVec 32 := Scalar.extui v1229
  let c0_i32_410 : BitVec 32 := 0#32
  let v1231 : BitVec 1 := Scalar.cmpi .slt c16_i32_406 c0_i32_410
  let v1232 : BitVec 32 := Scalar.extui v1231
  let v1233 : BitVec 32 := Scalar.subi v1230 v1232
  let v1234 : BitVec 1 := Scalar.cmpi .ne v1228 v1233
  let v1235 : BitVec 32 := Scalar.remsi arg1 c16_i32_406
  let c0_i32_411 : BitVec 32 := 0#32
  let v1236 : BitVec 1 := Scalar.cmpi .ne v1235 c0_i32_411
  let v1237 : BitVec 1 := Scalar.andi v1234 v1236
  let v1223 : BitVec 32 := Scalar.divsi arg1 c16_i32_406
  let c1_i32_412 : BitVec 32 := 1#32
  let v1238 : BitVec 32 := Scalar.subi v1223 c1_i32_412
  let v1239 : BitVec 32 := Scalar.select v1237 v1238 v1223
  let c128_i32_413 : BitVec 32 := 128#32
  let v1240 : BitVec 32 := Scalar.muli v1239 c128_i32_413
  v1240
def k0_off10 (k0_t3 : Fin k0_t3_loop.trips) : Fin 2 → Nat :=
  let c0_i32_21 : BitVec 32 := 0#32
  let c1_i32_22 : BitVec 32 := 1#32
  let arg15 : BitVec 32 := Scf.iv c0_i32_21 c1_i32_22 k0_t3
  let c256_i32 : BitVec 32 := 256#32
  let v31 : BitVec 32 := Scalar.muli arg15 c256_i32
  let v32 : BitVec 32 := v31
  let c0_i32_420 : BitVec 32 := 0#32
  ![v32.toNat, 0]
def k0_off11 (i : grid0.Coords) : Fin 2 → Nat :=
  let c0_421 : Index := 0#32
  let arg1 : BitVec 32 := BitVec.ofNat 32 (i 1).val
  let c0_i32_407 : BitVec 32 := 0#32
  let v1224 : BitVec 1 := Scalar.cmpi .sgt arg1 c0_i32_407
  let v1225 : BitVec 32 := Scalar.extui v1224
  let c0_i32_408 : BitVec 32 := 0#32
  let v1226 : BitVec 1 := Scalar.cmpi .slt arg1 c0_i32_408
  let v1227 : BitVec 32 := Scalar.extui v1226
  let v1228 : BitVec 32 := Scalar.subi v1225 v1227
  let c16_i32_406 : BitVec 32 := 16#32
  let c0_i32_409 : BitVec 32 := 0#32
  let v1229 : BitVec 1 := Scalar.cmpi .sgt c16_i32_406 c0_i32_409
  let v1230 : BitVec 32 := Scalar.extui v1229
  let c0_i32_410 : BitVec 32 := 0#32
  let v1231 : BitVec 1 := Scalar.cmpi .slt c16_i32_406 c0_i32_410
  let v1232 : BitVec 32 := Scalar.extui v1231
  let v1233 : BitVec 32 := Scalar.subi v1230 v1232
  let v1234 : BitVec 1 := Scalar.cmpi .ne v1228 v1233
  let v1235 : BitVec 32 := Scalar.remsi arg1 c16_i32_406
  let c0_i32_411 : BitVec 32 := 0#32
  let v1236 : BitVec 1 := Scalar.cmpi .ne v1235 c0_i32_411
  let v1237 : BitVec 1 := Scalar.andi v1234 v1236
  let v1223 : BitVec 32 := Scalar.divsi arg1 c16_i32_406
  let c1_i32_412 : BitVec 32 := 1#32
  let v1238 : BitVec 32 := Scalar.subi v1223 c1_i32_412
  let v1239 : BitVec 32 := Scalar.select v1237 v1238 v1223
  let c128_i32_413 : BitVec 32 := 128#32
  let v1240 : BitVec 32 := Scalar.muli v1239 c128_i32_413
  let v1241 : BitVec 32 := v1240
  let v1255 : Index := Scalar.indexCast v1241
  ![0, v1255.toNat]
def k0_cond2 (i : grid0.Coords) : BitVec 1 :=
  let arg1 : BitVec 32 := BitVec.ofNat 32 (i 1).val
  let c27_i32 : BitVec 32 := 27#32
  let v28 : BitVec 1 := Scalar.cmpi .eq arg1 c27_i32
  let v29 : BitVec 32 := Scalar.extui v28
  let c0_i32_24 : BitVec 32 := 0#32
  let v30 : BitVec 1 := Scalar.cmpi .ne v29 c0_i32_24
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x224 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GReferenceIdeal.lean ====
abbrev S3072x8192 : Shape := ⟨2, ![3072, 8192]⟩
abbrev S4096x14336 : Shape := ⟨2, ![4096, 14336]⟩
abbrev S256x14336 : Shape := ⟨2, ![256, 14336]⟩
abbrev S3072x8192x2 : Shape := ⟨3, ![3072, 8192, 2]⟩
abbrev S3072x2x8192 : Shape := ⟨3, ![3072, 2, 8192]⟩
abbrev S6144x8192 : Shape := ⟨2, ![6144, 8192]⟩
abbrev S_ : Shape := ⟨0, ![]⟩
abbrev S256x16x14336 : Shape := ⟨3, ![256, 16, 14336]⟩
abbrev S4096x1x14336 : Shape := ⟨3, ![4096, 1, 14336]⟩
abbrev S4096x2x14336 : Shape := ⟨3, ![4096, 2, 14336]⟩
abbrev S8192x14336 : Shape := ⟨2, ![8192, 14336]⟩
abbrev S6144x14336 : Shape := ⟨2, ![6144, 14336]⟩
abbrev S6144x7168 : Shape := ⟨2, ![6144, 7168]⟩
abbrev S6144x224x32 : Shape := ⟨3, ![6144, 224, 32]⟩
abbrev S6144x224 : Shape := ⟨2, ![6144, 224]⟩
abbrev S6144x224x1 : Shape := ⟨3, ![6144, 224, 1]⟩
abbrev S255 : Shape := ⟨1, ![255]⟩
abbrev S1x1x255 : Shape := ⟨3, ![1, 1, 255]⟩
abbrev S6144x224x255 : Shape := ⟨3, ![6144, 224, 255]⟩

abbrev nBuf : Space → Nat
  | .hbm => 191
  | .vmem => 2
  | .smem => 0
  | _ => 0

abbrev hbmTy0_0 (i : Nat) : BufTy := match i % 128 with
  | 0 => ⟨S3072x8192, .i32⟩
  | 1 => ⟨S4096x14336, .i8⟩
  | 2 => ⟨S256x14336, .i8⟩
  | 3 => ⟨S3072x8192x2, .bf16⟩
  | 4 => ⟨S3072x2x8192, .bf16⟩
  | 5 => ⟨S6144x8192, .bf16⟩
  | 6 => ⟨S256x14336, .i32⟩
  | 7 => ⟨S_, .i32⟩
  | 8 => ⟨S256x14336, .i32⟩
  | 9 => ⟨S256x14336, .i32⟩
  | 10 => ⟨S256x14336, .f32⟩
  | 11 => ⟨S256x14336, .bf16⟩
  | 12 => ⟨S256x16x14336, .bf16⟩
  | 13 => ⟨S4096x14336, .bf16⟩
  | 14 => ⟨S4096x14336, .i32⟩
  | 15 => ⟨S_, .i32⟩
  | 16 => ⟨S4096x14336, .i32⟩
  | 17 => ⟨S4096x14336, .i32⟩
  | 18 => ⟨S_, .i32⟩
  | 19 => ⟨S4096x14336, .i32⟩
  | 20 => ⟨S4096x14336, .i32⟩
  | 21 => ⟨S_, .i32⟩
  | 22 => ⟨S4096x14336, .i32⟩
  | 23 => ⟨S4096x14336, .i32⟩
  | 24 => ⟨S_, .i32⟩
  | 25 => ⟨S4096x14336, .i32⟩
  | 26 => ⟨S4096x14336, .i1⟩
  | 27 => ⟨S_, .bf16⟩
  | 28 => ⟨S_, .bf16⟩
  | 29 => ⟨S4096x14336, .bf16⟩
  | 30 => ⟨S4096x14336, .bf16⟩
  | 31 => ⟨S4096x14336, .bf16⟩
  | 32 => ⟨S_, .bf16⟩
  | 33 => ⟨S_, .bf16⟩
  | 34 => ⟨S4096x14336, .bf16⟩
  | 35 => ⟨S4096x14336, .bf16⟩
  | 36 => ⟨S4096x14336, .bf16⟩
  | 37 => ⟨S_, .bf16⟩
  | 38 => ⟨S_, .bf16⟩
  | 39 => ⟨S4096x14336, .bf16⟩
  | 40 => ⟨S4096x14336, .bf16⟩
  | 41 => ⟨S4096x14336, .bf16⟩
  | 42 => ⟨S_, .bf16⟩
  | 43 => ⟨S_, .bf16⟩
  | 44 => ⟨S4096x14336, .bf16⟩
  | 45 => ⟨S4096x14336, .bf16⟩
  | 46 => ⟨S4096x14336, .bf16⟩
  | 47 => ⟨S_, .i32⟩
  | 48 => ⟨S4096x14336, .i32⟩
  | 49 => ⟨S4096x14336, .i32⟩
  | 50 => ⟨S_, .i32⟩
  | 51 => ⟨S4096x14336, .i32⟩
  | 52 => ⟨S4096x14336, .i32⟩
  | 53 => ⟨S_, .i32⟩
  | 54 => ⟨S4096x14336, .i32⟩
  | 55 => ⟨S4096x14336, .i1⟩
  | 56 => ⟨S4096x14336, .bf16⟩
  | 57 => ⟨S4096x14336, .bf16⟩
  | 58 => ⟨S_, .i32⟩
  | 59 => ⟨S4096x14336, .i32⟩
  | 60 => ⟨S4096x14336, .i32⟩
  | 61 => ⟨S_, .i32⟩
  | 62 => ⟨S4096x14336, .i32⟩
  | 63 => ⟨S4096x14336, .i32⟩
  | 64 => ⟨S_, .i32⟩
  | 65 => ⟨S4096x14336, .i32⟩
  | 66 => ⟨S4096x14336, .i1⟩
  | 67 => ⟨S4096x14336, .bf16⟩
  | 68 => ⟨S_, .i32⟩
  | 69 => ⟨S4096x14336, .i32⟩
  | 70 => ⟨S4096x14336, .i32⟩
  | 71 => ⟨S_, .i32⟩
  | 72 => ⟨S4096x14336, .i32⟩
  | 73 => ⟨S4096x14336, .i1⟩
  | 74 => ⟨S4096x14336, .bf16⟩
  | 75 => ⟨S4096x14336, .bf16⟩
  | 76 => ⟨S4096x14336, .bf16⟩
  | 77 => ⟨S_, .i32⟩
  | 78 => ⟨S4096x14336, .i32⟩
  | 79 => ⟨S4096x14336, .i32⟩
  | 80 => ⟨S_, .i32⟩
  | 81 => ⟨S4096x14336, .i32⟩
  | 82 => ⟨S4096x14336, .i32⟩
  | 83 => ⟨S_, .i32⟩
  | 84 => ⟨S4096x14336, .i32⟩
  | 85 => ⟨S4096x14336, .i32⟩
  | 86 => ⟨S_, .i32⟩
  | 87 => ⟨S4096x14336, .i32⟩
  | 88 => ⟨S4096x14336, .i1⟩
  | 89 => ⟨S_, .bf16⟩
  | 90 => ⟨S_, .bf16⟩
  | 91 => ⟨S4096x14336, .bf16⟩
  | 92 => ⟨S4096x14336, .bf16⟩
  | 93 => ⟨S4096x14336, .bf16⟩
  | 94 => ⟨S_, .bf16⟩
  | 95 => ⟨S_, .bf16⟩
  | 96 => ⟨S4096x14336, .bf16⟩
  | 97 => ⟨S4096x14336, .bf16⟩
  | 98 => ⟨S4096x14336, .bf16⟩
  | 99 => ⟨S_, .bf16⟩
  | 100 => ⟨S_, .bf16⟩
  | 101 => ⟨S4096x14336, .bf16⟩
  | 102 => ⟨S4096x14336, .bf16⟩
  | 103 => ⟨S4096x14336, .bf16⟩
  | 104 => ⟨S_, .bf16⟩
  | 105 => ⟨S_, .bf16⟩
  | 106 => ⟨S4096x14336, .bf16⟩
  | 107 => ⟨S4096x14336, .bf16⟩
  | 108 => ⟨S4096x14336, .bf16⟩
  | 109 => ⟨S_, .i32⟩
  | 110 => ⟨S4096x14336, .i32⟩
  | 111 => ⟨S4096x14336, .i32⟩
  | 112 => ⟨S_, .i32⟩
  | 113 => ⟨S4096x14336, .i32⟩
  | 114 => ⟨S4096x14336, .i32⟩
  | 115 => ⟨S_, .i32⟩
  | 116 => ⟨S4096x14336, .i32⟩
  | 117 => ⟨S4096x14336, .i1⟩
  | 118 => ⟨S4096x14336, .bf16⟩
  | 119 => ⟨S4096x14336, .bf16⟩
  | 120 => ⟨S_, .i32⟩
  | 121 => ⟨S4096x14336, .i32⟩
  | 122 => ⟨S4096x14336, .i32⟩
  | 123 => ⟨S_, .i32⟩
  | 124 => ⟨S4096x14336, .i32⟩
  | 125 => ⟨S4096x14336, .i32⟩
  | 126 => ⟨S_, .i32⟩
  | 127 => ⟨S4096x14336, .i32⟩
  | _ => ⟨S3072x8192, .i32⟩

abbrev hbmTy0_1 (i : Nat) : BufTy := match i % 128 with
  | 0 => ⟨S4096x14336, .i1⟩
  | 1 => ⟨S4096x14336, .bf16⟩
  | 2 => ⟨S_, .i32⟩
  | 3 => ⟨S4096x14336, .i32⟩
  | 4 => ⟨S4096x14336, .i32⟩
  | 5 => ⟨S_, .i32⟩
  | 6 => ⟨S4096x14336, .i32⟩
  | 7 => ⟨S4096x14336, .i1⟩
  | 8 => ⟨S4096x14336, .bf16⟩
  | 9 => ⟨S4096x14336, .bf16⟩
  | 10 => ⟨S4096x14336, .bf16⟩
  | 11 => ⟨S4096x1x14336, .bf16⟩
  | 12 => ⟨S4096x1x14336, .bf16⟩
  | 13 => ⟨S4096x2x14336, .bf16⟩
  | 14 => ⟨S8192x14336, .bf16⟩
  | 15 => ⟨S6144x14336, .f32⟩
  | 16 => ⟨S6144x7168, .f32⟩
  | 17 => ⟨S6144x7168, .f32⟩
  | 18 => ⟨S6144x7168, .f32⟩
  | 19 => ⟨S6144x7168, .f32⟩
  | 20 => ⟨S_, .f32⟩
  | 21 => ⟨S6144x7168, .f32⟩
  | 22 => ⟨S6144x7168, .f32⟩
  | 23 => ⟨S_, .f32⟩
  | 24 => ⟨S6144x7168, .f32⟩
  | 25 => ⟨S6144x7168, .f32⟩
  | 26 => ⟨S6144x7168, .f32⟩
  | 27 => ⟨S6144x7168, .f32⟩
  | 28 => ⟨S6144x224x32, .f32⟩
  | 29 => ⟨S6144x224x32, .f32⟩
  | 30 => ⟨S_, .f32⟩
  | 31 => ⟨S6144x224, .f32⟩
  | 32 => ⟨S6144x224x1, .f32⟩
  | 33 => ⟨S255, .i32⟩
  | 34 => ⟨S_, .i32⟩
  | 35 => ⟨S255, .i32⟩
  | 36 => ⟨S255, .i32⟩
  | 37 => ⟨S_, .i32⟩
  | 38 => ⟨S255, .i32⟩
  | 39 => ⟨S255, .i32⟩
  | 40 => ⟨S255, .f32⟩
  | 41 => ⟨S1x1x255, .f32⟩
  | 42 => ⟨S6144x224x255, .f32⟩
  | 43 => ⟨S6144x224x255, .f32⟩
  | 44 => ⟨S6144x224x255, .i1⟩
  | 45 => ⟨S6144x224x255, .i32⟩
  | 46 => ⟨S_, .i32⟩
  | 47 => ⟨S6144x224, .i32⟩
  | 48 => ⟨S_, .i32⟩
  | 49 => ⟨S6144x224, .i32⟩
  | 50 => ⟨S6144x224, .i32⟩
  | 51 => ⟨S_, .i32⟩
  | 52 => ⟨S6144x224, .i32⟩
  | 53 => ⟨S6144x224, .i32⟩
  | 54 => ⟨S_, .i32⟩
  | 55 => ⟨S6144x224, .i32⟩
  | 56 => ⟨S6144x224, .i32⟩
  | 57 => ⟨S6144x224, .f32⟩
  | 58 => ⟨S6144x224x1, .f32⟩
  | 59 => ⟨S6144x224x32, .f32⟩
  | 60 => ⟨S6144x224x32, .f32⟩
  | 61 => ⟨S6144x7168, .f32⟩
  | 62 => ⟨S6144x7168, .fp8e4m3⟩
  | _ => ⟨S3072x8192, .i32⟩

abbrev hbmTy (i : Nat) : BufTy := match i / 128 with
  | 0 => hbmTy0_0 i
  | 1 => hbmTy0_1 i
  | _ => ⟨S3072x8192, .i32⟩

abbrev bufTy : (tb : Table) → Fin (tcTables nBuf tb) → BufTy
  | .hbm, ⟨i, _⟩ => hbmTy i
  | .local _ .vmem, ⟨0, _⟩ => ⟨S6144x7168, .f32⟩
  | .local _ .vmem, ⟨1, _⟩ => ⟨S6144x7168, .fp8e4m3⟩
  | _, _ => ⟨S3072x8192, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_cst_5 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v20 : Ref sig .tc := ⟨.hbm, 36, rfl⟩
abbrev main_cst_7 : Ref sig .tc := ⟨.hbm, 37, rfl⟩
abbrev main_cst_8 : Ref sig .tc := ⟨.hbm, 38, rfl⟩
abbrev main_call2_v0 : Ref sig .tc := ⟨.hbm, 39, rfl⟩
abbrev main_call2_v1 : Ref sig .tc := ⟨.hbm, 40, rfl⟩
abbrev main_v21 : Ref sig .tc := ⟨.hbm, 41, rfl⟩
abbrev main_cst_9 : Ref sig .tc := ⟨.hbm, 42, rfl⟩
abbrev main_cst_10 : Ref sig .tc := ⟨.hbm, 43, rfl⟩
abbrev main_call3_v0 : Ref sig .tc := ⟨.hbm, 44, rfl⟩
abbrev main_call3_v1 : Ref sig .tc := ⟨.hbm, 45, rfl⟩
abbrev main_v22 : Ref sig .tc := ⟨.hbm, 46, rfl⟩
abbrev main_c_11 : Ref sig .tc := ⟨.hbm, 47, rfl⟩
abbrev main_v23 : Ref sig .tc := ⟨.hbm, 48, rfl⟩
abbrev main_v24 : Ref sig .tc := ⟨.hbm, 49, rfl⟩
abbrev main_c_12 : Ref sig .tc := ⟨.hbm, 50, rfl⟩
abbrev main_v25 : Ref sig .tc := ⟨.hbm, 51, rfl⟩
abbrev main_v26 : Ref sig .tc := ⟨.hbm, 52, rfl⟩
abbrev main_c_13 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_14 : Ref sig .tc := ⟨.hbm, 58, rfl⟩
abbrev main_v31 : Ref sig .tc := ⟨.hbm, 59, rfl⟩
abbrev main_v32 : Ref sig .tc := ⟨.hbm, 60, rfl⟩
abbrev main_c_15 : Ref sig .tc := ⟨.hbm, 61, rfl⟩
abbrev main_v33 : Ref sig .tc := ⟨.hbm, 62, rfl⟩
abbrev main_v34 : Ref sig .tc := ⟨.hbm, 63, rfl⟩
abbrev main_c_16 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_17 : Ref sig .tc := ⟨.hbm, 68, rfl⟩
abbrev main_v38 : Ref sig .tc := ⟨.hbm, 69, rfl⟩
abbrev main_v39 : Ref sig .tc := ⟨.hbm, 70, rfl⟩
abbrev main_c_18 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_19 : Ref sig .tc := ⟨.hbm, 77, rfl⟩
abbrev main_v45 : Ref sig .tc := ⟨.hbm, 78, rfl⟩
abbrev main_v46 : Ref sig .tc := ⟨.hbm, 79, rfl⟩
abbrev main_c_20 : Ref sig .tc := ⟨.hbm, 80, rfl⟩
abbrev main_v47 : Ref sig .tc := ⟨.hbm, 81, rfl⟩
abbrev main_v48 : Ref sig .tc := ⟨.hbm, 82, rfl⟩
abbrev main_c_21 : Ref sig .tc := ⟨.hbm, 83, rfl⟩
abbrev main_v49 : Ref sig .tc := ⟨.hbm, 84, rfl⟩
abbrev main_v50 : Ref sig .tc := ⟨.hbm, 85, rfl⟩
abbrev main_c_22 : Ref sig .tc := ⟨.hbm, 86, rfl⟩
abbrev main_v51 : Ref sig .tc := ⟨.hbm, 87, rfl⟩
abbrev main_v52 : Ref sig .tc := ⟨.hbm, 88, rfl⟩
abbrev main_cst_23 : Ref sig .tc := ⟨.hbm, 89, rfl⟩
abbrev main_cst_24 : Ref sig .tc := ⟨.hbm, 90, rfl⟩
abbrev main_call8_v0 : Ref sig .tc := ⟨.hbm, 91, rfl⟩
abbrev main_call8_v1 : Ref sig .tc := ⟨.hbm, 92, rfl⟩
abbrev main_v53 : Ref sig .tc := ⟨.hbm, 93, rfl⟩
abbrev main_cst_25 : Ref sig .tc := ⟨.hbm, 94, rfl⟩
abbrev main_cst_26 : Ref sig .tc := ⟨.hbm, 95, rfl⟩
abbrev main_call9_v0 : Ref sig .tc := ⟨.hbm, 96, rfl⟩
abbrev main_call9_v1 : Ref sig .tc := ⟨.hbm, 97, rfl⟩
abbrev main_v54 : Ref sig .tc := ⟨.hbm, 98, rfl⟩
abbrev main_cst_27 : Ref sig .tc := ⟨.hbm, 99, rfl⟩
abbrev main_cst_28 : Ref sig .tc := ⟨.hbm, 100, rfl⟩
abbrev main_call10_v0 : Ref sig .tc := ⟨.hbm, 101, rfl⟩
abbrev main_call10_v1 : Ref sig .tc := ⟨.hbm, 102, rfl⟩
abbrev main_v55 : Ref sig .tc := ⟨.hbm, 103, rfl⟩
abbrev main_cst_29 : Ref sig .tc := ⟨.hbm, 104, rfl⟩
abbrev main_cst_30 : Ref sig .tc := ⟨.hbm, 105, rfl⟩
abbrev main_call11_v0 : Ref sig .tc := ⟨.hbm, 106, rfl⟩
abbrev main_call11_v1 : Ref sig .tc := ⟨.hbm, 107, rfl⟩
abbrev main_v56 : Ref sig .tc := ⟨.hbm, 108, rfl⟩
abbrev main_c_31 : Ref sig .tc := ⟨.hbm, 109, rfl⟩
abbrev main_v57 : Ref sig .tc := ⟨.hbm, 110, rfl⟩
abbrev main_v58 : Ref sig .tc := ⟨.hbm, 111, rfl⟩
abbrev main_c_32 : Ref sig .tc := ⟨.hbm, 112, rfl⟩
abbrev main_v59 : Ref sig .tc := ⟨.hbm, 113, rfl⟩
abbrev main_v60 : Ref sig .tc := ⟨.hbm, 114, rfl⟩
abbrev main_c_33 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_c_34 : Ref sig .tc := ⟨.hbm, 120, rfl⟩
abbrev main_v65 : Ref sig .tc := ⟨.hbm, 121, rfl⟩
abbrev main_v66 : Ref sig .tc := ⟨.hbm, 122, rfl⟩
abbrev main_c_35 : Ref sig .tc := ⟨.hbm, 123, rfl⟩
abbrev main_v67 : Ref sig .tc := ⟨.hbm, 124, rfl⟩
abbrev main_v68 : Ref sig .tc := ⟨.hbm, 125, rfl⟩
abbrev main_c_36 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_c_37 : Ref sig .tc := ⟨.hbm, 130, rfl⟩
abbrev main_v72 : Ref sig .tc := ⟨.hbm, 131, rfl⟩
abbrev main_v73 : Ref sig .tc := ⟨.hbm, 132, rfl⟩
abbrev main_c_38 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_cst_39 : Ref sig .tc := ⟨.hbm, 148, rfl⟩
abbrev main_v88 : Ref sig .tc := ⟨.hbm, 149, rfl⟩
abbrev main_v89 : Ref sig .tc := ⟨.hbm, 150, rfl⟩
abbrev main_cst_40 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_cst_41 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_c_42 : Ref sig .tc := ⟨.hbm, 162, rfl⟩
abbrev main_v99 : Ref sig .tc := ⟨.hbm, 163, rfl⟩
abbrev main_v100 : Ref sig .tc := ⟨.hbm, 164, rfl⟩
abbrev main_c_43 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_c_44 : Ref sig .tc := ⟨.hbm, 174, rfl⟩
abbrev main_v109 : Ref sig .tc := ⟨.hbm, 175, rfl⟩
abbrev main_c_45 : Ref sig .tc := ⟨.hbm, 176, rfl⟩
abbrev main_v110 : Ref sig .tc := ⟨.hbm, 177, rfl⟩
abbrev main_v111 : Ref sig .tc := ⟨.hbm, 178, rfl⟩
abbrev main_c_46 : Ref sig .tc := ⟨.hbm, 179, rfl⟩
abbrev main_v112 : Ref sig .tc := ⟨.hbm, 180, rfl⟩
abbrev main_v113 : Ref sig .tc := ⟨.hbm, 181, rfl⟩
abbrev main_c_47 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S6144x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== QKernel.lean ====
abbrev S3072x8192 : Shape := ⟨2, ![3072, 8192]⟩
abbrev S4096x2560 : Shape := ⟨2, ![4096, 2560]⟩
abbrev S256x2560 : Shape := ⟨2, ![256, 2560]⟩
abbrev S6144x64 : Shape := ⟨2, ![6144, 64]⟩
abbrev S6144x2048 : Shape := ⟨2, ![6144, 2048]⟩
abbrev S6144x256 : Shape := ⟨2, ![6144, 256]⟩
abbrev S6144x8 : Shape := ⟨2, ![6144, 8]⟩
abbrev S3072x256 : Shape := ⟨2, ![3072, 256]⟩
abbrev S256x6144 : Shape := ⟨2, ![256, 6144]⟩
abbrev S512x8192 : Shape := ⟨2, ![512, 8192]⟩
abbrev S4096x512 : Shape := ⟨2, ![4096, 512]⟩
abbrev S256x512 : Shape := ⟨2, ![256, 512]⟩
abbrev S1024x64 : Shape := ⟨2, ![1024, 64]⟩
abbrev S1024x512 : Shape := ⟨2, ![1024, 512]⟩
abbrev S1024x256 : Shape := ⟨2, ![1024, 256]⟩
abbrev S1024x8 : Shape := ⟨2, ![1024, 8]⟩
abbrev S512x256 : Shape := ⟨2, ![512, 256]⟩
abbrev S256x1024 : Shape := ⟨2, ![256, 1024]⟩
abbrev S128x128 : Shape := ⟨2, ![128, 128]⟩
abbrev S128x512 : Shape := ⟨2, ![128, 512]⟩
abbrev S8x512 : Shape := ⟨2, ![8, 512]⟩
abbrev S1x512 : Shape := ⟨2, ![1, 512]⟩
abbrev S16x512 : Shape := ⟨2, ![16, 512]⟩
abbrev S32x512 : Shape := ⟨2, ![32, 512]⟩
abbrev S1024x8192 : Shape := ⟨2, ![1024, 8192]⟩
abbrev S8192x512 : Shape := ⟨2, ![8192, 512]⟩
abbrev S256x64 : Shape := ⟨2, ![256, 64]⟩
abbrev S256x128 : Shape := ⟨2, ![256, 128]⟩
abbrev S256x256 : Shape := ⟨2, ![256, 256]⟩
abbrev S32x128 : Shape := ⟨2, ![32, 128]⟩
abbrev S64x128 : Shape := ⟨2, ![64, 128]⟩
abbrev S16x128 : Shape := ⟨2, ![16, 128]⟩
abbrev S8x128 : Shape := ⟨2, ![8, 128]⟩
abbrev S1x128 : Shape := ⟨2, ![1, 128]⟩
abbrev S128x256 : Shape := ⟨2, ![128, 256]⟩
abbrev S256x8 : Shape := ⟨2, ![256, 8]⟩

abbrev nBuf : Space → Nat
  | .hbm => 12
  | .vmem => 28
  | .smem => 0
  | _ => 0

abbrev bufTy : (tb : Table) → Fin (tcTables nBuf tb) → BufTy
  | .hbm, ⟨0, _⟩ => ⟨S3072x8192, .i32⟩
  | .hbm, ⟨1, _⟩ => ⟨S4096x2560, .i8⟩
  | .hbm, ⟨2, _⟩ => ⟨S256x2560, .i8⟩
  | .hbm, ⟨3, _⟩ => ⟨S6144x64, .f32⟩
  | .hbm, ⟨4, _⟩ => ⟨S6144x64, .f32⟩
  | .hbm, ⟨5, _⟩ => ⟨S6144x2048, .bf16⟩
  | .hbm, ⟨6, _⟩ => ⟨S6144x256, .fp8e4m3⟩
  | .hbm, ⟨7, _⟩ => ⟨S6144x8, .i8⟩
  | .hbm, ⟨8, _⟩ => ⟨S3072x256, .i32⟩
  | .hbm, ⟨9, _⟩ => ⟨S6144x256, .fp8e4m3⟩
  | .hbm, ⟨10, _⟩ => ⟨S6144x8, .i8⟩
  | .hbm, ⟨11, _⟩ => ⟨S256x6144, .bf16⟩
  | .local _ .vmem, ⟨0, _⟩ => ⟨S512x8192, .i32⟩
  | .local _ .vmem, ⟨1, _⟩ => ⟨S512x8192, .i32⟩
  | .local _ .vmem, ⟨2, _⟩ => ⟨S4096x512, .i8⟩
  | .local _ .vmem, ⟨3, _⟩ => ⟨S4096x512, .i8⟩
  | .local _ .vmem, ⟨4, _⟩ => ⟨S256x512, .i8⟩
  | .local _ .vmem, ⟨5, _⟩ => ⟨S256x512, .i8⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x512, .bf16⟩
  | .local _ .vmem, ⟨11, _⟩ => ⟨S1024x512, .bf16⟩
  | .local _ .vmem, ⟨12, _⟩ => ⟨S1024x256, .fp8e4m3⟩
  | .local _ .vmem, ⟨13, _⟩ => ⟨S1024x256, .fp8e4m3⟩
  | .local _ .vmem, ⟨14, _⟩ => ⟨S1024x8, .i8⟩
  | .local _ .vmem, ⟨15, _⟩ => ⟨S1024x8, .i8⟩
  | .local _ .vmem, ⟨16, _⟩ => ⟨S512x256, .i32⟩
  | .local _ .vmem, ⟨17, _⟩ => ⟨S512x256, .i32⟩
  | .local _ .vmem, ⟨18, _⟩ => ⟨S1024x256, .fp8e4m3⟩
  | .local _ .vmem, ⟨19, _⟩ => ⟨S1024x256, .fp8e4m3⟩
  | .local _ .vmem, ⟨20, _⟩ => ⟨S1024x8, .i8⟩
  | .local _ .vmem, ⟨21, _⟩ => ⟨S1024x8, .i8⟩
  | .local _ .vmem, ⟨22, _⟩ => ⟨S256x1024, .bf16⟩
  | .local _ .vmem, ⟨23, _⟩ => ⟨S256x1024, .bf16⟩
  | .local _ .vmem, ⟨24, _⟩ => ⟨S256x512, .i32⟩
  | .local _ .vmem, ⟨25, _⟩ => ⟨S4096x512, .i32⟩
  | .local _ .vmem, ⟨26, _⟩ => ⟨S1024x512, .f32⟩
  | .local _ .vmem, ⟨27, _⟩ => ⟨S128x128, .i32⟩
  | _, _ => ⟨S3072x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [BitOps F]

abbrev grid0 : Pipeline.Grid := ⟨2, ![6, 5], ![false, false]⟩

@[reducible] def k0_t1_loop : Scf.Loop 32 :=
  let c0_i32 : BitVec 32 := 0#32
  let c32_i32 : BitVec 32 := 32#32
  let v7 : BitVec 32 := Scalar.addi c0_i32 c32_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32 : BitVec 32 := 128#32
  let v22 : BitVec 32 := Scalar.muli arg18 c128_i32
  v22
def k0_off1 (k0_t1 : Fin k0_t1_loop.trips) : Fin 2 → Nat :=
  let c0_i32 : BitVec 32 := 0#32
  let c1_i32 : BitVec 32 := 1#32
  let arg18 : BitVec 32 := Scf.iv c0_i32 c1_i32 k0_t1
  let c128_i32 : BitVec 32 := 128#32
  let v22 : BitVec 32 := Scalar.muli arg18 c128_i32
  let v23 : BitVec 32 := v22
  let v24 : Index := Scalar.indexCast v23
  let c0_13 : Index := 0#32
  ![v24.toNat, 0]
def k0_mult2 (k0_t1 : Fin k0_t1_loop.trips) : BitVec 32 :=
  let c0_i32 : BitVec 32 := 0#32
  let c1_i32 : BitVec 32 := 1#32
  let arg18 : BitVec 32 := Scf.iv c0_i32 c1_i32 k0_t1
  let c8_i32_24 : BitVec 32 := 8#32
  let v67 : BitVec 32 := Scalar.muli arg18 c8_i32_24
  v67
def k0_off2 (k0_t1 : Fin k0_t1_loop.trips) : Fin 2 → Nat :=
  let c0_i32 : BitVec 32 := 0#32
  let c1_i32 : BitVec 32 := 1#32
  let arg18 : BitVec 32 := Scf.iv c0_i32 c1_i32 k0_t1
  let c8_i32_24 : BitVec 32 := 8#32
  let v67 : BitVec 32 := Scalar.muli arg18 c8_i32_24
  let v68 : BitVec 32 := v67
  let v69 : Index := Scalar.indexCast v68
  let c0_25 : Index := 0#32
  ![v69.toNat, 0]
def k0_mult3 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32_26 : BitVec 32 := 128#32
  let v78 : BitVec 32 := Scalar.muli arg18 c128_i32_26
  let c0_i32_27 : BitVec 32 := 0#32
  let v79 : BitVec 32 := Scalar.addi v78 c0_i32_27
  v79
def k0_off3 (k0_t1 : Fin k0_t1_loop.trips) (c0_i32_27 : BitVec 32) : Fin 2 → Nat :=
  let c0_i32 : BitVec 32 := 0#32
  let c1_i32 : BitVec 32 := 1#32
  let arg18 : BitVec 32 := Scf.iv c0_i32 c1_i32 k0_t1
  let c128_i32_26 : BitVec 32 := 128#32
  let v78 : BitVec 32 := Scalar.muli arg18 c128_i32_26
  let v79 : BitVec 32 := Scalar.addi v78 c0_i32_27
  let v80 : BitVec 32 := v79
  let v81 : Index := Scalar.indexCast v80
  let c0_28 : Index := 0#32
  ![v81.toNat, 0]
def k0_mult4 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32_29 : BitVec 32 := 128#32
  let v92 : BitVec 32 := Scalar.muli arg18 c128_i32_29
  let c16_i32_30 : BitVec 32 := 16#32
  let v93 : BitVec 32 := Scalar.addi v92 c16_i32_30
  v93
def k0_mult5 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32_32 : BitVec 32 := 128#32
  let v106 : BitVec 32 := Scalar.muli arg18 c128_i32_32
  let c32_i32_33 : BitVec 32 := 32#32
  let v107 : BitVec 32 := Scalar.addi v106 c32_i32_33
  v107
def k0_mult6 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32_35 : BitVec 32 := 128#32
  let v120 : BitVec 32 := Scalar.muli arg18 c128_i32_35
  let c48_i32 : BitVec 32 := 48#32
  let v121 : BitVec 32 := Scalar.addi v120 c48_i32
  v121
def k0_mult7 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32_37 : BitVec 32 := 128#32
  let v134 : BitVec 32 := Scalar.muli arg18 c128_i32_37
  let c64_i32_38 : BitVec 32 := 64#32
  let v135 : BitVec 32 := Scalar.addi v134 c64_i32_38
  v135
def k0_mult8 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32_40 : BitVec 32 := 128#32
  let v148 : BitVec 32 := Scalar.muli arg18 c128_i32_40
  let c80_i32 : BitVec 32 := 80#32
  let v149 : BitVec 32 := Scalar.addi v148 c80_i32
  v149
def k0_mult9 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32_42 : BitVec 32 := 128#32
  let v162 : BitVec 32 := Scalar.muli arg18 c128_i32_42
  let c96_i32 : BitVec 32 := 96#32
  let v163 : BitVec 32 := Scalar.addi v162 c96_i32
  v163
def k0_mult10 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32_44 : BitVec 32 := 128#32
  let v176 : BitVec 32 := Scalar.muli arg18 c128_i32_44
  let c112_i32 : BitVec 32 := 112#32
  let v177 : BitVec 32 := Scalar.addi v176 c112_i32
  v177
def k0_cond1 (i : grid0.Coords) : BitVec 1 :=
  let arg1 : BitVec 32 := BitVec.ofNat 32 (i 1).val
  let c4_i32 : BitVec 32 := 4#32
  let v16 : BitVec 1 := Scalar.cmpi .slt arg1 c4_i32
  let v17 : BitVec 32 := Scalar.extui v16
  let c0_i32_10 : BitVec 32 := 0#32
  let v18 : BitVec 1 := Scalar.cmpi .ne v17 c0_i32_10
  v18

@[reducible] def k0_t2_loop : Scf.Loop 32 :=
  let c0_i32_13 : BitVec 32 := 0#32
  let c4_i32_14 : BitVec 32 := 4#32
  let v22 : BitVec 32 := Scalar.addi c0_i32_13 c4_i32_14
  let c1_i32_15 : BitVec 32 := 1#32
  ⟨c0_i32_13, v22, c1_i32_15⟩
def k0_mult11 (k0_t2 : Fin k0_t2_loop.trips) : BitVec 32 :=
  let c0_i32_13 : BitVec 32 := 0#32
  let c1_i32_15 : BitVec 32 := 1#32
  let arg18 : BitVec 32 := Scf.iv c0_i32_13 c1_i32_15 k0_t2
  let c256_i32 : BitVec 32 := 256#32
  let v23 : BitVec 32 := Scalar.muli arg18 c256_i32
  v23
def k0_off4 (k0_t2 : Fin k0_t2_loop.trips) : Fin 2 → Nat :=
  let c0_i32_13 : BitVec 32 := 0#32
  let c1_i32_15 : BitVec 32 := 1#32
  let arg18 : BitVec 32 := Scf.iv c0_i32_13 c1_i32_15 k0_t2
  let c256_i32 : BitVec 32 := 256#32
  let v23 : BitVec 32 := Scalar.muli arg18 c256_i32
  let v24 : BitVec 32 := v23
  let v25 : Index := Scalar.indexCast v24
  let c0_17 : Index := 0#32
  ![v25.toNat, 0]
def k0_off5 (k0_t2 : Fin k0_t2_loop.trips) : Fin 2 → Nat :=
  let c0_i32_13 : BitVec 32 := 0#32
  let c1_i32_15 : BitVec 32 := 1#32
  let arg18 : BitVec 32 := Scf.iv c0_i32_13 c1_i32_15 k0_t2
  let c256_i32 : BitVec 32 := 256#32
  let v23 : BitVec 32 := Scalar.muli arg18 c256_i32
  let v24 : BitVec 32 := v23
  let v33 : Index := Scalar.indexCast v24
  let c0_20 : Index := 0#32
  ![v33.toNat, 0]
def k0_off6 (k0_t2 : Fin k0_t2_loop.trips) : Fin 2 → Nat :=
  let c0_i32_13 : BitVec 32 := 0#32
  let c1_i32_15 : BitVec 32 := 1#32
  let arg18 : BitVec 32 := Scf.iv c0_i32_13 c1_i32_15 k0_t2
  let c256_i32 : BitVec 32 := 256#32
  let v23 : BitVec 32 := Scalar.muli arg18 c256_i32
  let v24 : BitVec 32 := v23
  let v42 : Index := Scalar.indexCast v24
  let c128 : Index := 128#32
  ![v42.toNat, 128]
def k0_off7 (k0_t2 : Fin k0_t2_loop.trips) : Fin 2 → Nat :=
  let c0_i32_13 : BitVec 32 := 0#32
  let c1_i32_15 : BitVec 32 := 1#32
  let arg18 : BitVec 32 := Scf.iv c0_i32_13 c1_i32_15 k0_t2
  let c256_i32 : BitVec 32 := 256#32
  let v23 : BitVec 32 := Scalar.muli arg18 c256_i32
  let v24 : BitVec 32 := v23
  let v51 : Index := Scalar.indexCast v24
  let c256 : Index := 256#32
  ![v51.toNat, 256]
def k0_off8 (k0_t2 : Fin k0_t2_loop.trips) : Fin 2 → Nat :=
  let c0_i32_13 : BitVec 32 := 0#32
  let c1_i32_15 : BitVec 32 := 1#32
  let arg18 : BitVec 32 := Scf.iv c0_i32_13 c1_i32_15 k0_t2
  let c256_i32 : BitVec 32 := 256#32
  let v23 : BitVec 32 := Scalar.muli arg18 c256_i32
  let v24 : BitVec 32 := v23
  let v60 : Index := Scalar.indexCast v24
  let c384 : Index := 384#32
  ![v60.toNat, 384]
def k0_cond2 (i : grid0.Coords) : BitVec 1 :=
  let arg1 : BitVec 32 := BitVec.ofNat 32 (i 1).val
  let c4_i32_11 : BitVec 32 := 4#32
  let v19 : BitVec 1 := Scalar.cmpi .eq arg1 c4_i32_11
  let v20 : BitVec 32 := Scalar.extui v19
  let c0_i32_12 : BitVec 32 := 0#32
  let v21 : BitVec 1 := Scalar.cmpi .ne v20 c0_i32_12
  v21

@[reducible] def k0_t3_loop : Scf.Loop 32 :=
  let c0_i32_16 : BitVec 32 := 0#32
  let c4_i32_17 : BitVec 32 := 4#32
  let v26 : BitVec 32 := Scalar.addi c0_i32_16 c4_i32_17
  let c1_i32_18 : BitVec 32 := 1#32
  ⟨c0_i32_16, v26, c1_i32_18⟩
def k0_mult12 (k0_t3 : Fin k0_t3_loop.trips) : BitVec 32 :=
  let c0_i32_16 : BitVec 32 := 0#32
  let c1_i32_18 : BitVec 32 := 1#32
  let arg18 : BitVec 32 := Scf.iv c0_i32_16 c1_i32_18 k0_t3
  let c256_i32 : BitVec 32 := 256#32
  let v27 : BitVec 32 := Scalar.muli arg18 c256_i32
  v27
def k0_off9 (k0_t3 : Fin k0_t3_loop.trips) : Fin 2 → Nat :=
  let c0_i32_16 : BitVec 32 := 0#32
  let c1_i32_18 : BitVec 32 := 1#32
  let arg18 : BitVec 32 := Scf.iv c0_i32_16 c1_i32_18 k0_t3
  let c256_i32 : BitVec 32 := 256#32
  let v27 : BitVec 32 := Scalar.muli arg18 c256_i32
  let v28 : BitVec 32 := v27
  let v29 : Index := Scalar.indexCast v28
  let c0_20 : Index := 0#32
  ![v29.toNat, 0]
def k0_mult13 (k0_t3 : Fin k0_t3_loop.trips) : BitVec 32 :=
  let c0_i32_16 : BitVec 32 := 0#32
  let c1_i32_18 : BitVec 32 := 1#32
  let arg18 : BitVec 32 := Scf.iv c0_i32_16 c1_i32_18 k0_t3
  let c128_i32 : BitVec 32 := 128#32
  let v37 : BitVec 32 := Scalar.muli arg18 c128_i32
  v37
def k0_off10 (k0_t3 : Fin k0_t3_loop.trips) : Fin 2 → Nat :=
  let c0_i32_16 : BitVec 32 := 0#32
  let c1_i32_18 : BitVec 32 := 1#32
  let arg18 : BitVec 32 := Scf.iv c0_i32_16 c1_i32_18 k0_t3
  let c256_i32 : BitVec 32 := 256#32
  let v27 : BitVec 32 := Scalar.muli arg18 c256_i32
  let v28 : BitVec 32 := v27
  let v39 : Index := Scalar.indexCast v28
  let c0_23 : Index := 0#32
  ![v39.toNat, 0]
def k0_off11 (k0_t3 : Fin k0_t3_loop.trips) : Fin 2 → Nat :=
  let c0_i32_16 : BitVec 32 := 0#32
  let c1_i32_18 : BitVec 32 := 1#32
  let arg18 : BitVec 32 := Scf.iv c0_i32_16 c1_i32_18 k0_t3
  let c256_i32 : BitVec 32 := 256#32
  let v27 : BitVec 32 := Scalar.muli arg18 c256_i32
  let v28 : BitVec 32 := v27
  let v45 : Index := Scalar.indexCast v28
  let c128 : Index := 128#32
  ![v45.toNat, 128]
def k0_off12 (k0_t3 : Fin k0_t3_loop.trips) : Fin 2 → Nat :=
  let c0_i32_16 : BitVec 32 := 0#32
  let c1_i32_18 : BitVec 32 := 1#32
  let arg18 : BitVec 32 := Scf.iv c0_i32_16 c1_i32_18 k0_t3
  let c256_i32 : BitVec 32 := 256#32
  let v27 : BitVec 32 := Scalar.muli arg18 c256_i32
  let v28 : BitVec 32 := v27
  let v1113 : Index := Scalar.indexCast v28
  let c0_360 : Index := 0#32
  ![v1113.toNat, 0]
def k0_off13 (k0_t3 : Fin k0_t3_loop.trips) : Fin 2 → Nat :=
  let c0_i32_16 : BitVec 32 := 0#32
  let c1_i32_18 : BitVec 32 := 1#32
  let arg18 : BitVec 32 := Scf.iv c0_i32_16 c1_i32_18 k0_t3
  let c128_i32 : BitVec 32 := 128#32
  let v37 : BitVec 32 := Scalar.muli arg18 c128_i32
  let v38 : BitVec 32 := v37
  let v1117 : Index := Scalar.indexCast v38
  let c0_361 : Index := 0#32
  ![v1117.toNat, 0]
def k0_off14 (k0_t3 : Fin k0_t3_loop.trips) : Fin 2 → Nat :=
  let c0_i32_16 : BitVec 32 := 0#32
  let c1_i32_18 : BitVec 32 := 1#32
  let arg18 : BitVec 32 := Scf.iv c0_i32_16 c1_i32_18 k0_t3
  let c256_i32 : BitVec 32 := 256#32
  let v27 : BitVec 32 := Scalar.muli arg18 c256_i32
  let v28 : BitVec 32 := v27
  let v1205 : Index := Scalar.indexCast v28
  let c0_397 : Index := 0#32
  ![v1205.toNat, 0]
def k0_off15 (k0_t3 : Fin k0_t3_loop.trips) : Fin 2 → Nat :=
  let c0_i32_16 : BitVec 32 := 0#32
  let c1_i32_18 : BitVec 32 := 1#32
  let arg18 : BitVec 32 := Scf.iv c0_i32_16 c1_i32_18 k0_t3
  let c256_i32 : BitVec 32 := 256#32
  let v27 : BitVec 32 := Scalar.muli arg18 c256_i32
  let v28 : BitVec 32 := v27
  let v1207 : Index := Scalar.indexCast v28
  let c256 : Index := 256#32
  ![v1207.toNat, 256]
def k0_off16 (k0_t3 : Fin k0_t3_loop.trips) : Fin 2 → Nat :=
  let c0_785 : Index := 0#32
  let c0_i32_16 : BitVec 32 := 0#32
  let c1_i32_18 : BitVec 32 := 1#32
  let arg18 : BitVec 32 := Scf.iv c0_i32_16 c1_i32_18 k0_t3
  let c256_i32 : BitVec 32 := 256#32
  let v27 : BitVec 32 := Scalar.muli arg18 c256_i32
  let v28 : BitVec 32 := v27
  let v2363 : Index := Scalar.indexCast v28
  ![0, v2363.toNat]
def k0_off17 (k0_t3 : Fin k0_t3_loop.trips) : Fin 2 → Nat :=
  let c128_786 : Index := 128#32
  let c0_i32_16 : BitVec 32 := 0#32
  let c1_i32_18 : BitVec 32 := 1#32
  let arg18 : BitVec 32 := Scf.iv c0_i32_16 c1_i32_18 k0_t3
  let c256_i32 : BitVec 32 := 256#32
  let v27 : BitVec 32 := Scalar.muli arg18 c256_i32
  let v28 : BitVec 32 := v27
  let v2368 : Index := Scalar.indexCast v28
  ![128, v2368.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x8 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x256 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x8 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== QKernelIdeal.lean ====
abbrev S3072x8192 : Shape := ⟨2, ![3072, 8192]⟩
abbrev S4096x2560 : Shape := ⟨2, ![4096, 2560]⟩
abbrev S256x2560 : Shape := ⟨2, ![256, 2560]⟩
abbrev S6144x64 : Shape := ⟨2, ![6144, 64]⟩
abbrev S6144x2048 : Shape := ⟨2, ![6144, 2048]⟩
abbrev S6144x256 : Shape := ⟨2, ![6144, 256]⟩
abbrev S6144x8 : Shape := ⟨2, ![6144, 8]⟩
abbrev S3072x2x256 : Shape := ⟨3, ![3072, 2, 256]⟩
abbrev S256x6144 : Shape := ⟨2, ![256, 6144]⟩
abbrev S3072x1x256 : Shape := ⟨3, ![3072, 1, 256]⟩
abbrev S3072x256 : Shape := ⟨2, ![3072, 256]⟩
abbrev S512x8192 : Shape := ⟨2, ![512, 8192]⟩
abbrev S4096x512 : Shape := ⟨2, ![4096, 512]⟩
abbrev S256x512 : Shape := ⟨2, ![256, 512]⟩
abbrev S1024x64 : Shape := ⟨2, ![1024, 64]⟩
abbrev S1024x512 : Shape := ⟨2, ![1024, 512]⟩
abbrev S1024x256 : Shape := ⟨2, ![1024, 256]⟩
abbrev S1024x8 : Shape := ⟨2, ![1024, 8]⟩
abbrev S512x256 : Shape := ⟨2, ![512, 256]⟩
abbrev S512x2x256 : Shape := ⟨3, ![512, 2, 256]⟩
abbrev S512x1x256 : Shape := ⟨3, ![512, 1, 256]⟩
abbrev S256x1024 : Shape := ⟨2, ![256, 1024]⟩
abbrev S4096x2x512 : Shape := ⟨3, ![4096, 2, 512]⟩
abbrev S4096x1x512 : Shape := ⟨3, ![4096, 1, 512]⟩
abbrev S128x128 : Shape := ⟨2, ![128, 128]⟩
abbrev S128x512 : Shape := ⟨2, ![128, 512]⟩
abbrev S8x512 : Shape := ⟨2, ![8, 512]⟩
abbrev S1x512 : Shape := ⟨2, ![1, 512]⟩
abbrev S16x512 : Shape := ⟨2, ![16, 512]⟩
abbrev S32x512 : Shape := ⟨2, ![32, 512]⟩
abbrev S16x2x512 : Shape := ⟨3, ![16, 2, 512]⟩
abbrev S16x1x512 : Shape := ⟨3, ![16, 1, 512]⟩
abbrev S1024x8192 : Shape := ⟨2, ![1024, 8192]⟩
abbrev S8192x512 : Shape := ⟨2, ![8192, 512]⟩
abbrev S256x64 : Shape := ⟨2, ![256, 64]⟩
abbrev S256x128 : Shape := ⟨2, ![256, 128]⟩
abbrev S256x256 : Shape := ⟨2, ![256, 256]⟩
abbrev S32x128 : Shape := ⟨2, ![32, 128]⟩
abbrev S64x128 : Shape := ⟨2, ![64, 128]⟩
abbrev S16x128 : Shape := ⟨2, ![16, 128]⟩
abbrev S8x128 : Shape := ⟨2, ![8, 128]⟩
abbrev S1x128 : Shape := ⟨2, ![1, 128]⟩
abbrev S128x256 : Shape := ⟨2, ![128, 256]⟩
abbrev S128x2x256 : Shape := ⟨3, ![128, 2, 256]⟩
abbrev S128x1x256 : Shape := ⟨3, ![128, 1, 256]⟩
abbrev S256x8 : Shape := ⟨2, ![256, 8]⟩

abbrev nBuf : Space → Nat
  | .hbm => 12
  | .vmem => 28
  | .smem => 0
  | _ => 0

abbrev bufTy : (tb : Table) → Fin (tcTables nBuf tb) → BufTy
  | .hbm, ⟨0, _⟩ => ⟨S3072x8192, .i32⟩
  | .hbm, ⟨1, _⟩ => ⟨S4096x2560, .i8⟩
  | .hbm, ⟨2, _⟩ => ⟨S256x2560, .i8⟩
  | .hbm, ⟨3, _⟩ => ⟨S6144x64, .f32⟩
  | .hbm, ⟨4, _⟩ => ⟨S6144x64, .f32⟩
  | .hbm, ⟨5, _⟩ => ⟨S6144x2048, .bf16⟩
  | .hbm, ⟨6, _⟩ => ⟨S6144x256, .fp8e4m3⟩
  | .hbm, ⟨7, _⟩ => ⟨S6144x8, .i8⟩
  | .hbm, ⟨8, _⟩ => ⟨S3072x2x256, .bf16⟩
  | .hbm, ⟨9, _⟩ => ⟨S6144x256, .fp8e4m3⟩
  | .hbm, ⟨10, _⟩ => ⟨S6144x8, .i8⟩
  | .hbm, ⟨11, _⟩ => ⟨S256x6144, .bf16⟩
  | .local _ .vmem, ⟨0, _⟩ => ⟨S512x8192, .i32⟩
  | .local _ .vmem, ⟨1, _⟩ => ⟨S512x8192, .i32⟩
  | .local _ .vmem, ⟨2, _⟩ => ⟨S4096x512, .i8⟩
  | .local _ .vmem, ⟨3, _⟩ => ⟨S4096x512, .i8⟩
  | .local _ .vmem, ⟨4, _⟩ => ⟨S256x512, .i8⟩
  | .local _ .vmem, ⟨5, _⟩ => ⟨S256x512, .i8⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x512, .bf16⟩
  | .local _ .vmem, ⟨11, _⟩ => ⟨S1024x512, .bf16⟩
  | .local _ .vmem, ⟨12, _⟩ => ⟨S1024x256, .fp8e4m3⟩
  | .local _ .vmem, ⟨13, _⟩ => ⟨S1024x256, .fp8e4m3⟩
  | .local _ .vmem, ⟨14, _⟩ => ⟨S1024x8, .i8⟩
  | .local _ .vmem, ⟨15, _⟩ => ⟨S1024x8, .i8⟩
  | .local _ .vmem, ⟨16, _⟩ => ⟨S512x2x256, .bf16⟩
  | .local _ .vmem, ⟨17, _⟩ => ⟨S512x2x256, .bf16⟩
  | .local _ .vmem, ⟨18, _⟩ => ⟨S1024x256, .fp8e4m3⟩
  | .local _ .vmem, ⟨19, _⟩ => ⟨S1024x256, .fp8e4m3⟩
  | .local _ .vmem, ⟨20, _⟩ => ⟨S1024x8, .i8⟩
  | .local _ .vmem, ⟨21, _⟩ => ⟨S1024x8, .i8⟩
  | .local _ .vmem, ⟨22, _⟩ => ⟨S256x1024, .bf16⟩
  | .local _ .vmem, ⟨23, _⟩ => ⟨S256x1024, .bf16⟩
  | .local _ .vmem, ⟨24, _⟩ => ⟨S256x512, .i32⟩
  | .local _ .vmem, ⟨25, _⟩ => ⟨S4096x2x512, .bf16⟩
  | .local _ .vmem, ⟨26, _⟩ => ⟨S1024x512, .f32⟩
  | .local _ .vmem, ⟨27, _⟩ => ⟨S128x128, .i32⟩
  | _, _ => ⟨S3072x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![6, 5], ![false, false]⟩

@[reducible] def k0_t1_loop : Scf.Loop 32 :=
  let c0_i32 : BitVec 32 := 0#32
  let c32_i32 : BitVec 32 := 32#32
  let v7 : BitVec 32 := Scalar.addi c0_i32 c32_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32 : BitVec 32 := 128#32
  let v22 : BitVec 32 := Scalar.muli arg18 c128_i32
  v22
def k0_off1 (k0_t1 : Fin k0_t1_loop.trips) : Fin 2 → Nat :=
  let c0_i32 : BitVec 32 := 0#32
  let c1_i32 : BitVec 32 := 1#32
  let arg18 : BitVec 32 := Scf.iv c0_i32 c1_i32 k0_t1
  let c128_i32 : BitVec 32 := 128#32
  let v22 : BitVec 32 := Scalar.muli arg18 c128_i32
  let v23 : BitVec 32 := v22
  let v24 : Index := Scalar.indexCast v23
  let c0_13 : Index := 0#32
  ![v24.toNat, 0]
def k0_mult2 (k0_t1 : Fin k0_t1_loop.trips) : BitVec 32 :=
  let c0_i32 : BitVec 32 := 0#32
  let c1_i32 : BitVec 32 := 1#32
  let arg18 : BitVec 32 := Scf.iv c0_i32 c1_i32 k0_t1
  let c8_i32_24 : BitVec 32 := 8#32
  let v67 : BitVec 32 := Scalar.muli arg18 c8_i32_24
  v67
def k0_off2 (k0_t1 : Fin k0_t1_loop.trips) : Fin 2 → Nat :=
  let c0_i32 : BitVec 32 := 0#32
  let c1_i32 : BitVec 32 := 1#32
  let arg18 : BitVec 32 := Scf.iv c0_i32 c1_i32 k0_t1
  let c8_i32_24 : BitVec 32 := 8#32
  let v67 : BitVec 32 := Scalar.muli arg18 c8_i32_24
  let v68 : BitVec 32 := v67
  let v69 : Index := Scalar.indexCast v68
  let c0_25 : Index := 0#32
  ![v69.toNat, 0]
def k0_mult3 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32_26 : BitVec 32 := 128#32
  let v78 : BitVec 32 := Scalar.muli arg18 c128_i32_26
  let c0_i32_27 : BitVec 32 := 0#32
  let v79 : BitVec 32 := Scalar.addi v78 c0_i32_27
  v79
def k0_off3 (k0_t1 : Fin k0_t1_loop.trips) (c0_i32_27 : BitVec 32) : Fin 3 → Nat :=
  let c0_i32 : BitVec 32 := 0#32
  let c1_i32 : BitVec 32 := 1#32
  let arg18 : BitVec 32 := Scf.iv c0_i32 c1_i32 k0_t1
  let c128_i32_26 : BitVec 32 := 128#32
  let v78 : BitVec 32 := Scalar.muli arg18 c128_i32_26
  let v79 : BitVec 32 := Scalar.addi v78 c0_i32_27
  let v80 : BitVec 32 := v79
  let v81 : Index := Scalar.indexCast v80
  let c0_28 : Index := 0#32
  ![v81.toNat, 0, 0]
def k0_mult4 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32_29 : BitVec 32 := 128#32
  let v92 : BitVec 32 := Scalar.muli arg18 c128_i32_29
  let c16_i32_30 : BitVec 32 := 16#32
  let v93 : BitVec 32 := Scalar.addi v92 c16_i32_30
  v93
def k0_mult5 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32_32 : BitVec 32 := 128#32
  let v106 : BitVec 32 := Scalar.muli arg18 c128_i32_32
  let c32_i32_33 : BitVec 32 := 32#32
  let v107 : BitVec 32 := Scalar.addi v106 c32_i32_33
  v107
def k0_mult6 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32_35 : BitVec 32 := 128#32
  let v120 : BitVec 32 := Scalar.muli arg18 c128_i32_35
  let c48_i32 : BitVec 32 := 48#32
  let v121 : BitVec 32 := Scalar.addi v120 c48_i32
  v121
def k0_mult7 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32_37 : BitVec 32 := 128#32
  let v134 : BitVec 32 := Scalar.muli arg18 c128_i32_37
  let c64_i32_38 : BitVec 32 := 64#32
  let v135 : BitVec 32 := Scalar.addi v134 c64_i32_38
  v135
def k0_mult8 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32_40 : BitVec 32 := 128#32
  let v148 : BitVec 32 := Scalar.muli arg18 c128_i32_40
  let c80_i32 : BitVec 32 := 80#32
  let v149 : BitVec 32 := Scalar.addi v148 c80_i32
  v149
def k0_mult9 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32_42 : BitVec 32 := 128#32
  let v162 : BitVec 32 := Scalar.muli arg18 c128_i32_42
  let c96_i32 : BitVec 32 := 96#32
  let v163 : BitVec 32 := Scalar.addi v162 c96_i32
  v163
def k0_mult10 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32_44 : BitVec 32 := 128#32
  let v176 : BitVec 32 := Scalar.muli arg18 c128_i32_44
  let c112_i32 : BitVec 32 := 112#32
  let v177 : BitVec 32 := Scalar.addi v176 c112_i32
  v177
def k0_cond1 (i : grid0.Coords) : BitVec 1 :=
  let arg1 : BitVec 32 := BitVec.ofNat 32 (i 1).val
  let c4_i32 : BitVec 32 := 4#32
  let v16 : BitVec 1 := Scalar.cmpi .slt arg1 c4_i32
  let v17 : BitVec 32 := Scalar.extui v16
  let c0_i32_10 : BitVec 32 := 0#32
  let v18 : BitVec 1 := Scalar.cmpi .ne v17 c0_i32_10
  v18

@[reducible] def k0_t2_loop : Scf.Loop 32 :=
  let c0_i32_13 : BitVec 32 := 0#32
  let c4_i32_14 : BitVec 32 := 4#32
  let v22 : BitVec 32 := Scalar.addi c0_i32_13 c4_i32_14
  let c1_i32_15 : BitVec 32 := 1#32
  ⟨c0_i32_13, v22, c1_i32_15⟩
def k0_mult11 (k0_t2 : Fin k0_t2_loop.trips) : BitVec 32 :=
  let c0_i32_13 : BitVec 32 := 0#32
  let c1_i32_15 : BitVec 32 := 1#32
  let arg18 : BitVec 32 := Scf.iv c0_i32_13 c1_i32_15 k0_t2
  let c256_i32 : BitVec 32 := 256#32
  let v23 : BitVec 32 := Scalar.muli arg18 c256_i32
  v23
def k0_off4 (k0_t2 : Fin k0_t2_loop.trips) : Fin 2 → Nat :=
  let c0_i32_13 : BitVec 32 := 0#32
  let c1_i32_15 : BitVec 32 := 1#32
  let arg18 : BitVec 32 := Scf.iv c0_i32_13 c1_i32_15 k0_t2
  let c256_i32 : BitVec 32 := 256#32
  let v23 : BitVec 32 := Scalar.muli arg18 c256_i32
  let v24 : BitVec 32 := v23
  let v25 : Index := Scalar.indexCast v24
  let c0_17 : Index := 0#32
  ![v25.toNat, 0]
def k0_off5 (k0_t2 : Fin k0_t2_loop.trips) : Fin 2 → Nat :=
  let c0_i32_13 : BitVec 32 := 0#32
  let c1_i32_15 : BitVec 32 := 1#32
  let arg18 : BitVec 32 := Scf.iv c0_i32_13 c1_i32_15 k0_t2
  let c256_i32 : BitVec 32 := 256#32
  let v23 : BitVec 32 := Scalar.muli arg18 c256_i32
  let v24 : BitVec 32 := v23
  let v33 : Index := Scalar.indexCast v24
  let c0_20 : Index := 0#32
  ![v33.toNat, 0]
def k0_off6 (k0_t2 : Fin k0_t2_loop.trips) : Fin 2 → Nat :=
  let c0_i32_13 : BitVec 32 := 0#32
  let c1_i32_15 : BitVec 32 := 1#32
  let arg18 : BitVec 32 := Scf.iv c0_i32_13 c1_i32_15 k0_t2
  let c256_i32 : BitVec 32 := 256#32
  let v23 : BitVec 32 := Scalar.muli arg18 c256_i32
  let v24 : BitVec 32 := v23
  let v42 : Index := Scalar.indexCast v24
  let c128 : Index := 128#32
  ![v42.toNat, 128]
def k0_off7 (k0_t2 : Fin k0_t2_loop.trips) : Fin 2 → Nat :=
  let c0_i32_13 : BitVec 32 := 0#32
  let c1_i32_15 : BitVec 32 := 1#32
  let arg18 : BitVec 32 := Scf.iv c0_i32_13 c1_i32_15 k0_t2
  let c256_i32 : BitVec 32 := 256#32
  let v23 : BitVec 32 := Scalar.muli arg18 c256_i32
  let v24 : BitVec 32 := v23
  let v51 : Index := Scalar.indexCast v24
  let c256 : Index := 256#32
  ![v51.toNat, 256]
def k0_off8 (k0_t2 : Fin k0_t2_loop.trips) : Fin 2 → Nat :=
  let c0_i32_13 : BitVec 32 := 0#32
  let c1_i32_15 : BitVec 32 := 1#32
  let arg18 : BitVec 32 := Scf.iv c0_i32_13 c1_i32_15 k0_t2
  let c256_i32 : BitVec 32 := 256#32
  let v23 : BitVec 32 := Scalar.muli arg18 c256_i32
  let v24 : BitVec 32 := v23
  let v60 : Index := Scalar.indexCast v24
  let c384 : Index := 384#32
  ![v60.toNat, 384]
def k0_cond2 (i : grid0.Coords) : BitVec 1 :=
  let arg1 : BitVec 32 := BitVec.ofNat 32 (i 1).val
  let c4_i32_11 : BitVec 32 := 4#32
  let v19 : BitVec 1 := Scalar.cmpi .eq arg1 c4_i32_11
  let v20 : BitVec 32 := Scalar.extui v19
  let c0_i32_12 : BitVec 32 := 0#32
  let v21 : BitVec 1 := Scalar.cmpi .ne v20 c0_i32_12
  v21

@[reducible] def k0_t3_loop : Scf.Loop 32 :=
  let c0_i32_16 : BitVec 32 := 0#32
  let c4_i32_17 : BitVec 32 := 4#32
  let v26 : BitVec 32 := Scalar.addi c0_i32_16 c4_i32_17
  let c1_i32_18 : BitVec 32 := 1#32
  ⟨c0_i32_16, v26, c1_i32_18⟩
def k0_mult12 (k0_t3 : Fin k0_t3_loop.trips) : BitVec 32 :=
  let c0_i32_16 : BitVec 32 := 0#32
  let c1_i32_18 : BitVec 32 := 1#32
  let arg18 : BitVec 32 := Scf.iv c0_i32_16 c1_i32_18 k0_t3
  let c256_i32 : BitVec 32 := 256#32
  let v27 : BitVec 32 := Scalar.muli arg18 c256_i32
  v27
def k0_off9 (k0_t3 : Fin k0_t3_loop.trips) : Fin 2 → Nat :=
  let c0_i32_16 : BitVec 32 := 0#32
  let c1_i32_18 : BitVec 32 := 1#32
  let arg18 : BitVec 32 := Scf.iv c0_i32_16 c1_i32_18 k0_t3
  let c256_i32 : BitVec 32 := 256#32
  let v27 : BitVec 32 := Scalar.muli arg18 c256_i32
  let v28 : BitVec 32 := v27
  let v29 : Index := Scalar.indexCast v28
  let c0_20 : Index := 0#32
  ![v29.toNat, 0]
def k0_mult13 (k0_t3 : Fin k0_t3_loop.trips) : BitVec 32 :=
  let c0_i32_16 : BitVec 32 := 0#32
  let c1_i32_18 : BitVec 32 := 1#32
  let arg18 : BitVec 32 := Scf.iv c0_i32_16 c1_i32_18 k0_t3
  let c128_i32 : BitVec 32 := 128#32
  let v37 : BitVec 32 := Scalar.muli arg18 c128_i32
  v37
def k0_off10 (k0_t3 : Fin k0_t3_loop.trips) : Fin 2 → Nat :=
  let c0_i32_16 : BitVec 32 := 0#32
  let c1_i32_18 : BitVec 32 := 1#32
  let arg18 : BitVec 32 := Scf.iv c0_i32_16 c1_i32_18 k0_t3
  let c256_i32 : BitVec 32 := 256#32
  let v27 : BitVec 32 := Scalar.muli arg18 c256_i32
  let v28 : BitVec 32 := v27
  let v39 : Index := Scalar.indexCast v28
  let c0_23 : Index := 0#32
  ![v39.toNat, 0]
def k0_off11 (k0_t3 : Fin k0_t3_loop.trips) : Fin 2 → Nat :=
  let c0_i32_16 : BitVec 32 := 0#32
  let c1_i32_18 : BitVec 32 := 1#32
  let arg18 : BitVec 32 := Scf.iv c0_i32_16 c1_i32_18 k0_t3
  let c256_i32 : BitVec 32 := 256#32
  let v27 : BitVec 32 := Scalar.muli arg18 c256_i32
  let v28 : BitVec 32 := v27
  let v45 : Index := Scalar.indexCast v28
  let c128 : Index := 128#32
  ![v45.toNat, 128]
def k0_off12 (k0_t3 : Fin k0_t3_loop.trips) : Fin 2 → Nat :=
  let c0_i32_16 : BitVec 32 := 0#32
  let c1_i32_18 : BitVec 32 := 1#32
  let arg18 : BitVec 32 := Scf.iv c0_i32_16 c1_i32_18 k0_t3
  let c256_i32 : BitVec 32 := 256#32
  let v27 : BitVec 32 := Scalar.muli arg18 c256_i32
  let v28 : BitVec 32 := v27
  let v1113 : Index := Scalar.indexCast v28
  let c0_360 : Index := 0#32
  ![v1113.toNat, 0]
def k0_off13 (k0_t3 : Fin k0_t3_loop.trips) : Fin 3 → Nat :=
  let c0_i32_16 : BitVec 32 := 0#32
  let c1_i32_18 : BitVec 32 := 1#32
  let arg18 : BitVec 32 := Scf.iv c0_i32_16 c1_i32_18 k0_t3
  let c128_i32 : BitVec 32 := 128#32
  let v37 : BitVec 32 := Scalar.muli arg18 c128_i32
  let v38 : BitVec 32 := v37
  let v1117 : Index := Scalar.indexCast v38
  let c0_361 : Index := 0#32
  ![v1117.toNat, 0, 0]
def k0_off14 (k0_t3 : Fin k0_t3_loop.trips) : Fin 2 → Nat :=
  let c0_i32_16 : BitVec 32 := 0#32
  let c1_i32_18 : BitVec 32 := 1#32
  let arg18 : BitVec 32 := Scf.iv c0_i32_16 c1_i32_18 k0_t3
  let c256_i32 : BitVec 32 := 256#32
  let v27 : BitVec 32 := Scalar.muli arg18 c256_i32
  let v28 : BitVec 32 := v27
  let v1205 : Index := Scalar.indexCast v28
  let c0_397 : Index := 0#32
  ![v1205.toNat, 0]
def k0_off15 (k0_t3 : Fin k0_t3_loop.trips) : Fin 2 → Nat :=
  let c0_i32_16 : BitVec 32 := 0#32
  let c1_i32_18 : BitVec 32 := 1#32
  let arg18 : BitVec 32 := Scf.iv c0_i32_16 c1_i32_18 k0_t3
  let c256_i32 : BitVec 32 := 256#32
  let v27 : BitVec 32 := Scalar.muli arg18 c256_i32
  let v28 : BitVec 32 := v27
  let v1207 : Index := Scalar.indexCast v28
  let c256 : Index := 256#32
  ![v1207.toNat, 256]
def k0_off16 (k0_t3 : Fin k0_t3_loop.trips) : Fin 2 → Nat :=
  let c0_785 : Index := 0#32
  let c0_i32_16 : BitVec 32 := 0#32
  let c1_i32_18 : BitVec 32 := 1#32
  let arg18 : BitVec 32 := Scf.iv c0_i32_16 c1_i32_18 k0_t3
  let c256_i32 : BitVec 32 := 256#32
  let v27 : BitVec 32 := Scalar.muli arg18 c256_i32
  let v28 : BitVec 32 := v27
  let v2363 : Index := Scalar.indexCast v28
  ![0, v2363.toNat]
def k0_off17 (k0_t3 : Fin k0_t3_loop.trips) : Fin 2 → Nat :=
  let c128_786 : Index := 128#32
  let c0_i32_16 : BitVec 32 := 0#32
  let c1_i32_18 : BitVec 32 := 1#32
  let arg18 : BitVec 32 := Scf.iv c0_i32_16 c1_i32_18 k0_t3
  let c256_i32 : BitVec 32 := 256#32
  let v27 : BitVec 32 := Scalar.muli arg18 c256_i32
  let v28 : BitVec 32 := v27
  let v2368 : Index := Scalar.indexCast v28
  ![128, v2368.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, 0, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x8 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x8 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== QReferenceIdeal.lean ====
abbrev S3072x8192 : Shape := ⟨2, ![3072, 8192]⟩
abbrev S4096x2560 : Shape := ⟨2, ![4096, 2560]⟩
abbrev S256x2560 : Shape := ⟨2, ![256, 2560]⟩
abbrev S6144x64 : Shape := ⟨2, ![6144, 64]⟩
abbrev S3072x8192x2 : Shape := ⟨3, ![3072, 8192, 2]⟩
abbrev S3072x2x8192 : Shape := ⟨3, ![3072, 2, 8192]⟩
abbrev S6144x8192 : Shape := ⟨2, ![6144, 8192]⟩
abbrev S_ : Shape := ⟨0, ![]⟩
abbrev S256x16x2560 : Shape := ⟨3, ![256, 16, 2560]⟩
abbrev S4096x1x2560 : Shape := ⟨3, ![4096, 1, 2560]⟩
abbrev S4096x2x2560 : Shape := ⟨3, ![4096, 2, 2560]⟩
abbrev S8192x2560 : Shape := ⟨2, ![8192, 2560]⟩
abbrev S6144x2560 : Shape := ⟨2, ![6144, 2560]⟩
abbrev S6144x2048 : Shape := ⟨2, ![6144, 2048]⟩
abbrev S6144x16x128 : Shape := ⟨3, ![6144, 16, 128]⟩
abbrev S6144x256 : Shape := ⟨2, ![6144, 256]⟩
abbrev S6144x2x128 : Shape := ⟨3, ![6144, 2, 128]⟩
abbrev S6144x128 : Shape := ⟨2, ![6144, 128]⟩
abbrev S6144x1x128 : Shape := ⟨3, ![6144, 1, 128]⟩
abbrev S6144x16x64 : Shape := ⟨3, ![6144, 16, 64]⟩
abbrev S6144x2x64 : Shape := ⟨3, ![6144, 2, 64]⟩
abbrev S6144x8x32 : Shape := ⟨3, ![6144, 8, 32]⟩
abbrev S6144x8 : Shape := ⟨2, ![6144, 8]⟩
abbrev S6144x8x1 : Shape := ⟨3, ![6144, 8, 1]⟩
abbrev S255 : Shape := ⟨1, ![255]⟩
abbrev S1x1x255 : Shape := ⟨3, ![1, 1, 255]⟩
abbrev S6144x8x255 : Shape := ⟨3, ![6144, 8, 255]⟩

abbrev nBuf : Space → Nat
  | .hbm => 246
  | .vmem => 4
  | .smem => 0
  | _ => 0

abbrev hbmTy0_0 (i : Nat) : BufTy := match i % 128 with
  | 0 => ⟨S3072x8192, .i32⟩
  | 1 => ⟨S4096x2560, .i8⟩
  | 2 => ⟨S256x2560, .i8⟩
  | 3 => ⟨S6144x64, .f32⟩
  | 4 => ⟨S6144x64, .f32⟩
  | 5 => ⟨S3072x8192x2, .bf16⟩
  | 6 => ⟨S3072x2x8192, .bf16⟩
  | 7 => ⟨S6144x8192, .bf16⟩
  | 8 => ⟨S256x2560, .i32⟩
  | 9 => ⟨S_, .i32⟩
  | 10 => ⟨S256x2560, .i32⟩
  | 11 => ⟨S256x2560, .i32⟩
  | 12 => ⟨S256x2560, .f32⟩
  | 13 => ⟨S256x2560, .bf16⟩
  | 14 => ⟨S256x16x2560, .bf16⟩
  | 15 => ⟨S4096x2560, .bf16⟩
  | 16 => ⟨S4096x2560, .i32⟩
  | 17 => ⟨S_, .i32⟩
  | 18 => ⟨S4096x2560, .i32⟩
  | 19 => ⟨S4096x2560, .i32⟩
  | 20 => ⟨S_, .i32⟩
  | 21 => ⟨S4096x2560, .i32⟩
  | 22 => ⟨S4096x2560, .i32⟩
  | 23 => ⟨S_, .i32⟩
  | 24 => ⟨S4096x2560, .i32⟩
  | 25 => ⟨S4096x2560, .i32⟩
  | 26 => ⟨S_, .i32⟩
  | 27 => ⟨S4096x2560, .i32⟩
  | 28 => ⟨S4096x2560, .i1⟩
  | 29 => ⟨S_, .bf16⟩
  | 30 => ⟨S_, .bf16⟩
  | 31 => ⟨S4096x2560, .bf16⟩
  | 32 => ⟨S4096x2560, .bf16⟩
  | 33 => ⟨S4096x2560, .bf16⟩
  | 34 => ⟨S_, .bf16⟩
  | 35 => ⟨S_, .bf16⟩
  | 36 => ⟨S4096x2560, .bf16⟩
  | 37 => ⟨S4096x2560, .bf16⟩
  | 38 => ⟨S4096x2560, .bf16⟩
  | 39 => ⟨S_, .bf16⟩
  | 40 => ⟨S_, .bf16⟩
  | 41 => ⟨S4096x2560, .bf16⟩
  | 42 => ⟨S4096x2560, .bf16⟩
  | 43 => ⟨S4096x2560, .bf16⟩
  | 44 => ⟨S_, .bf16⟩
  | 45 => ⟨S_, .bf16⟩
  | 46 => ⟨S4096x2560, .bf16⟩
  | 47 => ⟨S4096x2560, .bf16⟩
  | 48 => ⟨S4096x2560, .bf16⟩
  | 49 => ⟨S_, .i32⟩
  | 50 => ⟨S4096x2560, .i32⟩
  | 51 => ⟨S4096x2560, .i32⟩
  | 52 => ⟨S_, .i32⟩
  | 53 => ⟨S4096x2560, .i32⟩
  | 54 => ⟨S4096x2560, .i32⟩
  | 55 => ⟨S_, .i32⟩
  | 56 => ⟨S4096x2560, .i32⟩
  | 57 => ⟨S4096x2560, .i1⟩
  | 58 => ⟨S4096x2560, .bf16⟩
  | 59 => ⟨S4096x2560, .bf16⟩
  | 60 => ⟨S_, .i32⟩
  | 61 => ⟨S4096x2560, .i32⟩
  | 62 => ⟨S4096x2560, .i32⟩
  | 63 => ⟨S_, .i32⟩
  | 64 => ⟨S4096x2560, .i32⟩
  | 65 => ⟨S4096x2560, .i32⟩
  | 66 => ⟨S_, .i32⟩
  | 67 => ⟨S4096x2560, .i32⟩
  | 68 => ⟨S4096x2560, .i1⟩
  | 69 => ⟨S4096x2560, .bf16⟩
  | 70 => ⟨S_, .i32⟩
  | 71 => ⟨S4096x2560, .i32⟩
  | 72 => ⟨S4096x2560, .i32⟩
  | 73 => ⟨S_, .i32⟩
  | 74 => ⟨S4096x2560, .i32⟩
  | 75 => ⟨S4096x2560, .i1⟩
  | 76 => ⟨S4096x2560, .bf16⟩
  | 77 => ⟨S4096x2560, .bf16⟩
  | 78 => ⟨S4096x2560, .bf16⟩
  | 79 => ⟨S_, .i32⟩
  | 80 => ⟨S4096x2560, .i32⟩
  | 81 => ⟨S4096x2560, .i32⟩
  | 82 => ⟨S_, .i32⟩
  | 83 => ⟨S4096x2560, .i32⟩
  | 84 => ⟨S4096x2560, .i32⟩
  | 85 => ⟨S_, .i32⟩
  | 86 => ⟨S4096x2560, .i32⟩
  | 87 => ⟨S4096x2560, .i32⟩
  | 88 => ⟨S_, .i32⟩
  | 89 => ⟨S4096x2560, .i32⟩
  | 90 => ⟨S4096x2560, .i1⟩
  | 91 => ⟨S_, .bf16⟩
  | 92 => ⟨S_, .bf16⟩
  | 93 => ⟨S4096x2560, .bf16⟩
  | 94 => ⟨S4096x2560, .bf16⟩
  | 95 => ⟨S4096x2560, .bf16⟩
  | 96 => ⟨S_, .bf16⟩
  | 97 => ⟨S_, .bf16⟩
  | 98 => ⟨S4096x2560, .bf16⟩
  | 99 => ⟨S4096x2560, .bf16⟩
  | 100 => ⟨S4096x2560, .bf16⟩
  | 101 => ⟨S_, .bf16⟩
  | 102 => ⟨S_, .bf16⟩
  | 103 => ⟨S4096x2560, .bf16⟩
  | 104 => ⟨S4096x2560, .bf16⟩
  | 105 => ⟨S4096x2560, .bf16⟩
  | 106 => ⟨S_, .bf16⟩
  | 107 => ⟨S_, .bf16⟩
  | 108 => ⟨S4096x2560, .bf16⟩
  | 109 => ⟨S4096x2560, .bf16⟩
  | 110 => ⟨S4096x2560, .bf16⟩
  | 111 => ⟨S_, .i32⟩
  | 112 => ⟨S4096x2560, .i32⟩
  | 113 => ⟨S4096x2560, .i32⟩
  | 114 => ⟨S_, .i32⟩
  | 115 => ⟨S4096x2560, .i32⟩
  | 116 => ⟨S4096x2560, .i32⟩
  | 117 => ⟨S_, .i32⟩
  | 118 => ⟨S4096x2560, .i32⟩
  | 119 => ⟨S4096x2560, .i1⟩
  | 120 => ⟨S4096x2560, .bf16⟩
  | 121 => ⟨S4096x2560, .bf16⟩
  | 122 => ⟨S_, .i32⟩
  | 123 => ⟨S4096x2560, .i32⟩
  | 124 => ⟨S4096x2560, .i32⟩
  | 125 => ⟨S_, .i32⟩
  | 126 => ⟨S4096x2560, .i32⟩
  | 127 => ⟨S4096x2560, .i32⟩
  | _ => ⟨S3072x8192, .i32⟩

abbrev hbmTy0_1 (i : Nat) : BufTy := match i % 128 with
  | 0 => ⟨S_, .i32⟩
  | 1 => ⟨S4096x2560, .i32⟩
  | 2 => ⟨S4096x2560, .i1⟩
  | 3 => ⟨S4096x2560, .bf16⟩
  | 4 => ⟨S_, .i32⟩
  | 5 => ⟨S4096x2560, .i32⟩
  | 6 => ⟨S4096x2560, .i32⟩
  | 7 => ⟨S_, .i32⟩
  | 8 => ⟨S4096x2560, .i32⟩
  | 9 => ⟨S4096x2560, .i1⟩
  | 10 => ⟨S4096x2560, .bf16⟩
  | 11 => ⟨S4096x2560, .bf16⟩
  | 12 => ⟨S4096x2560, .bf16⟩
  | 13 => ⟨S4096x1x2560, .bf16⟩
  | 14 => ⟨S4096x1x2560, .bf16⟩
  | 15 => ⟨S4096x2x2560, .bf16⟩
  | 16 => ⟨S8192x2560, .bf16⟩
  | 17 => ⟨S6144x2560, .f32⟩
  | 18 => ⟨S6144x2048, .f32⟩
  | 19 => ⟨S6144x16x128, .f32⟩
  | 20 => ⟨S6144x256, .f32⟩
  | 21 => ⟨S6144x2x128, .f32⟩
  | 22 => ⟨S6144x256, .f32⟩
  | 23 => ⟨S6144x128, .f32⟩
  | 24 => ⟨S6144x1x128, .f32⟩
  | 25 => ⟨S6144x128, .f32⟩
  | 26 => ⟨S6144x1x128, .f32⟩
  | 27 => ⟨S6144x16x128, .f32⟩
  | 28 => ⟨S6144x16x128, .f32⟩
  | 29 => ⟨S6144x16x64, .f32⟩
  | 30 => ⟨S6144x16x64, .f32⟩
  | 31 => ⟨S6144x16x64, .f32⟩
  | 32 => ⟨S6144x16x128, .f32⟩
  | 33 => ⟨S6144x16x128, .f32⟩
  | 34 => ⟨S6144x16x128, .f32⟩
  | 35 => ⟨S6144x16x128, .f32⟩
  | 36 => ⟨S6144x16x128, .bf16⟩
  | 37 => ⟨S6144x2048, .bf16⟩
  | 38 => ⟨S6144x2x128, .f32⟩
  | 39 => ⟨S6144x2x128, .f32⟩
  | 40 => ⟨S6144x2x64, .f32⟩
  | 41 => ⟨S6144x2x64, .f32⟩
  | 42 => ⟨S6144x2x64, .f32⟩
  | 43 => ⟨S6144x2x128, .f32⟩
  | 44 => ⟨S6144x2x128, .f32⟩
  | 45 => ⟨S6144x2x128, .f32⟩
  | 46 => ⟨S6144x2x128, .f32⟩
  | 47 => ⟨S6144x256, .f32⟩
  | 48 => ⟨S6144x8x32, .f32⟩
  | 49 => ⟨S6144x8x32, .f32⟩
  | 50 => ⟨S_, .f32⟩
  | 51 => ⟨S6144x8, .f32⟩
  | 52 => ⟨S6144x8x1, .f32⟩
  | 53 => ⟨S255, .i32⟩
  | 54 => ⟨S_, .i32⟩
  | 55 => ⟨S255, .i32⟩
  | 56 => ⟨S255, .i32⟩
  | 57 => ⟨S_, .i32⟩
  | 58 => ⟨S255, .i32⟩
  | 59 => ⟨S255, .i32⟩
  | 60 => ⟨S255, .f32⟩
  | 61 => ⟨S1x1x255, .f32⟩
  | 62 => ⟨S6144x8x255, .f32⟩
  | 63 => ⟨S6144x8x255, .f32⟩
  | 64 => ⟨S6144x8x255, .i1⟩
  | 65 => ⟨S6144x8x255, .i32⟩
  | 66 => ⟨S_, .i32⟩
  | 67 => ⟨S6144x8, .i32⟩
  | 68 => ⟨S_, .i32⟩
  | 69 => ⟨S6144x8, .i32⟩
  | 70 => ⟨S6144x8, .i32⟩
  | 71 => ⟨S_, .i32⟩
  | 72 => ⟨S6144x8, .i32⟩
  | 73 => ⟨S6144x8, .i32⟩
  | 74 => ⟨S_, .i32⟩
  | 75 => ⟨S6144x8, .i32⟩
  | 76 => ⟨S6144x8, .i32⟩
  | 77 => ⟨S6144x8, .f32⟩
  | 78 => ⟨S6144x8x1, .f32⟩
  | 79 => ⟨S6144x8x32, .f32⟩
  | 80 => ⟨S6144x8x32, .f32⟩
  | 81 => ⟨S6144x256, .f32⟩
  | 82 => ⟨S6144x8x32, .f32⟩
  | 83 => ⟨S6144x8x32, .f32⟩
  | 84 => ⟨S_, .f32⟩
  | 85 => ⟨S6144x8, .f32⟩
  | 86 => ⟨S6144x8x1, .f32⟩
  | 87 => ⟨S255, .i32⟩
  | 88 => ⟨S_, .i32⟩
  | 89 => ⟨S255, .i32⟩
  | 90 => ⟨S255, .i32⟩
  | 91 => ⟨S_, .i32⟩
  | 92 => ⟨S255, .i32⟩
  | 93 => ⟨S255, .i32⟩
  | 94 => ⟨S255, .f32⟩
  | 95 => ⟨S1x1x255, .f32⟩
  | 96 => ⟨S6144x8x255, .f32⟩
  | 97 => ⟨S6144x8x255, .f32⟩
  | 98 => ⟨S6144x8x255, .i1⟩
  | 99 => ⟨S6144x8x255, .i32⟩
  | 100 => ⟨S_, .i32⟩
  | 101 => ⟨S6144x8, .i32⟩
  | 102 => ⟨S_, .i32⟩
  | 103 => ⟨S6144x8, .i32⟩
  | 104 => ⟨S6144x8, .i32⟩
  | 105 => ⟨S_, .i32⟩
  | 106 => ⟨S6144x8, .i32⟩
  | 107 => ⟨S6144x8, .i32⟩
  | 108 => ⟨S_, .i32⟩
  | 109 => ⟨S6144x8, .i32⟩
  | 110 => ⟨S6144x8, .i32⟩
  | 111 => ⟨S6144x8, .f32⟩
  | 112 => ⟨S6144x8x1, .f32⟩
  | 113 => ⟨S6144x8x32, .f32⟩
  | 114 => ⟨S6144x8x32, .f32⟩
  | 115 => ⟨S6144x256, .f32⟩
  | 116 => ⟨S6144x256, .fp8e4m3⟩
  | 117 => ⟨S6144x256, .fp8e4m3⟩
  | _ => ⟨S3072x8192, .i32⟩

abbrev hbmTy (i : Nat) : BufTy := match i / 128 with
  | 0 => hbmTy0_0 i
  | 1 => hbmTy0_1 i
  | _ => ⟨S3072x8192, .i32⟩

abbrev bufTy : (tb : Table) → Fin (tcTables nBuf tb) → BufTy
  | .hbm, ⟨i, _⟩ => hbmTy i
  | .local _ .vmem, ⟨0, _⟩ => ⟨S6144x256, .f32⟩
  | .local _ .vmem, ⟨1, _⟩ => ⟨S6144x256, .f32⟩
  | .local _ .vmem, ⟨2, _⟩ => ⟨S6144x256, .fp8e4m3⟩
  | .local _ .vmem, ⟨3, _⟩ => ⟨S6144x256, .fp8e4m3⟩
  | _, _ => ⟨S3072x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_cst_5 : Ref sig .tc := ⟨.hbm, 34, rfl⟩
abbrev main_cst_6 : Ref sig .tc := ⟨.hbm, 35, rfl⟩
abbrev main_call1_v0 : Ref sig .tc := ⟨.hbm, 36, rfl⟩
abbrev main_call1_v1 : Ref sig .tc := ⟨.hbm, 37, rfl⟩
abbrev main_v20 : Ref sig .tc := ⟨.hbm, 38, rfl⟩
abbrev main_cst_7 : Ref sig .tc := ⟨.hbm, 39, rfl⟩
abbrev main_cst_8 : Ref sig .tc := ⟨.hbm, 40, rfl⟩
abbrev main_call2_v0 : Ref sig .tc := ⟨.hbm, 41, rfl⟩
abbrev main_call2_v1 : Ref sig .tc := ⟨.hbm, 42, rfl⟩
abbrev main_v21 : Ref sig .tc := ⟨.hbm, 43, rfl⟩
abbrev main_cst_9 : Ref sig .tc := ⟨.hbm, 44, rfl⟩
abbrev main_cst_10 : Ref sig .tc := ⟨.hbm, 45, rfl⟩
abbrev main_call3_v0 : Ref sig .tc := ⟨.hbm, 46, rfl⟩
abbrev main_call3_v1 : Ref sig .tc := ⟨.hbm, 47, rfl⟩
abbrev main_v22 : Ref sig .tc := ⟨.hbm, 48, rfl⟩
abbrev main_c_11 : Ref sig .tc := ⟨.hbm, 49, rfl⟩
abbrev main_v23 : Ref sig .tc := ⟨.hbm, 50, rfl⟩
abbrev main_v24 : Ref sig .tc := ⟨.hbm, 51, rfl⟩
abbrev main_c_12 : Ref sig .tc := ⟨.hbm, 52, rfl⟩
abbrev main_v25 : Ref sig .tc := ⟨.hbm, 53, rfl⟩
abbrev main_v26 : Ref sig .tc := ⟨.hbm, 54, rfl⟩
abbrev main_c_13 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_14 : Ref sig .tc := ⟨.hbm, 60, rfl⟩
abbrev main_v31 : Ref sig .tc := ⟨.hbm, 61, rfl⟩
abbrev main_v32 : Ref sig .tc := ⟨.hbm, 62, rfl⟩
abbrev main_c_15 : Ref sig .tc := ⟨.hbm, 63, rfl⟩
abbrev main_v33 : Ref sig .tc := ⟨.hbm, 64, rfl⟩
abbrev main_v34 : Ref sig .tc := ⟨.hbm, 65, rfl⟩
abbrev main_c_16 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_17 : Ref sig .tc := ⟨.hbm, 70, rfl⟩
abbrev main_v38 : Ref sig .tc := ⟨.hbm, 71, rfl⟩
abbrev main_v39 : Ref sig .tc := ⟨.hbm, 72, rfl⟩
abbrev main_c_18 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_c_19 : Ref sig .tc := ⟨.hbm, 79, rfl⟩
abbrev main_v45 : Ref sig .tc := ⟨.hbm, 80, rfl⟩
abbrev main_v46 : Ref sig .tc := ⟨.hbm, 81, rfl⟩
abbrev main_c_20 : Ref sig .tc := ⟨.hbm, 82, rfl⟩
abbrev main_v47 : Ref sig .tc := ⟨.hbm, 83, rfl⟩
abbrev main_v48 : Ref sig .tc := ⟨.hbm, 84, rfl⟩
abbrev main_c_21 : Ref sig .tc := ⟨.hbm, 85, rfl⟩
abbrev main_v49 : Ref sig .tc := ⟨.hbm, 86, rfl⟩
abbrev main_v50 : Ref sig .tc := ⟨.hbm, 87, rfl⟩
abbrev main_c_22 : Ref sig .tc := ⟨.hbm, 88, rfl⟩
abbrev main_v51 : Ref sig .tc := ⟨.hbm, 89, rfl⟩
abbrev main_v52 : Ref sig .tc := ⟨.hbm, 90, rfl⟩
abbrev main_cst_23 : Ref sig .tc := ⟨.hbm, 91, rfl⟩
abbrev main_cst_24 : Ref sig .tc := ⟨.hbm, 92, rfl⟩
abbrev main_call8_v0 : Ref sig .tc := ⟨.hbm, 93, rfl⟩
abbrev main_call8_v1 : Ref sig .tc := ⟨.hbm, 94, rfl⟩
abbrev main_v53 : Ref sig .tc := ⟨.hbm, 95, rfl⟩
abbrev main_cst_25 : Ref sig .tc := ⟨.hbm, 96, rfl⟩
abbrev main_cst_26 : Ref sig .tc := ⟨.hbm, 97, rfl⟩
abbrev main_call9_v0 : Ref sig .tc := ⟨.hbm, 98, rfl⟩
abbrev main_call9_v1 : Ref sig .tc := ⟨.hbm, 99, rfl⟩
abbrev main_v54 : Ref sig .tc := ⟨.hbm, 100, rfl⟩
abbrev main_cst_27 : Ref sig .tc := ⟨.hbm, 101, rfl⟩
abbrev main_cst_28 : Ref sig .tc := ⟨.hbm, 102, rfl⟩
abbrev main_call10_v0 : Ref sig .tc := ⟨.hbm, 103, rfl⟩
abbrev main_call10_v1 : Ref sig .tc := ⟨.hbm, 104, rfl⟩
abbrev main_v55 : Ref sig .tc := ⟨.hbm, 105, rfl⟩
abbrev main_cst_29 : Ref sig .tc := ⟨.hbm, 106, rfl⟩
abbrev main_cst_30 : Ref sig .tc := ⟨.hbm, 107, rfl⟩
abbrev main_call11_v0 : Ref sig .tc := ⟨.hbm, 108, rfl⟩
abbrev main_call11_v1 : Ref sig .tc := ⟨.hbm, 109, rfl⟩
abbrev main_v56 : Ref sig .tc := ⟨.hbm, 110, rfl⟩
abbrev main_c_31 : Ref sig .tc := ⟨.hbm, 111, rfl⟩
abbrev main_v57 : Ref sig .tc := ⟨.hbm, 112, rfl⟩
abbrev main_v58 : Ref sig .tc := ⟨.hbm, 113, rfl⟩
abbrev main_c_32 : Ref sig .tc := ⟨.hbm, 114, rfl⟩
abbrev main_v59 : Ref sig .tc := ⟨.hbm, 115, rfl⟩
abbrev main_v60 : Ref sig .tc := ⟨.hbm, 116, rfl⟩
abbrev main_c_33 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_c_34 : Ref sig .tc := ⟨.hbm, 122, rfl⟩
abbrev main_v65 : Ref sig .tc := ⟨.hbm, 123, rfl⟩
abbrev main_v66 : Ref sig .tc := ⟨.hbm, 124, rfl⟩
abbrev main_c_35 : Ref sig .tc := ⟨.hbm, 125, rfl⟩
abbrev main_v67 : Ref sig .tc := ⟨.hbm, 126, rfl⟩
abbrev main_v68 : Ref sig .tc := ⟨.hbm, 127, rfl⟩
abbrev main_c_36 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_c_37 : Ref sig .tc := ⟨.hbm, 132, rfl⟩
abbrev main_v72 : Ref sig .tc := ⟨.hbm, 133, rfl⟩
abbrev main_v73 : Ref sig .tc := ⟨.hbm, 134, rfl⟩
abbrev main_c_38 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_cst_39 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_c_40 : Ref sig .tc := ⟨.hbm, 182, rfl⟩
abbrev main_v119 : Ref sig .tc := ⟨.hbm, 183, rfl⟩
abbrev main_v120 : Ref sig .tc := ⟨.hbm, 184, rfl⟩
abbrev main_c_41 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_c_42 : Ref sig .tc := ⟨.hbm, 194, rfl⟩
abbrev main_v129 : Ref sig .tc := ⟨.hbm, 195, rfl⟩
abbrev main_c_43 : Ref sig .tc := ⟨.hbm, 196, rfl⟩
abbrev main_v130 : Ref sig .tc := ⟨.hbm, 197, rfl⟩
abbrev main_v131 : Ref sig .tc := ⟨.hbm, 198, rfl⟩
abbrev main_c_44 : Ref sig .tc := ⟨.hbm, 199, rfl⟩
abbrev main_v132 : Ref sig .tc := ⟨.hbm, 200, rfl⟩
abbrev main_v133 : Ref sig .tc := ⟨.hbm, 201, rfl⟩
abbrev main_c_45 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_cst_46 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_c_47 : Ref sig .tc := ⟨.hbm, 216, rfl⟩
abbrev main_v146 : Ref sig .tc := ⟨.hbm, 217, rfl⟩
abbrev main_v147 : Ref sig .tc := ⟨.hbm, 218, rfl⟩
abbrev main_c_48 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_c_49 : Ref sig .tc := ⟨.hbm, 228, rfl⟩
abbrev main_v156 : Ref sig .tc := ⟨.hbm, 229, rfl⟩
abbrev main_c_50 : Ref sig .tc := ⟨.hbm, 230, rfl⟩
abbrev main_v157 : Ref sig .tc := ⟨.hbm, 231, rfl⟩
abbrev main_v158 : Ref sig .tc := ⟨.hbm, 232, rfl⟩
abbrev main_c_51 : Ref sig .tc := ⟨.hbm, 233, rfl⟩
abbrev main_v159 : Ref sig .tc := ⟨.hbm, 234, rfl⟩
abbrev main_v160 : Ref sig .tc := ⟨.hbm, 235, rfl⟩
abbrev main_c_52 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168_0 : Ref sig .tc := ⟨.hbm, 244, rfl⟩
abbrev main_v168_1 : Ref sig .tc := ⟨.hbm, 245, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6144x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Words.lean ====
/- Packed words read at an index, and what the patterns of the four-bit codes and of the scales denote. -/
module

public import Idealize.ShloMosaic.Lib.Pointwise
public import Idealize.ShloMosaic.Lib.BitcastPair
public import Idealize.ShloMosaic.Lib.IdealHost

@[expose] public section
set_option maxRecDepth 16384
noncomputable section
open Idealize.ShloMosaic
namespace Cert.Words

/-- Words of thirty-two bits read as rows of sixteen-bit halves: row `r` is half `r % 2` of word row `r / 2`. -/
theorem bitcast_rows {R R2 C : ℕ} (x : (⟨2, ![R, C]⟩ : Shape).Idx → BitVec 32)
    (h : (⟨2, ![R, C]⟩ : Shape).Bitcasts 32 ⟨2, ![R2, C]⟩ 16) (r : Fin R2) (c : Fin C) (hr : r.val / 2 < R) :
    bitcast ⟨2, ![R2, C]⟩ 16 x h (ix2 r c) = (x (ix2 ⟨r.val / 2, hr⟩ c)).extractLsb' (16 * (r.val % 2)) 16 := by
  rw [bitcast_32_16]
  have hrow : (⟨2, ![R2, C]⟩ : Shape).row (ix2 r c) = r.val := rfl
  congr 2
  funext a
  match a with
  | ⟨0, _⟩ => apply Fin.ext; rw [Shape.Bitcasts.srcIdx_row _ _ _ _ _ rfl]; rfl
  | ⟨1, _⟩ => apply Fin.ext; rw [Shape.Bitcasts.srcIdx_other _ _ _ _ _ (by simp)]; rfl

/-- The number of a sign-magnitude code of four bits, two of exponent and one of fraction, as bf16 bits. -/
def codeBits (n : BitVec 4) : BitVec 16 :=
  match n.toNat with
  | 0 => 0x0000#16 | 1 => 0x3F00#16 | 2 => 0x3F80#16 | 3 => 0x3FC0#16
  | 4 => 0x4000#16 | 5 => 0x4040#16 | 6 => 0x4080#16 | 7 => 0x40C0#16
  | 8 => 0x8000#16 | 9 => 0xBF00#16 | 10 => 0xBF80#16 | 11 => 0xBFC0#16
  | 12 => 0xC000#16 | 13 => 0xC040#16 | 14 => 0xC080#16 | _ => 0xC0C0#16

/-- The number a code of four bits denotes. -/
def code (n : BitVec 4) : EReal := Ideal.ofBits .bf16 (codeBits n)

/-- The power of two an exponent byte denotes (0 at byte 0, infinity at byte 255). -/
def scale (e : BitVec 8) : EReal := Ideal.ofBits .bf16 (e.setWidth 16 <<< 7)

/-- The negated pattern denotes the negated number. -/
theorem ofBits_neg_bf16 (b : BitVec 16) (h1 : b.extractLsb' 15 1 = 0#1) (h2 : b.extractLsb' 7 8 ≠ 255#8) :
    Ideal.ofBits .bf16 (b ||| 0x8000#16) = -Ideal.ofBits .bf16 b := by
  have e1 : (b ||| 0x8000#16).extractLsb' 15 1 = 1#1 := by
    apply BitVec.eq_of_getLsbD_eq; intro i hi; interval_cases i; simp
  have e2 : (b ||| 0x8000#16).extractLsb' 7 8 = b.extractLsb' 7 8 := by
    apply BitVec.eq_of_getLsbD_eq; intro i hi; interval_cases i <;> simp
  have e3 : (b ||| 0x8000#16).extractLsb' 0 7 = b.extractLsb' 0 7 := by
    apply BitVec.eq_of_getLsbD_eq; intro i hi; interval_cases i <;> simp
  have h2' : (b.extractLsb' 7 8).toNat ≠ 255 := fun h => h2 (BitVec.eq_of_toNat_eq h)
  simp only [Ideal.ofBits, Ideal.ieee, Nat.reduceAdd, e1, e2, e3, h1, Nat.reducePow, Nat.reduceSub, h2', ↓reduceIte,
    Nat.add_comm]
  split
  · simp [← EReal.coe_neg, -EReal.coe_mul]
  · simp [← EReal.coe_neg, -EReal.coe_mul]
    ring

/-- A bf16 pattern over sixteen zero bits, read as a single, denotes the same number. -/
theorem ofBits_widen (b : BitVec 16) (w : BitVec 32) (hw : w.toNat = b.toNat * 65536) :
    Ideal.ofBits .f32 w = Ideal.ofBits .bf16 b := by
  have e1 : w.extractLsb' 31 1 = b.extractLsb' 15 1 := by
    apply BitVec.eq_of_toNat_eq
    simp only [BitVec.extractLsb'_toNat, Nat.shiftRight_eq_div_pow, hw]; omega
  have e2 : w.extractLsb' 23 8 = b.extractLsb' 7 8 := by
    apply BitVec.eq_of_toNat_eq
    simp only [BitVec.extractLsb'_toNat, Nat.shiftRight_eq_div_pow, hw]; omega
  have e4 : (w.extractLsb' 0 23).toNat = (b.extractLsb' 0 7).toNat * 65536 := by
    simp only [BitVec.extractLsb'_toNat, Nat.shiftRight_eq_div_pow, hw]; omega
  simp only [Ideal.ofBits, Ideal.ieee, Nat.reduceAdd, e1, e2, e4]
  generalize (b.extractLsb' 0 7).toNat = f
  generalize (b.extractLsb' 7 8).toNat = x
  have p1 : (2 : ℝ) ^ (1 - ((2 : ℤ) ^ (8 - 1) - 1) - (7 : ℕ)) = 65536 * (2 : ℝ) ^ (1 - ((2 : ℤ) ^ (8 - 1) - 1) - (23 : ℕ)) := by
    norm_num
  have p2 : (2 : ℝ) ^ ((x : ℤ) - ((2 : ℤ) ^ (8 - 1) - 1) - (7 : ℕ)) = 65536 * (2 : ℝ) ^ ((x : ℤ) - ((2 : ℤ) ^ (8 - 1) - 1) - (23 : ℕ)) := by
    rw [show (65536 : ℝ) = (2 : ℝ) ^ (16 : ℤ) by norm_num, ← zpow_add₀ (by norm_num)]
    congr 1; push_cast; ring
  simp only [p1, p2]
  have hf : f * 65536 = 0 ↔ f = 0 := by omega
  simp only [hf]
  split
  · rfl
  split
  · congr 1; push_cast; ring
  · congr 1; push_cast; ring

/-- The two codes of a packed byte: half 0 is the low nibble, half 1 the high nibble. -/
def nib (b : BitVec 8) (p : ℕ) : BitVec 4 := if p = 0 then b.extractLsb' 0 4 else b.extractLsb' 4 4

/-- The weight a packed byte and a scale byte stand for at half `p`: the code's value times the power of two. -/
def weight (b : BitVec 8) (e : BitVec 8) (p : ℕ) : Ideal .bf16 := code (nib b p) * scale e

/-- The kernel's integer decode: the word made of a byte's two codes has, in half `p`, the bf16 bits of code `p`. -/
theorem decode_half (b : BitVec 8) (p : Fin 2) : BitVec.extractLsb' (16 * p.val) 16
    (IntOp.ori
      (IntOp.ori (Scalar.select (IntOp.cmpi .sgt (IntOp.andi (IntOp.andi (b.setWidth 32) 15#32) 7#32) 1#32)
          (IntOp.addi 16128#32 (IntOp.muli (IntOp.andi (IntOp.andi (b.setWidth 32) 15#32) 7#32) 64#32))
          (IntOp.muli (IntOp.andi (IntOp.andi (b.setWidth 32) 15#32) 7#32) 16128#32))
        (IntOp.shli .vector (IntOp.andi (IntOp.andi (b.setWidth 32) 15#32) 8#32) 12#32))
      (IntOp.shli .vector
        (IntOp.ori (Scalar.select (IntOp.cmpi .sgt (IntOp.andi (IntOp.shrsi .vector (b.setWidth 32) 4#32) 7#32) 1#32)
            (IntOp.addi 16128#32 (IntOp.muli (IntOp.andi (IntOp.shrsi .vector (b.setWidth 32) 4#32) 7#32) 64#32))
            (IntOp.muli (IntOp.andi (IntOp.shrsi .vector (b.setWidth 32) 4#32) 7#32) 16128#32))
          (IntOp.shli .vector (IntOp.andi (IntOp.shrsi .vector (b.setWidth 32) 4#32) 8#32) 12#32)) 16#32))
      = codeBits (nib b p.val) := by
  revert b p; decide +kernel

/-- A scale byte times `0x800080` puts the bf16 bits of its power of two in both halves of the word. -/
theorem scale_half (e : BitVec 8) (p : Fin 2) :
    BitVec.extractLsb' (16 * p.val) 16 (IntOp.muli (e.setWidth 32) 8388736#32) = e.setWidth 16 <<< 7 := by
  revert e p; decide +kernel

/-- Bit `i` of a word, as the table of the reference tests it. -/
def bitSet (n : BitVec 32) (i : BitVec 32) : BitVec 1 := IntOp.cmpi .ne (IntOp.andi (IntOp.shrsi .host n i) 1#32) 0#32

/-- The magnitude of a code, looked up as the reference does: one select per bit. -/
def tableMagnitude (n : BitVec 32) : Ideal .bf16 :=
  Scalar.select (bitSet n 2#32)
    (Scalar.select (bitSet n 1#32)
      (Scalar.select (bitSet n 0#32) (Ideal.ofBits .bf16 16576#16) (Ideal.ofBits .bf16 16512#16))
      (Scalar.select (bitSet n 0#32) (Ideal.ofBits .bf16 16448#16) (Ideal.ofBits .bf16 16384#16)))
    (Scalar.select (bitSet n 1#32)
      (Scalar.select (bitSet n 0#32) (Ideal.ofBits .bf16 16320#16) 1)
      (Scalar.select (bitSet n 0#32) (Ideal.ofBits .bf16 16128#16) 0))

/-- The value of a code, as the reference states it: the magnitude, negated where the sign bit is set. -/
def tableCode (n : BitVec 32) : Ideal .bf16 :=
  Scalar.select (IntOp.cmpi .ne (IntOp.andi n 8#32) 0#32) (-tableMagnitude n) (tableMagnitude n)

theorem low_nibble (b : BitVec 8) : IntOp.andi (b.setWidth 32) 15#32 = (nib b 0).setWidth 32 := by
  revert b; decide +kernel
theorem high_nibble (b : BitVec 8) : IntOp.shrsi .host (b.setWidth 32) 4#32 = (nib b 1).setWidth 32 := by
  revert b; decide +kernel

/-- The bits of the magnitude the table selects. -/
def magnitudeBits (n : BitVec 32) : BitVec 16 :=
  Scalar.select (bitSet n 2#32)
    (Scalar.select (bitSet n 1#32)
      (Scalar.select (bitSet n 0#32) 16576#16 16512#16) (Scalar.select (bitSet n 0#32) 16448#16 16384#16))
    (Scalar.select (bitSet n 1#32)
      (Scalar.select (bitSet n 0#32) 16320#16 16256#16) (Scalar.select (bitSet n 0#32) 16128#16 0#16))

theorem ofBits_select (c : BitVec 1) (a b : BitVec 16) :
    Scalar.select c (Ideal.ofBits .bf16 a) (Ideal.ofBits .bf16 b) = Ideal.ofBits .bf16 (Scalar.select c a b) := by
  unfold Scalar.select; split <;> rfl

theorem tableMagnitude_eq (n : BitVec 32) : tableMagnitude n = Ideal.ofBits .bf16 (magnitudeBits n) := by
  unfold tableMagnitude
  rw [show (0 : Ideal .bf16) = Ideal.ofBits .bf16 0#16 by simp, show (1 : Ideal .bf16) = Ideal.ofBits .bf16 16256#16 by simp]
  simp only [ofBits_select]
  rfl

theorem magnitudeBits_fields : ∀ n : BitVec 4, (magnitudeBits (n.setWidth 32)).extractLsb' 15 1 = 0#1
    ∧ (magnitudeBits (n.setWidth 32)).extractLsb' 7 8 ≠ 255#8
    ∧ Scalar.select (IntOp.cmpi .ne (IntOp.andi (n.setWidth 32) 8#32) 0#32) (magnitudeBits (n.setWidth 32) ||| 0x8000#16)
        (magnitudeBits (n.setWidth 32)) = codeBits n := by decide +kernel

/-- The table gives each code the number its bits denote. -/
theorem tableCode_eq (n : BitVec 4) : tableCode (n.setWidth 32) = code n := by
  obtain ⟨h1, h2, h3⟩ := magnitudeBits_fields n
  unfold tableCode code
  rw [tableMagnitude_eq, ← ofBits_neg_bf16 _ h1 h2, ofBits_select, h3]

/-- The reference's power of two, a scale byte placed in the exponent field of an f32 word. -/
theorem scale_word (e : BitVec 8) : Ideal.ofBits .f32 (IntOp.shli .host (e.setWidth 32) 23#32) = scale e :=
  ofBits_widen _ _ (by revert e; decide +kernel)

/-- The whole product, at a row and a column: the activation halves times the weights, summed over the 7168 rows of
    weights. Row `r` of the activations is half `r % 2` of word row `r / 2`. -/
def product (x : (⟨2, ![3072, 7168]⟩ : Shape).Idx → BitVec 32) (w : (⟨2, ![3584, 8192]⟩ : Shape).Idx → BitVec 8)
    (e : (⟨2, ![224, 8192]⟩ : Shape).Idx → BitVec 8) (r : Fin 6144) (c : Fin 8192) : Ideal .bf16 :=
  ∑ k : Fin 7168, Ideal.ofBits .bf16 (BitVec.extractLsb' (16 * (r.val % 2)) 16 (x (ix2 ⟨r.val / 2, by omega⟩ k)))
    * weight (w (ix2 ⟨k.val / 2, by omega⟩ c)) (e (ix2 ⟨k.val / 2 / 16, by omega⟩ c)) (k.val % 2)

/-- The product of the output projection, at a row and a column: the activation halves times the weights, summed over the 2048 rows of
    weights. Row `r` of the activations is half `r % 2` of word row `r / 2`. -/
def oProduct (x : (⟨2, ![3072, 2048]⟩ : Shape).Idx → BitVec 32) (w : (⟨2, ![1024, 8192]⟩ : Shape).Idx → BitVec 8)
    (e : (⟨2, ![64, 8192]⟩ : Shape).Idx → BitVec 8) (r : Fin 6144) (c : Fin 8192) : Ideal .bf16 :=
  ∑ k : Fin 2048, Ideal.ofBits .bf16 (BitVec.extractLsb' (16 * (r.val % 2)) 16 (x (ix2 ⟨r.val / 2, by omega⟩ k)))
    * weight (w (ix2 ⟨k.val / 2, by omega⟩ c)) (e (ix2 ⟨k.val / 2 / 16, by omega⟩ c)) (k.val % 2)

end Cert.Words
-- ==== Proof.Trip.lean ====
/-
  WHAT ONE TRIP OF THE DECODE LOOP STORES. A trip decodes a strip of 128 packed rows (256 rows of codes) and stores, for
  each of its eight scale rows, the 16 row pairs that scale covers. Every store's payload, at row pair `r`, half `p` and
  column `c`, is the code's value times the value of half `p` of the scale word.
-/
module

public import proofs.«01_k».proof.Proof.Gen.KernelIdeal.Frame
public import proofs.«01_k».proof.Proof.Words
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Words

/-- The decoded codes of a strip of 128 packed rows. -/
theorem codes_at (w : Vec Ideal S128x512 .i8) (r : Fin 256) (c : Fin 512) :
    k0_pay7 (F := Ideal) (k0_pay5 w) (k0_pay6 w) (ix2 r c)
      = code (nib (w (ix2 ⟨r.val / 2, by omega⟩ c)) (r.val % 2)) := by
  pointwise [k0_pay7, k0_pay5, k0_pay6, k0_pay4]
  rw [bitcast_rows _ bitcasts_S128x512_w32_S256x512_w16 _ _ (by omega)]
  pointwise
  exact congrArg _ (decode_half _ ⟨r.val % 2, by omega⟩)

/-- What the store of scale row `g` holds at row pair `r`, half `p`, column `c`. -/
def scaled (v : Vec Ideal S256x512 .bf16) (s : Vec Ideal S8x512 .i32) (g : Fin 8) (r : Fin 16) (p : Fin 2) (c : Fin 512) :
    Ideal .bf16 :=
  v (ix2 ⟨32 * g.val + (2 * r.val + p.val), by omega⟩ c) * Ideal.ofBits .bf16 (BitVec.extractLsb' (16 * p.val) 16 (s (ix2 g c)))

theorem store0 (a b : Vec Ideal S128x512 .i32) (s : Vec Ideal S8x512 .i32) (r : Fin 16) (p : Fin 2) (c : Fin 512) :
    k0_pay8 (F := Ideal) a b s (ix3 r p c) = scaled (k0_pay7 (F := Ideal) a b) s 0 r p c := by
  pointwise [k0_pay8]
  rw [bitcast_rows _ bitcasts_S16x512_w32_S32x512_w16 _ _ (by show (2 * r.val) / 2 < 16; omega),
    bitcast_rows _ bitcasts_S16x512_w32_S32x512_w16 _ _ (by show (2 * r.val + 1) / 2 < 16; omega)]
  pointwise
  fin_cases p
  · simp [scaled]
  · simp [scaled, Nat.add_mod]

theorem store1 (a b : Vec Ideal S128x512 .i32) (s : Vec Ideal S8x512 .i32) (r : Fin 16) (p : Fin 2) (c : Fin 512) :
    k0_pay9 (F := Ideal) a b s (ix3 r p c) = scaled (k0_pay7 (F := Ideal) a b) s 1 r p c := by
  pointwise [k0_pay9]
  rw [bitcast_rows _ bitcasts_S16x512_w32_S32x512_w16 _ _ (by show (2 * r.val) / 2 < 16; omega),
    bitcast_rows _ bitcasts_S16x512_w32_S32x512_w16 _ _ (by show (2 * r.val + 1) / 2 < 16; omega)]
  pointwise
  fin_cases p
  · simp [scaled]
  · simp [scaled, Nat.add_mod]

theorem store2 (v : Vec Ideal S256x512 .bf16) (s : Vec Ideal S8x512 .i32) (r : Fin 16) (p : Fin 2) (c : Fin 512) :
    k0_pay11 (F := Ideal) v (k0_pay10 s) (ix3 r p c) = scaled v s 2 r p c := by
  pointwise [k0_pay11, k0_pay10]
  rw [bitcast_rows _ bitcasts_S16x512_w32_S32x512_w16 _ _ (by show (2 * r.val) / 2 < 16; omega),
    bitcast_rows _ bitcasts_S16x512_w32_S32x512_w16 _ _ (by show (2 * r.val + 1) / 2 < 16; omega)]
  pointwise
  fin_cases p
  · simp [scaled]
  · simp [scaled, Nat.add_mod]

theorem store3 (v : Vec Ideal S256x512 .bf16) (s : Vec Ideal S8x512 .i32) (r : Fin 16) (p : Fin 2) (c : Fin 512) :
    k0_pay12 (F := Ideal) v s (ix3 r p c) = scaled v s 3 r p c := by
  pointwise [k0_pay12]
  rw [bitcast_rows _ bitcasts_S16x512_w32_S32x512_w16 _ _ (by show (2 * r.val) / 2 < 16; omega),
    bitcast_rows _ bitcasts_S16x512_w32_S32x512_w16 _ _ (by show (2 * r.val + 1) / 2 < 16; omega)]
  pointwise
  fin_cases p
  · simp [scaled]
  · simp [scaled, Nat.add_mod]

theorem store4 (v : Vec Ideal S256x512 .bf16) (s : Vec Ideal S8x512 .i32) (r : Fin 16) (p : Fin 2) (c : Fin 512) :
    k0_pay16 (F := Ideal) (k0_pay14 v s) (k0_pay15 v s) (ix3 r p c) = scaled v s 4 r p c := by
  pointwise [k0_pay16, k0_pay14, k0_pay15, k0_pay13]
  rw [bitcast_rows _ bitcasts_S16x512_w32_S32x512_w16 _ _ (by show (2 * r.val) / 2 < 16; omega),
    bitcast_rows _ bitcasts_S16x512_w32_S32x512_w16 _ _ (by show (2 * r.val + 1) / 2 < 16; omega)]
  pointwise
  fin_cases p
  · simp [scaled]
  · simp [scaled, Nat.add_mod]

theorem store5 (v : Vec Ideal S256x512 .bf16) (s : Vec Ideal S8x512 .i32) (r : Fin 16) (p : Fin 2) (c : Fin 512) :
    k0_pay17 (F := Ideal) v s (ix3 r p c) = scaled v s 5 r p c := by
  pointwise [k0_pay17]
  rw [bitcast_rows _ bitcasts_S16x512_w32_S32x512_w16 _ _ (by show (2 * r.val) / 2 < 16; omega),
    bitcast_rows _ bitcasts_S16x512_w32_S32x512_w16 _ _ (by show (2 * r.val + 1) / 2 < 16; omega)]
  pointwise
  fin_cases p
  · simp [scaled]
  · simp [scaled, Nat.add_mod]

theorem store6 (v : Vec Ideal S256x512 .bf16) (s : Vec Ideal S8x512 .i32) (r : Fin 16) (p : Fin 2) (c : Fin 512) :
    k0_pay18 (F := Ideal) v s (ix3 r p c) = scaled v s 6 r p c := by
  pointwise [k0_pay18]
  rw [bitcast_rows _ bitcasts_S16x512_w32_S32x512_w16 _ _ (by show (2 * r.val) / 2 < 16; omega),
    bitcast_rows _ bitcasts_S16x512_w32_S32x512_w16 _ _ (by show (2 * r.val + 1) / 2 < 16; omega)]
  pointwise
  fin_cases p
  · simp [scaled]
  · simp [scaled, Nat.add_mod]

theorem store7 (v : Vec Ideal S256x512 .bf16) (s : Vec Ideal S8x512 .i32) (r : Fin 16) (p : Fin 2) (c : Fin 512) :
    k0_pay2 (F := Ideal) v (k0_pay19 s) (ix3 r p c) = scaled v s 7 r p c := by
  pointwise [k0_pay2, k0_pay19]
  rw [bitcast_rows _ bitcasts_S16x512_w32_S32x512_w16 _ _ (by show (2 * r.val) / 2 < 16; omega),
    bitcast_rows _ bitcasts_S16x512_w32_S32x512_w16 _ _ (by show (2 * r.val + 1) / 2 < 16; omega)]
  pointwise
  fin_cases p
  · simp [scaled]
  · simp [scaled, Nat.add_mod]

end Cert.KernelIdeal.Value
-- ==== Proof.Loop.lean ====
/-
  WHAT THE SCRATCH HOLDS AFTER THE DECODE LOOP. The 28 trips store 28·8 pieces of 16 row pairs: together they cover the
  scratch, and every one of them agrees with ONE function of the packed weights and the scale words (`held`).
-/
module

public import proofs.«01_k».proof.Proof.Trip

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Words

/-- The decoded weights of a block: row pair, half and column to a number. -/
def held (w : Vec Ideal S3584x512 .i8) (s : Vec Ideal S224x512 .i32) (y : S3584x2x512.Idx) : Ideal .bf16 :=
  code (nib (w (ix2 (y 0) (y 2))) (y 1).val)
    * Ideal.ofBits .bf16 (BitVec.extractLsb' (16 * (y 1).val) 16 (s (ix2 ⟨(y 0).val / 16, by have := (y 0).isLt; have h : S3584x2x512.size 0 = 3584 := rfl; omega⟩ (y 2))))

theorem off1 : ∀ k : Fin k0_t1_loop.trips, k0_off1 k = ![128 * k.val, 0] := by decide +kernel
theorem off2 : ∀ k : Fin k0_t1_loop.trips, k0_off2 k = ![8 * k.val, 0] := by decide +kernel
theorem off3 : ∀ (k : Fin k0_t1_loop.trips) (g : Fin 8),
    k0_off3 k (BitVec.ofNat 32 (16 * g.val)) = ![128 * k.val + 16 * g.val, 0, 0] := by decide +kernel
theorem trips_eq : k0_t1_loop.trips = 28 := by decide +kernel

/-- A piece whose payload is scale row `g` of trip `k`'s strip agrees with `held`. -/
theorem piece_agrees {κ κ' sp sp'} (v3 : View sig κ sp S3584x512 .i8) (v6 : View sig κ' sp' S224x512 .i32)
    (X3 : v3.ty.Contents (Elt Ideal)) (X6 : v6.ty.Contents (Elt Ideal))
    (k : Fin k0_t1_loop.trips) (g : Fin 8)
    (inb3 : ∀ a, k0_off3 k (BitVec.ofNat 32 (16 * g.val)) a + S16x2x512.size a ≤ S3584x2x512.size a)
    (inb1 : ∀ a, k0_off1 k a + S128x512.size a ≤ S3584x512.size a)
    (inb2 : ∀ a, k0_off2 k a + S8x512.size a ≤ S224x512.size a)
    (pay : Vec Ideal S16x2x512 .bf16)
    (hp : ∀ r p c, pay (ix3 r p c) = scaled
      (k0_pay7 (F := Ideal)
        (k0_pay5 (v3.readAt (Elt Ideal) (Rect.unit (s := S3584x512) (k0_off1 k) S128x512.size inb1).toLoadRect X3))
        (k0_pay6 (v3.readAt (Elt Ideal) (Rect.unit (s := S3584x512) (k0_off1 k) S128x512.size inb1).toLoadRect X3)))
      (v6.readAt (Elt Ideal) (Rect.unit (s := S224x512) (k0_off2 k) S8x512.size inb2).toLoadRect X6) g r p c)
    (x : S16x2x512.Idx) :
    pay x = held (v3.read (Elt Ideal) X3) (v6.read (Elt Ideal) X6)
      ((Rect.unit (s := S3584x2x512) (k0_off3 k (BitVec.ofNat 32 (16 * g.val))) S16x2x512.size inb3).emb x) := by
  obtain ⟨r, p, c, rfl⟩ : ∃ (r : Fin 16) (p : Fin 2) (c : Fin 512), x = ix3 r p c :=
    ⟨x 0, x 1, x 2, funext fun a => by match a with | ⟨0, _⟩ => rfl | ⟨1, _⟩ => rfl | ⟨2, _⟩ => rfl⟩
  have hk : k.val < 28 := lt_of_lt_of_eq k.isLt trips_eq
  have hy : (Rect.unit (s := S3584x2x512) (k0_off3 k (BitVec.ofNat 32 (16 * g.val))) S16x2x512.size inb3).emb (ix3 r p c)
      = ix3 (⟨128 * k.val + 16 * g.val + r.val, by omega⟩ : Fin 3584) p c := by
    funext a
    apply Fin.ext
    refine (Rect.idx_unit_val _ _ inb3 _ a).trans ?_
    refine (congrArg (· + _) (congrFun (off3 k g) a)).trans ?_
    match a with
    | ⟨0, _⟩ => rfl
    | ⟨1, _⟩ => exact Nat.zero_add _
    | ⟨2, _⟩ => exact Nat.zero_add _
  rw [hp, scaled, codes_at, hy, View.readAt_eq_ld, View.readAt_eq_ld,
    View.ld_unit_apply_of _ _ _ _ _ (ix2 (⟨128 * k.val + 16 * g.val + r.val, by omega⟩ : Fin 3584) c) ?_,
    View.ld_unit_apply_of _ _ _ _ _ (ix2 (⟨8 * k.val + g.val, by omega⟩ : Fin 224) c) ?_]
  · show code (nib _ _) * _ = code (nib _ _) * _
    have e1 : (32 * g.val + (2 * r.val + p.val)) % 2 = p.val := by omega
    have e2 : (⟨8 * k.val + g.val, by omega⟩ : Fin 224) = ⟨(128 * k.val + 16 * g.val + r.val) / 16, by omega⟩ :=
      Fin.ext (show 8 * k.val + g.val = (128 * k.val + 16 * g.val + r.val) / 16 by omega)
    simp only [e1, e2]
    rfl
  · intro a
    refine Eq.trans ?_ (congrArg (· + _) (congrFun (off2 k) a).symm)
    match a with
    | ⟨0, _⟩ => rfl
    | ⟨1, _⟩ => exact (Nat.zero_add _).symm
  · intro a
    refine Eq.trans ?_ (congrArg (· + _) (congrFun (off1 k) a).symm)
    match a with
    | ⟨0, _⟩ => show 128 * k.val + 16 * g.val + r.val = 128 * k.val + (32 * g.val + (2 * r.val + p.val)) / 2; omega
    | ⟨1, _⟩ => exact (Nat.zero_add _).symm

section Loop

variable (𝒱 : Variants) (c : Dev nD) (bd : Option 𝒱.V) (i : grid0.Coords)
  (arg2 : Memref sig .tc .vmem S512x7168 .i32) (harg2 : arg2.IsWhole)
  (arg3 : Memref sig .tc .vmem S3584x512 .i8) (harg3 : arg3.IsWhole)
  (arg4 : Memref sig .tc .vmem S224x512 .i8) (harg4 : arg4.IsWhole)
  (arg5 : Memref sig .tc .vmem S1024x512 .bf16) (harg5 : arg5.IsWhole)
  (arg6 : Memref sig .tc .vmem S224x512 .i32) (harg6 : arg6.IsWhole)
  (arg7 : Memref sig .tc .vmem S3584x2x512 .bf16) (harg7 : arg7.IsWhole)
  (X3 : arg3.view.ty.Contents (Elt Ideal)) (X6 : arg6.view.ty.Contents (Elt Ideal))

/-- Every piece of a trip agrees with `held`. -/
theorem trip_agrees (k : Fin k0_t1_loop.trips) :
    ∀ q ∈ tripL_k0_t1 (F := Ideal) 𝒱 c bd i arg2 harg2 arg3 harg3 arg4 harg4 arg5 harg5 arg6 harg6 arg7 harg7 X3 X6 k,
      ∀ x : q.1.shape.Idx, q.2 x = held (arg3.view.read (Elt Ideal) X3) (arg6.view.read (Elt Ideal) X6) (q.1.emb x) := by
  unfold tripL_k0_t1 trip_k0_t1
  simp only [List.forall_mem_cons]
  refine ⟨?_, ?_, ?_, ?_, ?_, ?_, ?_, ?_, by simp⟩
  · exact piece_agrees arg3.view arg6.view X3 X6 k 7 _ (k0_off1_inb k) (k0_off2_inb k) _ fun r p c => store7 _ _ r p c
  · exact piece_agrees arg3.view arg6.view X3 X6 k 6 _ (k0_off1_inb k) (k0_off2_inb k) _ fun r p c => store6 _ _ r p c
  · exact piece_agrees arg3.view arg6.view X3 X6 k 5 _ (k0_off1_inb k) (k0_off2_inb k) _ fun r p c => store5 _ _ r p c
  · exact piece_agrees arg3.view arg6.view X3 X6 k 4 _ (k0_off1_inb k) (k0_off2_inb k) _ fun r p c => store4 _ _ r p c
  · exact piece_agrees arg3.view arg6.view X3 X6 k 3 _ (k0_off1_inb k) (k0_off2_inb k) _ fun r p c => store3 _ _ r p c
  · exact piece_agrees arg3.view arg6.view X3 X6 k 2 _ (k0_off1_inb k) (k0_off2_inb k) _ fun r p c => store2 _ _ r p c
  · exact piece_agrees arg3.view arg6.view X3 X6 k 1 _ (k0_off1_inb k) (k0_off2_inb k) _ fun r p c => store1 _ _ _ r p c
  · exact piece_agrees arg3.view arg6.view X3 X6 k 0 _ (k0_off1_inb k) (k0_off2_inb k) _ fun r p c => store0 _ _ _ r p c

/-- Trip `k` covers row pairs `128 k` to `128 k + 127`. -/
theorem trip_covers (k : Fin k0_t1_loop.trips) (y : S3584x2x512.Idx) (hy : (y 0).val / 128 = k.val) :
    ∃ q ∈ tripL_k0_t1 (F := Ideal) 𝒱 c bd i arg2 harg2 arg3 harg3 arg4 harg4 arg5 harg5 arg6 harg6 arg7 harg7 X3 X6 k,
      y ∈ q.1.set := by
  have key : ∀ (g : Fin 8) (inb : ∀ a, k0_off3 k (BitVec.ofNat 32 (16 * g.val)) a + S16x2x512.size a ≤ S3584x2x512.size a),
      (y 0).val % 128 / 16 = g.val →
      y ∈ (Rect.unit (s := S3584x2x512) (k0_off3 k (BitVec.ofNat 32 (16 * g.val))) S16x2x512.size inb).set := by
    intro g inb hg
    rw [Rect.mem_set_unit]
    intro a
    rw [off3]
    match a with
    | ⟨0, _⟩ =>
      show 128 * k.val + 16 * g.val ≤ (y 0).val ∧ (y 0).val < 128 * k.val + 16 * g.val + 16
      omega
    | ⟨1, _⟩ => exact ⟨Nat.zero_le _, lt_of_lt_of_eq (y 1).isLt (Nat.zero_add 2).symm⟩
    | ⟨2, _⟩ => exact ⟨Nat.zero_le _, lt_of_lt_of_eq (y 2).isLt (Nat.zero_add 512).symm⟩
  unfold tripL_k0_t1 trip_k0_t1
  simp only [List.exists_mem_cons_iff]
  have h8 : (y 0).val % 128 / 16 < 8 := by omega
  interval_cases h : (y 0).val % 128 / 16
  · iterate 7 right
    exact Or.inl (key 0 _ rfl)
  · iterate 6 right
    exact Or.inl (key 1 _ rfl)
  · iterate 5 right
    exact Or.inl (key 2 _ rfl)
  · iterate 4 right
    exact Or.inl (key 3 _ rfl)
  · iterate 3 right
    exact Or.inl (key 4 _ rfl)
  · iterate 2 right
    exact Or.inl (key 5 _ rfl)
  · right
    exact Or.inl (key 6 _ rfl)
  · exact Or.inl (key 7 _ rfl)

/-- Every piece of the first `n` trips agrees with `held`. -/
theorem loop_agrees : ∀ n, n ≤ k0_t1_loop.trips →
    ∀ q ∈ pb_k0_t1 (F := Ideal) 𝒱 c bd i arg2 harg2 arg3 harg3 arg4 harg4 arg5 harg5 arg6 harg6 arg7 harg7 X3 X6 n,
      ∀ x : q.1.shape.Idx, q.2 x = held (arg3.view.read (Elt Ideal) X3) (arg6.view.read (Elt Ideal) X6) (q.1.emb x)
  | 0, _ => fun q hq => absurd hq List.not_mem_nil
  | n + 1, hn => by
    rw [pb_k0_t1_succ 𝒱 c bd i arg2 harg2 arg3 harg3 arg4 harg4 arg5 harg5 arg6 harg6 arg7 harg7 X3 X6 ⟨n, hn⟩]
    intro q hq
    rcases List.mem_append.1 hq with h | h
    · exact trip_agrees 𝒱 c bd i arg2 harg2 arg3 harg3 arg4 harg4 arg5 harg5 arg6 harg6 arg7 harg7 X3 X6 ⟨n, hn⟩ q h
    · exact loop_agrees n (by omega) q h

/-- The first `n` trips cover the row pairs below `128 n`. -/
theorem loop_covers : ∀ n, n ≤ k0_t1_loop.trips → ∀ y : S3584x2x512.Idx, (y 0).val < 128 * n →
    ∃ q ∈ pb_k0_t1 (F := Ideal) 𝒱 c bd i arg2 harg2 arg3 harg3 arg4 harg4 arg5 harg5 arg6 harg6 arg7 harg7 X3 X6 n,
      y ∈ q.1.set
  | 0, _ => fun y hy => by omega
  | n + 1, hn => by
    rw [pb_k0_t1_succ 𝒱 c bd i arg2 harg2 arg3 harg3 arg4 harg4 arg5 harg5 arg6 harg6 arg7 harg7 X3 X6 ⟨n, hn⟩]
    intro y hy
    by_cases h : (y 0).val < 128 * n
    · obtain ⟨q, hq, hm⟩ := loop_covers n (by omega) y h
      exact ⟨q, List.mem_append_right _ hq, hm⟩
    · obtain ⟨q, hq, hm⟩ := trip_covers 𝒱 c bd i arg2 harg2 arg3 harg3 arg4 harg4 arg5 harg5 arg6 harg6 arg7 harg7 X3 X6
        ⟨n, hn⟩ y (by show _ = n; omega)
      exact ⟨q, List.mem_append_left _ hq, hm⟩

/-- What the loop leaves in the scratch, whatever it held. -/
theorem canon_loop (n : ℕ) (hn : n = k0_t1_loop.trips) :
    View.canon (pb_k0_t1 (F := Ideal) 𝒱 c bd i arg2 harg2 arg3 harg3 arg4 harg4 arg5 harg5 arg6 harg6 arg7 harg7 X3 X6 n)
      = held (arg3.view.read (Elt Ideal) X3) (arg6.view.read (Elt Ideal) X6) := by
  subst hn
  funext y
  refine View.canon_apply_of_pieces _ _ (loop_agrees 𝒱 c bd i arg2 harg2 arg3 harg3 arg4 harg4 arg5 harg5 arg6 harg6 arg7 harg7 X3 X6 _ le_rfl)
    y (loop_covers 𝒱 c bd i arg2 harg2 arg3 harg3 arg4 harg4 arg5 harg5 arg6 harg6 arg7 harg7 X3 X6 _ le_rfl y ?_)
  rw [trips_eq]
  exact (y 0).isLt

end Loop

end Cert.KernelIdeal.Value
-- ==== Proof.Final.lean ====
/-
  WHAT THE KERNEL LEAVES IN ITS RESULT. A grid point's block is the product of its activation rows with its decoded weight
  columns; the 96 blocks tile the result, so the result is `product` of the three argument arrays.
-/
module

public import proofs.«01_k».proof.Proof.Loop
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Words

variable (m : (ℓ : Loc nD τ sig) → Buf (Elt Ideal) ℓ)

/-- A decoded entry of the scratch is the weight its byte and its scale stand for. -/
theorem held_at (w : Vec Ideal S3584x512 .i8) (e : Vec Ideal S224x512 .i8) (r : Fin 3584) (p : Fin 2) (c : Fin 512) :
    held w (k0_pay1 (F := Ideal) e) (ix3 r p c) = weight (w (ix2 r c)) (e (ix2 ⟨r.val / 16, by omega⟩ c)) p.val := by
  have hs : BitVec.extractLsb' (16 * p.val) 16 (k0_pay1 (F := Ideal) e (ix2 ⟨r.val / 16, by omega⟩ c)) = (e (ix2 ⟨r.val / 16, by omega⟩ c)).setWidth 16 <<< 7 := by
    pointwise [k0_pay1]
    exact scale_half _ p
  unfold weight scale
  rw [← hs]
  rfl

/-- A block of the product, from the decoded weights it is given. -/
theorem pay3_at (x : Vec Ideal S512x7168 .i32) (w : Vec Ideal S3584x2x512 .bf16) (r : Fin 1024) (c : Fin 512) :
    k0_pay3 (F := Ideal) x w (ix2 r c)
      = ∑ k : Fin 7168, Ideal.ofBits .bf16 (BitVec.extractLsb' (16 * (r.val % 2)) 16 (x (ix2 ⟨r.val / 2, by omega⟩ k)))
        * w (ix3 ⟨k.val / 2, by omega⟩ ⟨k.val % 2, by omega⟩ c) := by
  pointwise [k0_pay3]
  refine Finset.sum_congr rfl fun k _ => ?_
  rw [bitcast_rows _ bitcasts_S512x7168_w32_S1024x7168_w16 _ _ (by omega)]
  rcases Nat.mod_two_eq_zero_or_one k.val with h | h
  · rw [if_pos h, show (⟨k.val % 2, by omega⟩ : Fin 2) = 0 from Fin.ext h]
  · rw [if_neg (by omega), show (⟨k.val % 2, by omega⟩ : Fin 2) = 1 from Fin.ext h]

/-- A block of the product, from the packed weights. -/
theorem block_product (x : Vec Ideal S512x7168 .i32) (w : Vec Ideal S3584x512 .i8) (e : Vec Ideal S224x512 .i8)
    (r : Fin 1024) (c : Fin 512) : k0_pay3 (F := Ideal) x (held w (k0_pay1 (F := Ideal) e)) (ix2 r c)
      = ∑ k : Fin 7168, Ideal.ofBits .bf16 (BitVec.extractLsb' (16 * (r.val % 2)) 16 (x (ix2 ⟨r.val / 2, by omega⟩ k)))
        * weight (w (ix2 ⟨k.val / 2, by omega⟩ c)) (e (ix2 ⟨k.val / 2 / 16, by omega⟩ c)) (k.val % 2) := by
  rw [pay3_at]
  refine Finset.sum_congr rfl fun k _ => ?_
  rw [held_at]

theorem trips_word : Scf.trips (0#32) (Scalar.addi 0#32 28#32) 1#32 = k0_t1_loop.trips := rfl

/-- What a grid point computes, from its three input blocks. -/
theorem outs (c : Dev nD) (t : Fin cfg0.N) : outsAt0 m c t
    = k0_pay3 (iblk m c 0 t) (held (iblk m c 1 t) (k0_pay1 (iblk m c 2 t))) := by
  unfold outsAt0
  frame_out
  congr 1
  rw [View.readCov_eq_canon', canon_loop _ _ _ _ _ _ _ _ _ _ _ _ _ _ _ _ _ _ _ trips_word]
  rw [Memref.IsWhole.read_unread, View.read_writes_junk_eq_canon,
    View.canon_unit_zero (by funext a; fin_cases a <;> rfl)]
  funext j
  exact congrArg _ (funext fun a => Fin.ext ((Rect.idx_unit_val _ _ _ j a).trans (by
    match a with
    | ⟨0, _⟩ => exact Nat.zero_add _
    | ⟨1, _⟩ => exact Nat.zero_add _
    | ⟨2, _⟩ => exact Nat.zero_add _)))

/-- The blocks of grid point `t`: row block `t / 16`, column block `t % 16`. -/
theorem idx : ∀ t : Fin cfg0.N, win0_0.index t = ![t.val / 16, 0] ∧ win0_1.index t = ![0, t.val % 16]
    ∧ win0_2.index t = ![0, t.val % 16] ∧ win0_3.index t = ![t.val / 16, t.val % 16] :=
  (by decide +kernel : ∀ t : Fin grid0.N, win0_0.index t = ![t.val / 16, 0] ∧ win0_1.index t = ![0, t.val % 16]
    ∧ win0_2.index t = ![0, t.val % 16] ∧ win0_3.index t = ![t.val / 16, t.val % 16])

/-- What a grid point computes is its block of the product. -/
theorem point (c : Dev nD) (t : Fin cfg0.N) (a : Fin 1024) (b : Fin 512) (r : Fin 6144) (q : Fin 8192)
    (hr : r.val = t.val / 16 * 1024 + a.val) (hq : q.val = t.val % 16 * 512 + b.val) :
    k0_pay3 (iblk m c 0 t) (held (iblk m c 1 t) (k0_pay1 (iblk m c 2 t))) (ix2 a b)
      = product (m ((View.whole main_arg0).loc c.tc)) (m ((View.whole main_arg1).loc c.tc)) (m ((View.whole main_arg2).loc c.tc)) r q := by
  rw [block_product]
  refine Finset.sum_congr rfl fun k _ => ?_
  rw [show r.val % 2 = a.val % 2 by omega]
  have e0 : iblk m c 0 t (ix2 (⟨a.val / 2, by omega⟩ : Fin 512) k) = m ((View.whole main_arg0).loc c.tc) (ix2 (⟨r.val / 2, by omega⟩ : Fin 3072) k) := by
    blk_point [iblk, V, idx t]
  have e1 : iblk m c 1 t (ix2 (⟨k.val / 2, by omega⟩ : Fin 3584) b) = m ((View.whole main_arg1).loc c.tc) (ix2 (⟨k.val / 2, by omega⟩ : Fin 3584) q) := by
    blk_point [iblk, V, idx t]
  have e2 : iblk m c 2 t (ix2 (⟨k.val / 2 / 16, by omega⟩ : Fin 224) b) = m ((View.whole main_arg2).loc c.tc) (ix2 (⟨k.val / 2 / 16, by omega⟩ : Fin 224) q) := by
    blk_point [iblk, V, idx t]
  rw [e0, e1, e2]

/-- The result array ends holding the product. -/
theorem final (c : Dev nD) : (dats m 0 c).arrAt 3 (cfgs 0).N
    = fun y : S6144x8192.Idx => product (m ((View.whole main_arg0).loc c.tc)) (m ((View.whole main_arg1).loc c.tc)) (m ((View.whole main_arg2).loc c.tc)) (y 0) (y 1) := by
  refine (dats m 0 c).arrAt_eq_of_covers 3 _ (by decide +kernel) fun t _ y => ?_
  blk_simp
  rw [after0_3, outs]
  idx_vars y
  refine point m c t _ _ _ _ ?_ ?_
  · blk_simp
    simp [idx t]
  · blk_simp
    simp [idx t]

/-- The kernel's run: the result is the product, the arguments are unchanged. -/
theorem run_product (ρ : Dev nD → PrngReg) :
    θ_run defs (onTc (τ := τ) (main (F := Ideal))) ⟨m, fun _ => 0, ρ⟩ fun r => ∀ c : Dev nD,
      r.2.mem ((c.tc : Thread nD τ).loc main_v0) = (fun y : S6144x8192.Idx =>
          product (m ((c.tc : Thread nD τ).loc main_arg0)) (m ((c.tc : Thread nD τ).loc main_arg1))
            (m ((c.tc : Thread nD τ).loc main_arg2)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (run_blocks m ρ)

end Cert.KernelIdeal.Value
-- ==== Proof.Reference.lean ====
/-
  WHAT THE REFERENCE COMPUTES, AT AN INDEX: the sum over the 7168 rows of weights of an activation half times a weight.
-/
module

public import proofs.«01_k».proof.Proof.Words
public import proofs.«01_k».proof.Proof.Gen.ReferenceIdeal.Run
public import Idealize.ShloMosaic.Lib.BitcastConvert

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Words

variable (m : (ℓ : Loc nD τ sig) → Buf (Elt Ideal) ℓ)

/-- The reference's result at a row and a column. -/
theorem reference_at (c : Dev nD) (r : Fin 6144) (q : Fin 8192) :
    @Eq (Ideal .bf16) (res_main_v84 m c (ix2 r q))
      (product (m ((c.tc : Thread nD τ).loc main_arg0)) (m ((c.tc : Thread nD τ).loc main_arg1))
        (m ((c.tc : Thread nD τ).loc main_arg2)) r q) := by
  unfold product
  pointwise [res_main_v84]
  refine Finset.sum_congr rfl fun k _ => ?_
  refine congrArg₂ _ ?_ ?_
  · rw [Nat.mul_comm]
    refine congrArg (fun z => Ideal.ofBits .bf16 (BitVec.extractLsb' _ 16 z)) (congrArg _ (funext fun a => ?_))
    match a with
    | ⟨0, _⟩ => rfl
    | ⟨1, _⟩ => rfl
  split <;> rename_i h
  · have h0 : k.val % 2 = 0 := Nat.lt_one_iff.mp h
    refine Eq.trans ?_ (congrArg (weight _ _) h0.symm)
    refine congrArg₂ _ ?_ (scale_word _)
    exact (congrArg tableCode (low_nibble _)).trans (tableCode_eq _)
  · have h1 : k.val % 2 = 1 := (Nat.mod_two_eq_zero_or_one k.val).resolve_left fun h0 => h (h0 ▸ Nat.zero_lt_one)
    refine Eq.trans ?_ (congrArg (weight _ _) h1.symm)
    refine congrArg₂ _ ?_ (scale_word _)
    exact (congrArg tableCode (high_nibble _)).trans (tableCode_eq _)

/-- The reference's run: the result is the product, the arguments are unchanged. -/
theorem run_product (ρ : Dev nD → PrngReg) :
    θ_run defs (onTc (τ := τ) (main (F := Ideal))) ⟨m, fun _ => 0, ρ⟩ fun r => ∀ c : Dev nD,
      r.2.mem ((c.tc : Thread nD τ).loc main_v84) = (fun y : S6144x8192.Idx =>
          product (m ((c.tc : Thread nD τ).loc main_arg0)) (m ((c.tc : Thread nD τ).loc main_arg1))
            (m ((c.tc : Thread nD τ).loc main_arg2)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun y => by
      obtain ⟨r, q, rfl⟩ : ∃ (r : Fin 6144) (q : Fin 8192), y = ix2 r q :=
        ⟨y 0, y 1, funext fun a => by match a with | ⟨0, _⟩ => rfl | ⟨1, _⟩ => rfl⟩
      exact reference_at m c r q), (h c).2⟩) (run m ρ)

end Cert.ReferenceIdeal.Value
-- ==== Proof.OLoop.lean ====
/-
  WHAT THE SCRATCH OF THE OUTPUT PROJECTION HOLDS AFTER ITS DECODE LOOP. The 8 trips store 8·8 pieces of 16 row pairs: together they cover the
  scratch, and every one of them agrees with ONE function of the packed weights and the scale words (`held`).
-/
module

public import proofs.«01_k».proof.Proof.Trip
public import proofs.«01_k».proof.Proof.Gen.OKernelIdeal.Frame

@[expose] public section

set_option maxRecDepth 16384

noncomputable section

open Idealize.ShloMosaic Idealize.ShloMosaic.TcCoe Idealize.SL.Sem
open Idealize.ShloMosaic.Pipeline (Dat)

namespace Cert.OKernelIdeal.Value

open Cert.OKernelIdeal Cert.OKernelIdeal.Gen Cert.Words

/-- The decoded weights of a block: row pair, half and column to a number. -/
def held (w : Vec Ideal S1024x512 .i8) (s : Vec Ideal S64x512 .i32) (y : S1024x2x512.Idx) : Ideal .bf16 :=
  code (nib (w (ix2 (y 0) (y 2))) (y 1).val)
    * Ideal.ofBits .bf16 (BitVec.extractLsb' (16 * (y 1).val) 16 (s (ix2 ⟨(y 0).val / 16, by have := (y 0).isLt; have h : S1024x2x512.size 0 = 1024 := rfl; omega⟩ (y 2))))

theorem off1 : ∀ k : Fin k0_t1_loop.trips, k0_off1 k = ![128 * k.val, 0] := by decide +kernel
theorem off2 : ∀ k : Fin k0_t1_loop.trips, k0_off2 k = ![8 * k.val, 0] := by decide +kernel
theorem off3 : ∀ (k : Fin k0_t1_loop.trips) (g : Fin 8),
    k0_off3 k (BitVec.ofNat 32 (16 * g.val)) = ![128 * k.val + 16 * g.val, 0, 0] := by decide +kernel
theorem trips_eq : k0_t1_loop.trips = 8 := by decide +kernel

/-- The decoded codes of a strip: the strips of the two products have one shape. -/
theorem codes_at (w : Vec Ideal S128x512 .i8) (r : Fin 256) (c : Fin 512) :
    k0_pay7 (F := Ideal) (k0_pay5 w) (k0_pay6 w) (ix2 r c) = code (nib (w (ix2 ⟨r.val / 2, by omega⟩ c)) (r.val % 2)) :=
  KernelIdeal.Value.codes_at w r c

/-- A piece whose payload is scale row `g` of trip `k`'s strip agrees with `held`. -/
theorem piece_agrees {κ κ' sp sp'} (v3 : View sig κ sp S1024x512 .i8) (v6 : View sig κ' sp' S64x512 .i32)
    (X3 : v3.ty.Contents (Elt Ideal)) (X6 : v6.ty.Contents (Elt Ideal))
    (k : Fin k0_t1_loop.trips) (g : Fin 8)
    (inb3 : ∀ a, k0_off3 k (BitVec.ofNat 32 (16 * g.val)) a + S16x2x512.size a ≤ S1024x2x512.size a)
    (inb1 : ∀ a, k0_off1 k a + S128x512.size a ≤ S1024x512.size a)
    (inb2 : ∀ a, k0_off2 k a + S8x512.size a ≤ S64x512.size a)
    (pay : Vec Ideal S16x2x512 .bf16)
    (hp : ∀ r p c, pay (ix3 r p c) = KernelIdeal.Value.scaled
      (k0_pay7 (F := Ideal)
        (k0_pay5 (v3.readAt (Elt Ideal) (Rect.unit (s := S1024x512) (k0_off1 k) S128x512.size inb1).toLoadRect X3))
        (k0_pay6 (v3.readAt (Elt Ideal) (Rect.unit (s := S1024x512) (k0_off1 k) S128x512.size inb1).toLoadRect X3)))
      (v6.readAt (Elt Ideal) (Rect.unit (s := S64x512) (k0_off2 k) S8x512.size inb2).toLoadRect X6) g r p c)
    (x : S16x2x512.Idx) :
    pay x = held (v3.read (Elt Ideal) X3) (v6.read (Elt Ideal) X6)
      ((Rect.unit (s := S1024x2x512) (k0_off3 k (BitVec.ofNat 32 (16 * g.val))) S16x2x512.size inb3).emb x) := by
  obtain ⟨r, p, c, rfl⟩ : ∃ (r : Fin 16) (p : Fin 2) (c : Fin 512), x = ix3 r p c :=
    ⟨x 0, x 1, x 2, funext fun a => by match a with | ⟨0, _⟩ => rfl | ⟨1, _⟩ => rfl | ⟨2, _⟩ => rfl⟩
  have hk : k.val < 8 := lt_of_lt_of_eq k.isLt trips_eq
  have hy : (Rect.unit (s := S1024x2x512) (k0_off3 k (BitVec.ofNat 32 (16 * g.val))) S16x2x512.size inb3).emb (ix3 r p c)
      = ix3 (⟨128 * k.val + 16 * g.val + r.val, by omega⟩ : Fin 1024) p c := by
    funext a
    apply Fin.ext
    refine (Rect.idx_unit_val _ _ inb3 _ a).trans ?_
    refine (congrArg (· + _) (congrFun (off3 k g) a)).trans ?_
    match a with
    | ⟨0, _⟩ => rfl
    | ⟨1, _⟩ => exact Nat.zero_add _
    | ⟨2, _⟩ => exact Nat.zero_add _
  rw [hp, KernelIdeal.Value.scaled, codes_at, hy, View.readAt_eq_ld, View.readAt_eq_ld,
    View.ld_unit_apply_of _ _ _ _ _ (ix2 (⟨128 * k.val + 16 * g.val + r.val, by omega⟩ : Fin 1024) c) ?_,
    View.ld_unit_apply_of _ _ _ _ _ (ix2 (⟨8 * k.val + g.val, by omega⟩ : Fin 64) c) ?_]
  · show code (nib _ _) * _ = code (nib _ _) * _
    have e1 : (32 * g.val + (2 * r.val + p.val)) % 2 = p.val := by omega
    have e2 : (⟨8 * k.val + g.val, by omega⟩ : Fin 64) = ⟨(128 * k.val + 16 * g.val + r.val) / 16, by omega⟩ :=
      Fin.ext (show 8 * k.val + g.val = (128 * k.val + 16 * g.val + r.val) / 16 by omega)
    simp only [e1, e2]
    rfl
  · intro a
    refine Eq.trans ?_ (congrArg (· + _) (congrFun (off2 k) a).symm)
    match a with
    | ⟨0, _⟩ => rfl
    | ⟨1, _⟩ => exact (Nat.zero_add _).symm
  · intro a
    refine Eq.trans ?_ (congrArg (· + _) (congrFun (off1 k) a).symm)
    match a with
    | ⟨0, _⟩ => show 128 * k.val + 16 * g.val + r.val = 128 * k.val + (32 * g.val + (2 * r.val + p.val)) / 2; omega
    | ⟨1, _⟩ => exact (Nat.zero_add _).symm

section Loop

variable (𝒱 : Variants) (c : Dev nD) (bd : Option 𝒱.V) (i : grid0.Coords)
  (arg2 : Memref sig .tc .vmem S512x2048 .i32) (harg2 : arg2.IsWhole)
  (arg3 : Memref sig .tc .vmem S1024x512 .i8) (harg3 : arg3.IsWhole)
  (arg4 : Memref sig .tc .vmem S64x512 .i8) (harg4 : arg4.IsWhole)
  (arg5 : Memref sig .tc .vmem S1024x512 .bf16) (harg5 : arg5.IsWhole)
  (arg6 : Memref sig .tc .vmem S64x512 .i32) (harg6 : arg6.IsWhole)
  (arg7 : Memref sig .tc .vmem S1024x2x512 .bf16) (harg7 : arg7.IsWhole)
  (X3 : arg3.view.ty.Contents (Elt Ideal)) (X6 : arg6.view.ty.Contents (Elt Ideal))

/-- Every piece of a trip agrees with `held`. -/
theorem trip_agrees (k : Fin k0_t1_loop.trips) :
    ∀ q ∈ tripL_k0_t1 (F := Ideal) 𝒱 c bd i arg2 harg2 arg3 harg3 arg4 harg4 arg5 harg5 arg6 harg6 arg7 harg7 X3 X6 k,
      ∀ x : q.1.shape.Idx, q.2 x = held (arg3.view.read (Elt Ideal) X3) (arg6.view.read (Elt Ideal) X6) (q.1.emb x) := by
  unfold tripL_k0_t1 trip_k0_t1
  simp only [List.forall_mem_cons]
  refine ⟨?_, ?_, ?_, ?_, ?_, ?_, ?_, ?_, by simp⟩
  · exact piece_agrees arg3.view arg6.view X3 X6 k 7 _ (k0_off1_inb k) (k0_off2_inb k) _ fun r p c => KernelIdeal.Value.store7 _ _ r p c
  · exact piece_agrees arg3.view arg6.view X3 X6 k 6 _ (k0_off1_inb k) (k0_off2_inb k) _ fun r p c => KernelIdeal.Value.store6 _ _ r p c
  · exact piece_agrees arg3.view arg6.view X3 X6 k 5 _ (k0_off1_inb k) (k0_off2_inb k) _ fun r p c => KernelIdeal.Value.store5 _ _ r p c
  · exact piece_agrees arg3.view arg6.view X3 X6 k 4 _ (k0_off1_inb k) (k0_off2_inb k) _ fun r p c => KernelIdeal.Value.store4 _ _ r p c
  · exact piece_agrees arg3.view arg6.view X3 X6 k 3 _ (k0_off1_inb k) (k0_off2_inb k) _ fun r p c => KernelIdeal.Value.store3 _ _ r p c
  · exact piece_agrees arg3.view arg6.view X3 X6 k 2 _ (k0_off1_inb k) (k0_off2_inb k) _ fun r p c => KernelIdeal.Value.store2 _ _ r p c
  · exact piece_agrees arg3.view arg6.view X3 X6 k 1 _ (k0_off1_inb k) (k0_off2_inb k) _ fun r p c => KernelIdeal.Value.store1 _ _ _ r p c
  · exact piece_agrees arg3.view arg6.view X3 X6 k 0 _ (k0_off1_inb k) (k0_off2_inb k) _ fun r p c => KernelIdeal.Value.store0 _ _ _ r p c

/-- Trip `k` covers row pairs `128 k` to `128 k + 127`. -/
theorem trip_covers (k : Fin k0_t1_loop.trips) (y : S1024x2x512.Idx) (hy : (y 0).val / 128 = k.val) :
    ∃ q ∈ tripL_k0_t1 (F := Ideal) 𝒱 c bd i arg2 harg2 arg3 harg3 arg4 harg4 arg5 harg5 arg6 harg6 arg7 harg7 X3 X6 k,
      y ∈ q.1.set := by
  have key : ∀ (g : Fin 8) (inb : ∀ a, k0_off3 k (BitVec.ofNat 32 (16 * g.val)) a + S16x2x512.size a ≤ S1024x2x512.size a),
      (y 0).val % 128 / 16 = g.val →
      y ∈ (Rect.unit (s := S1024x2x512) (k0_off3 k (BitVec.ofNat 32 (16 * g.val))) S16x2x512.size inb).set := by
    intro g inb hg
    rw [Rect.mem_set_unit]
    intro a
    rw [off3]
    match a with
    | ⟨0, _⟩ =>
      show 128 * k.val + 16 * g.val ≤ (y 0).val ∧ (y 0).val < 128 * k.val + 16 * g.val + 16
      omega
    | ⟨1, _⟩ => exact ⟨Nat.zero_le _, lt_of_lt_of_eq (y 1).isLt (Nat.zero_add 2).symm⟩
    | ⟨2, _⟩ => exact ⟨Nat.zero_le _, lt_of_lt_of_eq (y 2).isLt (Nat.zero_add 512).symm⟩
  unfold tripL_k0_t1 trip_k0_t1
  simp only [List.exists_mem_cons_iff]
  have h8 : (y 0).val % 128 / 16 < 8 := by omega
  interval_cases h : (y 0).val % 128 / 16
  · iterate 7 right
    exact Or.inl (key 0 _ rfl)
  · iterate 6 right
    exact Or.inl (key 1 _ rfl)
  · iterate 5 right
    exact Or.inl (key 2 _ rfl)
  · iterate 4 right
    exact Or.inl (key 3 _ rfl)
  · iterate 3 right
    exact Or.inl (key 4 _ rfl)
  · iterate 2 right
    exact Or.inl (key 5 _ rfl)
  · right
    exact Or.inl (key 6 _ rfl)
  · exact Or.inl (key 7 _ rfl)

/-- Every piece of the first `n` trips agrees with `held`. -/
theorem loop_agrees : ∀ n, n ≤ k0_t1_loop.trips →
    ∀ q ∈ pb_k0_t1 (F := Ideal) 𝒱 c bd i arg2 harg2 arg3 harg3 arg4 harg4 arg5 harg5 arg6 harg6 arg7 harg7 X3 X6 n,
      ∀ x : q.1.shape.Idx, q.2 x = held (arg3.view.read (Elt Ideal) X3) (arg6.view.read (Elt Ideal) X6) (q.1.emb x)
  | 0, _ => fun q hq => absurd hq List.not_mem_nil
  | n + 1, hn => by
    rw [pb_k0_t1_succ 𝒱 c bd i arg2 harg2 arg3 harg3 arg4 harg4 arg5 harg5 arg6 harg6 arg7 harg7 X3 X6 ⟨n, hn⟩]
    intro q hq
    rcases List.mem_append.1 hq with h | h
    · exact trip_agrees 𝒱 c bd i arg2 harg2 arg3 harg3 arg4 harg4 arg5 harg5 arg6 harg6 arg7 harg7 X3 X6 ⟨n, hn⟩ q h
    · exact loop_agrees n (by omega) q h

/-- The first `n` trips cover the row pairs below `128 n`. -/
theorem loop_covers : ∀ n, n ≤ k0_t1_loop.trips → ∀ y : S1024x2x512.Idx, (y 0).val < 128 * n →
    ∃ q ∈ pb_k0_t1 (F := Ideal) 𝒱 c bd i arg2 harg2 arg3 harg3 arg4 harg4 arg5 harg5 arg6 harg6 arg7 harg7 X3 X6 n,
      y ∈ q.1.set
  | 0, _ => fun y hy => by omega
  | n + 1, hn => by
    rw [pb_k0_t1_succ 𝒱 c bd i arg2 harg2 arg3 harg3 arg4 harg4 arg5 harg5 arg6 harg6 arg7 harg7 X3 X6 ⟨n, hn⟩]
    intro y hy
    by_cases h : (y 0).val < 128 * n
    · obtain ⟨q, hq, hm⟩ := loop_covers n (by omega) y h
      exact ⟨q, List.mem_append_right _ hq, hm⟩
    · obtain ⟨q, hq, hm⟩ := trip_covers 𝒱 c bd i arg2 harg2 arg3 harg3 arg4 harg4 arg5 harg5 arg6 harg6 arg7 harg7 X3 X6
        ⟨n, hn⟩ y (by show _ = n; omega)
      exact ⟨q, List.mem_append_left _ hq, hm⟩

/-- What the loop leaves in the scratch, whatever it held. -/
theorem canon_loop (n : ℕ) (hn : n = k0_t1_loop.trips) :
    View.canon (pb_k0_t1 (F := Ideal) 𝒱 c bd i arg2 harg2 arg3 harg3 arg4 harg4 arg5 harg5 arg6 harg6 arg7 harg7 X3 X6 n)
      = held (arg3.view.read (Elt Ideal) X3) (arg6.view.read (Elt Ideal) X6) := by
  subst hn
  funext y
  refine View.canon_apply_of_pieces _ _ (loop_agrees 𝒱 c bd i arg2 harg2 arg3 harg3 arg4 harg4 arg5 harg5 arg6 harg6 arg7 harg7 X3 X6 _ le_rfl)
    y (loop_covers 𝒱 c bd i arg2 harg2 arg3 harg3 arg4 harg4 arg5 harg5 arg6 harg6 arg7 harg7 X3 X6 _ le_rfl y ?_)
  rw [trips_eq]
  exact (y 0).isLt

end Loop

end Cert.OKernelIdeal.Value
-- ==== Proof.OFinal.lean ====
/-
  WHAT THE OUTPUT PROJECTION LEAVES IN ITS RESULT. A grid point's block is the product of its activation rows with its decoded weight
  columns; the 96 blocks tile the result, so the result is `oProduct` of the three argument arrays.
-/
module

public import proofs.«01_k».proof.Proof.OLoop
public import proofs.«01_k».proof.Proof.Gen.OKernelIdeal.Value

@[expose] public section

set_option maxRecDepth 16384

noncomputable section

open Idealize.ShloMosaic Idealize.ShloMosaic.TcCoe Idealize.SL.Sem
open Idealize.ShloMosaic.Pipeline (Dat)

namespace Cert.OKernelIdeal.Value

open Cert.OKernelIdeal Cert.OKernelIdeal.Gen Cert.Words

variable (m : (ℓ : Loc nD τ sig) → Buf (Elt Ideal) ℓ)

/-- A decoded entry of the scratch is the weight its byte and its scale stand for. -/
theorem held_at (w : Vec Ideal S1024x512 .i8) (e : Vec Ideal S64x512 .i8) (r : Fin 1024) (p : Fin 2) (c : Fin 512) :
    held w (k0_pay1 (F := Ideal) e) (ix3 r p c) = weight (w (ix2 r c)) (e (ix2 ⟨r.val / 16, by omega⟩ c)) p.val := by
  have hs : BitVec.extractLsb' (16 * p.val) 16 (k0_pay1 (F := Ideal) e (ix2 ⟨r.val / 16, by omega⟩ c)) = (e (ix2 ⟨r.val / 16, by omega⟩ c)).setWidth 16 <<< 7 := by
    pointwise [k0_pay1]
    exact scale_half _ p
  unfold weight scale
  rw [← hs]
  rfl

/-- A block of the product, from the decoded weights it is given. -/
theorem pay3_at (x : Vec Ideal S512x2048 .i32) (w : Vec Ideal S1024x2x512 .bf16) (r : Fin 1024) (c : Fin 512) :
    k0_pay3 (F := Ideal) x w (ix2 r c)
      = ∑ k : Fin 2048, Ideal.ofBits .bf16 (BitVec.extractLsb' (16 * (r.val % 2)) 16 (x (ix2 ⟨r.val / 2, by omega⟩ k)))
        * w (ix3 ⟨k.val / 2, by omega⟩ ⟨k.val % 2, by omega⟩ c) := by
  pointwise [k0_pay3]
  refine Finset.sum_congr rfl fun k _ => ?_
  rw [bitcast_rows _ bitcasts_S512x2048_w32_S1024x2048_w16 _ _ (by omega)]
  rcases Nat.mod_two_eq_zero_or_one k.val with h | h
  · rw [if_pos h, show (⟨k.val % 2, by omega⟩ : Fin 2) = 0 from Fin.ext h]
  · rw [if_neg (by omega), show (⟨k.val % 2, by omega⟩ : Fin 2) = 1 from Fin.ext h]

/-- A block of the product, from the packed weights. -/
theorem block_product (x : Vec Ideal S512x2048 .i32) (w : Vec Ideal S1024x512 .i8) (e : Vec Ideal S64x512 .i8)
    (r : Fin 1024) (c : Fin 512) : k0_pay3 (F := Ideal) x (held w (k0_pay1 (F := Ideal) e)) (ix2 r c)
      = ∑ k : Fin 2048, Ideal.ofBits .bf16 (BitVec.extractLsb' (16 * (r.val % 2)) 16 (x (ix2 ⟨r.val / 2, by omega⟩ k)))
        * weight (w (ix2 ⟨k.val / 2, by omega⟩ c)) (e (ix2 ⟨k.val / 2 / 16, by omega⟩ c)) (k.val % 2) := by
  rw [pay3_at]
  refine Finset.sum_congr rfl fun k _ => ?_
  rw [held_at]

theorem trips_word : Scf.trips (0#32) (Scalar.addi 0#32 8#32) 1#32 = k0_t1_loop.trips := rfl

/-- What a grid point computes, from its three input blocks. -/
theorem outs (c : Dev nD) (t : Fin cfg0.N) : outsAt0 m c t
    = k0_pay3 (iblk m c 0 t) (held (iblk m c 1 t) (k0_pay1 (iblk m c 2 t))) := by
  unfold outsAt0
  frame_out
  congr 1
  rw [View.readCov_eq_canon', canon_loop _ _ _ _ _ _ _ _ _ _ _ _ _ _ _ _ _ _ _ trips_word]
  rw [Memref.IsWhole.read_unread, View.read_writes_junk_eq_canon,
    View.canon_unit_zero (by funext a; fin_cases a <;> rfl)]
  funext j
  exact congrArg _ (funext fun a => Fin.ext ((Rect.idx_unit_val _ _ _ j a).trans (by
    match a with
    | ⟨0, _⟩ => exact Nat.zero_add _
    | ⟨1, _⟩ => exact Nat.zero_add _
    | ⟨2, _⟩ => exact Nat.zero_add _)))

/-- The blocks of grid point `t`: row block `t / 16`, column block `t % 16`. -/
theorem idx : ∀ t : Fin cfg0.N, win0_0.index t = ![t.val / 16, 0] ∧ win0_1.index t = ![0, t.val % 16]
    ∧ win0_2.index t = ![0, t.val % 16] ∧ win0_3.index t = ![t.val / 16, t.val % 16] :=
  (by decide +kernel : ∀ t : Fin grid0.N, win0_0.index t = ![t.val / 16, 0] ∧ win0_1.index t = ![0, t.val % 16]
    ∧ win0_2.index t = ![0, t.val % 16] ∧ win0_3.index t = ![t.val / 16, t.val % 16])

/-- What a grid point computes is its block of the product. -/
theorem point (c : Dev nD) (t : Fin cfg0.N) (a : Fin 1024) (b : Fin 512) (r : Fin 6144) (q : Fin 8192)
    (hr : r.val = t.val / 16 * 1024 + a.val) (hq : q.val = t.val % 16 * 512 + b.val) :
    k0_pay3 (iblk m c 0 t) (held (iblk m c 1 t) (k0_pay1 (iblk m c 2 t))) (ix2 a b)
      = oProduct (m ((View.whole main_arg0).loc c.tc)) (m ((View.whole main_arg1).loc c.tc)) (m ((View.whole main_arg2).loc c.tc)) r q := by
  rw [block_product]
  refine Finset.sum_congr rfl fun k _ => ?_
  rw [show r.val % 2 = a.val % 2 by omega]
  have e0 : iblk m c 0 t (ix2 (⟨a.val / 2, by omega⟩ : Fin 512) k) = m ((View.whole main_arg0).loc c.tc) (ix2 (⟨r.val / 2, by omega⟩ : Fin 3072) k) := by
    blk_point [iblk, V, idx t]
  have e1 : iblk m c 1 t (ix2 (⟨k.val / 2, by omega⟩ : Fin 1024) b) = m ((View.whole main_arg1).loc c.tc) (ix2 (⟨k.val / 2, by omega⟩ : Fin 1024) q) := by
    blk_point [iblk, V, idx t]
  have e2 : iblk m c 2 t (ix2 (⟨k.val / 2 / 16, by omega⟩ : Fin 64) b) = m ((View.whole main_arg2).loc c.tc) (ix2 (⟨k.val / 2 / 16, by omega⟩ : Fin 64) q) := by
    blk_point [iblk, V, idx t]
  rw [e0, e1, e2]

/-- The result array ends holding the product. -/
theorem final (c : Dev nD) : (dats m 0 c).arrAt 3 (cfgs 0).N
    = fun y : S6144x8192.Idx => oProduct (m ((View.whole main_arg0).loc c.tc)) (m ((View.whole main_arg1).loc c.tc)) (m ((View.whole main_arg2).loc c.tc)) (y 0) (y 1) := by
  refine (dats m 0 c).arrAt_eq_of_covers 3 _ (by decide +kernel) fun t _ y => ?_
  blk_simp
  rw [after0_3, outs]
  idx_vars y
  refine point m c t _ _ _ _ ?_ ?_
  · blk_simp
    simp [idx t]
  · blk_simp
    simp [idx t]

/-- The kernel's run: the result is the product, the arguments are unchanged. -/
theorem run_product (ρ : Dev nD → PrngReg) :
    θ_run defs (onTc (τ := τ) (main (F := Ideal))) ⟨m, fun _ => 0, ρ⟩ fun r => ∀ c : Dev nD,
      r.2.mem ((c.tc : Thread nD τ).loc main_v0) = (fun y : S6144x8192.Idx =>
          oProduct (m ((c.tc : Thread nD τ).loc main_arg0)) (m ((c.tc : Thread nD τ).loc main_arg1))
            (m ((c.tc : Thread nD τ).loc main_arg2)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (run_blocks m ρ)

end Cert.OKernelIdeal.Value
-- ==== Proof.OReference.lean ====
/-
  WHAT THE REFERENCE OF THE OUTPUT PROJECTION COMPUTES, AT AN INDEX: the sum over the 2048 rows of weights of an activation half times a weight.
-/
module

public import proofs.«01_k».proof.Proof.Words
public import proofs.«01_k».proof.Proof.Gen.OReferenceIdeal.Run
public import Idealize.ShloMosaic.Lib.BitcastConvert

@[expose] public section

set_option maxRecDepth 16384

noncomputable section

open Idealize.ShloMosaic Idealize.ShloMosaic.TcCoe Idealize.SL.Sem

namespace Cert.OReferenceIdeal.Value

open Cert.OReferenceIdeal Cert.OReferenceIdeal.Gen Cert.Words

variable (m : (ℓ : Loc nD τ sig) → Buf (Elt Ideal) ℓ)

/-- The reference's result at a row and a column. -/
theorem reference_at (c : Dev nD) (r : Fin 6144) (q : Fin 8192) :
    @Eq (Ideal .bf16) (res_main_v84 m c (ix2 r q))
      (oProduct (m ((c.tc : Thread nD τ).loc main_arg0)) (m ((c.tc : Thread nD τ).loc main_arg1))
        (m ((c.tc : Thread nD τ).loc main_arg2)) r q) := by
  unfold oProduct
  pointwise [res_main_v84]
  refine Finset.sum_congr rfl fun k _ => ?_
  refine congrArg₂ _ ?_ ?_
  · rw [Nat.mul_comm]
    refine congrArg (fun z => Ideal.ofBits .bf16 (BitVec.extractLsb' _ 16 z)) (congrArg _ (funext fun a => ?_))
    match a with
    | ⟨0, _⟩ => rfl
    | ⟨1, _⟩ => rfl
  split <;> rename_i h
  · have h0 : k.val % 2 = 0 := Nat.lt_one_iff.mp h
    refine Eq.trans ?_ (congrArg (weight _ _) h0.symm)
    refine congrArg₂ _ ?_ (scale_word _)
    exact (congrArg tableCode (low_nibble _)).trans (tableCode_eq _)
  · have h1 : k.val % 2 = 1 := (Nat.mod_two_eq_zero_or_one k.val).resolve_left fun h0 => h (h0 ▸ Nat.zero_lt_one)
    refine Eq.trans ?_ (congrArg (weight _ _) h1.symm)
    refine congrArg₂ _ ?_ (scale_word _)
    exact (congrArg tableCode (high_nibble _)).trans (tableCode_eq _)

/-- The reference's run: the result is the product, the arguments are unchanged. -/
theorem run_product (ρ : Dev nD → PrngReg) :
    θ_run defs (onTc (τ := τ) (main (F := Ideal))) ⟨m, fun _ => 0, ρ⟩ fun r => ∀ c : Dev nD,
      r.2.mem ((c.tc : Thread nD τ).loc main_v84) = (fun y : S6144x8192.Idx =>
          oProduct (m ((c.tc : Thread nD τ).loc main_arg0)) (m ((c.tc : Thread nD τ).loc main_arg1))
            (m ((c.tc : Thread nD τ).loc main_arg2)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun y => by
      obtain ⟨r, q, rfl⟩ : ∃ (r : Fin 6144) (q : Fin 8192), y = ix2 r q :=
        ⟨y 0, y 1, funext fun a => by match a with | ⟨0, _⟩ => rfl | ⟨1, _⟩ => rfl⟩
      exact reference_at m c r q), (h c).2⟩) (run m ρ)

end Cert.OReferenceIdeal.Value
-- ==== Proof.GBitsLoop.lean ====
module

public import proofs.«01_k».proof.Proof.Gen.GKernel.Loops
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.GKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- What one trip of the epilogue loop needs: the accumulator at its contents, everything it writes at any. -/
abbrev TripG (c : Dev nD) (arg7 : Memref sig .tc .vmem S1024x256 .fp8e4m3) (arg9 : Memref sig .tc .vmem S1024x256 .bf16) (arg12 : Memref sig .tc .vmem S1024x512 .f32) (arg13 : Memref sig .tc .vmem S128x128 .i32) (arg14 : Memref sig .tc .vmem S1024x256 .i32)
    (X : BufTy.Contents (Elt F) arg12.view.ty) (f7 : BufTy.Contents (Elt F) arg7.view.ty) : sProp 𝕄G :=
  iprop((arg12.view.loc (c : Thread nD τ) ↦[arg12.view.set]{fullShare} X) ∗ (arg7.view.loc (c : Thread nD τ) ↦[arg7.view.set]{fullShare} f7)
    ∗ (∃ f, arg9.view.loc (c : Thread nD τ) ↦[arg9.view.set]{fullShare} f) ∗ (∃ f, arg13.view.loc (c : Thread nD τ) ↦[arg13.view.set]{fullShare} f) ∗ (∃ f, arg14.view.loc (c : Thread nD τ) ↦[arg14.view.set]{fullShare} f))

set_option backward.proofsInPublic true in
set_option maxHeartbeats 4000000 in
/-- One trip of the epilogue loop: the pieces it writes into the codes. -/
@[irreducible] def tripG (𝒱 : Variants) (c : Dev nD) (bd : Option 𝒱.V) (i : grid0.Coords) (arg2 : Memref sig .tc .vmem S512x8192 .i32) (harg2 : arg2.IsWhole) (arg3 : Memref sig .tc .vmem S4096x256 .i8) (harg3 : arg3.IsWhole) (arg4 : Memref sig .tc .vmem S4096x256 .i8) (harg4 : arg4.IsWhole) (arg5 : Memref sig .tc .vmem S256x256 .i8) (harg5 : arg5.IsWhole) (arg6 : Memref sig .tc .vmem S256x256 .i8) (harg6 : arg6.IsWhole) (arg7 : Memref sig .tc .vmem S1024x256 .fp8e4m3) (harg7 : arg7.IsWhole) (arg8 : Memref sig .tc .vmem S1024x224 .i8) (harg8 : arg8.IsWhole) (arg9 : Memref sig .tc .vmem S1024x256 .bf16) (harg9 : arg9.IsWhole) (arg10 : Memref sig .tc .vmem S256x256 .i32) (harg10 : arg10.IsWhole) (arg11 : Memref sig .tc .vmem S4096x512 .i32) (harg11 : arg11.IsWhole) (arg12 : Memref sig .tc .vmem S1024x512 .f32) (harg12 : arg12.IsWhole) (arg13 : Memref sig .tc .vmem S128x128 .i32) (harg13 : arg13.IsWhole) (arg14 : Memref sig .tc .vmem S1024x256 .i32) (harg14 : arg14.IsWhole)  (X : BufTy.Contents (Elt F) arg12.view.ty) (k : Fin k0_t3_loop.trips) (arg1 : BitVec 32) :
    { L : List (View.Piece (Elt F) S1024x256 .fp8e4m3) // ∀ (E : Set ℕ) (f7 : BufTy.Contents (Elt F) arg7.view.ty),
      TripG (F := F) c arg7 arg9 arg12 arg13 arg14 X f7
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg1 k PUnit.unit)
          (fun _ => TripG (F := F) c arg7 arg9 arg12 arg13 arg14 X (arg7.view.writes (Elt F) f7 L)) } := by
  have hk : k.val < 4 := Nat.lt_of_lt_of_le k.isLt k0_t3_abs.2.1
  refine ⟨?_, fun E f7 => ?run⟩
  case run =>
    unfold k0_t3_body
    iintro ⟨H12, H7, ⟨%f9, H9⟩, ⟨%f13, H13⟩, ⟨%f14, H14⟩⟩
    sl_exec
    sl_step
    isplitl [H12]; · iexact H12
    isplitl [H7]; · iexact H7
    isplitl [H9]; · iexists _; iexact H9
    isplitl [H13]; · iexists _; iexact H13
    iexists _; iexact H14

/-- The pieces of the epilogue trips before `k`, last first. -/
def pbG (𝒱 : Variants) (c : Dev nD) (bd : Option 𝒱.V) (i : grid0.Coords) (arg2 : Memref sig .tc .vmem S512x8192 .i32) (harg2 : arg2.IsWhole) (arg3 : Memref sig .tc .vmem S4096x256 .i8) (harg3 : arg3.IsWhole) (arg4 : Memref sig .tc .vmem S4096x256 .i8) (harg4 : arg4.IsWhole) (arg5 : Memref sig .tc .vmem S256x256 .i8) (harg5 : arg5.IsWhole) (arg6 : Memref sig .tc .vmem S256x256 .i8) (harg6 : arg6.IsWhole) (arg7 : Memref sig .tc .vmem S1024x256 .fp8e4m3) (harg7 : arg7.IsWhole) (arg8 : Memref sig .tc .vmem S1024x224 .i8) (harg8 : arg8.IsWhole) (arg9 : Memref sig .tc .vmem S1024x256 .bf16) (harg9 : arg9.IsWhole) (arg10 : Memref sig .tc .vmem S256x256 .i32) (harg10 : arg10.IsWhole) (arg11 : Memref sig .tc .vmem S4096x512 .i32) (harg11 : arg11.IsWhole) (arg12 : Memref sig .tc .vmem S1024x512 .f32) (harg12 : arg12.IsWhole) (arg13 : Memref sig .tc .vmem S128x128 .i32) (harg13 : arg13.IsWhole) (arg14 : Memref sig .tc .vmem S1024x256 .i32) (harg14 : arg14.IsWhole) (X : BufTy.Contents (Elt F) arg12.view.ty) (arg1 : BitVec 32) : ℕ → List (View.Piece (Elt F) S1024x256 .fp8e4m3)
  | 0 => []
  | k + 1 => if h : k < k0_t3_loop.trips then (tripG (F := F) 𝒱 c bd i arg2 harg2 arg3 harg3 arg4 harg4 arg5 harg5 arg6 harg6 arg7 harg7 arg8 harg8 arg9 harg9 arg10 harg10 arg11 harg11 arg12 harg12 arg13 harg13 arg14 harg14 X ⟨k, h⟩ arg1).1 ++ pbG 𝒱 c bd i arg2 harg2 arg3 harg3 arg4 harg4 arg5 harg5 arg6 harg6 arg7 harg7 arg8 harg8 arg9 harg9 arg10 harg10 arg11 harg11 arg12 harg12 arg13 harg13 arg14 harg14 X arg1 k else pbG 𝒱 c bd i arg2 harg2 arg3 harg3 arg4 harg4 arg5 harg5 arg6 harg6 arg7 harg7 arg8 harg8 arg9 harg9 arg10 harg10 arg11 harg11 arg12 harg12 arg13 harg13 arg14 harg14 X arg1 k

theorem pbG_succ (𝒱 : Variants) (c : Dev nD) (bd : Option 𝒱.V) (i : grid0.Coords) (arg2 : Memref sig .tc .vmem S512x8192 .i32) (harg2 : arg2.IsWhole) (arg3 : Memref sig .tc .vmem S4096x256 .i8) (harg3 : arg3.IsWhole) (arg4 : Memref sig .tc .vmem S4096x256 .i8) (harg4 : arg4.IsWhole) (arg5 : Memref sig .tc .vmem S256x256 .i8) (harg5 : arg5.IsWhole) (arg6 : Memref sig .tc .vmem S256x256 .i8) (harg6 : arg6.IsWhole) (arg7 : Memref sig .tc .vmem S1024x256 .fp8e4m3) (harg7 : arg7.IsWhole) (arg8 : Memref sig .tc .vmem S1024x224 .i8) (harg8 : arg8.IsWhole) (arg9 : Memref sig .tc .vmem S1024x256 .bf16) (harg9 : arg9.IsWhole) (arg10 : Memref sig .tc .vmem S256x256 .i32) (harg10 : arg10.IsWhole) (arg11 : Memref sig .tc .vmem S4096x512 .i32) (harg11 : arg11.IsWhole) (arg12 : Memref sig .tc .vmem S1024x512 .f32) (harg12 : arg12.IsWhole) (arg13 : Memref sig .tc .vmem S128x128 .i32) (harg13 : arg13.IsWhole) (arg14 : Memref sig .tc .vmem S1024x256 .i32) (harg14 : arg14.IsWhole) (X : BufTy.Contents (Elt F) arg12.view.ty) (arg1 : BitVec 32) (k : Fin k0_t3_loop.trips) :
    pbG (F := F) 𝒱 c bd i arg2 harg2 arg3 harg3 arg4 harg4 arg5 harg5 arg6 harg6 arg7 harg7 arg8 harg8 arg9 harg9 arg10 harg10 arg11 harg11 arg12 harg12 arg13 harg13 arg14 harg14 X arg1 (k.val + 1) = (tripG (F := F) 𝒱 c bd i arg2 harg2 arg3 harg3 arg4 harg4 arg5 harg5 arg6 harg6 arg7 harg7 arg8 harg8 arg9 harg9 arg10 harg10 arg11 harg11 arg12 harg12 arg13 harg13 arg14 harg14 X k arg1).1 ++ pbG (F := F) 𝒱 c bd i arg2 harg2 arg3 harg3 arg4 harg4 arg5 harg5 arg6 harg6 arg7 harg7 arg8 harg8 arg9 harg9 arg10 harg10 arg11 harg11 arg12 harg12 arg13 harg13 arg14 harg14 X arg1 k.val := by
  rw [pbG.eq_2]; exact dif_pos k.isLt

set_option warn.classDefReducibility false in
/-- The epilogue loop by its invariant: the accumulator is only read, the codes hold the pieces of the trips so far, the rest is at anything. -/
@[sl_loop] def loopInvG (𝒱 : Variants) (c : Dev nD) (bd : Option 𝒱.V) (E : Set ℕ) (i : grid0.Coords) (arg2 : Memref sig .tc .vmem S512x8192 .i32) (harg2 : arg2.IsWhole) (arg3 : Memref sig .tc .vmem S4096x256 .i8) (harg3 : arg3.IsWhole) (arg4 : Memref sig .tc .vmem S4096x256 .i8) (harg4 : arg4.IsWhole) (arg5 : Memref sig .tc .vmem S256x256 .i8) (harg5 : arg5.IsWhole) (arg6 : Memref sig .tc .vmem S256x256 .i8) (harg6 : arg6.IsWhole) (arg7 : Memref sig .tc .vmem S1024x256 .fp8e4m3) (harg7 : arg7.IsWhole) (arg8 : Memref sig .tc .vmem S1024x224 .i8) (harg8 : arg8.IsWhole) (arg9 : Memref sig .tc .vmem S1024x256 .bf16) (harg9 : arg9.IsWhole) (arg10 : Memref sig .tc .vmem S256x256 .i32) (harg10 : arg10.IsWhole) (arg11 : Memref sig .tc .vmem S4096x512 .i32) (harg11 : arg11.IsWhole) (arg12 : Memref sig .tc .vmem S1024x512 .f32) (harg12 : arg12.IsWhole) (arg13 : Memref sig .tc .vmem S128x128 .i32) (harg13 : arg13.IsWhole) (arg14 : Memref sig .tc .vmem S1024x256 .i32) (harg14 : arg14.IsWhole)  (arg1 : BitVec 32) (X : BufTy.Contents (Elt F) arg12.view.ty) (G : BufTy.Contents (Elt F) arg7.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg1 where
  inv k _ := iprop((arg12.view.loc (c : Thread nD τ) ↦[arg12.view.set]{fullShare} X)
    ∗ (∃ f, (arg7.view.loc (c : Thread nD τ) ↦[arg7.view.set]{fullShare} f) ∗ ⌜f = arg7.view.writes (Elt F) G (pbG (F := F) 𝒱 c bd i arg2 harg2 arg3 harg3 arg4 harg4 arg5 harg5 arg6 harg6 arg7 harg7 arg8 harg8 arg9 harg9 arg10 harg10 arg11 harg11 arg12 harg12 arg13 harg13 arg14 harg14 X arg1 k)⌝)
    ∗ (∃ f, arg9.view.loc (c : Thread nD τ) ↦[arg9.view.set]{fullShare} f) ∗ (∃ f, arg13.view.loc (c : Thread nD τ) ↦[arg13.view.set]{fullShare} f) ∗ (∃ f, arg14.view.loc (c : Thread nD τ) ↦[arg14.view.set]{fullShare} f))
  step k acc := by
    iintro ⟨H12, ⟨%f7, H7, %h7⟩, H9, H13, H14⟩
    iapply (wp_wand_r Idealize.ShloMosaic.frame (wpE (defs₀ (F := F)) 𝒱 (c : Thread nD τ) bd) E)
    isplitl [H12 H7 H9 H13 H14]
    · iapply ((tripG (F := F) 𝒱 c bd i arg2 harg2 arg3 harg3 arg4 harg4 arg5 harg5 arg6 harg6 arg7 harg7 arg8 harg8 arg9 harg9 arg10 harg10 arg11 harg11 arg12 harg12 arg13 harg13 arg14 harg14 X k arg1).2 E f7)
      isplitl [H12]; · iexact H12
      isplitl [H7]; · iexact H7
      isplitl [H9]; · iexact H9
      isplitl [H13]; · iexact H13
      iexact H14
    · iintro %_ ⟨H12, H7, H9, H13, H14⟩
      isplitl [H12]; · iexact H12
      isplitl [H7]
      · rw [pbG_succ]
        iexists _; isplitl [H7]; · iexact H7
        ipureintro; rw [h7, ← View.writes_append]
      isplitl [H9]; · iexact H9
      isplitl [H13]; · iexact H13
      iexact H14

end Cert.GKernel.Gen

end
-- ==== Proof.GBitsRun.lean ====
module

public import proofs.«01_k».proof.Proof.GBitsLoop
public import proofs.«01_k».proof.Proof.Gen.GKernel.Frame
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.GKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

set_option backward.proofsInPublic true in
set_option maxHeartbeats 8000000 in
/-- One run of the kernel's body, whatever its two conditions say: the pieces it writes into the codes. -/
noncomputable def kernelRunG (c : Dev nD) (i : grid0.Coords) (arg2 : Memref sig .tc .vmem S512x8192 .i32) (harg2 : arg2.IsWhole) (arg3 : Memref sig .tc .vmem S4096x256 .i8) (harg3 : arg3.IsWhole) (arg4 : Memref sig .tc .vmem S4096x256 .i8) (harg4 : arg4.IsWhole) (arg5 : Memref sig .tc .vmem S256x256 .i8) (harg5 : arg5.IsWhole) (arg6 : Memref sig .tc .vmem S256x256 .i8) (harg6 : arg6.IsWhole) (arg7 : Memref sig .tc .vmem S1024x256 .fp8e4m3) (harg7 : arg7.IsWhole) (arg8 : Memref sig .tc .vmem S1024x224 .i8) (harg8 : arg8.IsWhole) (arg9 : Memref sig .tc .vmem S1024x256 .bf16) (harg9 : arg9.IsWhole) (arg10 : Memref sig .tc .vmem S256x256 .i32) (harg10 : arg10.IsWhole) (arg11 : Memref sig .tc .vmem S4096x512 .i32) (harg11 : arg11.IsWhole) (arg12 : Memref sig .tc .vmem S1024x512 .f32) (harg12 : arg12.IsWhole) (arg13 : Memref sig .tc .vmem S128x128 .i32) (harg13 : arg13.IsWhole) (arg14 : Memref sig .tc .vmem S1024x256 .i32) (harg14 : arg14.IsWhole)
    (x0 : Vec F S512x8192 .i32) (x1 x2 : Vec F S4096x256 .i8) (x3 x4 : Vec F S256x256 .i8) :
    { L5 : List (View.Piece (Elt F) S1024x256 .fp8e4m3) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_gate_up_eq_skeleton]; unfold cc0_gate_up_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    have hrd0 : ∀ (𝒱 : Variants) (c : Dev nD) (bd : Option 𝒱.V) (i : grid0.Coords) (arg2 : Memref sig .tc .vmem S512x8192 .i32) (harg2 : arg2.IsWhole) (arg3 : Memref sig .tc .vmem S4096x256 .i8) (harg3 : arg3.IsWhole) (arg4 : Memref sig .tc .vmem S4096x256 .i8) (harg4 : arg4.IsWhole) (arg5 : Memref sig .tc .vmem S256x256 .i8) (harg5 : arg5.IsWhole) (arg6 : Memref sig .tc .vmem S256x256 .i8) (harg6 : arg6.IsWhole) (arg7 : Memref sig .tc .vmem S1024x256 .fp8e4m3) (harg7 : arg7.IsWhole) (arg8 : Memref sig .tc .vmem S1024x224 .i8) (harg8 : arg8.IsWhole) (arg9 : Memref sig .tc .vmem S1024x256 .bf16) (harg9 : arg9.IsWhole) (arg10 : Memref sig .tc .vmem S256x256 .i32) (harg10 : arg10.IsWhole) (arg11 : Memref sig .tc .vmem S4096x512 .i32) (harg11 : arg11.IsWhole) (arg12 : Memref sig .tc .vmem S1024x512 .f32) (harg12 : arg12.IsWhole) (arg13 : Memref sig .tc .vmem S128x128 .i32) (harg13 : arg13.IsWhole) (arg14 : Memref sig .tc .vmem S1024x256 .i32) (harg14 : arg14.IsWhole) (X_arg3 : BufTy.Contents (Elt F) arg3.view.ty) (X_arg4 : BufTy.Contents (Elt F) arg4.view.ty) (X_arg10 X_arg10b : BufTy.Contents (Elt F) arg10.view.ty) (hrdF : BufTy.Contents (Elt F) arg11.view.ty) (hrdB : LoadRect S4096x512), arg11.view.readAt (Elt F) hrdB (arg11.view.writes (Elt F) hrdF ((pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 X_arg4 X_arg10b (Scf.trips k0_t2_loop.lb k0_t2_loop.ub k0_t2_loop.st)) ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X_arg3 X_arg10 (Scf.trips k0_t1_loop.lb k0_t1_loop.ub k0_t1_loop.st)))) = arg11.view.readCov ((pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 X_arg4 X_arg10b (Scf.trips k0_t2_loop.lb k0_t2_loop.ub k0_t2_loop.st)) ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X_arg3 X_arg10 (Scf.trips k0_t1_loop.lb k0_t1_loop.ub k0_t1_loop.st))) hrdB :=
      fun 𝒱 c bd i arg2 harg2 arg3 harg3 arg4 harg4 arg5 harg5 arg6 harg6 arg7 harg7 arg8 harg8 arg9 harg9 arg10 harg10 arg11 harg11 arg12 harg12 arg13 harg13 arg14 harg14 X_arg3 X_arg4 X_arg10 X_arg10b hrdF hrdB =>
        View.readAt_writes_of_cover _ hrdF _ hrdB (fun hrdJ => View.cover_of_tiledL ((pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 X_arg4 X_arg10b (Scf.trips k0_t2_loop.lb k0_t2_loop.ub k0_t2_loop.st)) ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X_arg3 X_arg10 (Scf.trips k0_t1_loop.lb k0_t1_loop.ub k0_t1_loop.st))) S16x256.size (by sl_kernel_rfl) (hrdB.idx hrdJ))
    by_cases hc1 : Scalar.cmpi .ne (Scalar.extui (Scalar.cmpi .eq (BitVec.ofNat 32 (i 1).val) 0#32)) 0#32 = 1#1 <;> by_cases hc2 : k0_cond2 i = 1#1
    all_goals
      sl_exec
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]; · iexists _; iexact H5
      isplitl [H6]
      · iexists _, _; isplitr; swap; · iexact H6
        ipureintro; rfl
      isplitl [H7]
      · iexists _, _; isplitr; swap; · iexact H7
        ipureintro; rfl
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      iexists _, _; isplitr; swap; · iexact HS4
      ipureintro; rfl

end Cert.GKernel.Gen

end
-- ==== Proof.GBitsFrame.lean ====
/-
  THE LAUNCH OF THE GATE-AND-UP CALL. The body run at every point of the grid gives the frame: the program ends, its
  arguments as they were, and the codes at what the run of every point leaves in its block. Of the other results nothing is said here.
-/
module

public import proofs.«01_k».proof.Proof.GBitsRun
public import Idealize.ShloMosaic.Lib.Pipeline.Frame
public import Idealize.ShloMosaic.Lib.Claim

@[expose] public section

set_option maxRecDepth 16384

noncomputable section

namespace Cert.GKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- One staging buffer of the codes, through which their contents are stated. -/
abbrev VO0_5 : View sig .tc .vmem S1024x256 .fp8e4m3 := (Memref.whole cc0_stg5_0 : Memref sig .tc .vmem S1024x256 .fp8e4m3).view
/-- Each window's current staging memref at point `t`, and its wholeness. -/
abbrev ms0_0 (t : Fin cfg0.N) : Memref sig .tc .vmem S512x8192 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x224 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .bf16 := win0_7.stage (cfg0.slots t 7)
abbrev hs0_7 (t : Fin cfg0.N) : (ms0_7 t).IsWhole := hstage0_7 ((cfg0.slots t 7).cast nbuf0_7)
/-- The scratch operands, whole. -/
abbrev scM0_0 : Memref sig .tc .vmem S256x256 .i32 := Memref.whole cc0_scratch0
abbrev scM0_1 : Memref sig .tc .vmem S4096x512 .i32 := Memref.whole cc0_scratch1
abbrev scM0_2 : Memref sig .tc .vmem S1024x512 .f32 := Memref.whole cc0_scratch2
abbrev scM0_3 : Memref sig .tc .vmem S128x128 .i32 := Memref.whole cc0_scratch3
abbrev scM0_4 : Memref sig .tc .vmem S1024x256 .i32 := Memref.whole cc0_scratch4

/-- The invariant with the scratch operands as memrefs owned at some contents. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The pieces the body writes into the codes at point `t`. -/
def codesL (c : Dev nD) (t : Fin cfg0.N) : List (View.Piece (Elt F) S1024x256 .fp8e4m3) :=
  (kernelRunG c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t)).1

/-- The pieces cover the block. -/
theorem codesL_cover (c : Dev nD) (t : Fin cfg0.N) (y : S1024x256.Idx) : ∃ pc ∈ codesL m c t, y ∈ pc.1.set :=
  View.cover_of_tiledL (kernelRunG c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t)).1 S256x256.size (by sl_kernel_rfl) y

/-- What the codes' staging buffer holds after the body at point `t`. -/
def outsAt0 (c : Dev nD) (t : Fin cfg0.N) : Vec F S1024x256 .fp8e4m3 :=
  VO0_5.read (Elt F) (VO0_5.writes (Elt F) VO0_5.junk (codesL m c t))

/-- The windows whose contents the data leaves unnamed. -/
def forgets0 : Fin 8 → Bool := ![false, false, false, false, false, false, true, true]

/-- The proof data: the arrays as the region finds them; after the body each input's buffer at its block and the codes at
    `outsAt0`; the shares of arrays that two windows read; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => outsAt0 m c t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outsAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  iintro ⟨⟨⟨HS0, HS1, HS2, HS3, HS4⟩, Hg⟩, Ho, ⟨%d0, H0⟩, ⟨%d1, H1⟩, ⟨%d2, H2⟩, ⟨%d3, H3⟩, ⟨%d4, H4⟩, H5, H6, H7⟩
  iapply ((kernelRunG c (grid0.coords t) _ _ _ _ _ _ _ _ _ _ _ _ _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]
  · icases H5 with ⟨%d5, H5⟩
    iexists _; iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  iintro ⟨H0, H1, H2, H3, H4, ⟨%e5, H5⟩, H6, H7, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (codesL_cover m c t)
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

/-- The body's triple as the launch asks for it, at every point. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every fair execution ends, the arrays at what the proof data says, every counter at zero. -/
theorem run_main : θ_run defs (onTc (τ := τ) (main (F := F))) (s₀ m ρ)
    (fun r => RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame: the program ends with its arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.arr_in c 0 rfl).trans (A_eq m c 0), (h.1.arr_in c 2 rfl).trans (A_eq m c 2),
    (h.1.arr_in c 4 rfl).trans (A_eq m c 4)⟩, h.2⟩) (run_main m ρ)

/-- The run with the codes named: block by block what the body leaves. -/
theorem run_codes : θ_run defs (onTc (τ := τ) (main (F := F))) ⟨m, fun _ => 0, ρ⟩ fun r => ∀ c : Dev nD,
      r.2.mem ((c.tc : Thread nD τ).loc main_v0_0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((dats m 0 c).toRForget_arrAt_iff (fgt := forgets0) (w := 5) rfl cfg0.N _).1 ((h.1 c).1 5),
    (h.1.arr_in c 0 rfl).trans (A_eq m c 0), (h.1.arr_in c 2 rfl).trans (A_eq m c 2),
    (h.1.arr_in c 4 rfl).trans (A_eq m c 4)⟩) (run_main m ρ)

end Cert.GKernel.Gen

end
-- ==== Proof.GLoop.lean ====
module

public import proofs.«01_k».proof.Proof.Gen.GKernelIdeal.Loops
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.GKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip of the epilogue loop needs: the accumulator at its contents, everything it writes at any. -/
abbrev TripG (c : Dev nD) (arg7 : Memref sig .tc .vmem S1024x256 .fp8e4m3) (arg9 : Memref sig .tc .vmem S1024x256 .bf16) (arg12 : Memref sig .tc .vmem S1024x512 .f32) (arg13 : Memref sig .tc .vmem S128x128 .i32) (arg14 : Memref sig .tc .vmem S1024x256 .i32)
    (X : BufTy.Contents (Elt F) arg12.view.ty) (f7 : BufTy.Contents (Elt F) arg7.view.ty) : sProp 𝕄G :=
  iprop((arg12.view.loc (c : Thread nD τ) ↦[arg12.view.set]{fullShare} X) ∗ (arg7.view.loc (c : Thread nD τ) ↦[arg7.view.set]{fullShare} f7)
    ∗ (∃ f, arg9.view.loc (c : Thread nD τ) ↦[arg9.view.set]{fullShare} f) ∗ (∃ f, arg13.view.loc (c : Thread nD τ) ↦[arg13.view.set]{fullShare} f) ∗ (∃ f, arg14.view.loc (c : Thread nD τ) ↦[arg14.view.set]{fullShare} f))

set_option backward.proofsInPublic true in
set_option maxHeartbeats 4000000 in
/-- One trip of the epilogue loop: the pieces it writes into the codes. -/
@[irreducible] def tripG (𝒱 : Variants) (c : Dev nD) (bd : Option 𝒱.V) (i : grid0.Coords) (arg2 : Memref sig .tc .vmem S512x8192 .i32) (harg2 : arg2.IsWhole) (arg3 : Memref sig .tc .vmem S4096x256 .i8) (harg3 : arg3.IsWhole) (arg4 : Memref sig .tc .vmem S4096x256 .i8) (harg4 : arg4.IsWhole) (arg5 : Memref sig .tc .vmem S256x256 .i8) (harg5 : arg5.IsWhole) (arg6 : Memref sig .tc .vmem S256x256 .i8) (harg6 : arg6.IsWhole) (arg7 : Memref sig .tc .vmem S1024x256 .fp8e4m3) (harg7 : arg7.IsWhole) (arg8 : Memref sig .tc .vmem S1024x224 .i8) (harg8 : arg8.IsWhole) (arg9 : Memref sig .tc .vmem S1024x256 .bf16) (harg9 : arg9.IsWhole) (arg10 : Memref sig .tc .vmem S256x256 .i32) (harg10 : arg10.IsWhole) (arg11 : Memref sig .tc .vmem S4096x2x512 .bf16) (harg11 : arg11.IsWhole) (arg12 : Memref sig .tc .vmem S1024x512 .f32) (harg12 : arg12.IsWhole) (arg13 : Memref sig .tc .vmem S128x128 .i32) (harg13 : arg13.IsWhole) (arg14 : Memref sig .tc .vmem S1024x256 .i32) (harg14 : arg14.IsWhole)  (X : BufTy.Contents (Elt F) arg12.view.ty) (k : Fin k0_t3_loop.trips) (arg1 : BitVec 32) :
    { L : List (View.Piece (Elt F) S1024x256 .fp8e4m3) // ∀ (E : Set ℕ) (f7 : BufTy.Contents (Elt F) arg7.view.ty),
      TripG (F := F) c arg7 arg9 arg12 arg13 arg14 X f7
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg1 k PUnit.unit)
          (fun _ => TripG (F := F) c arg7 arg9 arg12 arg13 arg14 X (arg7.view.writes (Elt F) f7 L)) } := by
  have hk : k.val < 4 := Nat.lt_of_lt_of_le k.isLt k0_t3_abs.2.1
  refine ⟨?_, fun E f7 => ?run⟩
  case run =>
    unfold k0_t3_body
    iintro ⟨H12, H7, ⟨%f9, H9⟩, ⟨%f13, H13⟩, ⟨%f14, H14⟩⟩
    sl_exec
    sl_step
    isplitl [H12]; · iexact H12
    isplitl [H7]; · iexact H7
    isplitl [H9]; · iexists _; iexact H9
    isplitl [H13]; · iexists _; iexact H13
    iexists _; iexact H14

/-- The pieces of the epilogue trips before `k`, last first. -/
def pbG (𝒱 : Variants) (c : Dev nD) (bd : Option 𝒱.V) (i : grid0.Coords) (arg2 : Memref sig .tc .vmem S512x8192 .i32) (harg2 : arg2.IsWhole) (arg3 : Memref sig .tc .vmem S4096x256 .i8) (harg3 : arg3.IsWhole) (arg4 : Memref sig .tc .vmem S4096x256 .i8) (harg4 : arg4.IsWhole) (arg5 : Memref sig .tc .vmem S256x256 .i8) (harg5 : arg5.IsWhole) (arg6 : Memref sig .tc .vmem S256x256 .i8) (harg6 : arg6.IsWhole) (arg7 : Memref sig .tc .vmem S1024x256 .fp8e4m3) (harg7 : arg7.IsWhole) (arg8 : Memref sig .tc .vmem S1024x224 .i8) (harg8 : arg8.IsWhole) (arg9 : Memref sig .tc .vmem S1024x256 .bf16) (harg9 : arg9.IsWhole) (arg10 : Memref sig .tc .vmem S256x256 .i32) (harg10 : arg10.IsWhole) (arg11 : Memref sig .tc .vmem S4096x2x512 .bf16) (harg11 : arg11.IsWhole) (arg12 : Memref sig .tc .vmem S1024x512 .f32) (harg12 : arg12.IsWhole) (arg13 : Memref sig .tc .vmem S128x128 .i32) (harg13 : arg13.IsWhole) (arg14 : Memref sig .tc .vmem S1024x256 .i32) (harg14 : arg14.IsWhole) (X : BufTy.Contents (Elt F) arg12.view.ty) (arg1 : BitVec 32) : ℕ → List (View.Piece (Elt F) S1024x256 .fp8e4m3)
  | 0 => []
  | k + 1 => if h : k < k0_t3_loop.trips then (tripG (F := F) 𝒱 c bd i arg2 harg2 arg3 harg3 arg4 harg4 arg5 harg5 arg6 harg6 arg7 harg7 arg8 harg8 arg9 harg9 arg10 harg10 arg11 harg11 arg12 harg12 arg13 harg13 arg14 harg14 X ⟨k, h⟩ arg1).1 ++ pbG 𝒱 c bd i arg2 harg2 arg3 harg3 arg4 harg4 arg5 harg5 arg6 harg6 arg7 harg7 arg8 harg8 arg9 harg9 arg10 harg10 arg11 harg11 arg12 harg12 arg13 harg13 arg14 harg14 X arg1 k else pbG 𝒱 c bd i arg2 harg2 arg3 harg3 arg4 harg4 arg5 harg5 arg6 harg6 arg7 harg7 arg8 harg8 arg9 harg9 arg10 harg10 arg11 harg11 arg12 harg12 arg13 harg13 arg14 harg14 X arg1 k

theorem pbG_succ (𝒱 : Variants) (c : Dev nD) (bd : Option 𝒱.V) (i : grid0.Coords) (arg2 : Memref sig .tc .vmem S512x8192 .i32) (harg2 : arg2.IsWhole) (arg3 : Memref sig .tc .vmem S4096x256 .i8) (harg3 : arg3.IsWhole) (arg4 : Memref sig .tc .vmem S4096x256 .i8) (harg4 : arg4.IsWhole) (arg5 : Memref sig .tc .vmem S256x256 .i8) (harg5 : arg5.IsWhole) (arg6 : Memref sig .tc .vmem S256x256 .i8) (harg6 : arg6.IsWhole) (arg7 : Memref sig .tc .vmem S1024x256 .fp8e4m3) (harg7 : arg7.IsWhole) (arg8 : Memref sig .tc .vmem S1024x224 .i8) (harg8 : arg8.IsWhole) (arg9 : Memref sig .tc .vmem S1024x256 .bf16) (harg9 : arg9.IsWhole) (arg10 : Memref sig .tc .vmem S256x256 .i32) (harg10 : arg10.IsWhole) (arg11 : Memref sig .tc .vmem S4096x2x512 .bf16) (harg11 : arg11.IsWhole) (arg12 : Memref sig .tc .vmem S1024x512 .f32) (harg12 : arg12.IsWhole) (arg13 : Memref sig .tc .vmem S128x128 .i32) (harg13 : arg13.IsWhole) (arg14 : Memref sig .tc .vmem S1024x256 .i32) (harg14 : arg14.IsWhole) (X : BufTy.Contents (Elt F) arg12.view.ty) (arg1 : BitVec 32) (k : Fin k0_t3_loop.trips) :
    pbG (F := F) 𝒱 c bd i arg2 harg2 arg3 harg3 arg4 harg4 arg5 harg5 arg6 harg6 arg7 harg7 arg8 harg8 arg9 harg9 arg10 harg10 arg11 harg11 arg12 harg12 arg13 harg13 arg14 harg14 X arg1 (k.val + 1) = (tripG (F := F) 𝒱 c bd i arg2 harg2 arg3 harg3 arg4 harg4 arg5 harg5 arg6 harg6 arg7 harg7 arg8 harg8 arg9 harg9 arg10 harg10 arg11 harg11 arg12 harg12 arg13 harg13 arg14 harg14 X k arg1).1 ++ pbG (F := F) 𝒱 c bd i arg2 harg2 arg3 harg3 arg4 harg4 arg5 harg5 arg6 harg6 arg7 harg7 arg8 harg8 arg9 harg9 arg10 harg10 arg11 harg11 arg12 harg12 arg13 harg13 arg14 harg14 X arg1 k.val := by
  rw [pbG.eq_2]; exact dif_pos k.isLt

set_option warn.classDefReducibility false in
/-- The epilogue loop by its invariant: the accumulator is only read, the codes hold the pieces of the trips so far, the rest is at anything. -/
@[sl_loop] def loopInvG (𝒱 : Variants) (c : Dev nD) (bd : Option 𝒱.V) (E : Set ℕ) (i : grid0.Coords) (arg2 : Memref sig .tc .vmem S512x8192 .i32) (harg2 : arg2.IsWhole) (arg3 : Memref sig .tc .vmem S4096x256 .i8) (harg3 : arg3.IsWhole) (arg4 : Memref sig .tc .vmem S4096x256 .i8) (harg4 : arg4.IsWhole) (arg5 : Memref sig .tc .vmem S256x256 .i8) (harg5 : arg5.IsWhole) (arg6 : Memref sig .tc .vmem S256x256 .i8) (harg6 : arg6.IsWhole) (arg7 : Memref sig .tc .vmem S1024x256 .fp8e4m3) (harg7 : arg7.IsWhole) (arg8 : Memref sig .tc .vmem S1024x224 .i8) (harg8 : arg8.IsWhole) (arg9 : Memref sig .tc .vmem S1024x256 .bf16) (harg9 : arg9.IsWhole) (arg10 : Memref sig .tc .vmem S256x256 .i32) (harg10 : arg10.IsWhole) (arg11 : Memref sig .tc .vmem S4096x2x512 .bf16) (harg11 : arg11.IsWhole) (arg12 : Memref sig .tc .vmem S1024x512 .f32) (harg12 : arg12.IsWhole) (arg13 : Memref sig .tc .vmem S128x128 .i32) (harg13 : arg13.IsWhole) (arg14 : Memref sig .tc .vmem S1024x256 .i32) (harg14 : arg14.IsWhole)  (arg1 : BitVec 32) (X : BufTy.Contents (Elt F) arg12.view.ty) (G : BufTy.Contents (Elt F) arg7.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg1 where
  inv k _ := iprop((arg12.view.loc (c : Thread nD τ) ↦[arg12.view.set]{fullShare} X)
    ∗ (∃ f, (arg7.view.loc (c : Thread nD τ) ↦[arg7.view.set]{fullShare} f) ∗ ⌜f = arg7.view.writes (Elt F) G (pbG (F := F) 𝒱 c bd i arg2 harg2 arg3 harg3 arg4 harg4 arg5 harg5 arg6 harg6 arg7 harg7 arg8 harg8 arg9 harg9 arg10 harg10 arg11 harg11 arg12 harg12 arg13 harg13 arg14 harg14 X arg1 k)⌝)
    ∗ (∃ f, arg9.view.loc (c : Thread nD τ) ↦[arg9.view.set]{fullShare} f) ∗ (∃ f, arg13.view.loc (c : Thread nD τ) ↦[arg13.view.set]{fullShare} f) ∗ (∃ f, arg14.view.loc (c : Thread nD τ) ↦[arg14.view.set]{fullShare} f))
  step k acc := by
    iintro ⟨H12, ⟨%f7, H7, %h7⟩, H9, H13, H14⟩
    iapply (wp_wand_r Idealize.ShloMosaic.frame (wpE (defs₀ (F := F)) 𝒱 (c : Thread nD τ) bd) E)
    isplitl [H12 H7 H9 H13 H14]
    · iapply ((tripG (F := F) 𝒱 c bd i arg2 harg2 arg3 harg3 arg4 harg4 arg5 harg5 arg6 harg6 arg7 harg7 arg8 harg8 arg9 harg9 arg10 harg10 arg11 harg11 arg12 harg12 arg13 harg13 arg14 harg14 X k arg1).2 E f7)
      isplitl [H12]; · iexact H12
      isplitl [H7]; · iexact H7
      isplitl [H9]; · iexact H9
      isplitl [H13]; · iexact H13
      iexact H14
    · iintro %_ ⟨H12, H7, H9, H13, H14⟩
      isplitl [H12]; · iexact H12
      isplitl [H7]
      · rw [pbG_succ]
        iexists _; isplitl [H7]; · iexact H7
        ipureintro; rw [h7, ← View.writes_append]
      isplitl [H9]; · iexact H9
      isplitl [H13]; · iexact H13
      iexact H14

end Cert.GKernelIdeal.Gen

end
-- ==== Proof.GRun.lean ====
module

public import proofs.«01_k».proof.Proof.GLoop
public import proofs.«01_k».proof.Proof.Gen.GKernelIdeal.Frame
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.GKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option backward.proofsInPublic true in
set_option maxHeartbeats 8000000 in
/-- One run of the kernel's body, whatever its two conditions say: the pieces it writes into the codes. -/
noncomputable def kernelRunG (c : Dev nD) (i : grid0.Coords) (arg2 : Memref sig .tc .vmem S512x8192 .i32) (harg2 : arg2.IsWhole) (arg3 : Memref sig .tc .vmem S4096x256 .i8) (harg3 : arg3.IsWhole) (arg4 : Memref sig .tc .vmem S4096x256 .i8) (harg4 : arg4.IsWhole) (arg5 : Memref sig .tc .vmem S256x256 .i8) (harg5 : arg5.IsWhole) (arg6 : Memref sig .tc .vmem S256x256 .i8) (harg6 : arg6.IsWhole) (arg7 : Memref sig .tc .vmem S1024x256 .fp8e4m3) (harg7 : arg7.IsWhole) (arg8 : Memref sig .tc .vmem S1024x224 .i8) (harg8 : arg8.IsWhole) (arg9 : Memref sig .tc .vmem S1024x256 .bf16) (harg9 : arg9.IsWhole) (arg10 : Memref sig .tc .vmem S256x256 .i32) (harg10 : arg10.IsWhole) (arg11 : Memref sig .tc .vmem S4096x2x512 .bf16) (harg11 : arg11.IsWhole) (arg12 : Memref sig .tc .vmem S1024x512 .f32) (harg12 : arg12.IsWhole) (arg13 : Memref sig .tc .vmem S128x128 .i32) (harg13 : arg13.IsWhole) (arg14 : Memref sig .tc .vmem S1024x256 .i32) (harg14 : arg14.IsWhole)
    (x0 : Vec F S512x8192 .i32) (x1 x2 : Vec F S4096x256 .i8) (x3 x4 : Vec F S256x256 .i8) :
    { L5 : List (View.Piece (Elt F) S1024x256 .fp8e4m3) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_gate_up_eq_skeleton]; unfold cc0_gate_up_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    have hrd0 : ∀ (𝒱 : Variants) (c : Dev nD) (bd : Option 𝒱.V) (i : grid0.Coords) (arg2 : Memref sig .tc .vmem S512x8192 .i32) (harg2 : arg2.IsWhole) (arg3 : Memref sig .tc .vmem S4096x256 .i8) (harg3 : arg3.IsWhole) (arg4 : Memref sig .tc .vmem S4096x256 .i8) (harg4 : arg4.IsWhole) (arg5 : Memref sig .tc .vmem S256x256 .i8) (harg5 : arg5.IsWhole) (arg6 : Memref sig .tc .vmem S256x256 .i8) (harg6 : arg6.IsWhole) (arg7 : Memref sig .tc .vmem S1024x256 .fp8e4m3) (harg7 : arg7.IsWhole) (arg8 : Memref sig .tc .vmem S1024x224 .i8) (harg8 : arg8.IsWhole) (arg9 : Memref sig .tc .vmem S1024x256 .bf16) (harg9 : arg9.IsWhole) (arg10 : Memref sig .tc .vmem S256x256 .i32) (harg10 : arg10.IsWhole) (arg11 : Memref sig .tc .vmem S4096x2x512 .bf16) (harg11 : arg11.IsWhole) (arg12 : Memref sig .tc .vmem S1024x512 .f32) (harg12 : arg12.IsWhole) (arg13 : Memref sig .tc .vmem S128x128 .i32) (harg13 : arg13.IsWhole) (arg14 : Memref sig .tc .vmem S1024x256 .i32) (harg14 : arg14.IsWhole) (X_arg3 : BufTy.Contents (Elt F) arg3.view.ty) (X_arg4 : BufTy.Contents (Elt F) arg4.view.ty) (X_arg10 X_arg10b : BufTy.Contents (Elt F) arg10.view.ty) (hrdF : BufTy.Contents (Elt F) arg11.view.ty) (hrdB : LoadRect S4096x2x512), arg11.view.readAt (Elt F) hrdB (arg11.view.writes (Elt F) hrdF ((pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 X_arg4 X_arg10b (Scf.trips k0_t2_loop.lb k0_t2_loop.ub k0_t2_loop.st)) ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X_arg3 X_arg10 (Scf.trips k0_t1_loop.lb k0_t1_loop.ub k0_t1_loop.st)))) = arg11.view.readCov ((pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 X_arg4 X_arg10b (Scf.trips k0_t2_loop.lb k0_t2_loop.ub k0_t2_loop.st)) ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X_arg3 X_arg10 (Scf.trips k0_t1_loop.lb k0_t1_loop.ub k0_t1_loop.st))) hrdB :=
      fun 𝒱 c bd i arg2 harg2 arg3 harg3 arg4 harg4 arg5 harg5 arg6 harg6 arg7 harg7 arg8 harg8 arg9 harg9 arg10 harg10 arg11 harg11 arg12 harg12 arg13 harg13 arg14 harg14 X_arg3 X_arg4 X_arg10 X_arg10b hrdF hrdB =>
        View.readAt_writes_of_cover _ hrdF _ hrdB (fun hrdJ => View.cover_of_tiledL ((pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 X_arg4 X_arg10b (Scf.trips k0_t2_loop.lb k0_t2_loop.ub k0_t2_loop.st)) ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X_arg3 X_arg10 (Scf.trips k0_t1_loop.lb k0_t1_loop.ub k0_t1_loop.st))) S16x2x256.size (by sl_kernel_rfl) (hrdB.idx hrdJ))
    by_cases hc1 : Scalar.cmpi .ne (Scalar.extui (Scalar.cmpi .eq (BitVec.ofNat 32 (i 1).val) 0#32)) 0#32 = 1#1 <;> by_cases hc2 : k0_cond2 i = 1#1
    all_goals
      sl_exec
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]; · iexists _; iexact H5
      isplitl [H6]
      · iexists _, _; isplitr; swap; · iexact H6
        ipureintro; rfl
      isplitl [H7]
      · iexists _, _; isplitr; swap; · iexact H7
        ipureintro; rfl
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      iexists _, _; isplitr; swap; · iexact HS4
      ipureintro; rfl

end Cert.GKernelIdeal.Gen

end
-- ==== Proof.GFrame.lean ====
/-
  THE LAUNCH OF THE GATE-AND-UP CALL. The body run at every point of the grid gives the frame: the program ends, its
  arguments as they were, and the codes at what the run of every point leaves in its block. Of the other results nothing is said here.
-/
module

public import proofs.«01_k».proof.Proof.GRun
public import Idealize.ShloMosaic.Lib.Pipeline.Frame
public import Idealize.ShloMosaic.Lib.Claim

@[expose] public section

set_option maxRecDepth 16384

noncomputable section

namespace Cert.GKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the codes, through which their contents are stated. -/
abbrev VO0_5 : View sig .tc .vmem S1024x256 .fp8e4m3 := (Memref.whole cc0_stg5_0 : Memref sig .tc .vmem S1024x256 .fp8e4m3).view
/-- Each window's current staging memref at point `t`, and its wholeness. -/
abbrev ms0_0 (t : Fin cfg0.N) : Memref sig .tc .vmem S512x8192 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x224 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .bf16 := win0_7.stage (cfg0.slots t 7)
abbrev hs0_7 (t : Fin cfg0.N) : (ms0_7 t).IsWhole := hstage0_7 ((cfg0.slots t 7).cast nbuf0_7)
/-- The scratch operands, whole. -/
abbrev scM0_0 : Memref sig .tc .vmem S256x256 .i32 := Memref.whole cc0_scratch0
abbrev scM0_1 : Memref sig .tc .vmem S4096x2x512 .bf16 := Memref.whole cc0_scratch1
abbrev scM0_2 : Memref sig .tc .vmem S1024x512 .f32 := Memref.whole cc0_scratch2
abbrev scM0_3 : Memref sig .tc .vmem S128x128 .i32 := Memref.whole cc0_scratch3
abbrev scM0_4 : Memref sig .tc .vmem S1024x256 .i32 := Memref.whole cc0_scratch4

/-- The invariant with the scratch operands as memrefs owned at some contents. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The pieces the body writes into the codes at point `t`. -/
def codesL (c : Dev nD) (t : Fin cfg0.N) : List (View.Piece (Elt F) S1024x256 .fp8e4m3) :=
  (kernelRunG c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t)).1

/-- The pieces cover the block. -/
theorem codesL_cover (c : Dev nD) (t : Fin cfg0.N) (y : S1024x256.Idx) : ∃ pc ∈ codesL m c t, y ∈ pc.1.set :=
  View.cover_of_tiledL (kernelRunG c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t)).1 S256x256.size (by sl_kernel_rfl) y

/-- What the codes' staging buffer holds after the body at point `t`. -/
def outsAt0 (c : Dev nD) (t : Fin cfg0.N) : Vec F S1024x256 .fp8e4m3 :=
  VO0_5.read (Elt F) (VO0_5.writes (Elt F) VO0_5.junk (codesL m c t))

/-- The windows whose contents the data leaves unnamed. -/
def forgets0 : Fin 8 → Bool := ![false, false, false, false, false, false, true, true]

/-- The proof data: the arrays as the region finds them; after the body each input's buffer at its block and the codes at
    `outsAt0`; the shares of arrays that two windows read; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => outsAt0 m c t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outsAt0 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  iintro ⟨⟨⟨HS0, HS1, HS2, HS3, HS4⟩, Hg⟩, Ho, ⟨%d0, H0⟩, ⟨%d1, H1⟩, ⟨%d2, H2⟩, ⟨%d3, H3⟩, ⟨%d4, H4⟩, H5, H6, H7⟩
  iapply ((kernelRunG c (grid0.coords t) _ _ _ _ _ _ _ _ _ _ _ _ _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]
  · icases H5 with ⟨%d5, H5⟩
    iexists _; iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  iintro ⟨H0, H1, H2, H3, H4, ⟨%e5, H5⟩, H6, H7, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (codesL_cover m c t)
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

/-- The body's triple as the launch asks for it, at every point. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every fair execution ends, the arrays at what the proof data says, every counter at zero. -/
theorem run_main : θ_run defs (onTc (τ := τ) (main (F := F))) (s₀ m ρ)
    (fun r => RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame: the program ends with its arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.arr_in c 0 rfl).trans (A_eq m c 0), (h.1.arr_in c 2 rfl).trans (A_eq m c 2),
    (h.1.arr_in c 4 rfl).trans (A_eq m c 4)⟩, h.2⟩) (run_main m ρ)

/-- The run with the codes named: block by block what the body leaves. -/
theorem run_codes : θ_run defs (onTc (τ := τ) (main (F := F))) ⟨m, fun _ => 0, ρ⟩ fun r => ∀ c : Dev nD,
      r.2.mem ((c.tc : Thread nD τ).loc main_v0_0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((dats m 0 c).toRForget_arrAt_iff (fgt := forgets0) (w := 5) rfl cfg0.N _).1 ((h.1 c).1 5),
    (h.1.arr_in c 0 rfl).trans (A_eq m c 0), (h.1.arr_in c 2 rfl).trans (A_eq m c 2),
    (h.1.arr_in c 4 rfl).trans (A_eq m c 4)⟩) (run_main m ρ)

end Cert.GKernelIdeal.Gen

end
-- ==== Proof.GTrip.lean ====
/-
  WHAT ONE TRIP OF A DECODE LOOP OF THE GATE-AND-UP CALL STORES. The call decodes the gate's columns in one loop and the up
  columns in another, each trip in the same way. A trip decodes a strip of 128 packed rows (256 rows of codes) and stores, for
  each of its eight scale rows, the 16 row pairs that scale covers. Every store's payload, at row pair `r`, half `p` and
  column `c`, is the code's value times the value of half `p` of the scale word.
-/
module

public import proofs.«01_k».proof.Proof.GFrame
public import proofs.«01_k».proof.Proof.Words
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.GKernelIdeal.Value

open Cert.GKernelIdeal Cert.GKernelIdeal.Gen Cert.Words

/-- The decoded codes of a strip of 128 packed rows. -/
theorem codes_at (w : Vec Ideal S128x256 .i8) (r : Fin 256) (c : Fin 256) :
    k0_pay7 (F := Ideal) (k0_pay5 w) (k0_pay6 w) (ix2 r c)
      = code (nib (w (ix2 ⟨r.val / 2, by omega⟩ c)) (r.val % 2)) := by
  pointwise [k0_pay7, k0_pay5, k0_pay6, k0_pay4]
  rw [bitcast_rows _ bitcasts_S128x256_w32_S256x256_w16 _ _ (by omega)]
  pointwise
  exact congrArg _ (decode_half _ ⟨r.val % 2, by omega⟩)

/-- What the store of scale row `g` holds at row pair `r`, half `p`, column `c`. -/
def scaled (v : Vec Ideal S256x256 .bf16) (s : Vec Ideal S8x256 .i32) (g : Fin 8) (r : Fin 16) (p : Fin 2) (c : Fin 256) :
    Ideal .bf16 :=
  v (ix2 ⟨32 * g.val + (2 * r.val + p.val), by omega⟩ c) * Ideal.ofBits .bf16 (BitVec.extractLsb' (16 * p.val) 16 (s (ix2 g c)))

theorem store0 (a b : Vec Ideal S128x256 .i32) (s : Vec Ideal S8x256 .i32) (r : Fin 16) (p : Fin 2) (c : Fin 256) :
    k0_pay8 (F := Ideal) a b s (ix3 r p c) = scaled (k0_pay7 (F := Ideal) a b) s 0 r p c := by
  pointwise [k0_pay8]
  rw [bitcast_rows _ bitcasts_S16x256_w32_S32x256_w16 _ _ (by show (2 * r.val) / 2 < 16; omega),
    bitcast_rows _ bitcasts_S16x256_w32_S32x256_w16 _ _ (by show (2 * r.val + 1) / 2 < 16; omega)]
  pointwise
  fin_cases p
  · simp [scaled]
  · simp [scaled, Nat.add_mod]

theorem store1 (a b : Vec Ideal S128x256 .i32) (s : Vec Ideal S8x256 .i32) (r : Fin 16) (p : Fin 2) (c : Fin 256) :
    k0_pay9 (F := Ideal) a b s (ix3 r p c) = scaled (k0_pay7 (F := Ideal) a b) s 1 r p c := by
  pointwise [k0_pay9]
  rw [bitcast_rows _ bitcasts_S16x256_w32_S32x256_w16 _ _ (by show (2 * r.val) / 2 < 16; omega),
    bitcast_rows _ bitcasts_S16x256_w32_S32x256_w16 _ _ (by show (2 * r.val + 1) / 2 < 16; omega)]
  pointwise
  fin_cases p
  · simp [scaled]
  · simp [scaled, Nat.add_mod]

theorem store2 (v : Vec Ideal S256x256 .bf16) (s : Vec Ideal S8x256 .i32) (r : Fin 16) (p : Fin 2) (c : Fin 256) :
    k0_pay11 (F := Ideal) v (k0_pay10 s) (ix3 r p c) = scaled v s 2 r p c := by
  pointwise [k0_pay11, k0_pay10]
  rw [bitcast_rows _ bitcasts_S16x256_w32_S32x256_w16 _ _ (by show (2 * r.val) / 2 < 16; omega),
    bitcast_rows _ bitcasts_S16x256_w32_S32x256_w16 _ _ (by show (2 * r.val + 1) / 2 < 16; omega)]
  pointwise
  fin_cases p
  · simp [scaled]
  · simp [scaled, Nat.add_mod]

theorem store3 (v : Vec Ideal S256x256 .bf16) (s : Vec Ideal S8x256 .i32) (r : Fin 16) (p : Fin 2) (c : Fin 256) :
    k0_pay12 (F := Ideal) v s (ix3 r p c) = scaled v s 3 r p c := by
  pointwise [k0_pay12]
  rw [bitcast_rows _ bitcasts_S16x256_w32_S32x256_w16 _ _ (by show (2 * r.val) / 2 < 16; omega),
    bitcast_rows _ bitcasts_S16x256_w32_S32x256_w16 _ _ (by show (2 * r.val + 1) / 2 < 16; omega)]
  pointwise
  fin_cases p
  · simp [scaled]
  · simp [scaled, Nat.add_mod]

theorem store4 (v : Vec Ideal S256x256 .bf16) (s : Vec Ideal S8x256 .i32) (r : Fin 16) (p : Fin 2) (c : Fin 256) :
    k0_pay16 (F := Ideal) (k0_pay14 v s) (k0_pay15 v s) (ix3 r p c) = scaled v s 4 r p c := by
  pointwise [k0_pay16, k0_pay14, k0_pay15, k0_pay13]
  rw [bitcast_rows _ bitcasts_S16x256_w32_S32x256_w16 _ _ (by show (2 * r.val) / 2 < 16; omega),
    bitcast_rows _ bitcasts_S16x256_w32_S32x256_w16 _ _ (by show (2 * r.val + 1) / 2 < 16; omega)]
  pointwise
  fin_cases p
  · simp [scaled]
  · simp [scaled, Nat.add_mod]

theorem store5 (v : Vec Ideal S256x256 .bf16) (s : Vec Ideal S8x256 .i32) (r : Fin 16) (p : Fin 2) (c : Fin 256) :
    k0_pay17 (F := Ideal) v s (ix3 r p c) = scaled v s 5 r p c := by
  pointwise [k0_pay17]
  rw [bitcast_rows _ bitcasts_S16x256_w32_S32x256_w16 _ _ (by show (2 * r.val) / 2 < 16; omega),
    bitcast_rows _ bitcasts_S16x256_w32_S32x256_w16 _ _ (by show (2 * r.val + 1) / 2 < 16; omega)]
  pointwise
  fin_cases p
  · simp [scaled]
  · simp [scaled, Nat.add_mod]

theorem store6 (v : Vec Ideal S256x256 .bf16) (s : Vec Ideal S8x256 .i32) (r : Fin 16) (p : Fin 2) (c : Fin 256) :
    k0_pay18 (F := Ideal) v s (ix3 r p c) = scaled v s 6 r p c := by
  pointwise [k0_pay18]
  rw [bitcast_rows _ bitcasts_S16x256_w32_S32x256_w16 _ _ (by show (2 * r.val) / 2 < 16; omega),
    bitcast_rows _ bitcasts_S16x256_w32_S32x256_w16 _ _ (by show (2 * r.val + 1) / 2 < 16; omega)]
  pointwise
  fin_cases p
  · simp [scaled]
  · simp [scaled, Nat.add_mod]

theorem store7 (v : Vec Ideal S256x256 .bf16) (s : Vec Ideal S8x256 .i32) (r : Fin 16) (p : Fin 2) (c : Fin 256) :
    k0_pay237 (F := Ideal) v (k0_pay19 s) (ix3 r p c) = scaled v s 7 r p c := by
  pointwise [k0_pay237, k0_pay19]
  rw [bitcast_rows _ bitcasts_S16x256_w32_S32x256_w16 _ _ (by show (2 * r.val) / 2 < 16; omega),
    bitcast_rows _ bitcasts_S16x256_w32_S32x256_w16 _ _ (by show (2 * r.val + 1) / 2 < 16; omega)]
  pointwise
  fin_cases p
  · simp [scaled]
  · simp [scaled, Nat.add_mod]

end Cert.GKernelIdeal.Value
-- ==== Proof.GHold.lean ====
/-
  WHAT THE SCRATCH HOLDS AFTER THE TWO DECODE LOOPS of the gate-and-up call. The first loop stores the gate's columns, the
  second the up columns, beside them; every piece of either agrees with ONE function of the packed weights and the scale words (`beside`).
-/
module

public import proofs.«01_k».proof.Proof.GTrip

@[expose] public section

set_option maxRecDepth 16384

noncomputable section

open Idealize.ShloMosaic Idealize.ShloMosaic.TcCoe Idealize.SL.Sem
open Idealize.ShloMosaic.Pipeline (Dat)

namespace Cert.GKernelIdeal.Value

open Cert.GKernelIdeal Cert.GKernelIdeal.Gen Cert.Words

/-- A decoded weight of a side: row pair, half and column to a number. -/
def entry (w : Vec Ideal S4096x256 .i8) (s : Vec Ideal S256x256 .i32) (r : Fin 4096) (p : Fin 2) (c : Fin 256) : Ideal .bf16 :=
  code (nib (w (ix2 r c)) p.val) * Ideal.ofBits .bf16 (BitVec.extractLsb' (16 * p.val) 16 (s (ix2 ⟨r.val / 16, by omega⟩ c)))

theorem off1 : ∀ k : Fin k0_t1_loop.trips, k0_off1 k = ![128 * k.val, 0] := by decide +kernel
theorem off2 : ∀ k : Fin k0_t1_loop.trips, k0_off2 k = ![8 * k.val, 0] := by decide +kernel
theorem off3 : ∀ (k : Fin k0_t1_loop.trips) (g : Fin 8),
    k0_off3 k (BitVec.ofNat 32 (16 * g.val)) = ![128 * k.val + 16 * g.val, 0, 0] := by decide +kernel
theorem off4 : ∀ k : Fin k0_t2_loop.trips, k0_off4 k = ![128 * k.val, 0] := by decide +kernel
theorem off5 : ∀ k : Fin k0_t2_loop.trips, k0_off5 k = ![8 * k.val, 0] := by decide +kernel
theorem off6 : ∀ (k : Fin k0_t2_loop.trips) (g : Fin 8),
    k0_off6 k (BitVec.ofNat 32 (16 * g.val)) = ![128 * k.val + 16 * g.val, 0, 256] := by decide +kernel
theorem trips1_eq : k0_t1_loop.trips = 32 := by decide +kernel
theorem trips2_eq : k0_t2_loop.trips = 32 := by decide +kernel

/-- A piece whose payload is scale row `g` of strip `k`, stored from column `o` on, agrees with a function that holds the
    side's weights there. -/
theorem piece_agrees {κ κ' sp sp'} (v3 : View sig κ sp S4096x256 .i8) (v6 : View sig κ' sp' S256x256 .i32)
    (X3 : v3.ty.Contents (Elt Ideal)) (X6 : v6.ty.Contents (Elt Ideal)) (k : ℕ) (hk : k < 32) (g : Fin 8) (o : ℕ) (ho : o ≤ 256)
    (o1 o2 : Fin 2 → ℕ) (o3 : Fin 3 → ℕ) (h1 : o1 = ![128 * k, 0]) (h2 : o2 = ![8 * k, 0]) (h3 : o3 = ![128 * k + 16 * g.val, 0, o])
    (inb3 : ∀ a, o3 a + S16x2x256.size a ≤ S4096x2x512.size a)
    (inb1 : ∀ a, o1 a + S128x256.size a ≤ S4096x256.size a)
    (inb2 : ∀ a, o2 a + S8x256.size a ≤ S256x256.size a)
    (pay : Vec Ideal S16x2x256 .bf16)
    (hp : ∀ r p c, pay (ix3 r p c) = scaled
      (k0_pay7 (F := Ideal)
        (k0_pay5 (v3.readAt (Elt Ideal) (Rect.unit (s := S4096x256) o1 S128x256.size inb1).toLoadRect X3))
        (k0_pay6 (v3.readAt (Elt Ideal) (Rect.unit (s := S4096x256) o1 S128x256.size inb1).toLoadRect X3)))
      (v6.readAt (Elt Ideal) (Rect.unit (s := S256x256) o2 S8x256.size inb2).toLoadRect X6) g r p c)
    (f : S4096x2x512.Idx → Ideal .bf16)
    (hf : ∀ (r : Fin 4096) (p : Fin 2) (c : Fin 256), f (ix3 r p ⟨o + c.val, by omega⟩)
      = entry (v3.read (Elt Ideal) X3) (v6.read (Elt Ideal) X6) r p c)
    (x : S16x2x256.Idx) :
    pay x = f ((Rect.unit (s := S4096x2x512) o3 S16x2x256.size inb3).emb x) := by
  obtain ⟨r, p, c, rfl⟩ : ∃ (r : Fin 16) (p : Fin 2) (c : Fin 256), x = ix3 r p c :=
    ⟨x 0, x 1, x 2, funext fun a => by match a with | ⟨0, _⟩ => rfl | ⟨1, _⟩ => rfl | ⟨2, _⟩ => rfl⟩
  have hy : (Rect.unit (s := S4096x2x512) o3 S16x2x256.size inb3).emb (ix3 r p c)
      = ix3 (⟨128 * k + 16 * g.val + r.val, by omega⟩ : Fin 4096) p (⟨o + c.val, by omega⟩ : Fin 512) := by
    funext a
    apply Fin.ext
    refine (Rect.idx_unit_val _ _ inb3 _ a).trans ?_
    refine (congrArg (· + _) (congrFun h3 a)).trans ?_
    match a with
    | ⟨0, _⟩ => rfl
    | ⟨1, _⟩ => exact Nat.zero_add _
    | ⟨2, _⟩ => rfl
  rw [hy, hf, hp, scaled, codes_at, View.readAt_eq_ld, View.readAt_eq_ld,
    View.ld_unit_apply_of _ _ _ _ _ (ix2 (⟨128 * k + 16 * g.val + r.val, by omega⟩ : Fin 4096) c) ?_,
    View.ld_unit_apply_of _ _ _ _ _ (ix2 (⟨8 * k + g.val, by omega⟩ : Fin 256) c) ?_]
  · show code (nib _ _) * _ = code (nib _ _) * _
    have e1 : (32 * g.val + (2 * r.val + p.val)) % 2 = p.val := by omega
    have e2 : (⟨8 * k + g.val, by omega⟩ : Fin 256) = ⟨(128 * k + 16 * g.val + r.val) / 16, by omega⟩ :=
      Fin.ext (show 8 * k + g.val = (128 * k + 16 * g.val + r.val) / 16 by omega)
    simp only [e1, e2]
  · intro a
    refine Eq.trans ?_ (congrArg (· + _) (congrFun h2 a).symm)
    match a with
    | ⟨0, _⟩ => rfl
    | ⟨1, _⟩ => exact (Nat.zero_add _).symm
  · intro a
    refine Eq.trans ?_ (congrArg (· + _) (congrFun h1 a).symm)
    match a with
    | ⟨0, _⟩ => show 128 * k + 16 * g.val + r.val = 128 * k + (32 * g.val + (2 * r.val + p.val)) / 2; omega
    | ⟨1, _⟩ => exact (Nat.zero_add _).symm

/-- An index in a piece's strip and side lies in the piece. -/
theorem piece_covers (k : ℕ) (g : Fin 8) (o : ℕ) (o3 : Fin 3 → ℕ) (h3 : o3 = ![128 * k + 16 * g.val, 0, o])
    (inb3 : ∀ a, o3 a + S16x2x256.size a ≤ S4096x2x512.size a) (y : S4096x2x512.Idx) (hy : (y 0).val / 128 = k)
    (hg : (y 0).val % 128 / 16 = g.val) (hl : o ≤ (y 2).val) (hr : (y 2).val < o + 256) :
    y ∈ (Rect.unit (s := S4096x2x512) o3 S16x2x256.size inb3).set := by
  rw [Rect.mem_set_unit]
  subst h3
  intro a
  match a with
  | ⟨0, _⟩ =>
    show 128 * k + 16 * g.val ≤ (y 0).val ∧ (y 0).val < 128 * k + 16 * g.val + 16
    omega
  | ⟨1, _⟩ => exact ⟨Nat.zero_le _, lt_of_lt_of_eq (y 1).isLt (Nat.zero_add 2).symm⟩
  | ⟨2, _⟩ => exact ⟨hl, hr⟩

section Loop

variable (𝒱 : Variants) (c : Dev nD) (bd : Option 𝒱.V) (i : grid0.Coords)
  (arg2 : Memref sig .tc .vmem S512x8192 .i32) (harg2 : arg2.IsWhole)
  (arg3 : Memref sig .tc .vmem S4096x256 .i8) (harg3 : arg3.IsWhole)
  (arg4 : Memref sig .tc .vmem S4096x256 .i8) (harg4 : arg4.IsWhole)
  (arg5 : Memref sig .tc .vmem S256x256 .i8) (harg5 : arg5.IsWhole)
  (arg6 : Memref sig .tc .vmem S256x256 .i8) (harg6 : arg6.IsWhole)
  (arg7 : Memref sig .tc .vmem S1024x256 .fp8e4m3) (harg7 : arg7.IsWhole)
  (arg8 : Memref sig .tc .vmem S1024x224 .i8) (harg8 : arg8.IsWhole)
  (arg9 : Memref sig .tc .vmem S1024x256 .bf16) (harg9 : arg9.IsWhole)
  (arg10 : Memref sig .tc .vmem S256x256 .i32) (harg10 : arg10.IsWhole)
  (arg11 : Memref sig .tc .vmem S4096x2x512 .bf16) (harg11 : arg11.IsWhole)
  (arg12 : Memref sig .tc .vmem S1024x512 .f32) (harg12 : arg12.IsWhole)
  (arg13 : Memref sig .tc .vmem S128x128 .i32) (harg13 : arg13.IsWhole)
  (arg14 : Memref sig .tc .vmem S1024x256 .i32) (harg14 : arg14.IsWhole)

/-- Every piece of a trip of loop 1 agrees with a function that holds its side's weights. -/
theorem trip1_agrees (X : arg3.view.ty.Contents (Elt Ideal)) (X10 : arg10.view.ty.Contents (Elt Ideal)) (f : S4096x2x512.Idx → Ideal .bf16)
    (hf : ∀ (r : Fin 4096) (p : Fin 2) (c : Fin 256), f (ix3 r p ⟨0 + c.val, by omega⟩)
      = entry (arg3.view.read (Elt Ideal) X) (arg10.view.read (Elt Ideal) X10) r p c) (k : Fin k0_t1_loop.trips) :
    ∀ q ∈ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X X10 k, ∀ x : q.1.shape.Idx, q.2 x = f (q.1.emb x) := by
  have hk : k.val < 32 := lt_of_lt_of_eq k.isLt trips1_eq
  unfold tripL_k0_t1 trip_k0_t1
  simp only [List.forall_mem_cons]
  refine ⟨?_, ?_, ?_, ?_, ?_, ?_, ?_, ?_, by simp⟩
  · exact piece_agrees arg3.view arg10.view X X10 k.val hk 7 0 (by norm_num) _ _ _ (off1 k) (off2 k) (off3 k 7) _ (k0_off1_inb k) (k0_off2_inb k) _ (fun r p c => store7 _ _ r p c) f hf
  · exact piece_agrees arg3.view arg10.view X X10 k.val hk 6 0 (by norm_num) _ _ _ (off1 k) (off2 k) (off3 k 6) _ (k0_off1_inb k) (k0_off2_inb k) _ (fun r p c => store6 _ _ r p c) f hf
  · exact piece_agrees arg3.view arg10.view X X10 k.val hk 5 0 (by norm_num) _ _ _ (off1 k) (off2 k) (off3 k 5) _ (k0_off1_inb k) (k0_off2_inb k) _ (fun r p c => store5 _ _ r p c) f hf
  · exact piece_agrees arg3.view arg10.view X X10 k.val hk 4 0 (by norm_num) _ _ _ (off1 k) (off2 k) (off3 k 4) _ (k0_off1_inb k) (k0_off2_inb k) _ (fun r p c => store4 _ _ r p c) f hf
  · exact piece_agrees arg3.view arg10.view X X10 k.val hk 3 0 (by norm_num) _ _ _ (off1 k) (off2 k) (off3 k 3) _ (k0_off1_inb k) (k0_off2_inb k) _ (fun r p c => store3 _ _ r p c) f hf
  · exact piece_agrees arg3.view arg10.view X X10 k.val hk 2 0 (by norm_num) _ _ _ (off1 k) (off2 k) (off3 k 2) _ (k0_off1_inb k) (k0_off2_inb k) _ (fun r p c => store2 _ _ r p c) f hf
  · exact piece_agrees arg3.view arg10.view X X10 k.val hk 1 0 (by norm_num) _ _ _ (off1 k) (off2 k) (off3 k 1) _ (k0_off1_inb k) (k0_off2_inb k) _ (fun r p c => store1 _ _ _ r p c) f hf
  · exact piece_agrees arg3.view arg10.view X X10 k.val hk 0 0 (by norm_num) _ _ _ (off1 k) (off2 k) (off3 k 0) _ (k0_off1_inb k) (k0_off2_inb k) _ (fun r p c => store0 _ _ _ r p c) f hf

/-- Trip `k` of loop 1 covers its side of row pairs `128 k` to `128 k + 127`. -/
theorem trip1_covers (X : arg3.view.ty.Contents (Elt Ideal)) (X10 : arg10.view.ty.Contents (Elt Ideal)) (k : Fin k0_t1_loop.trips)
    (y : S4096x2x512.Idx) (hy : (y 0).val / 128 = k.val) (hl : 0 ≤ (y 2).val) (hr : (y 2).val < 0 + 256) :
    ∃ q ∈ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X X10 k, y ∈ q.1.set := by
  unfold tripL_k0_t1 trip_k0_t1
  simp only [List.exists_mem_cons_iff]
  have h8 : (y 0).val % 128 / 16 < 8 := by omega
  interval_cases h : (y 0).val % 128 / 16
  · iterate 7 right
    exact Or.inl (piece_covers k.val 0 0 _ (off3 k 0) _ y hy h hl hr)
  · iterate 6 right
    exact Or.inl (piece_covers k.val 1 0 _ (off3 k 1) _ y hy h hl hr)
  · iterate 5 right
    exact Or.inl (piece_covers k.val 2 0 _ (off3 k 2) _ y hy h hl hr)
  · iterate 4 right
    exact Or.inl (piece_covers k.val 3 0 _ (off3 k 3) _ y hy h hl hr)
  · iterate 3 right
    exact Or.inl (piece_covers k.val 4 0 _ (off3 k 4) _ y hy h hl hr)
  · iterate 2 right
    exact Or.inl (piece_covers k.val 5 0 _ (off3 k 5) _ y hy h hl hr)
  · iterate 1 right
    exact Or.inl (piece_covers k.val 6 0 _ (off3 k 6) _ y hy h hl hr)
  · exact Or.inl (piece_covers k.val 7 0 _ (off3 k 7) _ y hy h hl hr)

/-- Every piece of the first `n` trips agrees. -/
theorem loop1_agrees (X : arg3.view.ty.Contents (Elt Ideal)) (X10 : arg10.view.ty.Contents (Elt Ideal)) (f : S4096x2x512.Idx → Ideal .bf16)
    (hf : ∀ (r : Fin 4096) (p : Fin 2) (c : Fin 256), f (ix3 r p ⟨0 + c.val, by omega⟩)
      = entry (arg3.view.read (Elt Ideal) X) (arg10.view.read (Elt Ideal) X10) r p c) : ∀ n, n ≤ k0_t1_loop.trips →
    ∀ q ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X X10 n, ∀ x : q.1.shape.Idx, q.2 x = f (q.1.emb x)
  | 0, _ => fun q hq => absurd hq List.not_mem_nil
  | n + 1, hn => by
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 X X10 ⟨n, hn⟩]
    intro q hq
    rcases List.mem_append.1 hq with h | h
    · exact trip1_agrees 𝒱 c bd i arg2 harg2 arg3 harg3 arg4 harg4 arg5 harg5 arg6 harg6 arg7 harg7 arg8 harg8 arg9 harg9 arg10 harg10 arg11 harg11 arg12 harg12 arg13 harg13 arg14 harg14 X X10 f hf ⟨n, hn⟩ q h
    · exact loop1_agrees X X10 f hf n (by omega) q h

/-- The first `n` trips cover the side's row pairs below `128 n`. -/
theorem loop1_covers (X : arg3.view.ty.Contents (Elt Ideal)) (X10 : arg10.view.ty.Contents (Elt Ideal)) : ∀ n, n ≤ k0_t1_loop.trips →
    ∀ y : S4096x2x512.Idx, (y 0).val < 128 * n → 0 ≤ (y 2).val → (y 2).val < 0 + 256 →
    ∃ q ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X X10 n, y ∈ q.1.set
  | 0, _ => fun y hy => by omega
  | n + 1, hn => by
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 X X10 ⟨n, hn⟩]
    intro y hy hl hr
    by_cases h : (y 0).val < 128 * n
    · obtain ⟨q, hq, hm⟩ := loop1_covers X X10 n (by omega) y h hl hr
      exact ⟨q, List.mem_append_right _ hq, hm⟩
    · obtain ⟨q, hq, hm⟩ := trip1_covers 𝒱 c bd i arg2 harg2 arg3 harg3 arg4 harg4 arg5 harg5 arg6 harg6 arg7 harg7 arg8 harg8 arg9 harg9 arg10 harg10 arg11 harg11 arg12 harg12 arg13 harg13 arg14 harg14 X X10 ⟨n, hn⟩ y (by show _ = n; omega) hl hr
      exact ⟨q, List.mem_append_left _ hq, hm⟩

/-- Every piece of a trip of loop 2 agrees with a function that holds its side's weights. -/
theorem trip2_agrees (X : arg4.view.ty.Contents (Elt Ideal)) (X10 : arg10.view.ty.Contents (Elt Ideal)) (f : S4096x2x512.Idx → Ideal .bf16)
    (hf : ∀ (r : Fin 4096) (p : Fin 2) (c : Fin 256), f (ix3 r p ⟨256 + c.val, by omega⟩)
      = entry (arg4.view.read (Elt Ideal) X) (arg10.view.read (Elt Ideal) X10) r p c) (k : Fin k0_t2_loop.trips) :
    ∀ q ∈ tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 X X10 k, ∀ x : q.1.shape.Idx, q.2 x = f (q.1.emb x) := by
  have hk : k.val < 32 := lt_of_lt_of_eq k.isLt trips2_eq
  unfold tripL_k0_t2 trip_k0_t2
  simp only [List.forall_mem_cons]
  refine ⟨?_, ?_, ?_, ?_, ?_, ?_, ?_, ?_, by simp⟩
  · exact piece_agrees arg4.view arg10.view X X10 k.val hk 7 256 (by norm_num) _ _ _ (off4 k) (off5 k) (off6 k 7) _ (k0_off4_inb k) (k0_off5_inb k) _ (fun r p c => store7 _ _ r p c) f hf
  · exact piece_agrees arg4.view arg10.view X X10 k.val hk 6 256 (by norm_num) _ _ _ (off4 k) (off5 k) (off6 k 6) _ (k0_off4_inb k) (k0_off5_inb k) _ (fun r p c => store6 _ _ r p c) f hf
  · exact piece_agrees arg4.view arg10.view X X10 k.val hk 5 256 (by norm_num) _ _ _ (off4 k) (off5 k) (off6 k 5) _ (k0_off4_inb k) (k0_off5_inb k) _ (fun r p c => store5 _ _ r p c) f hf
  · exact piece_agrees arg4.view arg10.view X X10 k.val hk 4 256 (by norm_num) _ _ _ (off4 k) (off5 k) (off6 k 4) _ (k0_off4_inb k) (k0_off5_inb k) _ (fun r p c => store4 _ _ r p c) f hf
  · exact piece_agrees arg4.view arg10.view X X10 k.val hk 3 256 (by norm_num) _ _ _ (off4 k) (off5 k) (off6 k 3) _ (k0_off4_inb k) (k0_off5_inb k) _ (fun r p c => store3 _ _ r p c) f hf
  · exact piece_agrees arg4.view arg10.view X X10 k.val hk 2 256 (by norm_num) _ _ _ (off4 k) (off5 k) (off6 k 2) _ (k0_off4_inb k) (k0_off5_inb k) _ (fun r p c => store2 _ _ r p c) f hf
  · exact piece_agrees arg4.view arg10.view X X10 k.val hk 1 256 (by norm_num) _ _ _ (off4 k) (off5 k) (off6 k 1) _ (k0_off4_inb k) (k0_off5_inb k) _ (fun r p c => store1 _ _ _ r p c) f hf
  · exact piece_agrees arg4.view arg10.view X X10 k.val hk 0 256 (by norm_num) _ _ _ (off4 k) (off5 k) (off6 k 0) _ (k0_off4_inb k) (k0_off5_inb k) _ (fun r p c => store0 _ _ _ r p c) f hf

/-- Trip `k` of loop 2 covers its side of row pairs `128 k` to `128 k + 127`. -/
theorem trip2_covers (X : arg4.view.ty.Contents (Elt Ideal)) (X10 : arg10.view.ty.Contents (Elt Ideal)) (k : Fin k0_t2_loop.trips)
    (y : S4096x2x512.Idx) (hy : (y 0).val / 128 = k.val) (hl : 256 ≤ (y 2).val) (hr : (y 2).val < 256 + 256) :
    ∃ q ∈ tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 X X10 k, y ∈ q.1.set := by
  unfold tripL_k0_t2 trip_k0_t2
  simp only [List.exists_mem_cons_iff]
  have h8 : (y 0).val % 128 / 16 < 8 := by omega
  interval_cases h : (y 0).val % 128 / 16
  · iterate 7 right
    exact Or.inl (piece_covers k.val 0 256 _ (off6 k 0) _ y hy h hl hr)
  · iterate 6 right
    exact Or.inl (piece_covers k.val 1 256 _ (off6 k 1) _ y hy h hl hr)
  · iterate 5 right
    exact Or.inl (piece_covers k.val 2 256 _ (off6 k 2) _ y hy h hl hr)
  · iterate 4 right
    exact Or.inl (piece_covers k.val 3 256 _ (off6 k 3) _ y hy h hl hr)
  · iterate 3 right
    exact Or.inl (piece_covers k.val 4 256 _ (off6 k 4) _ y hy h hl hr)
  · iterate 2 right
    exact Or.inl (piece_covers k.val 5 256 _ (off6 k 5) _ y hy h hl hr)
  · iterate 1 right
    exact Or.inl (piece_covers k.val 6 256 _ (off6 k 6) _ y hy h hl hr)
  · exact Or.inl (piece_covers k.val 7 256 _ (off6 k 7) _ y hy h hl hr)

/-- Every piece of the first `n` trips agrees. -/
theorem loop2_agrees (X : arg4.view.ty.Contents (Elt Ideal)) (X10 : arg10.view.ty.Contents (Elt Ideal)) (f : S4096x2x512.Idx → Ideal .bf16)
    (hf : ∀ (r : Fin 4096) (p : Fin 2) (c : Fin 256), f (ix3 r p ⟨256 + c.val, by omega⟩)
      = entry (arg4.view.read (Elt Ideal) X) (arg10.view.read (Elt Ideal) X10) r p c) : ∀ n, n ≤ k0_t2_loop.trips →
    ∀ q ∈ pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 X X10 n, ∀ x : q.1.shape.Idx, q.2 x = f (q.1.emb x)
  | 0, _ => fun q hq => absurd hq List.not_mem_nil
  | n + 1, hn => by
    rw [pb_k0_t2_succ 𝒱 c bd i arg2 harg2 arg3 harg3 arg4 harg4 arg5 harg5 arg6 harg6 arg7 harg7 arg8 harg8 arg9 harg9 arg10 harg10 arg11 harg11 arg12 harg12 arg13 harg13 arg14 harg14 X X10 ⟨n, hn⟩]
    intro q hq
    rcases List.mem_append.1 hq with h | h
    · exact trip2_agrees 𝒱 c bd i arg2 harg2 arg3 harg3 arg4 harg4 arg5 harg5 arg6 harg6 arg7 harg7 arg8 harg8 arg9 harg9 arg10 harg10 arg11 harg11 arg12 harg12 arg13 harg13 arg14 harg14 X X10 f hf ⟨n, hn⟩ q h
    · exact loop2_agrees X X10 f hf n (by omega) q h

/-- The first `n` trips cover the side's row pairs below `128 n`. -/
theorem loop2_covers (X : arg4.view.ty.Contents (Elt Ideal)) (X10 : arg10.view.ty.Contents (Elt Ideal)) : ∀ n, n ≤ k0_t2_loop.trips →
    ∀ y : S4096x2x512.Idx, (y 0).val < 128 * n → 256 ≤ (y 2).val → (y 2).val < 256 + 256 →
    ∃ q ∈ pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 X X10 n, y ∈ q.1.set
  | 0, _ => fun y hy => by omega
  | n + 1, hn => by
    rw [pb_k0_t2_succ 𝒱 c bd i arg2 harg2 arg3 harg3 arg4 harg4 arg5 harg5 arg6 harg6 arg7 harg7 arg8 harg8 arg9 harg9 arg10 harg10 arg11 harg11 arg12 harg12 arg13 harg13 arg14 harg14 X X10 ⟨n, hn⟩]
    intro y hy hl hr
    by_cases h : (y 0).val < 128 * n
    · obtain ⟨q, hq, hm⟩ := loop2_covers X X10 n (by omega) y h hl hr
      exact ⟨q, List.mem_append_right _ hq, hm⟩
    · obtain ⟨q, hq, hm⟩ := trip2_covers 𝒱 c bd i arg2 harg2 arg3 harg3 arg4 harg4 arg5 harg5 arg6 harg6 arg7 harg7 arg8 harg8 arg9 harg9 arg10 harg10 arg11 harg11 arg12 harg12 arg13 harg13 arg14 harg14 X X10 ⟨n, hn⟩ y (by show _ = n; omega) hl hr
      exact ⟨q, List.mem_append_left _ hq, hm⟩

/-- The decoded weights of both sides: the gate's columns, and beside them the up columns. -/
def beside (w u : Vec Ideal S4096x256 .i8) (s z : Vec Ideal S256x256 .i32) (y : S4096x2x512.Idx) : Ideal .bf16 :=
  if h : (y 2).val < 256 then entry w s (y 0) (y 1) ⟨(y 2).val, h⟩
  else entry u z (y 0) (y 1) ⟨(y 2).val - 256, by have := (y 2).isLt; have e : S4096x2x512.size 2 = 512 := rfl; omega⟩

theorem beside_gate (w u : Vec Ideal S4096x256 .i8) (s z : Vec Ideal S256x256 .i32) (r : Fin 4096) (p : Fin 2) (c : Fin 256) (l : Fin 512)
    (hl : l.val = 0 + c.val) : beside w u s z (ix3 r p l) = entry w s r p c := by
  have h : l.val < 256 := by omega
  have e : (⟨l.val, h⟩ : Fin 256) = c := Fin.ext (by show l.val = c.val; omega)
  refine (dif_pos h).trans ?_
  exact congrArg (entry w s r p) e

theorem beside_up (w u : Vec Ideal S4096x256 .i8) (s z : Vec Ideal S256x256 .i32) (r : Fin 4096) (p : Fin 2) (c : Fin 256) (l : Fin 512)
    (hl : l.val = 256 + c.val) : beside w u s z (ix3 r p l) = entry u z r p c := by
  have h : ¬ l.val < 256 := by omega
  have e : (⟨l.val - 256, by omega⟩ : Fin 256) = c := Fin.ext (by show l.val - 256 = c.val; omega)
  refine (dif_neg h).trans ?_
  exact congrArg (entry u z r p) e

/-- What the two loops leave in the scratch, whatever it held. -/
theorem canon_loops (X3 : arg3.view.ty.Contents (Elt Ideal)) (X4 : arg4.view.ty.Contents (Elt Ideal)) (X10 Y10 : arg10.view.ty.Contents (Elt Ideal))
    (n₁ n₂ : ℕ) (h₁ : n₁ = k0_t1_loop.trips) (h₂ : n₂ = k0_t2_loop.trips) :
    View.canon (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 X4 Y10 n₂ ++ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X3 X10 n₁)
      = beside (arg3.view.read (Elt Ideal) X3) (arg4.view.read (Elt Ideal) X4) (arg10.view.read (Elt Ideal) X10) (arg10.view.read (Elt Ideal) Y10) := by
  subst h₁ h₂
  funext y
  refine View.canon_apply_of_pieces _ _ ?_ y ?_
  · intro q hq
    rcases List.mem_append.1 hq with h | h
    · exact loop2_agrees 𝒱 c bd i arg2 harg2 arg3 harg3 arg4 harg4 arg5 harg5 arg6 harg6 arg7 harg7 arg8 harg8 arg9 harg9 arg10 harg10 arg11 harg11 arg12 harg12 arg13 harg13 arg14 harg14 X4 Y10 _ (fun r p c => beside_up _ _ _ _ r p c _ rfl) _ le_rfl q h
    · exact loop1_agrees 𝒱 c bd i arg2 harg2 arg3 harg3 arg4 harg4 arg5 harg5 arg6 harg6 arg7 harg7 arg8 harg8 arg9 harg9 arg10 harg10 arg11 harg11 arg12 harg12 arg13 harg13 arg14 harg14 X3 X10 _ (fun r p c => beside_gate _ _ _ _ r p c _ rfl) _ le_rfl q h
  · have h0 : (y 0).val < 4096 := (y 0).isLt
    have h2 : (y 2).val < 512 := (y 2).isLt
    by_cases h : (y 2).val < 256
    · obtain ⟨q, hq, hm⟩ := loop1_covers 𝒱 c bd i arg2 harg2 arg3 harg3 arg4 harg4 arg5 harg5 arg6 harg6 arg7 harg7 arg8 harg8 arg9 harg9 arg10 harg10 arg11 harg11 arg12 harg12 arg13 harg13 arg14 harg14 X3 X10 _ le_rfl y (by rw [trips1_eq]; exact h0) (Nat.zero_le _) (by omega)
      exact ⟨q, List.mem_append_right _ hq, hm⟩
    · obtain ⟨q, hq, hm⟩ := loop2_covers 𝒱 c bd i arg2 harg2 arg3 harg3 arg4 harg4 arg5 harg5 arg6 harg6 arg7 harg7 arg8 harg8 arg9 harg9 arg10 harg10 arg11 harg11 arg12 harg12 arg13 harg13 arg14 harg14 X4 Y10 _ le_rfl y (by rw [trips2_eq]; exact h0) (by omega) (by omega)
      exact ⟨q, List.mem_append_left _ hq, hm⟩

end Loop

end Cert.GKernelIdeal.Value
-- ==== Proof.GAcc.lean ====
/-
  WHAT THE ACCUMULATOR HOLDS BEFORE THE EPILOGUE: the product of the block's activation rows with its decoded weight columns,
  the gate's columns first and the up columns beside them.
-/
module

public import proofs.«01_k».proof.Proof.GHold

@[expose] public section

set_option maxRecDepth 16384

noncomputable section

open Idealize.ShloMosaic Idealize.ShloMosaic.TcCoe Idealize.SL.Sem
open Idealize.ShloMosaic.Pipeline (Dat)

namespace Cert.GKernelIdeal.Value

open Cert.GKernelIdeal Cert.GKernelIdeal.Gen Cert.Words

/-- The block of products, from the five input blocks. -/
def products (x0 : Vec Ideal S512x8192 .i32) (x1 x2 : Vec Ideal S4096x256 .i8) (x3 x4 : Vec Ideal S256x256 .i8) : FVec Ideal S1024x512 .f32 :=
  k0_pay240 x0 (beside x1 x2 (k0_pay236 x3) (k0_pay238 x4))

theorem recast (x : FVec Ideal S1024x512 .f32) : k0_pay1 x = x := by
  funext y
  obtain ⟨r, l, rfl⟩ : ∃ (r : Fin 1024) (l : Fin 512), y = ix2 r l :=
    ⟨y 0, y 1, funext fun a => by match a with | ⟨0, _⟩ => rfl | ⟨1, _⟩ => rfl⟩
  pointwise [k0_pay1]

theorem trips1_word : Scf.trips k0_t1_loop.lb k0_t1_loop.ub k0_t1_loop.st = k0_t1_loop.trips := rfl
theorem trips2_word : Scf.trips k0_t2_loop.lb k0_t2_loop.ub k0_t2_loop.st = k0_t2_loop.trips := rfl

section

variable (c : Dev nD) (i : grid0.Coords)
  (arg2 : Memref sig .tc .vmem S512x8192 .i32) (harg2 : arg2.IsWhole)
  (arg3 : Memref sig .tc .vmem S4096x256 .i8) (harg3 : arg3.IsWhole)
  (arg4 : Memref sig .tc .vmem S4096x256 .i8) (harg4 : arg4.IsWhole)
  (arg5 : Memref sig .tc .vmem S256x256 .i8) (harg5 : arg5.IsWhole)
  (arg6 : Memref sig .tc .vmem S256x256 .i8) (harg6 : arg6.IsWhole)
  (arg7 : Memref sig .tc .vmem S1024x256 .fp8e4m3) (harg7 : arg7.IsWhole)
  (arg8 : Memref sig .tc .vmem S1024x224 .i8) (harg8 : arg8.IsWhole)
  (arg9 : Memref sig .tc .vmem S1024x256 .bf16) (harg9 : arg9.IsWhole)
  (arg10 : Memref sig .tc .vmem S256x256 .i32) (harg10 : arg10.IsWhole)
  (arg11 : Memref sig .tc .vmem S4096x2x512 .bf16) (harg11 : arg11.IsWhole)
  (arg12 : Memref sig .tc .vmem S1024x512 .f32) (harg12 : arg12.IsWhole)
  (arg13 : Memref sig .tc .vmem S128x128 .i32) (harg13 : arg13.IsWhole)
  (arg14 : Memref sig .tc .vmem S1024x256 .i32) (harg14 : arg14.IsWhole)
  (x0 : Vec Ideal S512x8192 .i32) (x1 x2 : Vec Ideal S4096x256 .i8) (x3 x4 : Vec Ideal S256x256 .i8)

/-- The first scale words, read back. -/
theorem scales1 : arg10.view.read (Elt Ideal) (arg10.view.writes (Elt Ideal) arg10.view.junk (kernelRunG.sl.HS0_1 c arg5 harg5 x3))
    = k0_pay236 x3 := by
  unfold kernelRunG.sl.HS0_1
  rw [View.read_writes_junk_eq_canon, View.canon_unit_zero (by funext a; fin_cases a <;> rfl)]
  rw [View.readAt_eq_ld, harg5.read_unread, View.ld_unit_zero (by funext a; fin_cases a <;> rfl)]

/-- The second scale words, read back. -/
theorem scales2 : arg10.view.read (Elt Ideal) (arg10.view.writes (Elt Ideal) arg10.view.junk
      (⟨Rect.unit ![0, 0] S256x256.size inb_S256x256_S256x256_0_0,
          k0_pay238 (F := Ideal) (View.readAt (Elt Ideal) arg6.view (Rect.unit ![0, 0] S256x256.size inb_S256x256_S256x256_0_0).toLoadRect (harg6.unread x4))⟩
        :: kernelRunG.sl.HS0_1 c arg5 harg5 x3))
    = k0_pay238 x4 := by
  rw [View.read_writes_junk_eq_canon, View.canon_cons_unit_zero (by funext a; fin_cases a <;> rfl)]
  rw [View.readAt_eq_ld, harg6.read_unread, View.ld_unit_zero (by funext a; fin_cases a <;> rfl)]

/-- The accumulator, read back. -/
theorem accumulated : arg12.view.read (Elt Ideal) (arg12.view.writes (Elt Ideal) arg12.view.junk (kernelRunG.sl.HS2_1 c i arg2 harg2 arg3 harg3 arg4 harg4 arg5 harg5 arg6 harg6 arg7 harg7 arg8 harg8 arg9 harg9 arg10 harg10 arg11 harg11 arg12 harg12 arg13 harg13 arg14 harg14 x0 x1 x2 x3 x4))
    = products x0 x1 x2 x3 x4 := by
  unfold kernelRunG.sl.HS2_1 kernelRunG.sl.r
  rw [View.read_writes_junk_eq_canon, View.canon_unit_zero (by funext a; fin_cases a <;> rfl)]
  rw [View.readAt_eq_ld, harg2.read_unread, View.ld_unit_zero (by funext a; fin_cases a <;> rfl)]
  rw [View.readCov_eq_canon', canon_loops _ _ _ _ arg2 harg2 arg3 harg3 arg4 harg4 arg5 harg5 arg6 harg6 arg7 harg7 arg8 harg8 arg9 harg9 arg10 harg10 arg11 harg11 arg12 harg12 arg13 harg13 arg14 harg14 _ _ _ _ _ _ trips1_word trips2_word,
    harg3.read_unread, harg4.read_unread, scales1, scales2]
  rw [recast]
  unfold products
  congr 1
  funext j
  exact congrArg _ (funext fun a => Fin.ext ((Rect.idx_unit_val _ _ _ j a).trans (by
    match a with
    | ⟨0, _⟩ => exact Nat.zero_add _
    | ⟨1, _⟩ => exact Nat.zero_add _
    | ⟨2, _⟩ => exact Nat.zero_add _)))

end

end Cert.GKernelIdeal.Value
-- ==== Proof.GExponent.lean ====
/- The exponent field of a number, found by comparing and scaling by powers of two, as the kernel finds it. -/
module

public import Idealize.ShloMosaic.Lib.Pointwise
public import Idealize.ShloMosaic.Lib.IdealHost

@[expose] public section
set_option maxRecDepth 16384
noncomputable section
open Idealize.ShloMosaic
namespace Cert.Exponent

/-- Where `x` has reached the bound with bits `t`, it is scaled down by the number with bits `s`. -/
def scaleDown (t s : BitVec 32) (x : Ideal .f32) : Ideal .f32 :=
  Scalar.select (FloatOps.cmpf .oge x (Scalar.ofBits .f32 t)) (FloatOps.mulf x (Scalar.ofBits .f32 s)) x

/-- Where `x` has reached the bound with bits `t`, the exponent grows by `k`. -/
def growBy (t k : BitVec 32) (x : Ideal .f32) (e : BitVec 32) : BitVec 32 :=
  Scalar.select (FloatOps.cmpf .oge x (Scalar.ofBits .f32 t)) (IntOp.addi e k) e

/-- Numbers below one are scaled up by 2^126. -/
def x0 (a : Ideal .f32) : Ideal .f32 :=
  Scalar.select (FloatOps.cmpf .olt a (Scalar.ofBits .f32 0x3F800000#32)) (FloatOps.mulf a (Scalar.ofBits .f32 0x7E800000#32)) a
def e0 (a : Ideal .f32) : BitVec 32 :=
  Scalar.select (FloatOps.cmpf .olt a (Scalar.ofBits .f32 0x3F800000#32)) 1#32 127#32
def x1 (a : Ideal .f32) := scaleDown 0x5F800000#32 0x1F800000#32 (x0 a)
def e1 (a : Ideal .f32) := growBy 0x5F800000#32 64#32 (x0 a) (e0 a)
def x2 (a : Ideal .f32) := scaleDown 0x4F800000#32 0x2F800000#32 (x1 a)
def e2 (a : Ideal .f32) := growBy 0x4F800000#32 32#32 (x1 a) (e1 a)
def x3 (a : Ideal .f32) := scaleDown 0x47800000#32 0x37800000#32 (x2 a)
def e3 (a : Ideal .f32) := growBy 0x47800000#32 16#32 (x2 a) (e2 a)
def x4 (a : Ideal .f32) := scaleDown 0x43800000#32 0x3B800000#32 (x3 a)
def e4 (a : Ideal .f32) := growBy 0x43800000#32 8#32 (x3 a) (e3 a)
def x5 (a : Ideal .f32) := scaleDown 0x41800000#32 0x3D800000#32 (x4 a)
def e5 (a : Ideal .f32) := growBy 0x41800000#32 4#32 (x4 a) (e4 a)
def x6 (a : Ideal .f32) := scaleDown 0x40800000#32 0x3E800000#32 (x5 a)
def e6 (a : Ideal .f32) := growBy 0x40800000#32 2#32 (x5 a) (e5 a)
def x7 (a : Ideal .f32) := scaleDown 0x40000000#32 0x3F000000#32 (x6 a)
def e7 (a : Ideal .f32) := growBy 0x40000000#32 1#32 (x6 a) (e6 a)

/-- The exponent field of `a`: 0 below the least normal number, 255 at infinity. -/
def exponent (a : Ideal .f32) : BitVec 32 :=
  Scalar.select (FloatOps.cmpf .olt (x7 a) (Scalar.ofBits .f32 0x3F800000#32)) 0#32
    (Scalar.select (FloatOps.cmpf .olt (x7 a) (Scalar.ofBits .f32 0x7F800000#32)) (e7 a) 255#32)

end Cert.Exponent
-- ==== Proof.GCodes.lean ====
/-
  THE CODES OF ONE TRIP OF THE EPILOGUE LOOP, named by their parts: the activations turned so that a group of 32 columns lies
  in rows, the greatest magnitude of each group, its exponent field, and the codes that scale makes.
-/
module

public import proofs.«01_k».proof.Proof.GExponent
public import proofs.«01_k».proof.Proof.Words
public import proofs.«01_k».proof.Proof.GLoop
public import Idealize.ShloMosaic.Lib.Pipeline.ValueKit

@[expose] public section

set_option maxRecDepth 16384

noncomputable section

open Idealize.ShloMosaic Idealize.ShloMosaic.TcCoe Idealize.SL.Sem

namespace Cert.GKernelIdeal.Value

open Cert.GKernelIdeal Cert.GKernelIdeal.Gen Cert.Exponent Cert.Words

/-- The magnitudes of the rows of parity `p`, columns in rows. -/
def turned (p : Fin 2) (y : FVec Ideal S256x128 .f32) : FVec Ideal S128x128 .bf16 :=
  truncf .bf16 (transpose S128x128 [1, 0] (extf .f32 (rowsOfParity p S128x128
    (truncf .bf16 (extf .f32 (truncf .bf16 (absf y))) bitsLt_bf16_f32) bitcasts_S256x128_w16_S128x128_w32))
    transposes_S128x128_p1_0_S128x128)

/-- Each entry joined by the greater with the one `n` places of its parity away. -/
def joined (n : BitVec 32) (m : FVec Ideal S16x128 .bf16) : FVec Ideal S16x128 .bf16 :=
  maximumf m (interleaveRows S16x128
    (dynamicRotate 0 n none (rowsOfParity 0 S8x128 m bitcasts_S16x128_w16_S8x128_w32) rotates_S8x128_d0)
    (dynamicRotate 0 n none (rowsOfParity 1 S8x128 m bitcasts_S16x128_w16_S8x128_w32) rotates_S8x128_d0)
    bitcasts_S16x128_w16_S8x128_w32)

/-- The greatest of each four rows eight apart. -/
def folded (lo hi : FVec Ideal S32x128 .bf16) : FVec Ideal S16x128 .bf16 :=
  have b : FVec Ideal S64x128 .bf16 := interleaveRows S64x128 lo hi bitcasts_S64x128_w16_S32x128_w32
  maximumf
    (maximumf (extractStridedSlice S16x128 ![0, 0] b slices_S64x128_o0_0_S16x128)
      (extractStridedSlice S16x128 ![16, 0] b slices_S64x128_o16_0_S16x128))
    (maximumf (extractStridedSlice S16x128 ![32, 0] b slices_S64x128_o32_0_S16x128)
      (extractStridedSlice S16x128 ![48, 0] b slices_S64x128_o48_0_S16x128))

/-- The greatest entry of each column of the two arrays, in the rows of the array's parity. -/
def peak (lo hi : FVec Ideal S32x128 .bf16) : FVec Ideal S16x128 .f32 :=
  extf .f32 (joined 1#32 (joined 2#32 (joined 4#32 (folded lo hi)))) bitsLt_bf16_f32

/-- The exponent fields of the group of columns that starts at column `o` of a half. -/
def groupBits (o : ℕ) (h : S128x128.Slices ![o, 0] S32x128) (y : FVec Ideal S256x128 .f32) : IVec S16x128 32 :=
  fun i => exponent (peak (extractStridedSlice S32x128 ![o, 0] (turned 0 y) h)
    (extractStridedSlice S32x128 ![o, 0] (turned 1 y) h) i)

/-- The codes of a half's columns. -/
def halfCodes (y : FVec Ideal S256x128 .f32) : FVec Ideal S256x128 .fp8e4m3 :=
  k0_pay212 y (k0_pay60 (groupBits 0 slices_S128x128_o0_0_S32x128 y)) (k0_pay60 (groupBits 32 slices_S128x128_o32_0_S32x128 y))
    (k0_pay60 (groupBits 64 slices_S128x128_o64_0_S32x128 y)) (groupBits 96 slices_S128x128_o96_0_S32x128 y)

/-- The codes of a block of activations. -/
def blockCodes (y : FVec Ideal S256x256 .f32) : FVec Ideal S256x256 .fp8e4m3 :=
  concatenate S256x256 1
    [⟨S256x128, halfCodes (extractStridedSlice S256x128 ![0, 0] y slices_S256x256_o0_0_S256x128)⟩,
      ⟨S256x128, halfCodes (extractStridedSlice S256x128 ![0, 128] y slices_S256x256_o0_128_S256x128)⟩]
    concatenates_S256x128_S256x128_S256x256_d1

/-- A trip writes one piece: its rows, and the codes of the activations the accumulator's two halves make there. -/
theorem tripG_eq (𝒱 : Variants) (c : Dev nD) (bd : Option 𝒱.V) (i : grid0.Coords) (arg2 : Memref sig .tc .vmem S512x8192 .i32) (harg2 : arg2.IsWhole) (arg3 : Memref sig .tc .vmem S4096x256 .i8) (harg3 : arg3.IsWhole) (arg4 : Memref sig .tc .vmem S4096x256 .i8) (harg4 : arg4.IsWhole) (arg5 : Memref sig .tc .vmem S256x256 .i8) (harg5 : arg5.IsWhole) (arg6 : Memref sig .tc .vmem S256x256 .i8) (harg6 : arg6.IsWhole) (arg7 : Memref sig .tc .vmem S1024x256 .fp8e4m3) (harg7 : arg7.IsWhole) (arg8 : Memref sig .tc .vmem S1024x224 .i8) (harg8 : arg8.IsWhole) (arg9 : Memref sig .tc .vmem S1024x256 .bf16) (harg9 : arg9.IsWhole) (arg10 : Memref sig .tc .vmem S256x256 .i32) (harg10 : arg10.IsWhole) (arg11 : Memref sig .tc .vmem S4096x2x512 .bf16) (harg11 : arg11.IsWhole) (arg12 : Memref sig .tc .vmem S1024x512 .f32) (harg12 : arg12.IsWhole) (arg13 : Memref sig .tc .vmem S128x128 .i32) (harg13 : arg13.IsWhole) (arg14 : Memref sig .tc .vmem S1024x256 .i32) (harg14 : arg14.IsWhole)  (X : BufTy.Contents (Elt Ideal) arg12.view.ty) (k : Fin k0_t3_loop.trips) (arg1 : BitVec 32) :
    (tripG (F := Ideal) 𝒱 c bd i arg2 harg2 arg3 harg3 arg4 harg4 arg5 harg5 arg6 harg6 arg7 harg7 arg8 harg8 arg9 harg9 arg10 harg10 arg11 harg11 arg12 harg12 arg13 harg13 arg14 harg14 X k arg1).1
      = [⟨Rect.unit (s := S1024x256) (k0_off9 k) S256x256.size (k0_off9_inb k),
          blockCodes (k0_pay36
            (arg12.view.readAt (Elt Ideal) (Rect.unit (s := S1024x512) (k0_off7 k) S256x256.size (k0_off7_inb k)).toLoadRect X)
            (arg12.view.readAt (Elt Ideal) (Rect.unit (s := S1024x512) (k0_off8 k) S256x256.size (k0_off8_inb k)).toLoadRect X))⟩] := by
  unfold tripG
  sl_kernel_rfl

end Cert.GKernelIdeal.Value
-- ==== Proof.GTarget.lean ====
/-
  THE QUANTISED ACTIVATIONS, as mathematics: the two halves of the product of the activations with the weights, joined by
  `g · (1 / (1 + exp (−g))) · u`, and the code of each number relative to the scale of its group of 32 columns.
-/
module

public import proofs.«01_k».proof.Proof.Words

@[expose] public section
set_option maxRecDepth 16384
noncomputable section
open Idealize.ShloMosaic
namespace Cert.Words

/-- The product of the gate and up projections, at a row and a column: the activation halves times the weights, summed over the
    8192 rows of weights. Columns 0 … 7167 are the gate's, the others the up projection's. -/
def gProduct (x : (⟨2, ![3072, 8192]⟩ : Shape).Idx → BitVec 32) (w : (⟨2, ![4096, 14336]⟩ : Shape).Idx → BitVec 8)
    (e : (⟨2, ![256, 14336]⟩ : Shape).Idx → BitVec 8) (r : Fin 6144) (c : Fin 14336) : Ideal .f32 :=
  ∑ k : Fin 8192, Ideal.ofBits .bf16 (BitVec.extractLsb' (16 * (r.val % 2)) 16 (x (ix2 ⟨r.val / 2, by omega⟩ k)))
    * weight (w (ix2 ⟨k.val / 2, by omega⟩ c)) (e (ix2 ⟨k.val / 2 / 16, by omega⟩ c)) (k.val % 2)

/-- The gate `g` passed through its sigmoid and applied to `u`. -/
def gated (g u : Ideal .f32) : Ideal .f32 := g * Ideal.div 1 (1 + Ideal.exp (-g)) * u

/-- The activation at a row and a column. -/
def activation (x : (⟨2, ![3072, 8192]⟩ : Shape).Idx → BitVec 32) (w : (⟨2, ![4096, 14336]⟩ : Shape).Idx → BitVec 8)
    (e : (⟨2, ![256, 14336]⟩ : Shape).Idx → BitVec 8) (r : Fin 6144) (n : Fin 7168) : Ideal .f32 :=
  gated (gProduct x w e r ⟨n.val, by omega⟩) (gProduct x w e r ⟨7168 + n.val, by omega⟩)

/-- The number whose exponent field is `1 + n`: the power of two `2^(n − 126)`, infinity at `n = 254`. -/
def powerOfTwo (n : Fin 255) : Ideal .f32 := Ideal.ofBits .f32 (IntOp.shli .host (IntOp.addi 1#32 (BitVec.ofNat 32 n.val)) 23#32)

/-- The exponent field of `a`, counted: how many of the 255 powers of two do not exceed `a`. -/
def biased (a : Ideal .f32) : BitVec 32 :=
  Finset.fold IntOp.addi 0#32 (fun n : Fin 255 => BitVec.setWidth 32 (BitVec.ofBool (decide (powerOfTwo n ≤ a)))) Finset.univ

/-- The greatest magnitude of 32 numbers. -/
def greatest (y : Fin 32 → Ideal .f32) : Ideal .f32 :=
  Finset.fold max (Ideal.ofBits .f32 4286578688#32) (fun j => FloatOps.absf (y j)) Finset.univ

/-- The inverse of a group's scale: the power of two whose exponent field is 262 less the group's own. -/
def inverseScale (b : BitVec 32) : Ideal .f32 := Ideal.ofBits .f32 (IntOp.shli .host (IntOp.subi 262#32 (IntOp.maxsi b 8#32)) 23#32)

/-- The code of `y` in a group with exponent field `b`. -/
def coded (y : Ideal .f32) (b : BitVec 32) : Ideal .fp8e4m3 :=
  min (Ideal.ofBits .f32 0x43E00000#32) (max (Ideal.ofBits .f32 0xC3E00000#32) (y * inverseScale b))

/-- The codes of the activations, at a row and a column. -/
def gCodes (x : (⟨2, ![3072, 8192]⟩ : Shape).Idx → BitVec 32) (w : (⟨2, ![4096, 14336]⟩ : Shape).Idx → BitVec 8)
    (e : (⟨2, ![256, 14336]⟩ : Shape).Idx → BitVec 8) (r : Fin 6144) (n : Fin 7168) : Ideal .fp8e4m3 :=
  coded (activation x w e r n) (biased (greatest fun j => activation x w e r ⟨n.val / 32 * 32 + j.val, by omega⟩))

end Cert.Words
-- ==== Proof.GCount.lean ====
/-
  THE EXPONENT FIELD FOUND BY SCALING IS THE ONE COUNTED. While a number is scaled down, the number and the exponent found so
  far keep the product; at the end the number lies in [1, 2) or the exponent is the greatest finite one.
-/
module

public import proofs.«01_k».proof.Proof.GExponent
public import proofs.«01_k».proof.Proof.GTarget

@[expose] public section
set_option maxRecDepth 16384
noncomputable section
open Idealize.ShloMosaic
namespace Cert.Exponent
open Cert.Words

theorem select_oge {α : Type} (x y : Ideal .f32) (a b : α) :
    Scalar.select (FloatOps.cmpf .oge x y) a b = if y ≤ x then a else b := by
  unfold Scalar.select
  show (if BitVec.ofBool (decide (y ≤ x)) = 1#1 then a else b) = _
  by_cases h : y ≤ x <;> simp [h]

theorem select_olt {α : Type} (x y : Ideal .f32) (a b : α) :
    Scalar.select (FloatOps.cmpf .olt x y) a b = if x < y then a else b := by
  unfold Scalar.select
  show (if BitVec.ofBool (decide (x < y)) = 1#1 then a else b) = _
  by_cases h : x < y <;> simp [h]

theorem powerOfTwo_bits : ∀ n : Fin 255, (IntOp.shli .host (IntOp.addi 1#32 (BitVec.ofNat 32 n.val)) 23#32).extractLsb' 31 1 = 0#1
    ∧ ((IntOp.shli .host (IntOp.addi 1#32 (BitVec.ofNat 32 n.val)) 23#32).extractLsb' 23 8).toNat = n.val + 1
    ∧ ((IntOp.shli .host (IntOp.addi 1#32 (BitVec.ofNat 32 n.val)) 23#32).extractLsb' 0 23).toNat = 0 := by decide +kernel

/-- The number of a pattern with no fraction bits, by its exponent field. -/
theorem finite_bits (w : BitVec 32) (n : ℕ) (h : n < 254) (h1 : w.extractLsb' 31 1 = 0#1)
    (h2 : (w.extractLsb' 23 8).toNat = n + 1) (h3 : (w.extractLsb' 0 23).toNat = 0) :
    Ideal.ofBits .f32 w = (((2 : ℝ) ^ ((n : ℤ) - 126) : ℝ) : EReal) := by
  have e1 : ¬ (n + 1 = 255) := by omega
  have e2 : (2 : ℝ) ^ ((n : ℤ) - 126) = 8388608 * (2 : ℝ) ^ ((n : ℤ) + 1 - 127 - 23) := by
    rw [show (8388608 : ℝ) = (2 : ℝ) ^ (23 : ℤ) by norm_num, ← zpow_add₀ (by norm_num)]
    congr 1; ring
  rw [e2]
  simp only [Ideal.ofBits, Ideal.ieee, Nat.reduceAdd, h1, h2, h3]
  simp [e1]

/-- The powers of two below infinity. -/
theorem powerOfTwo_finite (n : Fin 255) (h : n.val < 254) : powerOfTwo n = (((2 : ℝ) ^ ((n.val : ℤ) - 126) : ℝ) : EReal) :=
  finite_bits _ n.val h (powerOfTwo_bits n).1 (powerOfTwo_bits n).2.1 (powerOfTwo_bits n).2.2

theorem powerOfTwo_top : powerOfTwo 254 = (⊤ : EReal) := by
  obtain ⟨h1, h2, h3⟩ := powerOfTwo_bits 254
  unfold powerOfTwo
  simp only [Ideal.ofBits, Ideal.ieee, Nat.reduceAdd, h1, h2, h3]
  simp

theorem count : ∀ e : Fin 256, Finset.fold IntOp.addi 0#32
    (fun n : Fin 255 => BitVec.setWidth 32 (BitVec.ofBool (decide (n.val < e.val)))) Finset.univ = BitVec.ofNat 32 e.val := by
  decide +kernel

theorem biased_eq (a : Ideal .f32) (e : ℕ) (he : e < 256) (h : ∀ n : Fin 255, powerOfTwo n ≤ a ↔ n.val < e) :
    biased a = BitVec.ofNat 32 e := by
  rw [← count ⟨e, he⟩]
  unfold biased
  simp only [h]

/-- Halfway through the scaling: what is left, `x`, and the exponent found so far, `e`, when the bounds still to be tried are
    below `K`. -/
def Scaling (K : ℕ) (a : ℝ) (x : Ideal .f32) (e : BitVec 32) : Prop :=
  ∃ (r : ℝ) (n : ℕ), x = (r : EReal) ∧ e = BitVec.ofNat 32 n ∧ a = r * (2 : ℝ) ^ ((n : ℤ) - 127) ∧ 1 ≤ r ∧ 1 ≤ n ∧ n + K ≤ 255
    ∧ (r < 2 ^ K ∨ n = 255 - K)

/-- One scaling keeps it so. -/
theorem Scaling.step {k : ℕ} {a : ℝ} {x : Ideal .f32} {e : BitVec 32} (t s b : BitVec 32)
    (ht : (Scalar.ofBits .f32 t : Ideal .f32) = (((2 : ℝ) ^ k : ℝ) : EReal))
    (hs : (Scalar.ofBits .f32 s : Ideal .f32) = (((2 : ℝ) ^ (-(k : ℤ)) : ℝ) : EReal)) (hb : b = BitVec.ofNat 32 k)
    (h : Scaling (k + k) a x e) : Scaling k a (scaleDown t s x) (growBy t b x e) := by
  obtain ⟨r, n, rfl, rfl, ha, h1, hn, hK, hr⟩ := h
  unfold scaleDown growBy
  simp only [select_oge, ht, hs]
  by_cases hx : (2 : ℝ) ^ k ≤ r
  · rw [if_pos (EReal.coe_le_coe_iff.mpr hx), if_pos (EReal.coe_le_coe_iff.mpr hx)]
    refine ⟨r * (2 : ℝ) ^ (-(k : ℤ)), n + k, ?_, ?_, ?_, ?_, by omega, by omega, ?_⟩
    · exact (EReal.coe_mul _ _).symm
    · subst hb
      exact (BitVec.ofNat_add ..).symm
    · rw [ha, mul_assoc, ← zpow_add₀ (by norm_num)]
      congr 2; push_cast; ring
    · rw [zpow_neg, zpow_natCast, ← div_eq_mul_inv, le_div_iff₀ (by positivity)]
      linarith
    · rcases hr with hr | hr
      · left
        rw [zpow_neg, zpow_natCast, ← div_eq_mul_inv, div_lt_iff₀ (by positivity), ← pow_add]
        exact hr
      · right; omega
  · have hx' : ¬ (((2 : ℝ) ^ k : ℝ) : EReal) ≤ (r : EReal) := fun h => hx (EReal.coe_le_coe_iff.mp h)
    rw [if_neg hx', if_neg hx']
    exact ⟨r, n, rfl, rfl, ha, h1, hn, by omega, Or.inl (lt_of_not_ge hx)⟩

/-- A number below one is left as it is. -/
theorem scaleDown_small {k : ℕ} {r : ℝ} (t s : BitVec 32)
    (ht : (Scalar.ofBits .f32 t : Ideal .f32) = (((2 : ℝ) ^ k : ℝ) : EReal)) (hr : r < 1) :
    scaleDown t s (r : EReal) = (r : EReal) := by
  unfold scaleDown
  rw [select_oge, ht, if_neg]
  rw [EReal.coe_le_coe_iff, not_le]
  exact hr.trans_le (one_le_pow₀ (by norm_num))

/-- Infinity stays infinite. -/
theorem scaleDown_top (t s : BitVec 32) {z : ℤ}
    (hs : (Scalar.ofBits .f32 s : Ideal .f32) = (((2 : ℝ) ^ z : ℝ) : EReal)) : scaleDown t s (⊤ : EReal) = (⊤ : EReal) := by
  unfold scaleDown
  rw [select_oge, if_pos le_top, hs]
  exact EReal.top_mul_coe_of_pos (by positivity)

/-- A bit pattern of the list of powers of two. -/
theorem bits_finite (w : BitVec 32) (n : Fin 255) (z : ℤ) (hn : n.val < 254) (hz : (n.val : ℤ) - 126 = z)
    (hw : w = IntOp.shli .host (IntOp.addi 1#32 (BitVec.ofNat 32 n.val)) 23#32) :
    (Scalar.ofBits .f32 w : Ideal .f32) = (((2 : ℝ) ^ z : ℝ) : EReal) := by
  rw [← hz, ← powerOfTwo_finite n hn, hw]; rfl

theorem up (k : ℕ) (w : BitVec 32) (h : k < 127) (hw : w = IntOp.shli .host (IntOp.addi 1#32 (BitVec.ofNat 32 (126 + k))) 23#32) :
    (Scalar.ofBits .f32 w : Ideal .f32) = (((2 : ℝ) ^ k : ℝ) : EReal) := by
  rw [bits_finite w ⟨126 + k, by omega⟩ k (by show 126 + k < 254; omega) (by push_cast; omega) hw, zpow_natCast]

theorem down (k : ℕ) (w : BitVec 32) (h : k < 127) (hw : w = IntOp.shli .host (IntOp.addi 1#32 (BitVec.ofNat 32 (126 - k))) 23#32) :
    (Scalar.ofBits .f32 w : Ideal .f32) = (((2 : ℝ) ^ (-(k : ℤ)) : ℝ) : EReal) :=
  bits_finite w ⟨126 - k, by omega⟩ (-k) (by show 126 - k < 254; omega) (by show ((126 - k : ℕ) : ℤ) - 126 = -k; omega) hw

theorem one_bits : (Scalar.ofBits .f32 0x3F800000#32 : Ideal .f32) = ((1 : ℝ) : EReal) := by
  rw [up 0 _ (by omega) (by decide)]; norm_num

theorem inf_bits : (Scalar.ofBits .f32 0x7F800000#32 : Ideal .f32) = (⊤ : EReal) := by
  rw [← powerOfTwo_top]; rfl

/-- The seven scalings, from any start. -/
theorem Scaling.all {a' : ℝ} {a : Ideal .f32} (h : Scaling 128 a' (x0 a) (e0 a)) : Scaling 1 a' (x7 a) (e7 a) := by
  have h1 : Scaling 64 a' (x1 a) (e1 a) := Scaling.step (k := 64) _ _ _ (up 64 _ (by omega) (by decide)) (down 64 _ (by omega) (by decide)) rfl h
  have h2 : Scaling 32 a' (x2 a) (e2 a) := Scaling.step (k := 32) _ _ _ (up 32 _ (by omega) (by decide)) (down 32 _ (by omega) (by decide)) rfl h1
  have h3 : Scaling 16 a' (x3 a) (e3 a) := Scaling.step (k := 16) _ _ _ (up 16 _ (by omega) (by decide)) (down 16 _ (by omega) (by decide)) rfl h2
  have h4 : Scaling 8 a' (x4 a) (e4 a) := Scaling.step (k := 8) _ _ _ (up 8 _ (by omega) (by decide)) (down 8 _ (by omega) (by decide)) rfl h3
  have h5 : Scaling 4 a' (x5 a) (e5 a) := Scaling.step (k := 4) _ _ _ (up 4 _ (by omega) (by decide)) (down 4 _ (by omega) (by decide)) rfl h4
  have h6 : Scaling 2 a' (x6 a) (e6 a) := Scaling.step (k := 2) _ _ _ (up 2 _ (by omega) (by decide)) (down 2 _ (by omega) (by decide)) rfl h5
  exact Scaling.step (k := 1) _ _ _ (up 1 _ (by omega) (by decide)) (down 1 _ (by omega) (by decide)) rfl h6

/-- From a start below one nothing is scaled. -/
theorem x7_small {a : Ideal .f32} {r : ℝ} (h : x0 a = (r : EReal)) (hr : r < 1) : x7 a = (r : EReal) := by
  have h1 : x1 a = (r : EReal) := by unfold x1; rw [h]; exact scaleDown_small _ _ (up 64 _ (by omega) (by decide)) hr
  have h2 : x2 a = (r : EReal) := by unfold x2; rw [h1]; exact scaleDown_small _ _ (up 32 _ (by omega) (by decide)) hr
  have h3 : x3 a = (r : EReal) := by unfold x3; rw [h2]; exact scaleDown_small _ _ (up 16 _ (by omega) (by decide)) hr
  have h4 : x4 a = (r : EReal) := by unfold x4; rw [h3]; exact scaleDown_small _ _ (up 8 _ (by omega) (by decide)) hr
  have h5 : x5 a = (r : EReal) := by unfold x5; rw [h4]; exact scaleDown_small _ _ (up 4 _ (by omega) (by decide)) hr
  have h6 : x6 a = (r : EReal) := by unfold x6; rw [h5]; exact scaleDown_small _ _ (up 2 _ (by omega) (by decide)) hr
  unfold x7; rw [h6]; exact scaleDown_small _ _ (up 1 _ (by omega) (by decide)) hr

theorem x0_top : x0 (⊤ : EReal) = (⊤ : EReal) := by
  unfold x0
  rw [select_olt, one_bits, if_neg (by simp)]

/-- From infinity the scalings stay there. -/
theorem x7_top : x7 (⊤ : EReal) = (⊤ : EReal) := by
  have h1 : x1 (⊤ : EReal) = (⊤ : EReal) := by unfold x1; rw [x0_top]; exact scaleDown_top _ _ (down 64 _ (by omega) (by decide))
  have h2 : x2 (⊤ : EReal) = (⊤ : EReal) := by unfold x2; rw [h1]; exact scaleDown_top _ _ (down 32 _ (by omega) (by decide))
  have h3 : x3 (⊤ : EReal) = (⊤ : EReal) := by unfold x3; rw [h2]; exact scaleDown_top _ _ (down 16 _ (by omega) (by decide))
  have h4 : x4 (⊤ : EReal) = (⊤ : EReal) := by unfold x4; rw [h3]; exact scaleDown_top _ _ (down 8 _ (by omega) (by decide))
  have h5 : x5 (⊤ : EReal) = (⊤ : EReal) := by unfold x5; rw [h4]; exact scaleDown_top _ _ (down 4 _ (by omega) (by decide))
  have h6 : x6 (⊤ : EReal) = (⊤ : EReal) := by unfold x6; rw [h5]; exact scaleDown_top _ _ (down 2 _ (by omega) (by decide))
  unfold x7; rw [h6]; exact scaleDown_top _ _ (down 1 _ (by omega) (by decide))

/-- At the end of the scalings the exponent found is the number of powers of two not above `a`. -/
theorem Scaling.count {a : ℝ} {x : Ideal .f32} {e : BitVec 32} (h : Scaling 1 a x e) : biased (a : EReal) = e
    ∧ ((1 : ℝ) : EReal) ≤ x ∧ x < (⊤ : EReal) := by
  obtain ⟨r, n, rfl, rfl, ha, h1, hn, hK, hr⟩ := h
  refine ⟨biased_eq _ n (by omega) fun i => ?_, EReal.coe_le_coe_iff.mpr h1, EReal.coe_lt_top r⟩
  by_cases hi : i.val < 254
  · rw [powerOfTwo_finite i hi, EReal.coe_le_coe_iff, ha]
    have hp : (0 : ℝ) < (2 : ℝ) ^ ((n : ℤ) - 127) := by positivity
    constructor
    · intro h
      by_contra hc
      have hr2 : r < 2 := by
        rcases hr with hr | hr
        · simpa using hr
        · omega
      have : (2 : ℝ) ^ ((n : ℤ) - 126) ≤ (2 : ℝ) ^ ((i.val : ℤ) - 126) := zpow_le_zpow_right₀ (by norm_num) (by omega)
      have e : (2 : ℝ) ^ ((n : ℤ) - 126) = 2 * (2 : ℝ) ^ ((n : ℤ) - 127) := by
        rw [show (n : ℤ) - 126 = 1 + ((n : ℤ) - 127) by ring, zpow_add₀ (by norm_num), zpow_one]
      have : r * (2 : ℝ) ^ ((n : ℤ) - 127) < 2 * (2 : ℝ) ^ ((n : ℤ) - 127) := mul_lt_mul_of_pos_right hr2 hp
      linarith
    · intro h
      have : (2 : ℝ) ^ ((i.val : ℤ) - 126) ≤ (2 : ℝ) ^ ((n : ℤ) - 127) := zpow_le_zpow_right₀ (by norm_num) (by omega)
      nlinarith
  · obtain rfl : i = 254 := Fin.ext (by have := i.isLt; show i.val = 254; omega)
    rw [powerOfTwo_top]
    constructor
    · intro h; exact absurd h (not_le.mpr (EReal.coe_lt_top _))
    · intro h
      have : (254 : Fin 255).val = 254 := rfl
      omega

/-- The exponent field found by scaling is the counted one. -/
theorem exponent_eq (a : Ideal .f32) (ha : (0 : EReal) ≤ a) : exponent a = biased a := by
  rcases eq_or_ne a (⊤ : EReal) with rfl | hT
  · unfold exponent
    rw [x7_top, select_olt, select_olt, one_bits, inf_bits, if_neg (by simp), if_neg (lt_irrefl _)]
    exact (biased_eq _ 255 (by omega) fun n => ⟨fun _ => n.isLt, fun _ => le_top⟩).symm
  obtain ⟨r, rfl⟩ : ∃ r : ℝ, a = (r : EReal) :=
    ⟨a.toReal, (EReal.coe_toReal hT (ne_bot_of_le_ne_bot EReal.zero_ne_bot ha)).symm⟩
  have hr0 : 0 ≤ r := EReal.coe_nonneg.mp ha
  have hx0 : x0 (r : EReal) = ((if r < 1 then r * (2 : ℝ) ^ (126 : ℕ) else r : ℝ) : EReal) := by
    unfold x0
    rw [select_olt, one_bits, up 126 _ (by omega) (by decide)]
    by_cases h : r < 1
    · rw [if_pos (EReal.coe_lt_coe_iff.mpr h), if_pos h]; exact (EReal.coe_mul _ _).symm
    · rw [if_neg (fun h' => h (EReal.coe_lt_coe_iff.mp h')), if_neg h]
  have he0 : e0 (r : EReal) = BitVec.ofNat 32 (if r < 1 then 1 else 127) := by
    unfold e0
    rw [select_olt, one_bits]
    by_cases h : r < 1
    · rw [if_pos (EReal.coe_lt_coe_iff.mpr h), if_pos h]
    · rw [if_neg (fun h' => h (EReal.coe_lt_coe_iff.mp h')), if_neg h]
  by_cases hs : (if r < 1 then r * (2 : ℝ) ^ (126 : ℕ) else r : ℝ) < 1
  · have hr : r < 1 := by
      by_contra h
      rw [if_neg h] at hs
      exact h hs
    rw [if_pos hr] at hs hx0
    unfold exponent
    rw [x7_small hx0 hs, select_olt, one_bits, if_pos (EReal.coe_lt_coe_iff.mpr hs)]
    refine (biased_eq _ 0 (by omega) fun n => ⟨fun h => ?_, fun h => absurd h (Nat.not_lt_zero _)⟩).symm
    exfalso
    by_cases hn : n.val < 254
    · rw [powerOfTwo_finite n hn, EReal.coe_le_coe_iff] at h
      have h2 : (2 : ℝ) ^ (-(126 : ℤ)) ≤ (2 : ℝ) ^ ((n.val : ℤ) - 126) := zpow_le_zpow_right₀ (by norm_num) (by omega)
      have h3 : (2 : ℝ) ^ (-(126 : ℤ)) * (2 : ℝ) ^ (126 : ℕ) = 1 := by
        rw [← zpow_natCast, ← zpow_add₀ (by norm_num)]; norm_num
      have h4 : (0 : ℝ) < (2 : ℝ) ^ (126 : ℕ) := by positivity
      nlinarith
    · obtain rfl : n = 254 := Fin.ext (by have := n.isLt; show n.val = 254; omega)
      rw [powerOfTwo_top] at h
      exact absurd h (not_le.mpr (EReal.coe_lt_top _))
  · have hst : Scaling 128 r (x0 (r : EReal)) (e0 (r : EReal)) := by
      refine ⟨_, _, hx0, he0, ?_, not_lt.mp hs, ?_, ?_, ?_⟩
      · by_cases h : r < 1
        · rw [if_pos h, if_pos h, mul_assoc, ← zpow_natCast, ← zpow_add₀ (by norm_num)]; norm_num
        · rw [if_neg h, if_neg h]; norm_num
      · split <;> omega
      · split <;> omega
      · by_cases h : r < 1
        · left
          rw [if_pos h]
          have h4 : (0 : ℝ) < (2 : ℝ) ^ (126 : ℕ) := by positivity
          have h5 : (2 : ℝ) ^ (128 : ℕ) = 4 * (2 : ℝ) ^ (126 : ℕ) := by rw [show 128 = 2 + 126 from rfl, pow_add]; norm_num
          nlinarith
        · right
          rw [if_neg h]
    obtain ⟨hc, h1, h2⟩ := hst.all.count
    unfold exponent
    rw [select_olt, select_olt, one_bits, inf_bits, if_neg (not_lt.mpr h1), if_pos h2, hc]

end Cert.Exponent
-- ==== Proof.GHalf.lean ====
/-
  THE CODES OF A BLOCK OF ACTIVATIONS, AT AN INDEX: the number coded relative to the counted exponent of its group's greatest
  magnitude. The greatest of a group's 32 magnitudes is found by joining rows of one parity pairwise; the exponents of two
  neighbouring rows share a word, from which the inverse scales of both are taken at once.
-/
module

public import proofs.«01_k».proof.Proof.GCodes
public import proofs.«01_k».proof.Proof.GCount

@[expose] public section

set_option maxRecDepth 16384

noncomputable section

open Idealize.ShloMosaic Idealize.ShloMosaic.TcCoe Idealize.SL.Sem

namespace Cert.GKernelIdeal.Value

open Cert.GKernelIdeal Cert.GKernelIdeal.Gen Cert.Exponent Cert.Words

theorem turned_at (p : Fin 2) (y : FVec Ideal S256x128 .f32) (l w : Fin 128) :
    turned p y (ix2 l w) = FloatOps.absf (y (ix2 ⟨2 * w.val + p.val, by omega⟩ l)) := by
  pointwise [turned]

/-- Row `t` of parity `p` among sixteen rows. -/
abbrev row (p : Fin 2) (t : Fin 8) : Fin 16 := ⟨2 * t.val + p.val, by omega⟩

theorem joined4_at (m : FVec Ideal S16x128 .bf16) (p : Fin 2) (t : Fin 8) (w : Fin 128) :
    joined 4#32 m (ix2 (row p t) w) = max (m (ix2 (row p t) w)) (m (ix2 (row p (t + 4)) w)) := by
  pointwise [joined]
  fin_cases p <;> fin_cases t <;> rfl

theorem joined2_at (m : FVec Ideal S16x128 .bf16) (p : Fin 2) (t : Fin 8) (w : Fin 128) :
    joined 2#32 m (ix2 (row p t) w) = max (m (ix2 (row p t) w)) (m (ix2 (row p (t + 6)) w)) := by
  pointwise [joined]
  fin_cases p <;> fin_cases t <;> rfl

theorem joined1_at (m : FVec Ideal S16x128 .bf16) (p : Fin 2) (t : Fin 8) (w : Fin 128) :
    joined 1#32 m (ix2 (row p t) w) = max (m (ix2 (row p t) w)) (m (ix2 (row p (t + 7)) w)) := by
  pointwise [joined]
  fin_cases p <;> fin_cases t <;> rfl

/-- The four rows that a folded row of parity `p` joins. -/
theorem folded_at (v : Fin 2 → FVec Ideal S32x128 .bf16) (p : Fin 2) (t : Fin 8) (w : Fin 128) :
    folded (v 0) (v 1) (ix2 (row p t) w)
      = max (max (v p (ix2 ⟨t.val, by omega⟩ w)) (v p (ix2 ⟨8 + t.val, by omega⟩ w)))
          (max (v p (ix2 ⟨16 + t.val, by omega⟩ w)) (v p (ix2 ⟨24 + t.val, by omega⟩ w))) := by
  pointwise [folded]
  fin_cases p <;> fin_cases t <;> rfl

/-- A peak is at most `c` just when all its 32 entries are. -/
theorem peak_le (v : Fin 2 → FVec Ideal S32x128 .bf16) (p : Fin 2) (w : Fin 128) (c : EReal) :
    (peak (v 0) (v 1) (ix2 (row p 0) w) : EReal) ≤ c ↔ ∀ j : Fin 32, (v p (ix2 j w) : EReal) ≤ c := by
  have e : (peak (v 0) (v 1) (ix2 (row p 0) w) : EReal)
      = joined 1#32 (joined 2#32 (joined 4#32 (folded (v 0) (v 1)))) (ix2 (row p 0) w) := rfl
  rw [e]
  simp only [joined1_at, joined2_at, joined4_at, folded_at, max_le_iff]
  constructor
  · rintro ⟨⟨⟨h0, h4⟩, h6, h2⟩, ⟨h7, h3⟩, h5, h1⟩ j
    have key : ∀ t : Fin 8, (((v p (ix2 ⟨t.val, by omega⟩ w) : EReal) ≤ c ∧ (v p (ix2 ⟨8 + t.val, by omega⟩ w) : EReal) ≤ c)
        ∧ (v p (ix2 ⟨16 + t.val, by omega⟩ w) : EReal) ≤ c ∧ (v p (ix2 ⟨24 + t.val, by omega⟩ w) : EReal) ≤ c) := by
      intro t
      fin_cases t
      · exact h0
      · exact h1
      · exact h2
      · exact h3
      · exact h4
      · exact h5
      · exact h6
      · exact h7
    have hj := key ⟨j.val % 8, by omega⟩
    have h4 : j.val / 8 < 4 := by omega
    interval_cases h : j.val / 8
    · rw [show j = ⟨j.val % 8, by omega⟩ from Fin.ext (by show j.val = j.val % 8; omega)]; exact hj.1.1
    · rw [show j = ⟨8 + j.val % 8, by omega⟩ from Fin.ext (by show j.val = 8 + j.val % 8; omega)]; exact hj.1.2
    · rw [show j = ⟨16 + j.val % 8, by omega⟩ from Fin.ext (by show j.val = 16 + j.val % 8; omega)]; exact hj.2.1
    · rw [show j = ⟨24 + j.val % 8, by omega⟩ from Fin.ext (by show j.val = 24 + j.val % 8; omega)]; exact hj.2.2
  · intro h
    exact ⟨⟨⟨⟨⟨h _, h _⟩, h _, h _⟩, ⟨h _, h _⟩, h _, h _⟩, ⟨⟨h _, h _⟩, h _, h _⟩, ⟨h _, h _⟩, h _, h _⟩,
      ⟨⟨⟨h _, h _⟩, h _, h _⟩, ⟨h _, h _⟩, h _, h _⟩, ⟨⟨h _, h _⟩, h _, h _⟩, ⟨h _, h _⟩, h _, h _⟩

theorem bottom_bits : Ideal.ofBits .f32 4286578688#32 = (⊥ : EReal) := by
  simp [Ideal.ofBits, Ideal.ieee]

/-- A peak over entries that are magnitudes is the greatest of them. -/
theorem peak_eq (v : Fin 2 → FVec Ideal S32x128 .bf16) (p : Fin 2) (w : Fin 128) (f : Fin 32 → Ideal .f32)
    (hf : ∀ j : Fin 32, (v p (ix2 j w) : EReal) = FloatOps.absf (f j)) :
    peak (v 0) (v 1) (ix2 (row p 0) w) = greatest f := by
  have key : ∀ c : EReal, (peak (v 0) (v 1) (ix2 (row p 0) w) : EReal) ≤ c ↔ (greatest f : EReal) ≤ c := by
    intro c
    rw [peak_le]
    unfold greatest
    rw [Finset.fold_max_le, bottom_bits]
    simp only [hf, bot_le, true_and, Finset.mem_univ, true_imp_iff]
  exact eq_of_forall_ge_iff key

theorem greatest_nonneg (f : Fin 32 → Ideal .f32) : (0 : EReal) ≤ greatest f := by
  unfold greatest
  rw [Finset.le_fold_max]
  right
  refine ⟨0, Finset.mem_univ _, ?_⟩
  show (0 : EReal) ≤ max (f 0) (-(f 0) : EReal)
  rcases le_total (0 : EReal) (f 0) with h | h
  · exact le_max_of_le_left h
  · exact le_max_of_le_right (EReal.neg_nonneg.2 h)

theorem slice_at (v : FVec Ideal S128x128 .bf16) (o : ℕ) (h : S128x128.Slices ![o, 0] S32x128) (ho : o + 32 ≤ 128) (j : Fin 32) (w : Fin 128) :
    extractStridedSlice S32x128 ![o, 0] v h (ix2 j w) = v (ix2 ⟨o + j.val, by omega⟩ w) := by
  refine congrArg v (funext fun a => Fin.ext ?_)
  match a with
  | ⟨0, _⟩ => rfl
  | ⟨1, _⟩ => exact Nat.zero_add _

theorem peak_slices (o : ℕ) (h : S128x128.Slices ![o, 0] S32x128) (ho : o + 32 ≤ 128) (v : Fin 2 → FVec Ideal S128x128 .bf16)
    (p : Fin 2) (w : Fin 128) (f : Fin 32 → Ideal .f32)
    (hf : ∀ j : Fin 32, (v p (ix2 ⟨o + j.val, by omega⟩ w) : EReal) = FloatOps.absf (f j)) :
    peak (extractStridedSlice S32x128 ![o, 0] (v 0) h) (extractStridedSlice S32x128 ![o, 0] (v 1) h) (ix2 (row p 0) w)
      = greatest f := by
  obtain ⟨u, hu⟩ : ∃ u : Fin 2 → FVec Ideal S32x128 .bf16, ∀ p, u p = extractStridedSlice S32x128 ![o, 0] (v p) h :=
    ⟨_, fun _ => rfl⟩
  rw [← hu 0, ← hu 1]
  refine peak_eq u p w f fun j => ?_
  rw [hu p, slice_at (v p) o h ho j w]
  exact hf j

/-- The exponent fields of a group, in the rows 0 and 1: those of the greatest magnitudes of the rows of each parity. -/
theorem groupBits_at (o : ℕ) (h : S128x128.Slices ![o, 0] S32x128) (ho : o + 32 ≤ 128) (y : FVec Ideal S256x128 .f32) (p : Fin 2) (w : Fin 128) :
    groupBits o h y (ix2 (row p 0) w)
      = biased (greatest fun j => y (ix2 ⟨2 * w.val + p.val, by omega⟩ ⟨o + j.val, by omega⟩)) := by
  obtain ⟨u, hu⟩ : ∃ u : Fin 2 → FVec Ideal S128x128 .bf16, ∀ p, u p = turned p y := ⟨_, fun _ => rfl⟩
  unfold groupBits
  rw [← hu 0, ← hu 1, peak_slices o h ho u p w (fun j => y (ix2 ⟨2 * w.val + p.val, by omega⟩ ⟨o + j.val, by omega⟩))]
  · exact exponent_eq _ (greatest_nonneg _)
  · intro j
    rw [hu p]
    exact turned_at p y ⟨o + j.val, by omega⟩ w

end Cert.GKernelIdeal.Value
-- ==== Proof.GInverse.lean ====
/-
  HOW THE EXPONENTS OF TWO ROWS SHARE A WORD, and what the two halves of the word made of them denote: the inverse scales of
  the two rows.
-/
module

public import proofs.«01_k».proof.Proof.GCount
public import proofs.«01_k».proof.Proof.GTarget

@[expose] public section

set_option maxRecDepth 16384

noncomputable section

open Idealize.ShloMosaic Idealize.ShloMosaic.TcCoe Idealize.SL.Sem

namespace Cert.Exponent

open Cert.Words

theorem clamp_nat : ∀ e : Fin 256, IntOp.maxsi (BitVec.ofNat 32 e.val) 8#32 = BitVec.ofNat 32 (max e.val 8) := by decide +kernel

/-- The word of two rows' exponents, from row 0 and row 1 of a group's fields. -/
def pairWord (b0 b1 : BitVec 32) : BitVec 32 :=
  IntOp.muli (IntOp.ori (IntOp.maxsi b0 8#32) (IntOp.shli .vector (IntOp.maxsi b1 8#32) 16#32)) 128#32

theorem shift_nat : ∀ e : Fin 256, (IntOp.shli .host (IntOp.subi 262#32 (BitVec.ofNat 32 e.val)) 23#32).toNat = (262 - e.val) * 128 * 65536 := by
  decide +kernel

theorem or_nat (a b : ℕ) (ha : a < 256) : a ||| b <<< 16 = a + b * 65536 := by
  rw [Nat.or_comm, ← Nat.shiftLeft_add_eq_or_of_lt (lt_trans ha (by norm_num)), Nat.shiftLeft_eq, Nat.add_comm]

theorem word_nat (a b : ℕ) (ha : a < 256) (hb : b < 256) :
    (IntOp.subi 2197848832#32 (IntOp.muli (IntOp.ori (BitVec.ofNat 32 a) (IntOp.shli .vector (BitVec.ofNat 32 b) 16#32)) 128#32)).toNat
      = (262 - a) * 128 + (262 - b) * 128 * 65536 := by
  have hs : (IntOp.ori (BitVec.ofNat 32 a) (IntOp.shli .vector (BitVec.ofNat 32 b) 16#32)).toNat = a + b * 65536 := by
    have e : IntOp.shli .vector (BitVec.ofNat 32 b) 16#32 = BitVec.ofNat 32 b <<< 16 := rfl
    have hb' : (b <<< 16) % 2 ^ 32 = b <<< 16 := Nat.mod_eq_of_lt (by rw [Nat.shiftLeft_eq]; omega)
    rw [e, ← or_nat a b ha]
    show (BitVec.ofNat 32 a ||| BitVec.ofNat 32 b <<< 16).toNat = _
    rw [BitVec.toNat_or, BitVec.toNat_shiftLeft, BitVec.toNat_ofNat, BitVec.toNat_ofNat, Nat.mod_eq_of_lt (a := a) (by omega),
      Nat.mod_eq_of_lt (a := b) (by omega), hb']
  generalize IntOp.ori (BitVec.ofNat 32 a) (IntOp.shli .vector (BitVec.ofNat 32 b) 16#32) = z at hs
  show (2197848832#32 - z * 128#32).toNat = _
  rw [BitVec.toNat_sub, BitVec.toNat_mul, hs]
  simp only [BitVec.toNat_ofNat]
  omega

theorem halves_nat (a b : ℕ) (ha : 8 ≤ a) (hb : 8 ≤ b) :
    ((262 - a) * 128 + (262 - b) * 128 * 65536) / 2 ^ 0 % 2 ^ 16 * 65536 = (262 - a) * 128 * 65536
    ∧ ((262 - a) * 128 + (262 - b) * 128 * 65536) / 2 ^ 16 % 2 ^ 16 * 65536 = (262 - b) * 128 * 65536 := by
  constructor <;> omega

/-- Half `p` of the word made of two exponents is the inverse scale of exponent `p`. -/
theorem inverse_half (b : Fin 2 → BitVec 32) (hb : ∀ p, (b p).toNat < 256) (p : Fin 2) :
    Ideal.ofBits .bf16 (BitVec.extractLsb' (16 * p.val) 16 (IntOp.subi 2197848832#32 (pairWord (b 0) (b 1)))) = inverseScale (b p) := by
  have hm : ∀ p, ∃ n : ℕ, 8 ≤ n ∧ n < 256 ∧ IntOp.maxsi (b p) 8#32 = BitVec.ofNat 32 n := by
    intro p
    refine ⟨max (b p).toNat 8, le_max_right _ _, max_lt (hb p) (by decide), ?_⟩
    have h := clamp_nat ⟨(b p).toNat, hb p⟩
    rwa [BitVec.ofNat_toNat, BitVec.setWidth_eq] at h
  choose n h8 h256 hn using hm
  unfold inverseScale pairWord
  simp only [hn]
  refine (ofBits_widen _ _ ?_).symm
  rw [shift_nat ⟨n p, h256 p⟩, BitVec.extractLsb'_toNat, word_nat _ _ (h256 0) (h256 1), Nat.shiftRight_eq_div_pow]
  revert p
  rw [Fin.forall_fin_two]
  exact ⟨(halves_nat (n 0) (n 1) (h8 0) (h8 1)).1.symm, (halves_nat (n 0) (n 1) (h8 0) (h8 1)).2.symm⟩

/-- A counted exponent field is at most 255. -/
theorem biased_lt (a : Ideal .f32) : (biased a).toNat < 256 := by
  have key : ∀ S : Finset (Fin 255), (Finset.fold IntOp.addi 0#32 (fun n : Fin 255 => BitVec.setWidth 32 (BitVec.ofBool (decide (powerOfTwo n ≤ a)))) S).toNat ≤ S.card := by
    intro S
    induction S using Finset.induction_on with
    | empty => simp
    | insert x S hx ih =>
      rw [Finset.fold_insert hx, Finset.card_insert_of_notMem hx]
      have h1 : (BitVec.setWidth 32 (BitVec.ofBool (decide (powerOfTwo x ≤ a)))).toNat ≤ 1 := by
        cases decide (powerOfTwo x ≤ a) <;> decide
      refine le_trans (b := _ + _) ?_ (Nat.add_comm 1 _ ▸ Nat.add_le_add h1 ih)
      show (_ + _ : BitVec 32).toNat ≤ _
      rw [BitVec.toNat_add]
      exact Nat.mod_le _ _
  have h := key Finset.univ
  rw [Finset.card_univ, Fintype.card_fin] at h
  exact lt_of_le_of_lt h (by norm_num)

end Cert.Exponent
-- ==== Proof.GWord.lean ====
/-
  HOW THE EXPONENTS OF TWO ROWS SHARE A WORD, and what the two halves of the word made of them denote: the inverse scales of
  the two rows.
-/
module

public import proofs.«01_k».proof.Proof.GHalf
public import proofs.«01_k».proof.Proof.GInverse

@[expose] public section

set_option maxRecDepth 16384

noncomputable section

open Idealize.ShloMosaic Idealize.ShloMosaic.TcCoe Idealize.SL.Sem

namespace Cert.GKernelIdeal.Value

open Cert.GKernelIdeal Cert.GKernelIdeal.Gen Cert.Exponent Cert.Words

theorem pairWords_at (b : IVec S16x128 32) (r : Fin 8) (w : Fin 128) :
    k0_pay60 b (ix2 r w) = pairWord (b (ix2 0 w)) (b (ix2 1 w)) := by
  pointwise [k0_pay60]
  rfl

/-- Each group's word is repeated in 32 columns. -/
theorem turned_words (v : Fin 4 → IVec S8x128 32) (h : Shape.Concatenates ((List.ofFn fun n : Fin 16 => (⟨S8x128, v ⟨n.val / 4, by omega⟩⟩ : (s : Shape) × (s.Idx → BitVec 32))).map (·.1)) S128x128 0)
    (l w : Fin 128) :
    concatenate S128x128 0 (List.ofFn fun n : Fin 16 => (⟨S8x128, v ⟨n.val / 4, by omega⟩⟩ : (s : Shape) × (s.Idx → BitVec 32))) h (ix2 l w)
      = v ⟨l.val / 32, by omega⟩ (ix2 ⟨l.val % 8, by omega⟩ w) := by
  rw [concatenate_ofFn_apply (t := S128x128) (s₁ := S8x128) 0 (fun n : Fin 16 => v ⟨n.val / 4, by omega⟩) h rfl 8 rfl (ix2 l w)
    ⟨l.val / 8, by omega⟩ rfl (ix2 ⟨l.val % 8, by omega⟩ w) rfl ?_]
  · congr 1
    exact Fin.ext (show l.val / 8 / 4 = l.val / 32 by omega)
  · intro b hb
    match b with
    | ⟨0, _⟩ => exact absurd rfl hb
    | ⟨1, _⟩ => rfl

theorem transposed_at (x : IVec S128x128 32) (w l : Fin 128) :
    transpose S128x128 [1, 0] x transposes_S128x128_p1_0_S128x128 (ix2 w l) = x (ix2 l w) := by
  pointwise

theorem words_eq (v : Fin 3 → IVec S8x128 32) (b : IVec S16x128 32) :
    k0_pay211 (v 0) (v 1) (v 2) b = transpose S128x128 [1, 0]
      (concatenate S128x128 0 (List.ofFn fun n : Fin 16 => (⟨S8x128, ![v 0, v 1, v 2, k0_pay60 b] ⟨n.val / 4, by omega⟩⟩ : (s : Shape) × (s.Idx → BitVec 32)))
        concatenates_S8x128_S8x128_S8x128_S8x128_S8x128_S8x128_S8x128_S8x128_S8x128_S8x128_S8x128_S8x128_S8x128_S8x128_S8x128_S8x128_S128x128_d0)
      transposes_S128x128_p1_0_S128x128 := by
  sl_kernel_rfl

theorem words_at (v : Fin 3 → IVec S8x128 32) (b : IVec S16x128 32) (w l : Fin 128) :
    k0_pay211 (v 0) (v 1) (v 2) b (ix2 w l) = ![v 0, v 1, v 2, k0_pay60 b] ⟨l.val / 32, by omega⟩ (ix2 ⟨l.val % 8, by omega⟩ w) := by
  rw [words_eq, transposed_at]
  exact turned_words _ _ l w

/-- The codes of a half made of the words that hold its groups' exponents. -/
def coding (y : FVec Ideal S256x128 .f32) (W : IVec S128x128 32) : FVec Ideal S256x128 .fp8e4m3 :=
  truncf .fp8e4m3 (minimumf (broadcast S256x128 (Scalar.ofBits .f32 0x43E00000#32)) (maximumf (broadcast S256x128 (Scalar.ofBits .f32 0xC3E00000#32))
    (mulf y (extf .f32 (bitcastToFloat .bf16 (bitcast S256x128 16 (subi (broadcast S128x128 2197848832#32) W)
      bitcasts_S128x128_w32_S256x128_w16)) bitsLt_bf16_f32)))) bitsLt_fp8e4m3_f32

theorem coding_eq (y : FVec Ideal S256x128 .f32) (v0 v1 v2 : IVec S8x128 32) (b : IVec S16x128 32) :
    k0_pay212 y v0 v1 v2 b = coding y (k0_pay211 v0 v1 v2 b) := rfl

/-- A number scaled and clamped to the range of the codes. -/
def clamped (y s : Ideal .f32) : Ideal .fp8e4m3 :=
  min (Ideal.ofBits .f32 0x43E00000#32) (max (Ideal.ofBits .f32 0xC3E00000#32) (y * s))

theorem scales_at (W : IVec S128x128 32) (r : Fin 256) (l : Fin 128) :
    extf (F := Ideal) .f32 (bitcastToFloat .bf16 (bitcast S256x128 16 (subi (broadcast S128x128 2197848832#32) W)
      bitcasts_S128x128_w32_S256x128_w16)) bitsLt_bf16_f32 (ix2 r l)
      = Ideal.ofBits .bf16 (BitVec.extractLsb' (16 * (r.val % 2)) 16 (IntOp.subi 2197848832#32 (W (ix2 ⟨r.val / 2, by omega⟩ l)))) :=
  congrArg (Ideal.ofBits .bf16) (bitcast_rows (subi (broadcast S128x128 2197848832#32) W) bitcasts_S128x128_w32_S256x128_w16 r l (by omega))

theorem clamped_at (y s : FVec Ideal S256x128 .f32) (i : S256x128.Idx) :
    truncf (F := Ideal) .fp8e4m3 (minimumf (broadcast S256x128 (Scalar.ofBits .f32 0x43E00000#32)) (maximumf (broadcast S256x128 (Scalar.ofBits .f32 0xC3E00000#32))
    (mulf y s))) bitsLt_fp8e4m3_f32 i = clamped (y i) (s i) := rfl

theorem coding_at (y : FVec Ideal S256x128 .f32) (W : IVec S128x128 32) (r : Fin 256) (l : Fin 128) :
    coding y W (ix2 r l)
      = clamped (y (ix2 r l)) (Ideal.ofBits .bf16 (BitVec.extractLsb' (16 * (r.val % 2)) 16 (IntOp.subi 2197848832#32 (W (ix2 ⟨r.val / 2, by omega⟩ l))))) := by
  unfold coding
  rw [clamped_at, scales_at]

end Cert.GKernelIdeal.Value
-- ==== Proof.GBlock.lean ====
/-
  THE CODES OF A BLOCK OF ACTIVATIONS, AT A ROW AND A COLUMN: the activation, coded relative to the greatest magnitude of the
  32 columns of its group.
-/
module

public import proofs.«01_k».proof.Proof.GWord

@[expose] public section

set_option maxRecDepth 16384

noncomputable section

open Idealize.ShloMosaic Idealize.ShloMosaic.TcCoe Idealize.SL.Sem

namespace Cert.GKernelIdeal.Value

open Cert.GKernelIdeal Cert.GKernelIdeal.Gen Cert.Exponent Cert.Words

/-- The exponent fields of the four groups of a half. -/
def fields (y : FVec Ideal S256x128 .f32) (q : Fin 4) : IVec S16x128 32 :=
  match q with
  | 0 => groupBits 0 slices_S128x128_o0_0_S32x128 y
  | 1 => groupBits 32 slices_S128x128_o32_0_S32x128 y
  | 2 => groupBits 64 slices_S128x128_o64_0_S32x128 y
  | 3 => groupBits 96 slices_S128x128_o96_0_S32x128 y

theorem fields_at (y : FVec Ideal S256x128 .f32) (q : Fin 4) (p : Fin 2) (w : Fin 128) :
    fields y q (ix2 (row p 0) w)
      = biased (greatest fun j => y (ix2 ⟨2 * w.val + p.val, by omega⟩ ⟨32 * q.val + j.val, by omega⟩)) := by
  match q with
  | 0 => exact groupBits_at 0 slices_S128x128_o0_0_S32x128 (by norm_num) y p w
  | 1 => exact groupBits_at 32 slices_S128x128_o32_0_S32x128 (by norm_num) y p w
  | 2 => exact groupBits_at 64 slices_S128x128_o64_0_S32x128 (by norm_num) y p w
  | 3 => exact groupBits_at 96 slices_S128x128_o96_0_S32x128 (by norm_num) y p w

theorem four_words (g : Fin 4 → IVec S16x128 32) (q : Fin 4) :
    ![k0_pay60 (g 0), k0_pay60 (g 1), k0_pay60 (g 2), k0_pay60 (g 3)] q = k0_pay60 (g q) := by
  fin_cases q <;> rfl

theorem words_of_fields (g : Fin 4 → IVec S16x128 32) (w l : Fin 128) :
    k0_pay211 (k0_pay60 (g 0)) (k0_pay60 (g 1)) (k0_pay60 (g 2)) (g 3) (ix2 w l)
      = pairWord (g ⟨l.val / 32, by omega⟩ (ix2 0 w)) (g ⟨l.val / 32, by omega⟩ (ix2 1 w)) := by
  refine (words_at ![k0_pay60 (g 0), k0_pay60 (g 1), k0_pay60 (g 2)] (g 3) w l).trans ?_
  refine (congrFun (four_words g ⟨l.val / 32, by omega⟩) _).trans ?_
  exact pairWords_at _ _ _

theorem half_eq (y : FVec Ideal S256x128 .f32) :
    halfCodes y = k0_pay212 y (k0_pay60 (fields y 0)) (k0_pay60 (fields y 1)) (k0_pay60 (fields y 2)) (fields y 3) := rfl

/-- The codes of a half. -/
theorem half_at (y : FVec Ideal S256x128 .f32) (r : Fin 256) (l : Fin 128) :
    halfCodes y (ix2 r l) = coded (y (ix2 r l)) (biased (greatest fun j => y (ix2 r ⟨32 * (l.val / 32) + j.val, by omega⟩))) := by
  have hf : ∀ p : Fin 2, fields y ⟨l.val / 32, by omega⟩ (ix2 (row p 0) ⟨r.val / 2, by omega⟩)
      = biased (greatest fun j => y (ix2 ⟨2 * (r.val / 2) + p.val, by omega⟩ ⟨32 * (l.val / 32) + j.val, by omega⟩)) :=
    fun p => fields_at y ⟨l.val / 32, by omega⟩ p ⟨r.val / 2, by omega⟩
  rw [half_eq, coding_eq, coding_at, words_of_fields]
  have hi := inverse_half (fun p : Fin 2 => fields y ⟨l.val / 32, by omega⟩ (ix2 (row p 0) ⟨r.val / 2, by omega⟩))
    (fun p => by rw [hf p]; exact biased_lt _) ⟨r.val % 2, by omega⟩
  have hr : (⟨2 * (r.val / 2) + r.val % 2, by omega⟩ : Fin 256) = r := Fin.ext (by show 2 * (r.val / 2) + r.val % 2 = r.val; omega)
  refine (congrArg (clamped (y (ix2 r l))) hi).trans ?_
  have hb := hf ⟨r.val % 2, by omega⟩
  simp only [hr] at hb
  exact congrArg (fun b => clamped (y (ix2 r l)) (inverseScale b)) hb

/-- The codes of a block. -/
theorem block_at (y : FVec Ideal S256x256 .f32) (r : Fin 256) (l : Fin 256) :
    blockCodes y (ix2 r l) = coded (y (ix2 r l)) (biased (greatest fun j => y (ix2 r ⟨32 * (l.val / 32) + j.val, by omega⟩))) := by
  have hc : blockCodes y (ix2 r l) = if h : l.val < 128
      then halfCodes (extractStridedSlice S256x128 ![0, 0] y slices_S256x256_o0_0_S256x128) (ix2 r ⟨l.val, h⟩)
      else halfCodes (extractStridedSlice S256x128 ![0, 128] y slices_S256x256_o0_128_S256x128) (ix2 r ⟨l.val - 128, by omega⟩) := by
    unfold blockCodes
    generalize halfCodes (extractStridedSlice S256x128 ![0, 0] y slices_S256x256_o0_0_S256x128) = a
    generalize halfCodes (extractStridedSlice S256x128 ![0, 128] y slices_S256x256_o0_128_S256x128) = b
    pointwise
  have h0 : ∀ (r : Fin 256) (l : Fin 128), extractStridedSlice S256x128 ![0, 0] y slices_S256x256_o0_0_S256x128 (ix2 r l)
      = y (ix2 r ⟨l.val, by omega⟩) := by
    intro r l
    pointwise
  have h1 : ∀ (r : Fin 256) (l : Fin 128), extractStridedSlice S256x128 ![0, 128] y slices_S256x256_o0_128_S256x128 (ix2 r l)
      = y (ix2 r ⟨128 + l.val, by omega⟩) := by
    intro r l
    pointwise
  rw [hc]
  by_cases h : l.val < 128
  · rw [dif_pos h, half_at]
    simp only [h0]
  · rw [dif_neg h, half_at]
    simp only [h1]
    have e1 : (⟨128 + (l.val - 128), by omega⟩ : Fin 256) = l := Fin.ext (by show 128 + (l.val - 128) = l.val; omega)
    have e2 : ∀ j : Fin 32, (⟨128 + (32 * ((l.val - 128) / 32) + j.val), by omega⟩ : Fin 256) = ⟨32 * (l.val / 32) + j.val, by omega⟩ :=
      fun j => Fin.ext (by show 128 + (32 * ((l.val - 128) / 32) + j.val) = 32 * (l.val / 32) + j.val; omega)
    simp only [e1, e2]

end Cert.GKernelIdeal.Value
-- ==== Proof.GEpilogue.lean ====
/-
  THE CODES A GRID POINT WRITES. The epilogue loop takes 256 rows a trip: it forms the activations from the accumulator's two
  halves and stores their codes; the four trips cover the block.
-/
module

public import proofs.«01_k».proof.Proof.GAcc
public import proofs.«01_k».proof.Proof.GBlock

@[expose] public section

set_option maxRecDepth 16384

noncomputable section

open Idealize.ShloMosaic Idealize.ShloMosaic.TcCoe Idealize.SL.Sem
open Idealize.ShloMosaic.Pipeline (Dat)

namespace Cert.GKernelIdeal.Value

open Cert.GKernelIdeal Cert.GKernelIdeal.Gen Cert.Words

theorem gated_at (g u : Vec Ideal S256x256 .f32) (r l : Fin 256) :
    k0_pay36 (F := Ideal) g u (ix2 r l) = gated (g (ix2 r l)) (u (ix2 r l)) := by
  pointwise [k0_pay36]
  unfold gated
  rw [show (0 - g (ix2 r l) : Ideal .f32) = -g (ix2 r l) from zero_sub (G := EReal) _]

/-- The activations of a block of products: gate and up columns lie 256 apart. -/
def activations (A : FVec Ideal S1024x512 .f32) (r : Fin 1024) (l : Fin 256) : Ideal .f32 :=
  gated (A (ix2 r ⟨l.val, by omega⟩)) (A (ix2 r ⟨256 + l.val, by omega⟩))

/-- The codes of a block of products. -/
def codesOf (A : FVec Ideal S1024x512 .f32) (y : S1024x256.Idx) : Ideal .fp8e4m3 :=
  coded (activations A (y 0) (y 1)) (biased (greatest fun j => activations A (y 0)
    ⟨32 * ((y 1).val / 32) + j.val, by have := (y 1).isLt; have e : S1024x256.size 1 = 256 := rfl; omega⟩))

theorem off7 : ∀ k : Fin k0_t3_loop.trips, k0_off7 k = ![256 * k.val, 0] := by decide +kernel
theorem off8 : ∀ k : Fin k0_t3_loop.trips, k0_off8 k = ![256 * k.val, 256] := by decide +kernel
theorem off9 : ∀ k : Fin k0_t3_loop.trips, k0_off9 k = ![256 * k.val, 0] := by decide +kernel
theorem trips3_eq : k0_t3_loop.trips = 4 := by decide +kernel
theorem trips3_word : Scf.trips (0#32) (Scalar.addi 0#32 4#32) 1#32 = k0_t3_loop.trips := rfl

/-- The codes of 256 rows are those of the block there. -/
theorem rows_agree {κ sp} (v : View sig κ sp S1024x512 .f32) (X : v.ty.Contents (Elt Ideal)) (k : Fin k0_t3_loop.trips)
    (x : S256x256.Idx) :
    blockCodes (k0_pay36 (F := Ideal)
        (v.readAt (Elt Ideal) (Rect.unit (s := S1024x512) (k0_off7 k) S256x256.size (k0_off7_inb k)).toLoadRect X)
        (v.readAt (Elt Ideal) (Rect.unit (s := S1024x512) (k0_off8 k) S256x256.size (k0_off8_inb k)).toLoadRect X)) x
      = codesOf (v.read (Elt Ideal) X) ((Rect.unit (s := S1024x256) (k0_off9 k) S256x256.size (k0_off9_inb k)).emb x) := by
  have hk : k.val < 4 := lt_of_lt_of_eq k.isLt trips3_eq
  obtain ⟨r, l, rfl⟩ : ∃ (r l : Fin 256), x = ix2 r l :=
    ⟨x 0, x 1, funext fun a => by match a with | ⟨0, _⟩ => rfl | ⟨1, _⟩ => rfl⟩
  have hy : (Rect.unit (s := S1024x256) (k0_off9 k) S256x256.size (k0_off9_inb k)).emb (ix2 r l)
      = ix2 (⟨256 * k.val + r.val, by omega⟩ : Fin 1024) l := by
    funext a
    apply Fin.ext
    refine (Rect.idx_unit_val _ _ (k0_off9_inb k) _ a).trans ?_
    refine (congrArg (· + _) (congrFun (off9 k) a)).trans ?_
    match a with
    | ⟨0, _⟩ => rfl
    | ⟨1, _⟩ => exact Nat.zero_add _
  have hg : ∀ l : Fin 256, v.readAt (Elt Ideal) (Rect.unit (s := S1024x512) (k0_off7 k) S256x256.size (k0_off7_inb k)).toLoadRect X (ix2 r l)
      = v.read (Elt Ideal) X (ix2 (⟨256 * k.val + r.val, by omega⟩ : Fin 1024) (⟨l.val, by omega⟩ : Fin 512)) := by
    intro l
    rw [View.readAt_eq_ld]
    refine View.ld_unit_apply_of _ _ _ _ _ _ fun a => Eq.trans ?_ (congrArg (· + _) (congrFun (off7 k) a).symm)
    match a with
    | ⟨0, _⟩ => rfl
    | ⟨1, _⟩ => exact (Nat.zero_add _).symm
  have hu : ∀ l : Fin 256, v.readAt (Elt Ideal) (Rect.unit (s := S1024x512) (k0_off8 k) S256x256.size (k0_off8_inb k)).toLoadRect X (ix2 r l)
      = v.read (Elt Ideal) X (ix2 (⟨256 * k.val + r.val, by omega⟩ : Fin 1024) (⟨256 + l.val, by omega⟩ : Fin 512)) := by
    intro l
    rw [View.readAt_eq_ld]
    refine View.ld_unit_apply_of _ _ _ _ _ _ fun a => Eq.trans ?_ (congrArg (· + _) (congrFun (off8 k) a).symm)
    match a with
    | ⟨0, _⟩ => rfl
    | ⟨1, _⟩ => rfl
  rw [hy, block_at]
  simp only [gated_at, hg, hu]
  rfl

section

variable (𝒱 : Variants) (c : Dev nD) (bd : Option 𝒱.V) (i : grid0.Coords)
  (arg2 : Memref sig .tc .vmem S512x8192 .i32) (harg2 : arg2.IsWhole)
  (arg3 : Memref sig .tc .vmem S4096x256 .i8) (harg3 : arg3.IsWhole)
  (arg4 : Memref sig .tc .vmem S4096x256 .i8) (harg4 : arg4.IsWhole)
  (arg5 : Memref sig .tc .vmem S256x256 .i8) (harg5 : arg5.IsWhole)
  (arg6 : Memref sig .tc .vmem S256x256 .i8) (harg6 : arg6.IsWhole)
  (arg7 : Memref sig .tc .vmem S1024x256 .fp8e4m3) (harg7 : arg7.IsWhole)
  (arg8 : Memref sig .tc .vmem S1024x224 .i8) (harg8 : arg8.IsWhole)
  (arg9 : Memref sig .tc .vmem S1024x256 .bf16) (harg9 : arg9.IsWhole)
  (arg10 : Memref sig .tc .vmem S256x256 .i32) (harg10 : arg10.IsWhole)
  (arg11 : Memref sig .tc .vmem S4096x2x512 .bf16) (harg11 : arg11.IsWhole)
  (arg12 : Memref sig .tc .vmem S1024x512 .f32) (harg12 : arg12.IsWhole)
  (arg13 : Memref sig .tc .vmem S128x128 .i32) (harg13 : arg13.IsWhole)
  (arg14 : Memref sig .tc .vmem S1024x256 .i32) (harg14 : arg14.IsWhole)
  (X : arg12.view.ty.Contents (Elt Ideal)) (arg1 : BitVec 32)

/-- Every piece of the first `n` trips agrees with the block's codes. -/
theorem epilogue_agrees : ∀ n, n ≤ k0_t3_loop.trips →
    ∀ q ∈ pbG (F := Ideal) 𝒱 c bd i arg2 harg2 arg3 harg3 arg4 harg4 arg5 harg5 arg6 harg6 arg7 harg7 arg8 harg8 arg9 harg9 arg10 harg10 arg11 harg11 arg12 harg12 arg13 harg13 arg14 harg14 X arg1 n, ∀ x : q.1.shape.Idx, q.2 x = codesOf (arg12.view.read (Elt Ideal) X) (q.1.emb x)
  | 0, _ => fun q hq => absurd hq List.not_mem_nil
  | n + 1, hn => by
    rw [pbG_succ 𝒱 c bd i arg2 harg2 arg3 harg3 arg4 harg4 arg5 harg5 arg6 harg6 arg7 harg7 arg8 harg8 arg9 harg9 arg10 harg10 arg11 harg11 arg12 harg12 arg13 harg13 arg14 harg14 X arg1 ⟨n, hn⟩, tripG_eq]
    intro q hq
    rcases List.mem_append.1 hq with h | h
    · obtain rfl := List.mem_singleton.1 h
      exact fun x => rows_agree arg12.view X ⟨n, hn⟩ x
    · exact epilogue_agrees n (by omega) q h

/-- The first `n` trips cover the rows below `256 n`. -/
theorem epilogue_covers : ∀ n, n ≤ k0_t3_loop.trips → ∀ y : S1024x256.Idx, (y 0).val < 256 * n →
    ∃ q ∈ pbG (F := Ideal) 𝒱 c bd i arg2 harg2 arg3 harg3 arg4 harg4 arg5 harg5 arg6 harg6 arg7 harg7 arg8 harg8 arg9 harg9 arg10 harg10 arg11 harg11 arg12 harg12 arg13 harg13 arg14 harg14 X arg1 n, y ∈ q.1.set
  | 0, _ => fun y hy => by omega
  | n + 1, hn => by
    rw [pbG_succ 𝒱 c bd i arg2 harg2 arg3 harg3 arg4 harg4 arg5 harg5 arg6 harg6 arg7 harg7 arg8 harg8 arg9 harg9 arg10 harg10 arg11 harg11 arg12 harg12 arg13 harg13 arg14 harg14 X arg1 ⟨n, hn⟩, tripG_eq]
    intro y hy
    by_cases h : (y 0).val < 256 * n
    · obtain ⟨q, hq, hm⟩ := epilogue_covers n (by omega) y h
      exact ⟨q, List.mem_append_right _ hq, hm⟩
    · refine ⟨_, List.mem_append_left _ (List.mem_singleton.2 rfl), ?_⟩
      rw [Rect.mem_set_unit]
      intro a
      rw [off9]
      match a with
      | ⟨0, _⟩ => exact ⟨(by show 256 * n ≤ (y 0).val; omega), (by show (y 0).val < 256 * n + 256; omega)⟩
      | ⟨1, _⟩ => exact ⟨Nat.zero_le _, lt_of_lt_of_eq (y 1).isLt (Nat.zero_add 256).symm⟩

/-- What the epilogue leaves in the block of codes. -/
theorem canon_epilogue (n : ℕ) (hn : n = k0_t3_loop.trips) :
    View.canon (pbG (F := Ideal) 𝒱 c bd i arg2 harg2 arg3 harg3 arg4 harg4 arg5 harg5 arg6 harg6 arg7 harg7 arg8 harg8 arg9 harg9 arg10 harg10 arg11 harg11 arg12 harg12 arg13 harg13 arg14 harg14 X arg1 n) = codesOf (arg12.view.read (Elt Ideal) X) := by
  subst hn
  funext y
  refine View.canon_apply_of_pieces _ _ (epilogue_agrees 𝒱 c bd i arg2 harg2 arg3 harg3 arg4 harg4 arg5 harg5 arg6 harg6 arg7 harg7 arg8 harg8 arg9 harg9 arg10 harg10 arg11 harg11 arg12 harg12 arg13 harg13 arg14 harg14 X arg1 _ le_rfl) y (epilogue_covers 𝒱 c bd i arg2 harg2 arg3 harg3 arg4 harg4 arg5 harg5 arg6 harg6 arg7 harg7 arg8 harg8 arg9 harg9 arg10 harg10 arg11 harg11 arg12 harg12 arg13 harg13 arg14 harg14 X arg1 _ le_rfl y ?_)
  rw [trips3_eq]
  exact (y 0).isLt

end

/-- What a grid point computes, from its five input blocks. -/
theorem outs (m : (ℓ : Loc nD τ sig) → Buf (Elt Ideal) ℓ) (c : Dev nD) (t : Fin cfg0.N) : outsAt0 m c t
    = codesOf (products (iblk m c 0 t) (iblk m c 1 t) (iblk m c 2 t) (iblk m c 3 t) (iblk m c 4 t)) := by
  unfold outsAt0 codesL kernelRunG
  dsimp only
  rw [View.read_writes_junk_eq_canon, canon_epilogue _ _ _ _ _ _ _ _ _ _ _ _ _ _ _ _ _ _ _ _ _ _ _ _ _ _ _ _ _ _ _ _ _ trips3_word, accumulated]

end Cert.GKernelIdeal.Value
-- ==== Proof.GFinal.lean ====
/-
  WHAT THE GATE-AND-UP CALL LEAVES IN THE CODES. A grid point's products are those of its activation rows with its gate
  columns and its up columns; the 168 blocks of codes tile the result, so the result is `gCodes` of the three argument arrays.
-/
module

public import proofs.«01_k».proof.Proof.GEpilogue

@[expose] public section

set_option maxRecDepth 16384

noncomputable section

open Idealize.ShloMosaic Idealize.ShloMosaic.TcCoe Idealize.SL.Sem
open Idealize.ShloMosaic.Pipeline (Dat)

namespace Cert.GKernelIdeal.Value

open Cert.GKernelIdeal Cert.GKernelIdeal.Gen Cert.Words

variable (m : (ℓ : Loc nD τ sig) → Buf (Elt Ideal) ℓ)

/-- A block of products, from the decoded weights it is given. -/
theorem pay240_at (x : Vec Ideal S512x8192 .i32) (w : Vec Ideal S4096x2x512 .bf16) (r : Fin 1024) (c : Fin 512) :
    k0_pay240 (F := Ideal) x w (ix2 r c)
      = ∑ k : Fin 8192, Ideal.ofBits .bf16 (BitVec.extractLsb' (16 * (r.val % 2)) 16 (x (ix2 ⟨r.val / 2, by omega⟩ k)))
        * w (ix3 ⟨k.val / 2, by omega⟩ ⟨k.val % 2, by omega⟩ c) := by
  pointwise [k0_pay240]
  refine Finset.sum_congr rfl fun k _ => ?_
  rw [bitcast_rows _ bitcasts_S512x8192_w32_S1024x8192_w16 _ _ (by omega)]
  rcases Nat.mod_two_eq_zero_or_one k.val with h | h
  · rw [if_pos h, show (⟨k.val % 2, by omega⟩ : Fin 2) = 0 from Fin.ext h]
  · rw [if_neg (by omega), show (⟨k.val % 2, by omega⟩ : Fin 2) = 1 from Fin.ext h]

/-- A decoded entry of a side is the weight its byte and its scale stand for. -/
theorem entry_at (w : Vec Ideal S4096x256 .i8) (e : Vec Ideal S256x256 .i8) (r : Fin 4096) (p : Fin 2) (c : Fin 256) :
    entry w (k0_pay236 (F := Ideal) e) r p c = weight (w (ix2 r c)) (e (ix2 ⟨r.val / 16, by omega⟩ c)) p.val := by
  have hs : BitVec.extractLsb' (16 * p.val) 16 (k0_pay236 (F := Ideal) e (ix2 ⟨r.val / 16, by omega⟩ c)) = (e (ix2 ⟨r.val / 16, by omega⟩ c)).setWidth 16 <<< 7 := by
    pointwise [k0_pay236]
    exact scale_half _ p
  unfold weight scale
  rw [← hs]
  rfl

/-- The gate's columns of a block of products. -/
theorem products_gate (x : Vec Ideal S512x8192 .i32) (w u : Vec Ideal S4096x256 .i8) (e z : Vec Ideal S256x256 .i8)
    (r : Fin 1024) (l : Fin 256) : products x w u e z (ix2 r ⟨l.val, by omega⟩)
      = ∑ k : Fin 8192, Ideal.ofBits .bf16 (BitVec.extractLsb' (16 * (r.val % 2)) 16 (x (ix2 ⟨r.val / 2, by omega⟩ k)))
        * weight (w (ix2 ⟨k.val / 2, by omega⟩ l)) (e (ix2 ⟨k.val / 2 / 16, by omega⟩ l)) (k.val % 2) := by
  unfold products
  rw [pay240_at]
  refine Finset.sum_congr rfl fun k _ => ?_
  rw [beside_gate _ _ _ _ _ _ l _ (Nat.zero_add _).symm, entry_at]

/-- The up columns of a block of products. -/
theorem products_up (x : Vec Ideal S512x8192 .i32) (w u : Vec Ideal S4096x256 .i8) (e z : Vec Ideal S256x256 .i8)
    (r : Fin 1024) (l : Fin 256) : products x w u e z (ix2 r ⟨256 + l.val, by omega⟩)
      = ∑ k : Fin 8192, Ideal.ofBits .bf16 (BitVec.extractLsb' (16 * (r.val % 2)) 16 (x (ix2 ⟨r.val / 2, by omega⟩ k)))
        * weight (u (ix2 ⟨k.val / 2, by omega⟩ l)) (z (ix2 ⟨k.val / 2 / 16, by omega⟩ l)) (k.val % 2) := by
  unfold products
  rw [pay240_at]
  refine Finset.sum_congr rfl fun k _ => ?_
  rw [beside_up _ _ _ _ _ _ l _ rfl, show k0_pay238 (F := Ideal) z = k0_pay236 z from rfl, entry_at]

/-- The blocks of grid point `t`: row block `t / 28`, column block `t % 28`, the up columns 28 blocks on. -/
theorem idx : ∀ t : Fin cfg0.N, win0_0.index t = ![t.val / 28, 0] ∧ win0_1.index t = ![0, t.val % 28]
    ∧ win0_2.index t = ![0, 28 + t.val % 28] ∧ win0_3.index t = ![0, t.val % 28] ∧ win0_4.index t = ![0, 28 + t.val % 28]
    ∧ win0_5.index t = ![t.val / 28, t.val % 28] :=
  (by decide +kernel : ∀ t : Fin grid0.N, win0_0.index t = ![t.val / 28, 0] ∧ win0_1.index t = ![0, t.val % 28]
    ∧ win0_2.index t = ![0, 28 + t.val % 28] ∧ win0_3.index t = ![0, t.val % 28] ∧ win0_4.index t = ![0, 28 + t.val % 28]
    ∧ win0_5.index t = ![t.val / 28, t.val % 28])

/-- The products of grid point `t`. -/
abbrev blockProducts (c : Dev nD) (t : Fin cfg0.N) : FVec Ideal S1024x512 .f32 :=
  products (iblk m c 0 t) (iblk m c 1 t) (iblk m c 2 t) (iblk m c 3 t) (iblk m c 4 t)

/-- The activations of a grid point are those of its rows and columns. -/
theorem point (c : Dev nD) (t : Fin cfg0.N) (a : Fin 1024) (b : Fin 256) (r : Fin 6144) (n : Fin 7168)
    (hr : r.val = t.val / 28 * 1024 + a.val) (hn : n.val = t.val % 28 * 256 + b.val) :
    activations (blockProducts m c t) a b
      = activation (m ((View.whole main_arg0).loc c.tc)) (m ((View.whole main_arg1).loc c.tc)) (m ((View.whole main_arg2).loc c.tc)) r n := by
  have e0 : ∀ k : Fin 8192, iblk m c 0 t (ix2 (⟨a.val / 2, by omega⟩ : Fin 512) k) = m ((View.whole main_arg0).loc c.tc) (ix2 (⟨r.val / 2, by omega⟩ : Fin 3072) k) := by
    intro k
    blk_point [iblk, V, idx t]
  have e1 : ∀ k : Fin 4096, iblk m c 1 t (ix2 k b) = m ((View.whole main_arg1).loc c.tc) (ix2 k (⟨n.val, by omega⟩ : Fin 14336)) := by
    intro k
    blk_point [iblk, V, idx t]
  have e2 : ∀ k : Fin 4096, iblk m c 2 t (ix2 k b) = m ((View.whole main_arg1).loc c.tc) (ix2 k (⟨7168 + n.val, by omega⟩ : Fin 14336)) := by
    intro k
    blk_point [iblk, V, idx t]
  have e3 : ∀ k : Fin 256, iblk m c 3 t (ix2 k b) = m ((View.whole main_arg2).loc c.tc) (ix2 k (⟨n.val, by omega⟩ : Fin 14336)) := by
    intro k
    blk_point [iblk, V, idx t]
  have e4 : ∀ k : Fin 256, iblk m c 4 t (ix2 k b) = m ((View.whole main_arg2).loc c.tc) (ix2 k (⟨7168 + n.val, by omega⟩ : Fin 14336)) := by
    intro k
    blk_point [iblk, V, idx t]
  have hp : r.val % 2 = a.val % 2 := by omega
  unfold activations activation gProduct
  refine congrArg₂ gated ((products_gate _ _ _ _ _ a b).trans ?_) ((products_up _ _ _ _ _ a b).trans ?_)
  · simp only [e0, e1, e3, hp]
  · simp only [e0, e2, e4, hp]

/-- The codes of a grid point are those of its rows and columns. -/
theorem point_codes (c : Dev nD) (t : Fin cfg0.N) (a : Fin 1024) (b : Fin 256) (r : Fin 6144) (n : Fin 7168)
    (hr : r.val = t.val / 28 * 1024 + a.val) (hn : n.val = t.val % 28 * 256 + b.val) :
    codesOf (blockProducts m c t) (ix2 a b)
      = gCodes (m ((View.whole main_arg0).loc c.tc)) (m ((View.whole main_arg1).loc c.tc)) (m ((View.whole main_arg2).loc c.tc)) r n := by
  have hj : ∀ j : Fin 32, activations (blockProducts m c t) a ⟨32 * (b.val / 32) + j.val, by omega⟩
      = activation (m ((View.whole main_arg0).loc c.tc)) (m ((View.whole main_arg1).loc c.tc)) (m ((View.whole main_arg2).loc c.tc)) r
        ⟨n.val / 32 * 32 + j.val, by omega⟩ :=
    fun j => point m c t a _ r _ hr (by show n.val / 32 * 32 + j.val = t.val % 28 * 256 + (32 * (b.val / 32) + j.val); omega)
  show coded (activations (blockProducts m c t) a b) (biased (greatest fun j => activations (blockProducts m c t) a ⟨32 * (b.val / 32) + j.val, by omega⟩)) = _
  unfold gCodes
  simp only [hj, point m c t a b r n hr hn]

/-- The codes end holding those of the activations. -/
theorem final (c : Dev nD) : (dats m 0 c).arrAt 5 (cfgs 0).N
    = fun y : S6144x7168.Idx => gCodes (m ((View.whole main_arg0).loc c.tc)) (m ((View.whole main_arg1).loc c.tc)) (m ((View.whole main_arg2).loc c.tc)) (y 0) (y 1) := by
  refine (dats m 0 c).arrAt_eq_of_covers 5 _ (by decide +kernel) fun t _ y => ?_
  blk_simp
  rw [after0_5, outs]
  idx_vars y
  refine point_codes m c t _ _ _ _ ?_ ?_
  · blk_simp
    simp [idx t]
  · blk_simp
    simp [idx t]

/-- The kernel's run: the codes are those of the activations, the arguments are unchanged. -/
theorem run_codes (ρ : Dev nD → PrngReg) :
    θ_run defs (onTc (τ := τ) (main (F := Ideal))) ⟨m, fun _ => 0, ρ⟩ fun r => ∀ c : Dev nD,
      r.2.mem ((c.tc : Thread nD τ).loc main_v0_0) = (fun y : S6144x7168.Idx =>
          gCodes (m ((c.tc : Thread nD τ).loc main_arg0)) (m ((c.tc : Thread nD τ).loc main_arg1))
            (m ((c.tc : Thread nD τ).loc main_arg2)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Gen.run_codes m ρ)

end Cert.GKernelIdeal.Value
-- ==== Proof.GReference.lean ====
/-
  WHAT THE REFERENCE OF THE GATE AND UP PROJECTION COMPUTES, AT AN INDEX. Its host operations are read in four runs: the
  tables and scales, the weights, the product with the gate, and the scaling of the groups. The one kernel after them clips.
-/
module

public import proofs.«01_k».proof.Proof.GTarget
public import proofs.«01_k».proof.Proof.Gen.GReferenceIdeal.Value
public import Idealize.ShloMosaic.Lib.BitcastConvert
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.GReferenceIdeal.Value

open Cert.GReferenceIdeal Cert.GReferenceIdeal.Gen Cert.Words

/-- The operations that make the codes' numbers and the scales. -/
def decoding : List (HloOp τ sig (Elt Ideal)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29]
/-- The operations that lay the two codes of a byte apart. -/
def spreading : List (HloOp τ sig (Elt Ideal)) := List.take 3 hostOps0_30
/-- The product and the gate. -/
def gating : List (HloOp τ sig (Elt Ideal)) := List.take 15 (List.drop 3 hostOps0_30)
/-- The scaling of the groups. -/
def scaling : List (HloOp τ sig (Elt Ideal)) := List.drop 18 hostOps0_30

variable (m : (ℓ : Loc nD τ sig) → Buf (Elt Ideal) ℓ)

/-- The runs, one after the other, are all of them. -/
theorem all_runs : List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30]
    = decoding ++ (spreading ++ (gating ++ scaling)) := by
  sl_kernel_rfl

theorem scaling_at (W : Valuation τ sig (Elt Ideal)) (r : Fin 6144) (n : Fin 7168) (y : Fin 7168 → Ideal .f32)
    (hy : ∀ n, (W main_v93 : FVec Ideal S6144x7168 .f32) (ix2 r n) = y n) :
    (after scaling W main_v120 : FVec Ideal S6144x7168 .f32) (ix2 r n)
      = y n * inverseScale (biased (greatest fun j => y ⟨n.val / 32 * 32 + j.val, by omega⟩)) := by
  unfold scaling
  simp only [List.drop]
  after_results_simp
  pointwise
  simp only [hy]
  refine congrArg₂ _ (congrArg y (Fin.ext (by show n.val / 32 * 32 + n.val % 32 = n.val; omega))) ?_
  rfl

theorem gating_at (W : Valuation τ sig (Elt Ideal)) (r : Fin 6144) (n : Fin 7168) (x : Fin 8192 → Ideal .bf16)
    (lo hi : Fin 4096 → Fin 14336 → Ideal .bf16)
    (hx : ∀ k, (W main_v2 : FVec Ideal S6144x8192 .bf16) (ix2 r k) = x k)
    (hlo : ∀ a q, (W main_v79 : FVec Ideal S4096x1x14336 .bf16) (ix3 a 0 q) = lo a q)
    (hhi : ∀ a q, (W main_v80 : FVec Ideal S4096x1x14336 .bf16) (ix3 a 0 q) = hi a q) :
    (after gating W main_v93 : FVec Ideal S6144x7168 .f32) (ix2 r n)
      = gated (∑ k : Fin 8192, x k * (if k.val % 2 = 0 then lo ⟨k.val / 2, by omega⟩ ⟨n.val, by omega⟩ else hi ⟨k.val / 2, by omega⟩ ⟨n.val, by omega⟩))
          (∑ k : Fin 8192, x k * (if k.val % 2 = 0 then lo ⟨k.val / 2, by omega⟩ ⟨7168 + n.val, by omega⟩ else hi ⟨k.val / 2, by omega⟩ ⟨7168 + n.val, by omega⟩)) := by
  unfold gating
  simp only [List.drop, List.take]
  after_results_simp
  pointwise [gated]
  have e : ∀ q : Fin 14336, ∀ k : Fin 8192,
      (if h : k.val % 2 < 1 then W (Proc.tc.devRef main_v79) (ix3 ⟨k.val / 2, by omega⟩ ⟨k.val % 2, by omega⟩ q)
        else W (Proc.tc.devRef main_v80) (ix3 ⟨k.val / 2, by omega⟩ ⟨k.val % 2 - 1, by omega⟩ q))
      = (if k.val % 2 = 0 then lo ⟨k.val / 2, by omega⟩ q else hi ⟨k.val / 2, by omega⟩ q : Ideal .bf16) := by
    intro q k
    split <;> rename_i h
    · rw [if_pos (by omega)]
      rw [show (⟨k.val % 2, by omega⟩ : Fin 1) = 0 from Fin.ext (by show k.val % 2 = 0; omega)]
      exact hlo _ _
    · rw [if_neg (by omega)]
      rw [show (⟨k.val % 2 - 1, by omega⟩ : Fin 1) = 0 from Fin.ext (by show k.val % 2 - 1 = 0; omega)]
      exact hhi _ _
  simp only [e, hx]

theorem spreading_v79 (W : Valuation τ sig (Elt Ideal)) (r : Fin 4096) (n : Fin 14336) :
    (after spreading W main_v79 : FVec Ideal S4096x1x14336 .bf16) (ix3 r 0 n) = (W main_v44 : FVec Ideal S4096x14336 .bf16) (ix2 r n) := by
  unfold spreading
  simp only [List.take]
  after_results_simp
  pointwise

theorem spreading_v80 (W : Valuation τ sig (Elt Ideal)) (r : Fin 4096) (n : Fin 14336) :
    (after spreading W main_v80 : FVec Ideal S4096x1x14336 .bf16) (ix3 r 0 n)
      = FloatOps.mulf (F := Ideal) (φ := .bf16) ((W main_v77 : FVec Ideal S4096x14336 .bf16) (ix2 r n)) ((W main_v9 : FVec Ideal S4096x14336 .bf16) (ix2 r n)) := by
  unfold spreading
  simp only [List.take]
  after_results_simp
  pointwise

theorem spreading_v2 (W : Valuation τ sig (Elt Ideal)) : after spreading W main_v2 = W main_v2 := by
  unfold spreading
  simp only [List.take]
  after_results_simp

theorem decoding_v2 (W : Valuation τ sig (Elt Ideal)) (r : Fin 6144) (k : Fin 8192) :
    (after decoding W main_v2 : FVec Ideal S6144x8192 .bf16) (ix2 r k)
      = Ideal.ofBits .bf16 (BitVec.extractLsb' (16 * (r.val % 2)) 16
          ((W main_arg0 : IVec S3072x8192 32) (ix2 ⟨r.val / 2, by omega⟩ k))) := by
  unfold decoding
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29,
    List.flatten, List.append, TRef.ternary, TRef.unary, TRef.toBuf, TRef.ofBuf, cast_eq, List.cons_append, List.nil_append]
  after_results_simp
  pointwise
  rw [Nat.mul_comm]
  refine congrArg (fun z => Ideal.ofBits .bf16 (BitVec.extractLsb' _ 16 z)) (congrArg _ (funext fun a => ?_))
  match a with
  | ⟨0, _⟩ => rfl
  | ⟨1, _⟩ => rfl

theorem decoding_v44 (W : Valuation τ sig (Elt Ideal)) (r : Fin 4096) (n : Fin 14336) :
    (after decoding W main_v44 : FVec Ideal S4096x14336 .bf16) (ix2 r n)
      = weight ((W main_arg1 : IVec S4096x14336 8) (ix2 r n)) ((W main_arg2 : IVec S256x14336 8) (ix2 ⟨r.val / 16, by omega⟩ n)) 0 := by
  unfold decoding
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29,
    List.flatten, List.append, TRef.ternary, TRef.unary, TRef.toBuf, TRef.ofBuf, cast_eq, List.cons_append, List.nil_append]
  after_results_simp
  pointwise
  refine congrArg₂ _ ?_ (scale_word _)
  exact (congrArg tableCode (low_nibble _)).trans (tableCode_eq _)

theorem decoding_high (W : Valuation τ sig (Elt Ideal)) (r : Fin 4096) (n : Fin 14336) :
    FloatOps.mulf (F := Ideal) (φ := .bf16) ((after decoding W main_v77 : FVec Ideal S4096x14336 .bf16) (ix2 r n))
        ((after decoding W main_v9 : FVec Ideal S4096x14336 .bf16) (ix2 r n))
      = weight ((W main_arg1 : IVec S4096x14336 8) (ix2 r n)) ((W main_arg2 : IVec S256x14336 8) (ix2 ⟨r.val / 16, by omega⟩ n)) 1 := by
  unfold decoding
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29,
    List.flatten, List.append, TRef.ternary, TRef.unary, TRef.toBuf, TRef.ofBuf, cast_eq, List.cons_append, List.nil_append]
  after_results_simp
  pointwise
  refine congrArg₂ _ ?_ (scale_word _)
  exact (congrArg tableCode (high_nibble _)).trans (tableCode_eq _)

/-- The activations the last kernel clips, already scaled, at a row and a column. -/
theorem entry_at (c : Dev nD) (r : Fin 6144) (n : Fin 7168) :
    (V m c main_v120 : FVec Ideal S6144x7168 .f32) (ix2 r n)
      = activation (m ((c.tc : Thread nD τ).loc main_arg0)) (m ((c.tc : Thread nD τ).loc main_arg1)) (m ((c.tc : Thread nD τ).loc main_arg2)) r n
        * inverseScale (biased (greatest fun j => activation (m ((c.tc : Thread nD τ).loc main_arg0)) (m ((c.tc : Thread nD τ).loc main_arg1)) (m ((c.tc : Thread nD τ).loc main_arg2)) r ⟨n.val / 32 * 32 + j.val, by omega⟩)) := by
  unfold V
  rw [all_runs, after_append, after_append, after_append]
  refine scaling_at _ r n _ fun n => (gating_at _ r n
    (fun k => Ideal.ofBits .bf16 (BitVec.extractLsb' (16 * (r.val % 2)) 16 ((m ((c.tc : Thread nD τ).loc main_arg0)) (ix2 ⟨r.val / 2, by omega⟩ k))))
    (fun a q => weight ((m ((c.tc : Thread nD τ).loc main_arg1)) (ix2 a q)) ((m ((c.tc : Thread nD τ).loc main_arg2)) (ix2 ⟨a.val / 16, by omega⟩ q)) 0)
    (fun a q => weight ((m ((c.tc : Thread nD τ).loc main_arg1)) (ix2 a q)) ((m ((c.tc : Thread nD τ).loc main_arg2)) (ix2 ⟨a.val / 16, by omega⟩ q)) 1)
    (fun k => ?_) (fun a q => ?_) (fun a q => ?_)).trans ?_
  · rw [spreading_v2]
    exact decoding_v2 _ r k
  · rw [spreading_v79]
    exact decoding_v44 _ a q
  · rw [spreading_v80]
    exact decoding_high _ a q
  · unfold activation gProduct
    refine congrArg₂ gated (Finset.sum_congr rfl fun k _ => congrArg _ ?_) (Finset.sum_congr rfl fun k _ => congrArg _ ?_)
    · split <;> rename_i h
      · rw [h]
      · rw [(Nat.mod_two_eq_zero_or_one k.val).resolve_left h]
    · split <;> rename_i h
      · rw [h]
      · rw [(Nat.mod_two_eq_zero_or_one k.val).resolve_left h]

/-- The one grid point takes the whole arrays. -/
theorem idx : ∀ t : Fin cfg0.N, win0_0.index t = ![0, 0] ∧ win0_1.index t = ![0, 0] :=
  (by decide +kernel : ∀ t : Fin grid0.N, win0_0.index t = ![0, 0] ∧ win0_1.index t = ![0, 0])

/-- The one block read back is the array. -/
theorem whole_block (P : FVec Ideal S6144x7168 .f32) (t : Fin cfg0.N) (r : Fin 6144) (n : Fin 7168) :
    View.ld (Val := Elt Ideal) (e' := .f32) (((cfg0.win 0).blk t).view.read (Elt Ideal) P) r0_0 (ix1_0 (ix2 r n)) = P (ix2 r n) := by
  have ht : t.val < 1 := t.isLt
  obtain rfl : t = ⟨0, by decide⟩ := Fin.ext (Nat.lt_one_iff.mp ht)
  refine congrArg P (funext fun a => Fin.ext ?_)
  match a with
  | ⟨0, _⟩ => show 0 * 6144 + 1 * (0 + 1 * r.val) = r.val; omega
  | ⟨1, _⟩ => show 0 * 7168 + 1 * (0 + 1 * n.val) = n.val; omega

/-- The reference's run: the result is the codes, the arguments are unchanged. -/
theorem run_codes (ρ : Dev nD → PrngReg) :
    θ_run defs (onTc (τ := τ) (main (F := Ideal))) ⟨m, fun _ => 0, ρ⟩ fun r => ∀ c : Dev nD,
      r.2.mem ((c.tc : Thread nD τ).loc main_v121) = (fun y : S6144x7168.Idx =>
          gCodes (m ((c.tc : Thread nD τ).loc main_arg0)) (m ((c.tc : Thread nD τ).loc main_arg1))
            (m ((c.tc : Thread nD τ).loc main_arg2)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (run_blocks m ρ)
  refine (dats m 0 c).arrAt_eq_of_covers 1 _ (by decide +kernel) fun t _ y => ?_
  blk_simp
  rw [after0_1]
  unfold out0_1
  rw [canon1_eq]
  idx_vars y
  rw [show ((View.whole main_v121).slice (win0_1.rect t)).emb (ix2 y0 y1) 0 = y0 from Fin.ext (by blk_simp; simp [idx t]),
    show ((View.whole main_v121).slice (win0_1.rect t)).emb (ix2 y0 y1) 1 = y1 from Fin.ext (by blk_simp; simp [idx t])]
  refine congrArg (fun z : Ideal .f32 => min (Ideal.ofBits .f32 0x43E00000#32) (max (Ideal.ofBits .f32 0xC3E00000#32) z)) ?_
  refine Eq.trans ?_ (entry_at m c y0 y1)
  exact whole_block _ t y0 y1

end Cert.GReferenceIdeal.Value
-- ==== Proof.QBitsLoop.lean ====
/-
  THE KEYS AND VALUES, 256 ROWS AT A TIME, in the program on bits. One trip of the loop that the call `_qkv` runs at its last column of blocks: it
  reads the accumulated product and the angles, and writes the codes of 256 rows of the keys and of the values.
-/
module

public import proofs.«01_k».proof.Proof.Gen.QKernel.Loops
public import Idealize.ShloMosaic.Lib.Exec
public import Idealize.ShloMosaic.Lib.Tactic
public import Idealize.ShloMosaic.Lib.Pipeline.Kit

@[expose] public section

set_option maxRecDepth 16384
set_option maxHeartbeats 8000000

noncomputable section

namespace Cert.QKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- What one trip needs: the angles and the accumulator at their contents, everything it writes at any. -/
abbrev TripQ (c : Dev nD) (arg5 : Memref sig .tc .vmem S1024x64 .f32) (arg6 : Memref sig .tc .vmem S1024x64 .f32) (arg16 : Memref sig .tc .vmem S1024x512 .f32) (arg8 : Memref sig .tc .vmem S1024x256 .fp8e4m3) (arg11 : Memref sig .tc .vmem S1024x256 .fp8e4m3) (arg9 : Memref sig .tc .vmem S1024x8 .i8) (arg10 : Memref sig .tc .vmem S512x256 .i32) (arg12 : Memref sig .tc .vmem S1024x8 .i8) (arg13 : Memref sig .tc .vmem S256x1024 .bf16) (arg17 : Memref sig .tc .vmem S128x128 .i32) (X5 : BufTy.Contents (Elt F) arg5.view.ty) (X6 : BufTy.Contents (Elt F) arg6.view.ty) (X16 : BufTy.Contents (Elt F) arg16.view.ty) (f8 : BufTy.Contents (Elt F) arg8.view.ty) (f11 : BufTy.Contents (Elt F) arg11.view.ty) : sProp 𝕄G :=
  iprop((arg5.view.loc (c : Thread nD τ) ↦[arg5.view.set]{fullShare} X5) ∗ (arg6.view.loc (c : Thread nD τ) ↦[arg6.view.set]{fullShare} X6) ∗ (arg16.view.loc (c : Thread nD τ) ↦[arg16.view.set]{fullShare} X16) ∗ (arg8.view.loc (c : Thread nD τ) ↦[arg8.view.set]{fullShare} f8) ∗ (arg11.view.loc (c : Thread nD τ) ↦[arg11.view.set]{fullShare} f11) ∗ (∃ f, arg9.view.loc (c : Thread nD τ) ↦[arg9.view.set]{fullShare} f) ∗ (∃ f, arg10.view.loc (c : Thread nD τ) ↦[arg10.view.set]{fullShare} f) ∗ (∃ f, arg12.view.loc (c : Thread nD τ) ↦[arg12.view.set]{fullShare} f) ∗ (∃ f, arg13.view.loc (c : Thread nD τ) ↦[arg13.view.set]{fullShare} f) ∗ (∃ f, arg17.view.loc (c : Thread nD τ) ↦[arg17.view.set]{fullShare} f))

set_option backward.proofsInPublic true in
/-- One trip: the pieces it writes into the codes of the keys and into those of the values. -/
@[irreducible] def tripQ (𝒱 : Variants) (c : Dev nD) (bd : Option 𝒱.V) (i : grid0.Coords) (arg2 : Memref sig .tc .vmem S512x8192 .i32) (harg2 : arg2.IsWhole) (arg3 : Memref sig .tc .vmem S4096x512 .i8) (harg3 : arg3.IsWhole) (arg4 : Memref sig .tc .vmem S256x512 .i8) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x512 .bf16) (harg7 : arg7.IsWhole) (arg8 : Memref sig .tc .vmem S1024x256 .fp8e4m3) (harg8 : arg8.IsWhole) (arg9 : Memref sig .tc .vmem S1024x8 .i8) (harg9 : arg9.IsWhole) (arg10 : Memref sig .tc .vmem S512x256 .i32) (harg10 : arg10.IsWhole) (arg11 : Memref sig .tc .vmem S1024x256 .fp8e4m3) (harg11 : arg11.IsWhole) (arg12 : Memref sig .tc .vmem S1024x8 .i8) (harg12 : arg12.IsWhole) (arg13 : Memref sig .tc .vmem S256x1024 .bf16) (harg13 : arg13.IsWhole) (arg14 : Memref sig .tc .vmem S256x512 .i32) (harg14 : arg14.IsWhole) (arg15 : Memref sig .tc .vmem S4096x512 .i32) (harg15 : arg15.IsWhole) (arg16 : Memref sig .tc .vmem S1024x512 .f32) (harg16 : arg16.IsWhole) (arg17 : Memref sig .tc .vmem S128x128 .i32) (harg17 : arg17.IsWhole) (k0_h2 : k0_cond2 i = 1#1) (X5 : BufTy.Contents (Elt F) arg5.view.ty) (X6 : BufTy.Contents (Elt F) arg6.view.ty) (X16 : BufTy.Contents (Elt F) arg16.view.ty) (k : Fin k0_t3_loop.trips) :
    { L : List (View.Piece (Elt F) S1024x256 .fp8e4m3) × List (View.Piece (Elt F) S1024x256 .fp8e4m3) // ∀ (E : Set ℕ) (f8 : BufTy.Contents (Elt F) arg8.view.ty) (f11 : BufTy.Contents (Elt F) arg11.view.ty),
      TripQ (F := F) c arg5 arg6 arg16 arg8 arg11 arg9 arg10 arg12 arg13 arg17 X5 X6 X16 f8 f11
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 k PUnit.unit)
          (fun _ => TripQ (F := F) c arg5 arg6 arg16 arg8 arg11 arg9 arg10 arg12 arg13 arg17 X5 X6 X16 (arg8.view.writes (Elt F) f8 L.1) (arg11.view.writes (Elt F) f11 L.2)) } := by
  have hk : k.val < 4 := Nat.lt_of_lt_of_le k.isLt k0_t3_abs.2.1
  refine ⟨⟨?_, ?_⟩, fun E f8 f11 => ?run⟩
  case run =>
    unfold k0_t3_body
    iintro ⟨H5, H6, H16, H8, H11, ⟨%f9, H9⟩, ⟨%f10, H10⟩, ⟨%f12, H12⟩, ⟨%f13, H13⟩, ⟨%f17, H17⟩⟩
    sl_exec
    sl_step
    isplitl [H5]; · iexact H5
    isplitl [H6]; · iexact H6
    isplitl [H16]; · iexact H16
    isplitl [H8]; · iexact H8
    isplitl [H11]; · iexact H11
    isplitl [H9]; · iexists _; iexact H9
    isplitl [H10]; · iexists _; iexact H10
    isplitl [H12]; · iexists _; iexact H12
    isplitl [H13]; · iexists _; iexact H13
    iexists _; iexact H17

/-- The pieces of the trips before `k` in the codes of the keys, last first. -/
def pbK (𝒱 : Variants) (c : Dev nD) (bd : Option 𝒱.V) (i : grid0.Coords) (arg2 : Memref sig .tc .vmem S512x8192 .i32) (harg2 : arg2.IsWhole) (arg3 : Memref sig .tc .vmem S4096x512 .i8) (harg3 : arg3.IsWhole) (arg4 : Memref sig .tc .vmem S256x512 .i8) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x512 .bf16) (harg7 : arg7.IsWhole) (arg8 : Memref sig .tc .vmem S1024x256 .fp8e4m3) (harg8 : arg8.IsWhole) (arg9 : Memref sig .tc .vmem S1024x8 .i8) (harg9 : arg9.IsWhole) (arg10 : Memref sig .tc .vmem S512x256 .i32) (harg10 : arg10.IsWhole) (arg11 : Memref sig .tc .vmem S1024x256 .fp8e4m3) (harg11 : arg11.IsWhole) (arg12 : Memref sig .tc .vmem S1024x8 .i8) (harg12 : arg12.IsWhole) (arg13 : Memref sig .tc .vmem S256x1024 .bf16) (harg13 : arg13.IsWhole) (arg14 : Memref sig .tc .vmem S256x512 .i32) (harg14 : arg14.IsWhole) (arg15 : Memref sig .tc .vmem S4096x512 .i32) (harg15 : arg15.IsWhole) (arg16 : Memref sig .tc .vmem S1024x512 .f32) (harg16 : arg16.IsWhole) (arg17 : Memref sig .tc .vmem S128x128 .i32) (harg17 : arg17.IsWhole) (k0_h2 : k0_cond2 i = 1#1) (X5 : BufTy.Contents (Elt F) arg5.view.ty) (X6 : BufTy.Contents (Elt F) arg6.view.ty) (X16 : BufTy.Contents (Elt F) arg16.view.ty) : ℕ → List (View.Piece (Elt F) S1024x256 .fp8e4m3)
  | 0 => []
  | k + 1 => if h : k < k0_t3_loop.trips then (tripQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 ⟨k, h⟩).1.1 ++ pbK 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 k else pbK 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 k

theorem pbK_succ (𝒱 : Variants) (c : Dev nD) (bd : Option 𝒱.V) (i : grid0.Coords) (arg2 : Memref sig .tc .vmem S512x8192 .i32) (harg2 : arg2.IsWhole) (arg3 : Memref sig .tc .vmem S4096x512 .i8) (harg3 : arg3.IsWhole) (arg4 : Memref sig .tc .vmem S256x512 .i8) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x512 .bf16) (harg7 : arg7.IsWhole) (arg8 : Memref sig .tc .vmem S1024x256 .fp8e4m3) (harg8 : arg8.IsWhole) (arg9 : Memref sig .tc .vmem S1024x8 .i8) (harg9 : arg9.IsWhole) (arg10 : Memref sig .tc .vmem S512x256 .i32) (harg10 : arg10.IsWhole) (arg11 : Memref sig .tc .vmem S1024x256 .fp8e4m3) (harg11 : arg11.IsWhole) (arg12 : Memref sig .tc .vmem S1024x8 .i8) (harg12 : arg12.IsWhole) (arg13 : Memref sig .tc .vmem S256x1024 .bf16) (harg13 : arg13.IsWhole) (arg14 : Memref sig .tc .vmem S256x512 .i32) (harg14 : arg14.IsWhole) (arg15 : Memref sig .tc .vmem S4096x512 .i32) (harg15 : arg15.IsWhole) (arg16 : Memref sig .tc .vmem S1024x512 .f32) (harg16 : arg16.IsWhole) (arg17 : Memref sig .tc .vmem S128x128 .i32) (harg17 : arg17.IsWhole) (k0_h2 : k0_cond2 i = 1#1) (X5 : BufTy.Contents (Elt F) arg5.view.ty) (X6 : BufTy.Contents (Elt F) arg6.view.ty) (X16 : BufTy.Contents (Elt F) arg16.view.ty) (k : Fin k0_t3_loop.trips) :
    pbK (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 (k.val + 1) = (tripQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 k).1.1 ++ pbK (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 k.val := by
  rw [pbK.eq_2]; exact dif_pos k.isLt

/-- The pieces of the trips before `k` in the codes of the values, last first. -/
def pbV (𝒱 : Variants) (c : Dev nD) (bd : Option 𝒱.V) (i : grid0.Coords) (arg2 : Memref sig .tc .vmem S512x8192 .i32) (harg2 : arg2.IsWhole) (arg3 : Memref sig .tc .vmem S4096x512 .i8) (harg3 : arg3.IsWhole) (arg4 : Memref sig .tc .vmem S256x512 .i8) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x512 .bf16) (harg7 : arg7.IsWhole) (arg8 : Memref sig .tc .vmem S1024x256 .fp8e4m3) (harg8 : arg8.IsWhole) (arg9 : Memref sig .tc .vmem S1024x8 .i8) (harg9 : arg9.IsWhole) (arg10 : Memref sig .tc .vmem S512x256 .i32) (harg10 : arg10.IsWhole) (arg11 : Memref sig .tc .vmem S1024x256 .fp8e4m3) (harg11 : arg11.IsWhole) (arg12 : Memref sig .tc .vmem S1024x8 .i8) (harg12 : arg12.IsWhole) (arg13 : Memref sig .tc .vmem S256x1024 .bf16) (harg13 : arg13.IsWhole) (arg14 : Memref sig .tc .vmem S256x512 .i32) (harg14 : arg14.IsWhole) (arg15 : Memref sig .tc .vmem S4096x512 .i32) (harg15 : arg15.IsWhole) (arg16 : Memref sig .tc .vmem S1024x512 .f32) (harg16 : arg16.IsWhole) (arg17 : Memref sig .tc .vmem S128x128 .i32) (harg17 : arg17.IsWhole) (k0_h2 : k0_cond2 i = 1#1) (X5 : BufTy.Contents (Elt F) arg5.view.ty) (X6 : BufTy.Contents (Elt F) arg6.view.ty) (X16 : BufTy.Contents (Elt F) arg16.view.ty) : ℕ → List (View.Piece (Elt F) S1024x256 .fp8e4m3)
  | 0 => []
  | k + 1 => if h : k < k0_t3_loop.trips then (tripQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 ⟨k, h⟩).1.2 ++ pbV 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 k else pbV 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 k

theorem pbV_succ (𝒱 : Variants) (c : Dev nD) (bd : Option 𝒱.V) (i : grid0.Coords) (arg2 : Memref sig .tc .vmem S512x8192 .i32) (harg2 : arg2.IsWhole) (arg3 : Memref sig .tc .vmem S4096x512 .i8) (harg3 : arg3.IsWhole) (arg4 : Memref sig .tc .vmem S256x512 .i8) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x512 .bf16) (harg7 : arg7.IsWhole) (arg8 : Memref sig .tc .vmem S1024x256 .fp8e4m3) (harg8 : arg8.IsWhole) (arg9 : Memref sig .tc .vmem S1024x8 .i8) (harg9 : arg9.IsWhole) (arg10 : Memref sig .tc .vmem S512x256 .i32) (harg10 : arg10.IsWhole) (arg11 : Memref sig .tc .vmem S1024x256 .fp8e4m3) (harg11 : arg11.IsWhole) (arg12 : Memref sig .tc .vmem S1024x8 .i8) (harg12 : arg12.IsWhole) (arg13 : Memref sig .tc .vmem S256x1024 .bf16) (harg13 : arg13.IsWhole) (arg14 : Memref sig .tc .vmem S256x512 .i32) (harg14 : arg14.IsWhole) (arg15 : Memref sig .tc .vmem S4096x512 .i32) (harg15 : arg15.IsWhole) (arg16 : Memref sig .tc .vmem S1024x512 .f32) (harg16 : arg16.IsWhole) (arg17 : Memref sig .tc .vmem S128x128 .i32) (harg17 : arg17.IsWhole) (k0_h2 : k0_cond2 i = 1#1) (X5 : BufTy.Contents (Elt F) arg5.view.ty) (X6 : BufTy.Contents (Elt F) arg6.view.ty) (X16 : BufTy.Contents (Elt F) arg16.view.ty) (k : Fin k0_t3_loop.trips) :
    pbV (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 (k.val + 1) = (tripQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 k).1.2 ++ pbV (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 k.val := by
  rw [pbV.eq_2]; exact dif_pos k.isLt

set_option warn.classDefReducibility false in
/-- The loop by its invariant: the accumulator and the angles are only read, the codes hold the pieces of the trips so far, the rest is at anything. -/
@[sl_loop] def loopInvQ (𝒱 : Variants) (c : Dev nD) (bd : Option 𝒱.V) (E : Set ℕ) (i : grid0.Coords) (arg2 : Memref sig .tc .vmem S512x8192 .i32) (harg2 : arg2.IsWhole) (arg3 : Memref sig .tc .vmem S4096x512 .i8) (harg3 : arg3.IsWhole) (arg4 : Memref sig .tc .vmem S256x512 .i8) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x512 .bf16) (harg7 : arg7.IsWhole) (arg8 : Memref sig .tc .vmem S1024x256 .fp8e4m3) (harg8 : arg8.IsWhole) (arg9 : Memref sig .tc .vmem S1024x8 .i8) (harg9 : arg9.IsWhole) (arg10 : Memref sig .tc .vmem S512x256 .i32) (harg10 : arg10.IsWhole) (arg11 : Memref sig .tc .vmem S1024x256 .fp8e4m3) (harg11 : arg11.IsWhole) (arg12 : Memref sig .tc .vmem S1024x8 .i8) (harg12 : arg12.IsWhole) (arg13 : Memref sig .tc .vmem S256x1024 .bf16) (harg13 : arg13.IsWhole) (arg14 : Memref sig .tc .vmem S256x512 .i32) (harg14 : arg14.IsWhole) (arg15 : Memref sig .tc .vmem S4096x512 .i32) (harg15 : arg15.IsWhole) (arg16 : Memref sig .tc .vmem S1024x512 .f32) (harg16 : arg16.IsWhole) (arg17 : Memref sig .tc .vmem S128x128 .i32) (harg17 : arg17.IsWhole) (k0_h2 : k0_cond2 i = 1#1) (X5 : BufTy.Contents (Elt F) arg5.view.ty) (X6 : BufTy.Contents (Elt F) arg6.view.ty) (X16 : BufTy.Contents (Elt F) arg16.view.ty) (G8 : BufTy.Contents (Elt F) arg8.view.ty) (G11 : BufTy.Contents (Elt F) arg11.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 where
  inv k _ := iprop((arg5.view.loc (c : Thread nD τ) ↦[arg5.view.set]{fullShare} X5) ∗ (arg6.view.loc (c : Thread nD τ) ↦[arg6.view.set]{fullShare} X6) ∗ (arg16.view.loc (c : Thread nD τ) ↦[arg16.view.set]{fullShare} X16)
    ∗ (∃ f, (arg8.view.loc (c : Thread nD τ) ↦[arg8.view.set]{fullShare} f) ∗ ⌜f = arg8.view.writes (Elt F) G8 (pbK (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 k)⌝)
    ∗ (∃ f, (arg11.view.loc (c : Thread nD τ) ↦[arg11.view.set]{fullShare} f) ∗ ⌜f = arg11.view.writes (Elt F) G11 (pbV (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 k)⌝)
    ∗ (∃ f, arg9.view.loc (c : Thread nD τ) ↦[arg9.view.set]{fullShare} f) ∗ (∃ f, arg10.view.loc (c : Thread nD τ) ↦[arg10.view.set]{fullShare} f) ∗ (∃ f, arg12.view.loc (c : Thread nD τ) ↦[arg12.view.set]{fullShare} f) ∗ (∃ f, arg13.view.loc (c : Thread nD τ) ↦[arg13.view.set]{fullShare} f) ∗ (∃ f, arg17.view.loc (c : Thread nD τ) ↦[arg17.view.set]{fullShare} f))
  step k acc := by
    iintro ⟨H5, H6, H16, ⟨%f8, H8, %h8⟩, ⟨%f11, H11, %h11⟩, H9, H10, H12, H13, H17⟩
    iapply (wp_wand_r Idealize.ShloMosaic.frame (wpE (defs₀ (F := F)) 𝒱 (c : Thread nD τ) bd) E)
    isplitl [H5 H6 H16 H8 H11 H9 H10 H12 H13 H17]
    · iapply ((tripQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 k).2 E f8 f11)
      isplitl [H5]; · iexact H5
      isplitl [H6]; · iexact H6
      isplitl [H16]; · iexact H16
      isplitl [H8]; · iexact H8
      isplitl [H11]; · iexact H11
      isplitl [H9]; · iexact H9
      isplitl [H10]; · iexact H10
      isplitl [H12]; · iexact H12
      isplitl [H13]; · iexact H13
      iexact H17
    · iintro %_ ⟨H5, H6, H16, H8, H11, H9, H10, H12, H13, H17⟩
      isplitl [H5]; · iexact H5
      isplitl [H6]; · iexact H6
      isplitl [H16]; · iexact H16
      isplitl [H8]
      · rw [pbK_succ]
        iexists _; isplitl [H8]; · iexact H8
        ipureintro; rw [h8, ← View.writes_append]
      isplitl [H11]
      · rw [pbV_succ]
        iexists _; isplitl [H11]; · iexact H11
        ipureintro; rw [h11, ← View.writes_append]
      isplitl [H9]; · iexact H9
      isplitl [H10]; · iexact H10
      isplitl [H12]; · iexact H12
      isplitl [H13]; · iexact H13
      iexact H17

end Cert.QKernel.Gen

end
-- ==== Proof.QBitsRun.lean ====
/-
  ONE RUN OF THE CALL `_qkv`'S BODY, OF THE PROGRAM ON BITS: the weights decoded, the product taken, then the queries in the first columns of
  blocks, the keys and values in the last. The run ends, whatever the buffers held.
-/
module

public import proofs.«01_k».proof.Proof.QBitsLoop
public import proofs.«01_k».proof.Proof.Gen.QKernel.Frame

@[expose] public section

set_option maxRecDepth 16384
set_option maxHeartbeats 8000000

noncomputable section

namespace Cert.QKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- A run: it ends, its inputs as they were. -/
theorem runAny (c : Dev nD) (i : grid0.Coords) (arg2 : Memref sig .tc .vmem S512x8192 .i32) (harg2 : arg2.IsWhole) (arg3 : Memref sig .tc .vmem S4096x512 .i8) (harg3 : arg3.IsWhole) (arg4 : Memref sig .tc .vmem S256x512 .i8) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x512 .bf16) (harg7 : arg7.IsWhole) (arg8 : Memref sig .tc .vmem S1024x256 .fp8e4m3) (harg8 : arg8.IsWhole) (arg9 : Memref sig .tc .vmem S1024x8 .i8) (harg9 : arg9.IsWhole) (arg10 : Memref sig .tc .vmem S512x256 .i32) (harg10 : arg10.IsWhole) (arg11 : Memref sig .tc .vmem S1024x256 .fp8e4m3) (harg11 : arg11.IsWhole) (arg12 : Memref sig .tc .vmem S1024x8 .i8) (harg12 : arg12.IsWhole) (arg13 : Memref sig .tc .vmem S256x1024 .bf16) (harg13 : arg13.IsWhole) (arg14 : Memref sig .tc .vmem S256x512 .i32) (harg14 : arg14.IsWhole) (arg15 : Memref sig .tc .vmem S4096x512 .i32) (harg15 : arg15.IsWhole) (arg16 : Memref sig .tc .vmem S1024x512 .f32) (harg16 : arg16.IsWhole) (arg17 : Memref sig .tc .vmem S128x128 .i32) (harg17 : arg17.IsWhole)
    (x0 : Vec F S512x8192 .i32) (x1 : Vec F S4096x512 .i8) (x2 : Vec F S256x512 .i8) (x3 x4 : Vec F S1024x64 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    simp only [cc0_qkv_eq_skeleton]; unfold cc0_qkv_skel
    unfold owns
    iintro ⟨⟨%f2, %hf2, H0⟩, ⟨%f3, %hf3, H1⟩, ⟨%f4, %hf4, H2⟩, ⟨%f5, %hf5, H3⟩, ⟨%f6, %hf6, H4⟩, ⟨%d7, %f7, -, H5⟩, ⟨%d8, %f8, -, H6⟩, ⟨%d9, %f9, -, H7⟩, ⟨%d10, %f10, -, H8⟩, ⟨%d11, %f11, -, H9⟩, ⟨%d12, %f12, -, H10⟩, ⟨%d13, %f13, -, H11⟩, ⟨%d14, %f14, -, HS0⟩, ⟨%d15, %f15, -, HS1⟩, ⟨%d16, %f16, -, HS2⟩, ⟨%d17, %f17, -, HS3⟩, Hk⟩
    obtain rfl := harg2.eq_unread hf2; obtain rfl := harg3.eq_unread hf3; obtain rfl := harg4.eq_unread hf4; obtain rfl := harg5.eq_unread hf5; obtain rfl := harg6.eq_unread hf6
    have hrd0 : ∀ (𝒱 : Variants) (c : Dev nD) (bd : Option 𝒱.V) (i : grid0.Coords) (arg2 : Memref sig .tc .vmem S512x8192 .i32) (harg2 : arg2.IsWhole) (arg3 : Memref sig .tc .vmem S4096x512 .i8) (harg3 : arg3.IsWhole) (arg4 : Memref sig .tc .vmem S256x512 .i8) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x512 .bf16) (harg7 : arg7.IsWhole) (arg8 : Memref sig .tc .vmem S1024x256 .fp8e4m3) (harg8 : arg8.IsWhole) (arg9 : Memref sig .tc .vmem S1024x8 .i8) (harg9 : arg9.IsWhole) (arg10 : Memref sig .tc .vmem S512x256 .i32) (harg10 : arg10.IsWhole) (arg11 : Memref sig .tc .vmem S1024x256 .fp8e4m3) (harg11 : arg11.IsWhole) (arg12 : Memref sig .tc .vmem S1024x8 .i8) (harg12 : arg12.IsWhole) (arg13 : Memref sig .tc .vmem S256x1024 .bf16) (harg13 : arg13.IsWhole) (arg14 : Memref sig .tc .vmem S256x512 .i32) (harg14 : arg14.IsWhole) (arg15 : Memref sig .tc .vmem S4096x512 .i32) (harg15 : arg15.IsWhole) (arg16 : Memref sig .tc .vmem S1024x512 .f32) (harg16 : arg16.IsWhole) (arg17 : Memref sig .tc .vmem S128x128 .i32) (harg17 : arg17.IsWhole) (X_arg3 : BufTy.Contents (Elt F) arg3.view.ty) (X_arg14 : BufTy.Contents (Elt F) arg14.view.ty) (hrdF : BufTy.Contents (Elt F) arg15.view.ty) (hrdB : LoadRect S4096x512), arg15.view.readAt (Elt F) hrdB (arg15.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg3 X_arg14 (Scf.trips k0_t1_loop.lb k0_t1_loop.ub k0_t1_loop.st))) = arg15.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg3 X_arg14 (Scf.trips k0_t1_loop.lb k0_t1_loop.ub k0_t1_loop.st)) hrdB :=
      fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg3 X_arg14 hrdF hrdB =>
        View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg3 X_arg14 (Scf.trips k0_t1_loop.lb k0_t1_loop.ub k0_t1_loop.st)) S16x512.size (by sl_kernel_rfl) (hrdB.idx hrdJ))
    by_cases hc1 : k0_cond1 i = 1#1 <;> by_cases hc2 : k0_cond2 i = 1#1
    all_goals
      sl_exec
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _, _; isplitr; swap; · iexact H5
        ipureintro; rfl
      isplitl [H6]
      · iexists _, _; isplitr; swap; · iexact H6
        ipureintro; rfl
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      iexists _, _; isplitr; swap; · iexact HS3
      ipureintro; rfl

end Cert.QKernel.Gen

end
-- ==== Proof.QBitsFrame.lean ====
/-
  THE LAUNCH OF THE CALL `_qkv`, OF THE PROGRAM ON BITS. The body run at every point of the grid gives the frame: the program ends, its
  arguments as they were.
-/
module

public import proofs.«01_k».proof.Proof.QBitsRun
public import Idealize.ShloMosaic.Lib.Pipeline.Frame
public import Idealize.ShloMosaic.Lib.Claim

@[expose] public section

set_option maxRecDepth 16384

noncomputable section

namespace Cert.QKernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- Each window's current staging memref at point `t`, and its wholeness. -/
abbrev ms0_0 (t : Fin cfg0.N) : Memref sig .tc .vmem S512x8192 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x8 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x256 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x256 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x8 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x1024 .bf16 := win0_11.stage (cfg0.slots t 11)
abbrev hs0_11 (t : Fin cfg0.N) : (ms0_11 t).IsWhole := hstage0_11 ((cfg0.slots t 11).cast nbuf0_11)
/-- The scratch operands, whole. -/
abbrev scM0_0 : Memref sig .tc .vmem S256x512 .i32 := Memref.whole cc0_scratch0
abbrev scM0_1 : Memref sig .tc .vmem S4096x512 .i32 := Memref.whole cc0_scratch1
abbrev scM0_2 : Memref sig .tc .vmem S1024x512 .f32 := Memref.whole cc0_scratch2
abbrev scM0_3 : Memref sig .tc .vmem S128x128 .i32 := Memref.whole cc0_scratch3

/-- The invariant with the scratch operands as memrefs owned at some contents. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The windows whose contents the data leaves unnamed: the results. -/
def forgets0 : Fin 12 → Bool := ![false, false, false, false, false, true, true, true, true, true, true, true]

/-- The proof data: the arrays as the region finds them; after the body each input's buffer at its block; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, H5, H6, H7, H8, H9, H10, H11⟩
  iapply (runAny c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  isplitl [HS3]; · iexact HS3
  iintro ⟨H0, H1, H2, H3, H4, H5, H6, H7, H8, H9, H10, H11, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

/-- The body's triple as the launch asks for it, at every point. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every fair execution ends, the arrays at what the proof data says, every counter at zero. -/
theorem run_main : θ_run defs (onTc (τ := τ) (main (F := F))) (s₀ m ρ)
    (fun r => RDat.FramePost (cfgs 0) (fun c => (dats m 0 c).toRForget forgets0) (V m) r ∧ r.2.sem = fun _ => 0) :=
  Pipeline.θ_run_frame_forget_shared (Q' := _) cfgs (dats m) (0 : Fin 1) launch0.to₀ defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame: the program ends with its arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1.arr_in c 0 rfl).trans (A_eq m c 0), (h.1.arr_in c 1 rfl).trans (A_eq m c 1), (h.1.arr_in c 2 rfl).trans (A_eq m c 2), (h.1.arr_in c 3 rfl).trans (A_eq m c 3), (h.1.arr_in c 4 rfl).trans (A_eq m c 4)⟩, h.2⟩) (run_main m ρ)

end Cert.QKernel.Gen

end
-- ==== Proof.QLoop.lean ====
/-
  THE KEYS AND VALUES, 256 ROWS AT A TIME. One trip of the loop that the call `_qkv` runs at its last column of blocks: it
  reads the accumulated product and the angles, and writes the codes of 256 rows of the keys and of the values.
-/
module

public import proofs.«01_k».proof.Proof.Gen.QKernelIdeal.Loops
public import Idealize.ShloMosaic.Lib.Exec
public import Idealize.ShloMosaic.Lib.Tactic
public import Idealize.ShloMosaic.Lib.Pipeline.Kit

@[expose] public section

set_option maxRecDepth 16384
set_option maxHeartbeats 8000000

noncomputable section

namespace Cert.QKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip needs: the angles and the accumulator at their contents, everything it writes at any. -/
abbrev TripQ (c : Dev nD) (arg5 : Memref sig .tc .vmem S1024x64 .f32) (arg6 : Memref sig .tc .vmem S1024x64 .f32) (arg16 : Memref sig .tc .vmem S1024x512 .f32) (arg8 : Memref sig .tc .vmem S1024x256 .fp8e4m3) (arg11 : Memref sig .tc .vmem S1024x256 .fp8e4m3) (arg9 : Memref sig .tc .vmem S1024x8 .i8) (arg10 : Memref sig .tc .vmem S512x2x256 .bf16) (arg12 : Memref sig .tc .vmem S1024x8 .i8) (arg13 : Memref sig .tc .vmem S256x1024 .bf16) (arg17 : Memref sig .tc .vmem S128x128 .i32) (X5 : BufTy.Contents (Elt F) arg5.view.ty) (X6 : BufTy.Contents (Elt F) arg6.view.ty) (X16 : BufTy.Contents (Elt F) arg16.view.ty) (f8 : BufTy.Contents (Elt F) arg8.view.ty) (f11 : BufTy.Contents (Elt F) arg11.view.ty) : sProp 𝕄G :=
  iprop((arg5.view.loc (c : Thread nD τ) ↦[arg5.view.set]{fullShare} X5) ∗ (arg6.view.loc (c : Thread nD τ) ↦[arg6.view.set]{fullShare} X6) ∗ (arg16.view.loc (c : Thread nD τ) ↦[arg16.view.set]{fullShare} X16) ∗ (arg8.view.loc (c : Thread nD τ) ↦[arg8.view.set]{fullShare} f8) ∗ (arg11.view.loc (c : Thread nD τ) ↦[arg11.view.set]{fullShare} f11) ∗ (∃ f, arg9.view.loc (c : Thread nD τ) ↦[arg9.view.set]{fullShare} f) ∗ (∃ f, arg10.view.loc (c : Thread nD τ) ↦[arg10.view.set]{fullShare} f) ∗ (∃ f, arg12.view.loc (c : Thread nD τ) ↦[arg12.view.set]{fullShare} f) ∗ (∃ f, arg13.view.loc (c : Thread nD τ) ↦[arg13.view.set]{fullShare} f) ∗ (∃ f, arg17.view.loc (c : Thread nD τ) ↦[arg17.view.set]{fullShare} f))

set_option backward.proofsInPublic true in
/-- One trip: the pieces it writes into the codes of the keys and into those of the values. -/
@[irreducible] def tripQ (𝒱 : Variants) (c : Dev nD) (bd : Option 𝒱.V) (i : grid0.Coords) (arg2 : Memref sig .tc .vmem S512x8192 .i32) (harg2 : arg2.IsWhole) (arg3 : Memref sig .tc .vmem S4096x512 .i8) (harg3 : arg3.IsWhole) (arg4 : Memref sig .tc .vmem S256x512 .i8) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x512 .bf16) (harg7 : arg7.IsWhole) (arg8 : Memref sig .tc .vmem S1024x256 .fp8e4m3) (harg8 : arg8.IsWhole) (arg9 : Memref sig .tc .vmem S1024x8 .i8) (harg9 : arg9.IsWhole) (arg10 : Memref sig .tc .vmem S512x2x256 .bf16) (harg10 : arg10.IsWhole) (arg11 : Memref sig .tc .vmem S1024x256 .fp8e4m3) (harg11 : arg11.IsWhole) (arg12 : Memref sig .tc .vmem S1024x8 .i8) (harg12 : arg12.IsWhole) (arg13 : Memref sig .tc .vmem S256x1024 .bf16) (harg13 : arg13.IsWhole) (arg14 : Memref sig .tc .vmem S256x512 .i32) (harg14 : arg14.IsWhole) (arg15 : Memref sig .tc .vmem S4096x2x512 .bf16) (harg15 : arg15.IsWhole) (arg16 : Memref sig .tc .vmem S1024x512 .f32) (harg16 : arg16.IsWhole) (arg17 : Memref sig .tc .vmem S128x128 .i32) (harg17 : arg17.IsWhole) (k0_h2 : k0_cond2 i = 1#1) (X5 : BufTy.Contents (Elt F) arg5.view.ty) (X6 : BufTy.Contents (Elt F) arg6.view.ty) (X16 : BufTy.Contents (Elt F) arg16.view.ty) (k : Fin k0_t3_loop.trips) :
    { L : List (View.Piece (Elt F) S1024x256 .fp8e4m3) × List (View.Piece (Elt F) S1024x256 .fp8e4m3) // ∀ (E : Set ℕ) (f8 : BufTy.Contents (Elt F) arg8.view.ty) (f11 : BufTy.Contents (Elt F) arg11.view.ty),
      TripQ (F := F) c arg5 arg6 arg16 arg8 arg11 arg9 arg10 arg12 arg13 arg17 X5 X6 X16 f8 f11
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 k PUnit.unit)
          (fun _ => TripQ (F := F) c arg5 arg6 arg16 arg8 arg11 arg9 arg10 arg12 arg13 arg17 X5 X6 X16 (arg8.view.writes (Elt F) f8 L.1) (arg11.view.writes (Elt F) f11 L.2)) } := by
  have hk : k.val < 4 := Nat.lt_of_lt_of_le k.isLt k0_t3_abs.2.1
  refine ⟨⟨?_, ?_⟩, fun E f8 f11 => ?run⟩
  case run =>
    unfold k0_t3_body
    iintro ⟨H5, H6, H16, H8, H11, ⟨%f9, H9⟩, ⟨%f10, H10⟩, ⟨%f12, H12⟩, ⟨%f13, H13⟩, ⟨%f17, H17⟩⟩
    sl_exec
    sl_step
    isplitl [H5]; · iexact H5
    isplitl [H6]; · iexact H6
    isplitl [H16]; · iexact H16
    isplitl [H8]; · iexact H8
    isplitl [H11]; · iexact H11
    isplitl [H9]; · iexists _; iexact H9
    isplitl [H10]; · iexists _; iexact H10
    isplitl [H12]; · iexists _; iexact H12
    isplitl [H13]; · iexists _; iexact H13
    iexists _; iexact H17

/-- The pieces of the trips before `k` in the codes of the keys, last first. -/
def pbK (𝒱 : Variants) (c : Dev nD) (bd : Option 𝒱.V) (i : grid0.Coords) (arg2 : Memref sig .tc .vmem S512x8192 .i32) (harg2 : arg2.IsWhole) (arg3 : Memref sig .tc .vmem S4096x512 .i8) (harg3 : arg3.IsWhole) (arg4 : Memref sig .tc .vmem S256x512 .i8) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x512 .bf16) (harg7 : arg7.IsWhole) (arg8 : Memref sig .tc .vmem S1024x256 .fp8e4m3) (harg8 : arg8.IsWhole) (arg9 : Memref sig .tc .vmem S1024x8 .i8) (harg9 : arg9.IsWhole) (arg10 : Memref sig .tc .vmem S512x2x256 .bf16) (harg10 : arg10.IsWhole) (arg11 : Memref sig .tc .vmem S1024x256 .fp8e4m3) (harg11 : arg11.IsWhole) (arg12 : Memref sig .tc .vmem S1024x8 .i8) (harg12 : arg12.IsWhole) (arg13 : Memref sig .tc .vmem S256x1024 .bf16) (harg13 : arg13.IsWhole) (arg14 : Memref sig .tc .vmem S256x512 .i32) (harg14 : arg14.IsWhole) (arg15 : Memref sig .tc .vmem S4096x2x512 .bf16) (harg15 : arg15.IsWhole) (arg16 : Memref sig .tc .vmem S1024x512 .f32) (harg16 : arg16.IsWhole) (arg17 : Memref sig .tc .vmem S128x128 .i32) (harg17 : arg17.IsWhole) (k0_h2 : k0_cond2 i = 1#1) (X5 : BufTy.Contents (Elt F) arg5.view.ty) (X6 : BufTy.Contents (Elt F) arg6.view.ty) (X16 : BufTy.Contents (Elt F) arg16.view.ty) : ℕ → List (View.Piece (Elt F) S1024x256 .fp8e4m3)
  | 0 => []
  | k + 1 => if h : k < k0_t3_loop.trips then (tripQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 ⟨k, h⟩).1.1 ++ pbK 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 k else pbK 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 k

theorem pbK_succ (𝒱 : Variants) (c : Dev nD) (bd : Option 𝒱.V) (i : grid0.Coords) (arg2 : Memref sig .tc .vmem S512x8192 .i32) (harg2 : arg2.IsWhole) (arg3 : Memref sig .tc .vmem S4096x512 .i8) (harg3 : arg3.IsWhole) (arg4 : Memref sig .tc .vmem S256x512 .i8) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x512 .bf16) (harg7 : arg7.IsWhole) (arg8 : Memref sig .tc .vmem S1024x256 .fp8e4m3) (harg8 : arg8.IsWhole) (arg9 : Memref sig .tc .vmem S1024x8 .i8) (harg9 : arg9.IsWhole) (arg10 : Memref sig .tc .vmem S512x2x256 .bf16) (harg10 : arg10.IsWhole) (arg11 : Memref sig .tc .vmem S1024x256 .fp8e4m3) (harg11 : arg11.IsWhole) (arg12 : Memref sig .tc .vmem S1024x8 .i8) (harg12 : arg12.IsWhole) (arg13 : Memref sig .tc .vmem S256x1024 .bf16) (harg13 : arg13.IsWhole) (arg14 : Memref sig .tc .vmem S256x512 .i32) (harg14 : arg14.IsWhole) (arg15 : Memref sig .tc .vmem S4096x2x512 .bf16) (harg15 : arg15.IsWhole) (arg16 : Memref sig .tc .vmem S1024x512 .f32) (harg16 : arg16.IsWhole) (arg17 : Memref sig .tc .vmem S128x128 .i32) (harg17 : arg17.IsWhole) (k0_h2 : k0_cond2 i = 1#1) (X5 : BufTy.Contents (Elt F) arg5.view.ty) (X6 : BufTy.Contents (Elt F) arg6.view.ty) (X16 : BufTy.Contents (Elt F) arg16.view.ty) (k : Fin k0_t3_loop.trips) :
    pbK (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 (k.val + 1) = (tripQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 k).1.1 ++ pbK (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 k.val := by
  rw [pbK.eq_2]; exact dif_pos k.isLt

/-- The pieces of the trips before `k` in the codes of the values, last first. -/
def pbV (𝒱 : Variants) (c : Dev nD) (bd : Option 𝒱.V) (i : grid0.Coords) (arg2 : Memref sig .tc .vmem S512x8192 .i32) (harg2 : arg2.IsWhole) (arg3 : Memref sig .tc .vmem S4096x512 .i8) (harg3 : arg3.IsWhole) (arg4 : Memref sig .tc .vmem S256x512 .i8) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x512 .bf16) (harg7 : arg7.IsWhole) (arg8 : Memref sig .tc .vmem S1024x256 .fp8e4m3) (harg8 : arg8.IsWhole) (arg9 : Memref sig .tc .vmem S1024x8 .i8) (harg9 : arg9.IsWhole) (arg10 : Memref sig .tc .vmem S512x2x256 .bf16) (harg10 : arg10.IsWhole) (arg11 : Memref sig .tc .vmem S1024x256 .fp8e4m3) (harg11 : arg11.IsWhole) (arg12 : Memref sig .tc .vmem S1024x8 .i8) (harg12 : arg12.IsWhole) (arg13 : Memref sig .tc .vmem S256x1024 .bf16) (harg13 : arg13.IsWhole) (arg14 : Memref sig .tc .vmem S256x512 .i32) (harg14 : arg14.IsWhole) (arg15 : Memref sig .tc .vmem S4096x2x512 .bf16) (harg15 : arg15.IsWhole) (arg16 : Memref sig .tc .vmem S1024x512 .f32) (harg16 : arg16.IsWhole) (arg17 : Memref sig .tc .vmem S128x128 .i32) (harg17 : arg17.IsWhole) (k0_h2 : k0_cond2 i = 1#1) (X5 : BufTy.Contents (Elt F) arg5.view.ty) (X6 : BufTy.Contents (Elt F) arg6.view.ty) (X16 : BufTy.Contents (Elt F) arg16.view.ty) : ℕ → List (View.Piece (Elt F) S1024x256 .fp8e4m3)
  | 0 => []
  | k + 1 => if h : k < k0_t3_loop.trips then (tripQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 ⟨k, h⟩).1.2 ++ pbV 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 k else pbV 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 k

theorem pbV_succ (𝒱 : Variants) (c : Dev nD) (bd : Option 𝒱.V) (i : grid0.Coords) (arg2 : Memref sig .tc .vmem S512x8192 .i32) (harg2 : arg2.IsWhole) (arg3 : Memref sig .tc .vmem S4096x512 .i8) (harg3 : arg3.IsWhole) (arg4 : Memref sig .tc .vmem S256x512 .i8) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x512 .bf16) (harg7 : arg7.IsWhole) (arg8 : Memref sig .tc .vmem S1024x256 .fp8e4m3) (harg8 : arg8.IsWhole) (arg9 : Memref sig .tc .vmem S1024x8 .i8) (harg9 : arg9.IsWhole) (arg10 : Memref sig .tc .vmem S512x2x256 .bf16) (harg10 : arg10.IsWhole) (arg11 : Memref sig .tc .vmem S1024x256 .fp8e4m3) (harg11 : arg11.IsWhole) (arg12 : Memref sig .tc .vmem S1024x8 .i8) (harg12 : arg12.IsWhole) (arg13 : Memref sig .tc .vmem S256x1024 .bf16) (harg13 : arg13.IsWhole) (arg14 : Memref sig .tc .vmem S256x512 .i32) (harg14 : arg14.IsWhole) (arg15 : Memref sig .tc .vmem S4096x2x512 .bf16) (harg15 : arg15.IsWhole) (arg16 : Memref sig .tc .vmem S1024x512 .f32) (harg16 : arg16.IsWhole) (arg17 : Memref sig .tc .vmem S128x128 .i32) (harg17 : arg17.IsWhole) (k0_h2 : k0_cond2 i = 1#1) (X5 : BufTy.Contents (Elt F) arg5.view.ty) (X6 : BufTy.Contents (Elt F) arg6.view.ty) (X16 : BufTy.Contents (Elt F) arg16.view.ty) (k : Fin k0_t3_loop.trips) :
    pbV (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 (k.val + 1) = (tripQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 k).1.2 ++ pbV (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 k.val := by
  rw [pbV.eq_2]; exact dif_pos k.isLt

set_option warn.classDefReducibility false in
/-- The loop by its invariant: the accumulator and the angles are only read, the codes hold the pieces of the trips so far, the rest is at anything. -/
@[sl_loop] def loopInvQ (𝒱 : Variants) (c : Dev nD) (bd : Option 𝒱.V) (E : Set ℕ) (i : grid0.Coords) (arg2 : Memref sig .tc .vmem S512x8192 .i32) (harg2 : arg2.IsWhole) (arg3 : Memref sig .tc .vmem S4096x512 .i8) (harg3 : arg3.IsWhole) (arg4 : Memref sig .tc .vmem S256x512 .i8) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x512 .bf16) (harg7 : arg7.IsWhole) (arg8 : Memref sig .tc .vmem S1024x256 .fp8e4m3) (harg8 : arg8.IsWhole) (arg9 : Memref sig .tc .vmem S1024x8 .i8) (harg9 : arg9.IsWhole) (arg10 : Memref sig .tc .vmem S512x2x256 .bf16) (harg10 : arg10.IsWhole) (arg11 : Memref sig .tc .vmem S1024x256 .fp8e4m3) (harg11 : arg11.IsWhole) (arg12 : Memref sig .tc .vmem S1024x8 .i8) (harg12 : arg12.IsWhole) (arg13 : Memref sig .tc .vmem S256x1024 .bf16) (harg13 : arg13.IsWhole) (arg14 : Memref sig .tc .vmem S256x512 .i32) (harg14 : arg14.IsWhole) (arg15 : Memref sig .tc .vmem S4096x2x512 .bf16) (harg15 : arg15.IsWhole) (arg16 : Memref sig .tc .vmem S1024x512 .f32) (harg16 : arg16.IsWhole) (arg17 : Memref sig .tc .vmem S128x128 .i32) (harg17 : arg17.IsWhole) (k0_h2 : k0_cond2 i = 1#1) (X5 : BufTy.Contents (Elt F) arg5.view.ty) (X6 : BufTy.Contents (Elt F) arg6.view.ty) (X16 : BufTy.Contents (Elt F) arg16.view.ty) (G8 : BufTy.Contents (Elt F) arg8.view.ty) (G11 : BufTy.Contents (Elt F) arg11.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 where
  inv k _ := iprop((arg5.view.loc (c : Thread nD τ) ↦[arg5.view.set]{fullShare} X5) ∗ (arg6.view.loc (c : Thread nD τ) ↦[arg6.view.set]{fullShare} X6) ∗ (arg16.view.loc (c : Thread nD τ) ↦[arg16.view.set]{fullShare} X16)
    ∗ (∃ f, (arg8.view.loc (c : Thread nD τ) ↦[arg8.view.set]{fullShare} f) ∗ ⌜f = arg8.view.writes (Elt F) G8 (pbK (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 k)⌝)
    ∗ (∃ f, (arg11.view.loc (c : Thread nD τ) ↦[arg11.view.set]{fullShare} f) ∗ ⌜f = arg11.view.writes (Elt F) G11 (pbV (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 k)⌝)
    ∗ (∃ f, arg9.view.loc (c : Thread nD τ) ↦[arg9.view.set]{fullShare} f) ∗ (∃ f, arg10.view.loc (c : Thread nD τ) ↦[arg10.view.set]{fullShare} f) ∗ (∃ f, arg12.view.loc (c : Thread nD τ) ↦[arg12.view.set]{fullShare} f) ∗ (∃ f, arg13.view.loc (c : Thread nD τ) ↦[arg13.view.set]{fullShare} f) ∗ (∃ f, arg17.view.loc (c : Thread nD τ) ↦[arg17.view.set]{fullShare} f))
  step k acc := by
    iintro ⟨H5, H6, H16, ⟨%f8, H8, %h8⟩, ⟨%f11, H11, %h11⟩, H9, H10, H12, H13, H17⟩
    iapply (wp_wand_r Idealize.ShloMosaic.frame (wpE (defs₀ (F := F)) 𝒱 (c : Thread nD τ) bd) E)
    isplitl [H5 H6 H16 H8 H11 H9 H10 H12 H13 H17]
    · iapply ((tripQ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 k).2 E f8 f11)
      isplitl [H5]; · iexact H5
      isplitl [H6]; · iexact H6
      isplitl [H16]; · iexact H16
      isplitl [H8]; · iexact H8
      isplitl [H11]; · iexact H11
      isplitl [H9]; · iexact H9
      isplitl [H10]; · iexact H10
      isplitl [H12]; · iexact H12
      isplitl [H13]; · iexact H13
      iexact H17
    · iintro %_ ⟨H5, H6, H16, H8, H11, H9, H10, H12, H13, H17⟩
      isplitl [H5]; · iexact H5
      isplitl [H6]; · iexact H6
      isplitl [H16]; · iexact H16
      isplitl [H8]
      · rw [pbK_succ]
        iexists _; isplitl [H8]; · iexact H8
        ipureintro; rw [h8, ← View.writes_append]
      isplitl [H11]
      · rw [pbV_succ]
        iexists _; isplitl [H11]; · iexact H11
        ipureintro; rw [h11, ← View.writes_append]
      isplitl [H9]; · iexact H9
      isplitl [H10]; · iexact H10
      isplitl [H12]; · iexact H12
      isplitl [H13]; · iexact H13
      iexact H17

end Cert.QKernelIdeal.Gen

end
-- ==== Proof.QRun.lean ====
/-
  ONE RUN OF THE CALL `_qkv`'S BODY: the weights decoded, the product taken, then the queries in the first columns of
  blocks, the keys and values in the last. The run names the pieces it writes into the queries, and into the codes; at the last
  column it leaves the queries as they were.
-/
module

public import proofs.«01_k».proof.Proof.QLoop
public import proofs.«01_k».proof.Proof.Gen.QKernelIdeal.Frame

@[expose] public section

set_option maxRecDepth 16384
set_option maxHeartbeats 8000000

noncomputable section

namespace Cert.QKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option backward.proofsInPublic true in
/-- A run at the last column of blocks: the pieces it writes into the codes of the keys and of the values. The queries stay. -/
noncomputable def runLast (c : Dev nD) (i : grid0.Coords) (arg2 : Memref sig .tc .vmem S512x8192 .i32) (harg2 : arg2.IsWhole) (arg3 : Memref sig .tc .vmem S4096x512 .i8) (harg3 : arg3.IsWhole) (arg4 : Memref sig .tc .vmem S256x512 .i8) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x512 .bf16) (harg7 : arg7.IsWhole) (arg8 : Memref sig .tc .vmem S1024x256 .fp8e4m3) (harg8 : arg8.IsWhole) (arg9 : Memref sig .tc .vmem S1024x8 .i8) (harg9 : arg9.IsWhole) (arg10 : Memref sig .tc .vmem S512x2x256 .bf16) (harg10 : arg10.IsWhole) (arg11 : Memref sig .tc .vmem S1024x256 .fp8e4m3) (harg11 : arg11.IsWhole) (arg12 : Memref sig .tc .vmem S1024x8 .i8) (harg12 : arg12.IsWhole) (arg13 : Memref sig .tc .vmem S256x1024 .bf16) (harg13 : arg13.IsWhole) (arg14 : Memref sig .tc .vmem S256x512 .i32) (harg14 : arg14.IsWhole) (arg15 : Memref sig .tc .vmem S4096x2x512 .bf16) (harg15 : arg15.IsWhole) (arg16 : Memref sig .tc .vmem S1024x512 .f32) (harg16 : arg16.IsWhole) (arg17 : Memref sig .tc .vmem S128x128 .i32) (harg17 : arg17.IsWhole) (hc1 : ¬ k0_cond1 i = 1#1) (hc : k0_cond2 i = 1#1)
    (x0 : Vec F S512x8192 .i32) (x1 : Vec F S4096x512 .i8) (x2 : Vec F S256x512 .i8) (x3 x4 : Vec F S1024x64 .f32) :
    { L : List (View.Piece (Elt F) S1024x256 .fp8e4m3) × List (View.Piece (Elt F) S1024x256 .fp8e4m3) //
      ∀ (E : Set ℕ) (d7 : Vec F S1024x512 .bf16) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ (∃ f, arg8.view.loc (c : Thread nD τ) ↦[arg8.view.set]{fullShare} arg8.view.writes (Elt F) f L.1) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f L.2) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨⟨?_, ?_⟩, fun E d7 K => ?run⟩
  case run =>
    simp only [cc0_qkv_eq_skeleton]; unfold cc0_qkv_skel
    unfold owns
    iintro ⟨⟨%f2, %hf2, H0⟩, ⟨%f3, %hf3, H1⟩, ⟨%f4, %hf4, H2⟩, ⟨%f5, %hf5, H3⟩, ⟨%f6, %hf6, H4⟩, ⟨%f7, %hf7, H5⟩, ⟨%d8, %f8, -, H6⟩, ⟨%d9, %f9, -, H7⟩, ⟨%d10, %f10, -, H8⟩, ⟨%d11, %f11, -, H9⟩, ⟨%d12, %f12, -, H10⟩, ⟨%d13, %f13, -, H11⟩, ⟨%d14, %f14, -, HS0⟩, ⟨%d15, %f15, -, HS1⟩, ⟨%d16, %f16, -, HS2⟩, ⟨%d17, %f17, -, HS3⟩, Hk⟩
    obtain rfl := harg2.eq_unread hf2; obtain rfl := harg3.eq_unread hf3; obtain rfl := harg4.eq_unread hf4; obtain rfl := harg5.eq_unread hf5; obtain rfl := harg6.eq_unread hf6
    have hrd0 : ∀ (𝒱 : Variants) (c : Dev nD) (bd : Option 𝒱.V) (i : grid0.Coords) (arg2 : Memref sig .tc .vmem S512x8192 .i32) (harg2 : arg2.IsWhole) (arg3 : Memref sig .tc .vmem S4096x512 .i8) (harg3 : arg3.IsWhole) (arg4 : Memref sig .tc .vmem S256x512 .i8) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x512 .bf16) (harg7 : arg7.IsWhole) (arg8 : Memref sig .tc .vmem S1024x256 .fp8e4m3) (harg8 : arg8.IsWhole) (arg9 : Memref sig .tc .vmem S1024x8 .i8) (harg9 : arg9.IsWhole) (arg10 : Memref sig .tc .vmem S512x2x256 .bf16) (harg10 : arg10.IsWhole) (arg11 : Memref sig .tc .vmem S1024x256 .fp8e4m3) (harg11 : arg11.IsWhole) (arg12 : Memref sig .tc .vmem S1024x8 .i8) (harg12 : arg12.IsWhole) (arg13 : Memref sig .tc .vmem S256x1024 .bf16) (harg13 : arg13.IsWhole) (arg14 : Memref sig .tc .vmem S256x512 .i32) (harg14 : arg14.IsWhole) (arg15 : Memref sig .tc .vmem S4096x2x512 .bf16) (harg15 : arg15.IsWhole) (arg16 : Memref sig .tc .vmem S1024x512 .f32) (harg16 : arg16.IsWhole) (arg17 : Memref sig .tc .vmem S128x128 .i32) (harg17 : arg17.IsWhole) (X_arg3 : BufTy.Contents (Elt F) arg3.view.ty) (X_arg14 : BufTy.Contents (Elt F) arg14.view.ty) (hrdF : BufTy.Contents (Elt F) arg15.view.ty) (hrdB : LoadRect S4096x2x512), arg15.view.readAt (Elt F) hrdB (arg15.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg3 X_arg14 (Scf.trips k0_t1_loop.lb k0_t1_loop.ub k0_t1_loop.st))) = arg15.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg3 X_arg14 (Scf.trips k0_t1_loop.lb k0_t1_loop.ub k0_t1_loop.st)) hrdB :=
      fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg3 X_arg14 hrdF hrdB =>
        View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg3 X_arg14 (Scf.trips k0_t1_loop.lb k0_t1_loop.ub k0_t1_loop.st)) S16x2x512.size (by sl_kernel_rfl) (hrdB.idx hrdJ))
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact hf7
      iexact H5
    isplitl [H6]; · iexists _; iexact H6
    isplitl [H7]
    · iexists _, _; isplitr; swap; · iexact H7
      ipureintro; rfl
    isplitl [H8]
    · iexists _, _; isplitr; swap; · iexact H8
      ipureintro; rfl
    isplitl [H9]; · iexists _; iexact H9
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

set_option backward.proofsInPublic true in
/-- A run at the columns before it: the pieces it writes into the queries. -/
noncomputable def runFirst (c : Dev nD) (i : grid0.Coords) (arg2 : Memref sig .tc .vmem S512x8192 .i32) (harg2 : arg2.IsWhole) (arg3 : Memref sig .tc .vmem S4096x512 .i8) (harg3 : arg3.IsWhole) (arg4 : Memref sig .tc .vmem S256x512 .i8) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x512 .bf16) (harg7 : arg7.IsWhole) (arg8 : Memref sig .tc .vmem S1024x256 .fp8e4m3) (harg8 : arg8.IsWhole) (arg9 : Memref sig .tc .vmem S1024x8 .i8) (harg9 : arg9.IsWhole) (arg10 : Memref sig .tc .vmem S512x2x256 .bf16) (harg10 : arg10.IsWhole) (arg11 : Memref sig .tc .vmem S1024x256 .fp8e4m3) (harg11 : arg11.IsWhole) (arg12 : Memref sig .tc .vmem S1024x8 .i8) (harg12 : arg12.IsWhole) (arg13 : Memref sig .tc .vmem S256x1024 .bf16) (harg13 : arg13.IsWhole) (arg14 : Memref sig .tc .vmem S256x512 .i32) (harg14 : arg14.IsWhole) (arg15 : Memref sig .tc .vmem S4096x2x512 .bf16) (harg15 : arg15.IsWhole) (arg16 : Memref sig .tc .vmem S1024x512 .f32) (harg16 : arg16.IsWhole) (arg17 : Memref sig .tc .vmem S128x128 .i32) (harg17 : arg17.IsWhole) (hc : k0_cond1 i = 1#1) (hc2 : ¬ k0_cond2 i = 1#1)
    (x0 : Vec F S512x8192 .i32) (x1 : Vec F S4096x512 .i8) (x2 : Vec F S256x512 .i8) (x3 x4 : Vec F S1024x64 .f32) :
    { L : List (View.Piece (Elt F) S1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0_qkv_eq_skeleton]; unfold cc0_qkv_skel
    unfold owns
    iintro ⟨⟨%f2, %hf2, H0⟩, ⟨%f3, %hf3, H1⟩, ⟨%f4, %hf4, H2⟩, ⟨%f5, %hf5, H3⟩, ⟨%f6, %hf6, H4⟩, ⟨%d7, %f7, -, H5⟩, ⟨%d8, %f8, -, H6⟩, ⟨%d9, %f9, -, H7⟩, ⟨%d10, %f10, -, H8⟩, ⟨%d11, %f11, -, H9⟩, ⟨%d12, %f12, -, H10⟩, ⟨%d13, %f13, -, H11⟩, ⟨%d14, %f14, -, HS0⟩, ⟨%d15, %f15, -, HS1⟩, ⟨%d16, %f16, -, HS2⟩, ⟨%d17, %f17, -, HS3⟩, Hk⟩
    obtain rfl := harg2.eq_unread hf2; obtain rfl := harg3.eq_unread hf3; obtain rfl := harg4.eq_unread hf4; obtain rfl := harg5.eq_unread hf5; obtain rfl := harg6.eq_unread hf6
    have hrd0 : ∀ (𝒱 : Variants) (c : Dev nD) (bd : Option 𝒱.V) (i : grid0.Coords) (arg2 : Memref sig .tc .vmem S512x8192 .i32) (harg2 : arg2.IsWhole) (arg3 : Memref sig .tc .vmem S4096x512 .i8) (harg3 : arg3.IsWhole) (arg4 : Memref sig .tc .vmem S256x512 .i8) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x512 .bf16) (harg7 : arg7.IsWhole) (arg8 : Memref sig .tc .vmem S1024x256 .fp8e4m3) (harg8 : arg8.IsWhole) (arg9 : Memref sig .tc .vmem S1024x8 .i8) (harg9 : arg9.IsWhole) (arg10 : Memref sig .tc .vmem S512x2x256 .bf16) (harg10 : arg10.IsWhole) (arg11 : Memref sig .tc .vmem S1024x256 .fp8e4m3) (harg11 : arg11.IsWhole) (arg12 : Memref sig .tc .vmem S1024x8 .i8) (harg12 : arg12.IsWhole) (arg13 : Memref sig .tc .vmem S256x1024 .bf16) (harg13 : arg13.IsWhole) (arg14 : Memref sig .tc .vmem S256x512 .i32) (harg14 : arg14.IsWhole) (arg15 : Memref sig .tc .vmem S4096x2x512 .bf16) (harg15 : arg15.IsWhole) (arg16 : Memref sig .tc .vmem S1024x512 .f32) (harg16 : arg16.IsWhole) (arg17 : Memref sig .tc .vmem S128x128 .i32) (harg17 : arg17.IsWhole) (X_arg3 : BufTy.Contents (Elt F) arg3.view.ty) (X_arg14 : BufTy.Contents (Elt F) arg14.view.ty) (hrdF : BufTy.Contents (Elt F) arg15.view.ty) (hrdB : LoadRect S4096x2x512), arg15.view.readAt (Elt F) hrdB (arg15.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg3 X_arg14 (Scf.trips k0_t1_loop.lb k0_t1_loop.ub k0_t1_loop.st))) = arg15.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg3 X_arg14 (Scf.trips k0_t1_loop.lb k0_t1_loop.ub k0_t1_loop.st)) hrdB :=
      fun 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg3 X_arg14 hrdF hrdB =>
        View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg3 X_arg14 (Scf.trips k0_t1_loop.lb k0_t1_loop.ub k0_t1_loop.st)) S16x2x512.size (by sl_kernel_rfl) (hrdB.idx hrdJ))
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.QKernelIdeal.Gen

end
-- ==== Proof.QFrame.lean ====
/-
  THE LAUNCH OF THE CALL `_qkv`. The body run at every point of the grid gives the frame: the program ends, its
  arguments as they were, the codes of the keys and values at what the run of each row block's last point leaves there, and the
  queries at what the runs of the points before it leave.
-/
module

public import proofs.«01_k».proof.Proof.QRun
public import Idealize.ShloMosaic.Lib.Pipeline.Frame
public import Idealize.ShloMosaic.Lib.Pipeline.DatRel
public import Idealize.ShloMosaic.Lib.Pipeline.ArrRel
public import Idealize.ShloMosaic.Lib.Claim

@[expose] public section

set_option maxRecDepth 16384

noncomputable section

namespace Cert.QKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, and its wholeness. -/
abbrev ms0_0 (t : Fin cfg0.N) : Memref sig .tc .vmem S512x8192 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x8 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x2x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x256 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x8 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x1024 .bf16 := win0_11.stage (cfg0.slots t 11)
abbrev hs0_11 (t : Fin cfg0.N) : (ms0_11 t).IsWhole := hstage0_11 ((cfg0.slots t 11).cast nbuf0_11)
/-- The scratch operands, whole. -/
abbrev scM0_0 : Memref sig .tc .vmem S256x512 .i32 := Memref.whole cc0_scratch0
abbrev scM0_1 : Memref sig .tc .vmem S4096x2x512 .bf16 := Memref.whole cc0_scratch1
abbrev scM0_2 : Memref sig .tc .vmem S1024x512 .f32 := Memref.whole cc0_scratch2
abbrev scM0_3 : Memref sig .tc .vmem S128x128 .i32 := Memref.whole cc0_scratch3

/-- The invariant with the scratch operands as memrefs owned at some contents. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The columns before the last write the queries, the last column the codes. -/
theorem first_of_not_last : ∀ t : Fin cfg0.N, ¬ k0_cond2 (grid0.coords t) = 1#1 → k0_cond1 (grid0.coords t) = 1#1 :=
  (by decide +kernel : ∀ t : Fin grid0.N, ¬ k0_cond2 (grid0.coords t) = 1#1 → k0_cond1 (grid0.coords t) = 1#1)
theorem not_first_of_last : ∀ t : Fin cfg0.N, k0_cond2 (grid0.coords t) = 1#1 → ¬ k0_cond1 (grid0.coords t) = 1#1 :=
  (by decide +kernel : ∀ t : Fin grid0.N, k0_cond2 (grid0.coords t) = 1#1 → ¬ k0_cond1 (grid0.coords t) = 1#1)
/-- A point of the last column is handed the queries' buffer its predecessor left. -/
theorem kept_at_last : ∀ t : Fin cfg0.N, k0_cond2 (grid0.coords t) = 1#1 → (cfg0.win 5).fetch t = false ∧ t.val ≠ 0
    ∧ ∀ t' : Fin cfg0.N, t'.val + 1 = t.val → (cfg0.win 5).flush t' = false :=
  (by decide +kernel : ∀ t : Fin grid0.N, k0_cond2 (grid0.coords t) = 1#1 → win0_5.fetch t = false ∧ t.val ≠ 0
    ∧ ∀ t' : Fin grid0.N, t'.val + 1 = t.val → win0_5.flush t' = false)

/-- One staging buffer of each result, through which its contents are stated. -/
abbrev VO0_5 : View sig .tc .vmem S1024x512 .bf16 := (Memref.whole cc0_stg5_0 : Memref sig .tc .vmem S1024x512 .bf16).view
abbrev VO0_6 : View sig .tc .vmem S1024x256 .fp8e4m3 := (Memref.whole cc0_stg6_0 : Memref sig .tc .vmem S1024x256 .fp8e4m3).view
abbrev VO0_9 : View sig .tc .vmem S1024x256 .fp8e4m3 := (Memref.whole cc0_stg9_0 : Memref sig .tc .vmem S1024x256 .fp8e4m3).view

/-- The pieces the body writes into the two results' codes at a point `t` of the last column. -/
def codesL (c : Dev nD) (t : Fin cfg0.N) (h : k0_cond2 (grid0.coords t) = 1#1) : List (View.Piece (Elt F) S1024x256 .fp8e4m3) × List (View.Piece (Elt F) S1024x256 .fp8e4m3) :=
  (runLast c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (not_first_of_last t h) h (iblk m c 0 t) (iblk m c 1 t) (iblk m c 2 t) (iblk m c 3 t) (iblk m c 4 t)).1

/-- The pieces the body writes into the queries at a point `t` of an earlier column. -/
def queriesL (c : Dev nD) (t : Fin cfg0.N) (h : ¬ k0_cond2 (grid0.coords t) = 1#1) : List (View.Piece (Elt F) S1024x512 .bf16) :=
  (runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (first_of_not_last t h) h (iblk m c 0 t) (iblk m c 1 t) (iblk m c 2 t) (iblk m c 3 t) (iblk m c 4 t)).1

/-- The pieces cover their blocks. -/
theorem queriesL_cover (c : Dev nD) (t : Fin cfg0.N) (h : ¬ k0_cond2 (grid0.coords t) = 1#1) (y : S1024x512.Idx) : ∃ pc ∈ queriesL m c t h, y ∈ pc.1.set :=
  View.cover_of_tiledL (queriesL m c t h) S256x128.size (by sl_kernel_rfl) y
theorem keysL_cover (c : Dev nD) (t : Fin cfg0.N) (h : k0_cond2 (grid0.coords t) = 1#1) (y : S1024x256.Idx) : ∃ pc ∈ (codesL m c t h).1, y ∈ pc.1.set :=
  View.cover_of_tiledL (codesL m c t h).1 S256x256.size (by sl_kernel_rfl) y
theorem valuesL_cover (c : Dev nD) (t : Fin cfg0.N) (h : k0_cond2 (grid0.coords t) = 1#1) (y : S1024x256.Idx) : ∃ pc ∈ (codesL m c t h).2, y ∈ pc.1.set :=
  View.cover_of_tiledL (codesL m c t h).2 S256x256.size (by sl_kernel_rfl) y

/-- What the keys' staging buffer holds after the body at a point `t` of the last column, -/
def keysAt (c : Dev nD) (t : Fin cfg0.N) (h : k0_cond2 (grid0.coords t) = 1#1) : Vec F S1024x256 .fp8e4m3 :=
  VO0_6.read (Elt F) (VO0_6.writes (Elt F) VO0_6.junk (codesL m c t h).1)
/-- and the values'. -/
def valuesAt (c : Dev nD) (t : Fin cfg0.N) (h : k0_cond2 (grid0.coords t) = 1#1) : Vec F S1024x256 .fp8e4m3 :=
  VO0_9.read (Elt F) (VO0_9.writes (Elt F) VO0_9.junk (codesL m c t h).2)

/-- What the queries' staging buffer holds after the body at a point `t` of an earlier column. -/
def queriesAt (c : Dev nD) (t : Fin cfg0.N) (h : ¬ k0_cond2 (grid0.coords t) = 1#1) : Vec F S1024x512 .bf16 :=
  VO0_5.read (Elt F) (VO0_5.writes (Elt F) VO0_5.junk (queriesL m c t h))

/-- What the queries' staging buffer is held to: a point of an earlier column leaves those of its run, one of the last column what
    the point before it left. -/
def heldQueries (c : Dev nD) (t : Fin cfg0.N) (X : Vec F S1024x512 .bf16) : Prop :=
  (∀ h : ¬ k0_cond2 (grid0.coords t) = 1#1, X = queriesAt m c t h)
    ∧ ∀ t' : Fin cfg0.N, t'.val + 1 = t.val → k0_cond2 (grid0.coords t) = 1#1 →
      ∀ h : ¬ k0_cond2 (grid0.coords t') = 1#1, X = queriesAt m c t' h

/-- What the results are held to: the queries as above; at the last column the two results' codes are those of the run; nothing
    else is said. -/
def held (c : Dev nD) : (w : Fin cfg0.W) → Fin cfg0.N → ((cfg0.win w).block.Idx → Elt F (cfg0.win w).elt) → Prop
  | ⟨5, _⟩, t, X => heldQueries m c t X
  | ⟨6, _⟩, t, X => ∀ h : k0_cond2 (grid0.coords t) = 1#1, X = keysAt m c t h
  | ⟨9, _⟩, t, X => ∀ h : k0_cond2 (grid0.coords t) = 1#1, X = valuesAt m c t h
  | _, _, _ => True

/-- The windows whose contents the data leaves unnamed: the results. -/
def forgets0 : Fin 12 → Bool := ![false, false, false, false, false, true, true, true, true, true, true, true]

/-- The proof data: the arrays as the region finds them; after the body each input's buffer at its block; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What a point of the last column finds in the queries' buffer is what it may leave there. -/
theorem found_queries (c : Dev nD) (t : Fin cfg0.N) (hc : k0_cond2 (grid0.coords t) = 1#1) (Y : Vec F S1024x512 .bf16)
    (hY : ((dats m 0 c).toRRel forgets0 (held m c)).Finds 5 t Y) : heldQueries m c t Y := by
  obtain ⟨hf, h0, hfl⟩ := kept_at_last t hc
  refine ⟨fun h => absurd hc h, fun t' ht' _ h => ?_⟩
  have e : (⟨t.val - 1, Nat.lt_of_le_of_lt (Nat.sub_le _ _) t.isLt⟩ : Fin cfg0.N) = t' := Fin.ext (by simp only; omega)
  rcases (RDat.finds_of_pos _ hf h0 Y).1 hY with h1 | h1
  · rw [e, hfl t' ht'] at h1
    exact absurd h1 (by decide)
  · rw [e] at h1
    exact (Dat.toRRel_leaves (dat := dats m 0 c) (fgt := forgets0) (Rl := held m c) (w := 5) rfl h1).1 h

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ Y, ⌜((dats m 0 c).toRRel forgets0 (held m c)).Finds 5 t Y⌝ ∗ owns (c : Thread nD τ) (ms0_5 t) fullShare Y)
    ∗ (∃ Y, ⌜((dats m 0 c).toRRel forgets0 (held m c)).Finds 6 t Y⌝ ∗ owns (c : Thread nD τ) (ms0_6 t) fullShare Y)
    ∗ (∃ Y, ⌜((dats m 0 c).toRRel forgets0 (held m c)).Finds 7 t Y⌝ ∗ owns (c : Thread nD τ) (ms0_7 t) fullShare Y)
    ∗ (∃ Y, ⌜((dats m 0 c).toRRel forgets0 (held m c)).Finds 8 t Y⌝ ∗ owns (c : Thread nD τ) (ms0_8 t) fullShare Y)
    ∗ (∃ Y, ⌜((dats m 0 c).toRRel forgets0 (held m c)).Finds 9 t Y⌝ ∗ owns (c : Thread nD τ) (ms0_9 t) fullShare Y)
    ∗ (∃ Y, ⌜((dats m 0 c).toRRel forgets0 (held m c)).Finds 10 t Y⌝ ∗ owns (c : Thread nD τ) (ms0_10 t) fullShare Y)
    ∗ (∃ Y, ⌜((dats m 0 c).toRRel forgets0 (held m c)).Finds 11 t Y⌝ ∗ owns (c : Thread nD τ) (ms0_11 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ X, ⌜held m c 5 t X⌝ ∗ owns (c : Thread nD τ) (ms0_5 t) fullShare X)
    ∗ (∃ X, ⌜held m c 6 t X⌝ ∗ owns (c : Thread nD τ) (ms0_6 t) fullShare X)
    ∗ (∃ X, ⌜held m c 7 t X⌝ ∗ owns (c : Thread nD τ) (ms0_7 t) fullShare X)
    ∗ (∃ X, ⌜held m c 8 t X⌝ ∗ owns (c : Thread nD τ) (ms0_8 t) fullShare X)
    ∗ (∃ X, ⌜held m c 9 t X⌝ ∗ owns (c : Thread nD τ) (ms0_9 t) fullShare X)
    ∗ (∃ X, ⌜held m c 10 t X⌝ ∗ owns (c : Thread nD τ) (ms0_10 t) fullShare X)
    ∗ (∃ X, ⌜held m c 11 t X⌝ ∗ owns (c : Thread nD τ) (ms0_11 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, %hd5, H5⟩, ⟨%d6, -, H6⟩, ⟨%d7, -, H7⟩, ⟨%d8, -, H8⟩, ⟨%d9, -, H9⟩, ⟨%d10, -, H10⟩, ⟨%d11, -, H11⟩⟩
  by_cases hc : k0_cond2 (grid0.coords t) = 1#1
  · iapply ((runLast c (grid0.coords t) _ _ _ _ _ _ _ _ _ _ _ _ _ _ _ _ _ _ _ _ _ _ _ _ _ _ _ _ _ _ _ _ (not_first_of_last t hc) hc (iblk m c 0 t) (iblk m c 1 t) (iblk m c 2 t) (iblk m c 3 t) (iblk m c 4 t)).2 Set.univ d5 _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    iintro ⟨H0, H1, H2, H3, H4, H5, ⟨%e6, H6⟩, ⟨%e7, H7⟩, ⟨%e8, H8⟩, ⟨%e9, H9⟩, ⟨%e10, H10⟩, ⟨%e11, H11⟩, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr; swap; · iexact H5
      ipureintro; exact found_queries m c t hc d5 hd5
    isplitl [H6]
    · iexists _; isplitr
      swap
      · unfold owns; iexists _; isplitr
        swap; · iexact H6
        ipureintro; exact View.read_writes_of_cover _ _ VO0_6 VO0_6.junk _ (keysL_cover m c t hc)
      ipureintro; intro h; rfl
    isplitl [H7]
    · iexists _; isplitr; swap; · iexact H7
      ipureintro; trivial
    isplitl [H8]
    · iexists _; isplitr; swap; · iexact H8
      ipureintro; trivial
    isplitl [H9]
    · iexists _; isplitr
      swap
      · unfold owns; iexists _; isplitr
        swap; · iexact H9
        ipureintro; exact View.read_writes_of_cover _ _ VO0_9 VO0_9.junk _ (valuesL_cover m c t hc)
      ipureintro; intro h; rfl
    isplitl [H10]
    · iexists _; isplitr; swap; · iexact H10
      ipureintro; trivial
    iexists _; isplitr; swap; · iexact H11
    ipureintro; trivial
  · iapply ((runFirst c (grid0.coords t) _ _ _ _ _ _ _ _ _ _ _ _ _ _ _ _ _ _ _ _ _ _ _ _ _ _ _ _ _ _ _ _ (first_of_not_last t hc) hc (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    iintro ⟨H0, H1, H2, H3, H4, ⟨%e5, H5⟩, ⟨%e6, H6⟩, ⟨%e7, H7⟩, ⟨%e8, H8⟩, ⟨%e9, H9⟩, ⟨%e10, H10⟩, ⟨%e11, H11⟩, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists _; isplitr
      swap
      · unfold owns; iexists _; isplitr
        swap; · iexact H5
        ipureintro; exact View.read_writes_of_cover _ _ VO0_5 VO0_5.junk _ (queriesL_cover m c t hc)
      ipureintro; exact ⟨fun h => rfl, fun _ _ h => absurd h hc⟩
    isplitl [H6]
    · iexists _; isplitr; swap; · iexact H6
      ipureintro; intro h; exact absurd h hc
    isplitl [H7]
    · iexists _; isplitr; swap; · iexact H7
      ipureintro; trivial
    isplitl [H8]
    · iexists _; isplitr; swap; · iexact H8
      ipureintro; trivial
    isplitl [H9]
    · iexists _; isplitr; swap; · iexact H9
      ipureintro; intro h; exact absurd h hc
    isplitl [H10]
    · iexists _; isplitr; swap; · iexact H10
      ipureintro; trivial
    iexists _; isplitr; swap; · iexact H11
    ipureintro; trivial

theorem defs₀_row (t : Fin cfg0.N) :
    defs₀ (F := F) .tc cfg0.body (cfg0.bodyArgs t (cfg0.slots t)) = bodyAt0 t := by
  unfold defs₀; rw [Defs.onTc_tc]

/-- The body's triple as the launch asks for it, at every point. -/
theorem body_obligation (c : Dev nD) :
    BodyObligationRel (dats (F := F) m 0 c) (defs₀ (F := F)) Variants.none () Set.univ forgets0 (held m c) := fun t => by
  rw [bigSep_W0, bigSep_W0, defs₀_row]
  exact triple_restated (sound_body m c t) rfl .rfl fun _ => .rfl

set_option backward.isDefEq.respectTransparency.types false in
/-- The launch: every fair execution ends, the arrays at what the proof data says, every counter at zero. -/
theorem run_main : θ_run defs (onTc (τ := τ) (main (F := F))) (s₀ m ρ)
    (fun r => RDat.FramePost (cfgs 0) (fun c => (dats m 0 c).toRRel forgets0 (held m c)) (V m) r ∧ r.2.sem = fun _ => 0) :=
  RDat.θ_run_frame_track_shared cfgs (0 : Fin 1) launch0.to₀ defs₀ Variants.none (fun c => (dats m 0 c).toRRel forgets0 (held m c)) m ρ main
    (fun c => (body_obligation m c).toRRel) (fun _ _ _ => rfl) (fun _ _ => rfl) (V m) (hmain m Variants.none) (A_eq m)
    (fun _ => .rfl) (fun _ => .rfl) _ (fun _ h => h)

/-- The frame: the program ends with its arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1.arr_in c 0 rfl).trans (A_eq m c 0), (h.1.arr_in c 1 rfl).trans (A_eq m c 1), (h.1.arr_in c 2 rfl).trans (A_eq m c 2), (h.1.arr_in c 3 rfl).trans (A_eq m c 3), (h.1.arr_in c 4 rfl).trans (A_eq m c 4)⟩, h.2⟩) (run_main m ρ)

/-- The run with the queries and the codes named: block by block what the runs leave. -/
theorem run_codes : θ_run defs (onTc (τ := τ) (main (F := F))) ⟨m, fun _ => 0, ρ⟩ fun r => ∀ c : Dev nD,
      (((dats m 0 c).toRRel forgets0 (held m c)).ArrAt 5 cfg0.N (r.2.mem ((c.tc : Thread nD τ).loc main_v0_0))
      ∧ ((dats m 0 c).toRRel forgets0 (held m c)).ArrAt 6 cfg0.N (r.2.mem ((c.tc : Thread nD τ).loc main_v0_1))
      ∧ ((dats m 0 c).toRRel forgets0 (held m c)).ArrAt 9 cfg0.N (r.2.mem ((c.tc : Thread nD τ).loc main_v0_4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨⟨(h.1 c).1 5, (h.1 c).1 6, (h.1 c).1 9⟩, (h.1.arr_in c 0 rfl).trans (A_eq m c 0), (h.1.arr_in c 1 rfl).trans (A_eq m c 1), (h.1.arr_in c 2 rfl).trans (A_eq m c 2), (h.1.arr_in c 3 rfl).trans (A_eq m c 3), (h.1.arr_in c 4 rfl).trans (A_eq m c 4)⟩) (run_main m ρ)

end Cert.QKernelIdeal.Gen

end
-- ==== Proof.QHold.lean ====
/-
  WHAT THE SCRATCH OF THE CALL `_qkv` HOLDS AFTER ITS DECODE LOOP. The 32 trips store 32·8 pieces of 16 row pairs: together
  they cover the scratch, and every one of them agrees with ONE function of the packed weights and the scale words (`decoded`).
-/
module

public import proofs.«01_k».proof.Proof.Trip
public import proofs.«01_k».proof.Proof.QFrame

@[expose] public section

set_option maxRecDepth 16384

noncomputable section

open Idealize.ShloMosaic Idealize.ShloMosaic.TcCoe Idealize.SL.Sem
open Idealize.ShloMosaic.Pipeline (Dat)

namespace Cert.QKernelIdeal.Value

open Cert.QKernelIdeal Cert.QKernelIdeal.Gen Cert.Words

/-- The decoded weights of a block: row pair, half and column to a number. -/
def decoded (w : Vec Ideal S4096x512 .i8) (s : Vec Ideal S256x512 .i32) (y : S4096x2x512.Idx) : Ideal .bf16 :=
  code (nib (w (ix2 (y 0) (y 2))) (y 1).val)
    * Ideal.ofBits .bf16 (BitVec.extractLsb' (16 * (y 1).val) 16 (s (ix2 ⟨(y 0).val / 16, by have := (y 0).isLt; have h : S4096x2x512.size 0 = 4096 := rfl; omega⟩ (y 2))))

theorem off1 : ∀ k : Fin k0_t1_loop.trips, k0_off1 k = ![128 * k.val, 0] := by decide +kernel
theorem off2 : ∀ k : Fin k0_t1_loop.trips, k0_off2 k = ![8 * k.val, 0] := by decide +kernel
theorem off3 : ∀ (k : Fin k0_t1_loop.trips) (g : Fin 8),
    k0_off3 k (BitVec.ofNat 32 (16 * g.val)) = ![128 * k.val + 16 * g.val, 0, 0] := by decide +kernel
theorem trips_eq : k0_t1_loop.trips = 32 := by decide +kernel

/-- The decoded codes of a strip: the strips of the two products have one shape. -/
theorem codes_at (w : Vec Ideal S128x512 .i8) (r : Fin 256) (c : Fin 512) :
    k0_pay11 (F := Ideal) (k0_pay9 w) (k0_pay10 w) (ix2 r c) = code (nib (w (ix2 ⟨r.val / 2, by omega⟩ c)) (r.val % 2)) :=
  KernelIdeal.Value.codes_at w r c

/-- A piece whose payload is scale row `g` of trip `k`'s strip agrees with `decoded`. -/
theorem piece_agrees {κ κ' sp sp'} (v3 : View sig κ sp S4096x512 .i8) (v6 : View sig κ' sp' S256x512 .i32)
    (X3 : v3.ty.Contents (Elt Ideal)) (X14 : v6.ty.Contents (Elt Ideal))
    (k : Fin k0_t1_loop.trips) (g : Fin 8)
    (inb3 : ∀ a, k0_off3 k (BitVec.ofNat 32 (16 * g.val)) a + S16x2x512.size a ≤ S4096x2x512.size a)
    (inb1 : ∀ a, k0_off1 k a + S128x512.size a ≤ S4096x512.size a)
    (inb2 : ∀ a, k0_off2 k a + S8x512.size a ≤ S256x512.size a)
    (pay : Vec Ideal S16x2x512 .bf16)
    (hp : ∀ r p c, pay (ix3 r p c) = KernelIdeal.Value.scaled
      (k0_pay11 (F := Ideal)
        (k0_pay9 (v3.readAt (Elt Ideal) (Rect.unit (s := S4096x512) (k0_off1 k) S128x512.size inb1).toLoadRect X3))
        (k0_pay10 (v3.readAt (Elt Ideal) (Rect.unit (s := S4096x512) (k0_off1 k) S128x512.size inb1).toLoadRect X3)))
      (v6.readAt (Elt Ideal) (Rect.unit (s := S256x512) (k0_off2 k) S8x512.size inb2).toLoadRect X14) g r p c)
    (x : S16x2x512.Idx) :
    pay x = decoded (v3.read (Elt Ideal) X3) (v6.read (Elt Ideal) X14)
      ((Rect.unit (s := S4096x2x512) (k0_off3 k (BitVec.ofNat 32 (16 * g.val))) S16x2x512.size inb3).emb x) := by
  obtain ⟨r, p, c, rfl⟩ : ∃ (r : Fin 16) (p : Fin 2) (c : Fin 512), x = ix3 r p c :=
    ⟨x 0, x 1, x 2, funext fun a => by match a with | ⟨0, _⟩ => rfl | ⟨1, _⟩ => rfl | ⟨2, _⟩ => rfl⟩
  have hk : k.val < 32 := lt_of_lt_of_eq k.isLt trips_eq
  have hy : (Rect.unit (s := S4096x2x512) (k0_off3 k (BitVec.ofNat 32 (16 * g.val))) S16x2x512.size inb3).emb (ix3 r p c)
      = ix3 (⟨128 * k.val + 16 * g.val + r.val, by omega⟩ : Fin 4096) p c := by
    funext a
    apply Fin.ext
    refine (Rect.idx_unit_val _ _ inb3 _ a).trans ?_
    refine (congrArg (· + _) (congrFun (off3 k g) a)).trans ?_
    match a with
    | ⟨0, _⟩ => rfl
    | ⟨1, _⟩ => exact Nat.zero_add _
    | ⟨2, _⟩ => exact Nat.zero_add _
  rw [hp, KernelIdeal.Value.scaled, codes_at, hy, View.readAt_eq_ld, View.readAt_eq_ld,
    View.ld_unit_apply_of _ _ _ _ _ (ix2 (⟨128 * k.val + 16 * g.val + r.val, by omega⟩ : Fin 4096) c) ?_,
    View.ld_unit_apply_of _ _ _ _ _ (ix2 (⟨8 * k.val + g.val, by omega⟩ : Fin 256) c) ?_]
  · show code (nib _ _) * _ = code (nib _ _) * _
    have e1 : (32 * g.val + (2 * r.val + p.val)) % 2 = p.val := by omega
    have e2 : (⟨8 * k.val + g.val, by omega⟩ : Fin 256) = ⟨(128 * k.val + 16 * g.val + r.val) / 16, by omega⟩ :=
      Fin.ext (show 8 * k.val + g.val = (128 * k.val + 16 * g.val + r.val) / 16 by omega)
    simp only [e1, e2]
    rfl
  · intro a
    refine Eq.trans ?_ (congrArg (· + _) (congrFun (off2 k) a).symm)
    match a with
    | ⟨0, _⟩ => rfl
    | ⟨1, _⟩ => exact (Nat.zero_add _).symm
  · intro a
    refine Eq.trans ?_ (congrArg (· + _) (congrFun (off1 k) a).symm)
    match a with
    | ⟨0, _⟩ => show 128 * k.val + 16 * g.val + r.val = 128 * k.val + (32 * g.val + (2 * r.val + p.val)) / 2; omega
    | ⟨1, _⟩ => exact (Nat.zero_add _).symm

section Loop

variable (𝒱 : Variants) (c : Dev nD) (bd : Option 𝒱.V) (i : grid0.Coords)
  (arg2 : Memref sig .tc .vmem S512x8192 .i32) (harg2 : arg2.IsWhole)
  (arg3 : Memref sig .tc .vmem S4096x512 .i8) (harg3 : arg3.IsWhole)
  (arg4 : Memref sig .tc .vmem S256x512 .i8) (harg4 : arg4.IsWhole)
  (arg5 : Memref sig .tc .vmem S1024x64 .f32) (harg5 : arg5.IsWhole)
  (arg6 : Memref sig .tc .vmem S1024x64 .f32) (harg6 : arg6.IsWhole)
  (arg7 : Memref sig .tc .vmem S1024x512 .bf16) (harg7 : arg7.IsWhole)
  (arg8 : Memref sig .tc .vmem S1024x256 .fp8e4m3) (harg8 : arg8.IsWhole)
  (arg9 : Memref sig .tc .vmem S1024x8 .i8) (harg9 : arg9.IsWhole)
  (arg10 : Memref sig .tc .vmem S512x2x256 .bf16) (harg10 : arg10.IsWhole)
  (arg11 : Memref sig .tc .vmem S1024x256 .fp8e4m3) (harg11 : arg11.IsWhole)
  (arg12 : Memref sig .tc .vmem S1024x8 .i8) (harg12 : arg12.IsWhole)
  (arg13 : Memref sig .tc .vmem S256x1024 .bf16) (harg13 : arg13.IsWhole)
  (arg14 : Memref sig .tc .vmem S256x512 .i32) (harg14 : arg14.IsWhole)
  (arg15 : Memref sig .tc .vmem S4096x2x512 .bf16) (harg15 : arg15.IsWhole)
  (arg16 : Memref sig .tc .vmem S1024x512 .f32) (harg16 : arg16.IsWhole)
  (arg17 : Memref sig .tc .vmem S128x128 .i32) (harg17 : arg17.IsWhole)
  (X3 : arg3.view.ty.Contents (Elt Ideal)) (X14 : arg14.view.ty.Contents (Elt Ideal))

/-- Every piece of a trip agrees with `decoded`. -/
theorem trip_agrees (k : Fin k0_t1_loop.trips) :
    ∀ q ∈ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X14 k,
      ∀ x : q.1.shape.Idx, q.2 x = decoded (arg3.view.read (Elt Ideal) X3) (arg14.view.read (Elt Ideal) X14) (q.1.emb x) := by
  unfold tripL_k0_t1 trip_k0_t1
  simp only [List.forall_mem_cons]
  refine ⟨?_, ?_, ?_, ?_, ?_, ?_, ?_, ?_, by simp⟩
  · exact piece_agrees arg3.view arg14.view X3 X14 k 7 _ (k0_off1_inb k) (k0_off2_inb k) _ fun r p c => KernelIdeal.Value.store7 _ _ r p c
  · exact piece_agrees arg3.view arg14.view X3 X14 k 6 _ (k0_off1_inb k) (k0_off2_inb k) _ fun r p c => KernelIdeal.Value.store6 _ _ r p c
  · exact piece_agrees arg3.view arg14.view X3 X14 k 5 _ (k0_off1_inb k) (k0_off2_inb k) _ fun r p c => KernelIdeal.Value.store5 _ _ r p c
  · exact piece_agrees arg3.view arg14.view X3 X14 k 4 _ (k0_off1_inb k) (k0_off2_inb k) _ fun r p c => KernelIdeal.Value.store4 _ _ r p c
  · exact piece_agrees arg3.view arg14.view X3 X14 k 3 _ (k0_off1_inb k) (k0_off2_inb k) _ fun r p c => KernelIdeal.Value.store3 _ _ r p c
  · exact piece_agrees arg3.view arg14.view X3 X14 k 2 _ (k0_off1_inb k) (k0_off2_inb k) _ fun r p c => KernelIdeal.Value.store2 _ _ r p c
  · exact piece_agrees arg3.view arg14.view X3 X14 k 1 _ (k0_off1_inb k) (k0_off2_inb k) _ fun r p c => KernelIdeal.Value.store1 _ _ _ r p c
  · exact piece_agrees arg3.view arg14.view X3 X14 k 0 _ (k0_off1_inb k) (k0_off2_inb k) _ fun r p c => KernelIdeal.Value.store0 _ _ _ r p c

/-- Trip `k` covers row pairs `128 k` to `128 k + 127`. -/
theorem trip_covers (k : Fin k0_t1_loop.trips) (y : S4096x2x512.Idx) (hy : (y 0).val / 128 = k.val) :
    ∃ q ∈ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X14 k,
      y ∈ q.1.set := by
  have key : ∀ (g : Fin 8) (inb : ∀ a, k0_off3 k (BitVec.ofNat 32 (16 * g.val)) a + S16x2x512.size a ≤ S4096x2x512.size a),
      (y 0).val % 128 / 16 = g.val →
      y ∈ (Rect.unit (s := S4096x2x512) (k0_off3 k (BitVec.ofNat 32 (16 * g.val))) S16x2x512.size inb).set := by
    intro g inb hg
    rw [Rect.mem_set_unit]
    intro a
    rw [off3]
    match a with
    | ⟨0, _⟩ =>
      show 128 * k.val + 16 * g.val ≤ (y 0).val ∧ (y 0).val < 128 * k.val + 16 * g.val + 16
      omega
    | ⟨1, _⟩ => exact ⟨Nat.zero_le _, lt_of_lt_of_eq (y 1).isLt (Nat.zero_add 2).symm⟩
    | ⟨2, _⟩ => exact ⟨Nat.zero_le _, lt_of_lt_of_eq (y 2).isLt (Nat.zero_add 512).symm⟩
  unfold tripL_k0_t1 trip_k0_t1
  simp only [List.exists_mem_cons_iff]
  have h8 : (y 0).val % 128 / 16 < 8 := by omega
  interval_cases h : (y 0).val % 128 / 16
  · iterate 7 right
    exact Or.inl (key 0 _ rfl)
  · iterate 6 right
    exact Or.inl (key 1 _ rfl)
  · iterate 5 right
    exact Or.inl (key 2 _ rfl)
  · iterate 4 right
    exact Or.inl (key 3 _ rfl)
  · iterate 3 right
    exact Or.inl (key 4 _ rfl)
  · iterate 2 right
    exact Or.inl (key 5 _ rfl)
  · right
    exact Or.inl (key 6 _ rfl)
  · exact Or.inl (key 7 _ rfl)

/-- Every piece of the first `n` trips agrees with `decoded`. -/
theorem loop_agrees : ∀ n, n ≤ k0_t1_loop.trips →
    ∀ q ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X14 n,
      ∀ x : q.1.shape.Idx, q.2 x = decoded (arg3.view.read (Elt Ideal) X3) (arg14.view.read (Elt Ideal) X14) (q.1.emb x)
  | 0, _ => fun q hq => absurd hq List.not_mem_nil
  | n + 1, hn => by
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X14 ⟨n, hn⟩]
    intro q hq
    rcases List.mem_append.1 hq with h | h
    · exact trip_agrees 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X14 ⟨n, hn⟩ q h
    · exact loop_agrees n (by omega) q h

/-- The first `n` trips cover the row pairs below `128 n`. -/
theorem loop_covers : ∀ n, n ≤ k0_t1_loop.trips → ∀ y : S4096x2x512.Idx, (y 0).val < 128 * n →
    ∃ q ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X14 n,
      y ∈ q.1.set
  | 0, _ => fun y hy => by omega
  | n + 1, hn => by
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X14 ⟨n, hn⟩]
    intro y hy
    by_cases h : (y 0).val < 128 * n
    · obtain ⟨q, hq, hm⟩ := loop_covers n (by omega) y h
      exact ⟨q, List.mem_append_right _ hq, hm⟩
    · obtain ⟨q, hq, hm⟩ := trip_covers 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X14
        ⟨n, hn⟩ y (by show _ = n; omega)
      exact ⟨q, List.mem_append_left _ hq, hm⟩

/-- What the loop leaves in the scratch, whatever it decoded. -/
theorem canon_loop (n : ℕ) (hn : n = k0_t1_loop.trips) :
    View.canon (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X14 n)
      = decoded (arg3.view.read (Elt Ideal) X3) (arg14.view.read (Elt Ideal) X14) := by
  subst hn
  funext y
  refine View.canon_apply_of_pieces _ _ (loop_agrees 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X14 _ le_rfl)
    y (loop_covers 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X3 X14 _ le_rfl y ?_)
  rw [trips_eq]
  exact (y 0).isLt

end Loop

end Cert.QKernelIdeal.Value
-- ==== Proof.QAcc.lean ====
/-
  WHAT THE ACCUMULATOR OF THE CALL `_qkv` HOLDS: the product of the block's activation rows with its decoded weight columns.
-/
module

public import proofs.«01_k».proof.Proof.QHold

@[expose] public section

set_option maxRecDepth 16384

noncomputable section

open Idealize.ShloMosaic Idealize.ShloMosaic.TcCoe Idealize.SL.Sem

namespace Cert.QKernelIdeal.Value

open Cert.QKernelIdeal Cert.QKernelIdeal.Gen Cert.Words

/-- The block of products, from the three input blocks. -/
def products (x0 : Vec Ideal S512x8192 .i32) (x1 : Vec Ideal S4096x512 .i8) (x2 : Vec Ideal S256x512 .i8) : FVec Ideal S1024x512 .f32 :=
  k0_pay3 x0 (decoded x1 (k0_pay1 (F := Ideal) x2))

theorem trips1_word : Scf.trips k0_t1_loop.lb k0_t1_loop.ub k0_t1_loop.st = k0_t1_loop.trips := rfl

section

variable (c : Dev nD) (i : grid0.Coords)
  (arg2 : Memref sig .tc .vmem S512x8192 .i32) (harg2 : arg2.IsWhole)
  (arg3 : Memref sig .tc .vmem S4096x512 .i8) (harg3 : arg3.IsWhole)
  (arg4 : Memref sig .tc .vmem S256x512 .i8) (harg4 : arg4.IsWhole)
  (arg5 : Memref sig .tc .vmem S1024x64 .f32) (harg5 : arg5.IsWhole)
  (arg6 : Memref sig .tc .vmem S1024x64 .f32) (harg6 : arg6.IsWhole)
  (arg7 : Memref sig .tc .vmem S1024x512 .bf16) (harg7 : arg7.IsWhole)
  (arg8 : Memref sig .tc .vmem S1024x256 .fp8e4m3) (harg8 : arg8.IsWhole)
  (arg9 : Memref sig .tc .vmem S1024x8 .i8) (harg9 : arg9.IsWhole)
  (arg10 : Memref sig .tc .vmem S512x2x256 .bf16) (harg10 : arg10.IsWhole)
  (arg11 : Memref sig .tc .vmem S1024x256 .fp8e4m3) (harg11 : arg11.IsWhole)
  (arg12 : Memref sig .tc .vmem S1024x8 .i8) (harg12 : arg12.IsWhole)
  (arg13 : Memref sig .tc .vmem S256x1024 .bf16) (harg13 : arg13.IsWhole)
  (arg14 : Memref sig .tc .vmem S256x512 .i32) (harg14 : arg14.IsWhole)
  (arg15 : Memref sig .tc .vmem S4096x2x512 .bf16) (harg15 : arg15.IsWhole)
  (arg16 : Memref sig .tc .vmem S1024x512 .f32) (harg16 : arg16.IsWhole)
  (arg17 : Memref sig .tc .vmem S128x128 .i32) (harg17 : arg17.IsWhole)
  (x0 : Vec Ideal S512x8192 .i32) (x1 : Vec Ideal S4096x512 .i8) (x2 : Vec Ideal S256x512 .i8)

/-- The scale words, read back. -/
theorem scales : arg14.view.read (Elt Ideal) (arg14.view.writes (Elt Ideal) arg14.view.junk (runLast.sl.HS0_1 c arg4 harg4 x2))
    = k0_pay1 (F := Ideal) x2 := by
  unfold runLast.sl.HS0_1
  rw [View.read_writes_junk_eq_canon, View.canon_unit_zero (by funext a; fin_cases a <;> rfl)]
  rw [View.readAt_eq_ld, harg4.read_unread, View.ld_unit_zero (by funext a; fin_cases a <;> rfl)]

/-- The accumulator, read back. -/
theorem accumulated : arg16.view.read (Elt Ideal) (arg16.view.writes (Elt Ideal) arg16.view.junk (runLast.sl.HS2_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2))
    = products x0 x1 x2 := by
  unfold runLast.sl.HS2_1
  rw [View.read_writes_junk_eq_canon, View.canon_unit_zero (by funext a; fin_cases a <;> rfl)]
  rw [View.readAt_eq_ld, harg2.read_unread, View.ld_unit_zero (by funext a; fin_cases a <;> rfl)]
  rw [View.readCov_eq_canon', canon_loop _ _ _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ trips1_word, harg3.read_unread, scales]
  unfold products
  congr 1
  funext j
  exact congrArg _ (funext fun a => Fin.ext ((Rect.idx_unit_val _ _ _ j a).trans (by
    match a with
    | ⟨0, _⟩ => exact Nat.zero_add _
    | ⟨1, _⟩ => exact Nat.zero_add _
    | ⟨2, _⟩ => exact Nat.zero_add _)))

end

end Cert.QKernelIdeal.Value
-- ==== Proof.QTarget.lean ====
/-
  THE QUERIES AND THE QUANTISED KEYS AND VALUES, as mathematics: the product of the activations with the weights, its query and key
  columns turned head by head by the angles of their row, and the code of each key and value relative to the scale of its group of
  32 columns.
-/
module

public import proofs.«01_k».proof.Proof.GTarget

@[expose] public section
set_option maxRecDepth 16384
noncomputable section
open Idealize.ShloMosaic
namespace Cert.Words

/-- The product of the query, key and value projections, at a row and a column: the activation halves times the weights, summed
    over the 8192 rows of weights. Columns 0 … 2047 are the queries', columns 2048 … 2303 are the keys', the 256 after them the values'. -/
def qProduct (x : (⟨2, ![3072, 8192]⟩ : Shape).Idx → BitVec 32) (w : (⟨2, ![4096, 2560]⟩ : Shape).Idx → BitVec 8)
    (e : (⟨2, ![256, 2560]⟩ : Shape).Idx → BitVec 8) (r : Fin 6144) (c : Fin 2560) : Ideal .f32 :=
  ∑ k : Fin 8192, Ideal.ofBits .bf16 (BitVec.extractLsb' (16 * (r.val % 2)) 16 (x (ix2 ⟨r.val / 2, by omega⟩ k)))
    * weight (w (ix2 ⟨k.val / 2, by omega⟩ c)) (e (ix2 ⟨k.val / 2 / 16, by omega⟩ c)) (k.val % 2)

/-- Entry `l` of a head turned by its 64 angles: entries 64 apart are the two coordinates of one plane. -/
def rotated (t : Fin 128 → Ideal .f32) (c s : Fin 64 → Ideal .f32) (l : Fin 128) : Ideal .f32 :=
  t l * c ⟨l.val % 64, by omega⟩
    + (if l.val < 64 then -t ⟨(l.val + 64) % 128, by omega⟩ else t ⟨(l.val + 64) % 128, by omega⟩) * s ⟨l.val % 64, by omega⟩

/-- The turned query at a row and a column: sixteen heads of 128 columns. -/
def qQuery (x : (⟨2, ![3072, 8192]⟩ : Shape).Idx → BitVec 32) (w : (⟨2, ![4096, 2560]⟩ : Shape).Idx → BitVec 8)
    (e : (⟨2, ![256, 2560]⟩ : Shape).Idx → BitVec 8) (c s : (⟨2, ![6144, 64]⟩ : Shape).Idx → Ideal .f32)
    (r : Fin 6144) (n : Fin 2048) : Ideal .bf16 :=
  rotated (fun l => qProduct x w e r ⟨n.val / 128 * 128 + l.val, by omega⟩) (fun l => c (ix2 r l)) (fun l => s (ix2 r l))
    ⟨n.val % 128, by omega⟩

/-- The turned key at a row and a column: two heads of 128 columns. -/
def qKey (x : (⟨2, ![3072, 8192]⟩ : Shape).Idx → BitVec 32) (w : (⟨2, ![4096, 2560]⟩ : Shape).Idx → BitVec 8)
    (e : (⟨2, ![256, 2560]⟩ : Shape).Idx → BitVec 8) (c s : (⟨2, ![6144, 64]⟩ : Shape).Idx → Ideal .f32)
    (r : Fin 6144) (n : Fin 256) : Ideal .f32 :=
  rotated (fun l => qProduct x w e r ⟨2048 + n.val / 128 * 128 + l.val, by omega⟩) (fun l => c (ix2 r l)) (fun l => s (ix2 r l))
    ⟨n.val % 128, by omega⟩

/-- The value at a row and a column. -/
def qValue (x : (⟨2, ![3072, 8192]⟩ : Shape).Idx → BitVec 32) (w : (⟨2, ![4096, 2560]⟩ : Shape).Idx → BitVec 8)
    (e : (⟨2, ![256, 2560]⟩ : Shape).Idx → BitVec 8) (r : Fin 6144) (n : Fin 256) : Ideal .f32 :=
  qProduct x w e r ⟨2304 + n.val, by omega⟩

/-- The code of entry `n` of a row of 256 numbers, in its group of 32. -/
def rowCode (y : Fin 256 → Ideal .f32) (n : Fin 256) : Ideal .fp8e4m3 :=
  coded (y n) (biased (greatest fun j => y ⟨n.val / 32 * 32 + j.val, by omega⟩))

end Cert.Words
-- ==== Proof.QCodes.lean ====
/-
  THE CODES OF ONE TRIP OF THE LOOP OVER THE LAST COLUMN'S ROWS. The keys of 256 rows are turned, head by head, by the angles of
  their rows; their codes and those of the values are the codes of a block, as in the gate and up projection.
-/
module

public import proofs.«01_k».proof.Proof.QHold
public import proofs.«01_k».proof.Proof.GBlock
public import proofs.«01_k».proof.Proof.QTarget

@[expose] public section

set_option maxRecDepth 16384

noncomputable section

open Idealize.ShloMosaic Idealize.ShloMosaic.TcCoe Idealize.SL.Sem

namespace Cert.QKernelIdeal.Value

open Cert.QKernelIdeal Cert.QKernelIdeal.Gen Cert.Words

/-- A head turned by the angles of its rows, as the kernel turns it: the half turn of the columns takes the sign of the sine. -/
def turnedHead (t : FVec Ideal S256x128 .f32) (c s : FVec Ideal S256x64 .f32) : FVec Ideal S256x128 .f32 :=
  addf (mulf t (concatenate S256x128 1 [⟨S256x64, c⟩, ⟨S256x64, c⟩] concatenates_S256x64_S256x64_S256x128_d1))
    (mulf (dynamicRotate 1 64#32 none t rotates_S256x128_d1)
      (concatenate S256x128 1 [⟨S256x64, subf (broadcast S256x64 (Scalar.ofBits .f32 0x00000000#32)) s⟩, ⟨S256x64, s⟩]
        concatenates_S256x64_S256x64_S256x128_d1))

/-- The two turned heads of 256 rows. -/
def turnedKeys (t u : FVec Ideal S256x128 .f32) (c s : FVec Ideal S256x64 .f32) : FVec Ideal S256x256 .f32 :=
  concatenate S256x256 1 [⟨S256x128, turnedHead t c s⟩, ⟨S256x128, turnedHead u c s⟩] concatenates_S256x128_S256x128_S256x256_d1

/-- The sign of a product may stand with either factor. -/
theorem sign_moves (a b : Ideal .f32) : a * (0 - b) = -a * b :=
  (congrArg (fun z : EReal => (a : EReal) * z) (zero_sub (G := EReal) b)).trans
    ((mul_neg (α := EReal) a b).trans (neg_mul (α := EReal) a b).symm)

theorem turnedHead_at (t : FVec Ideal S256x128 .f32) (c s : FVec Ideal S256x64 .f32) (r : Fin 256) (l : Fin 128) :
    turnedHead t c s (ix2 r l) = rotated (fun l => t (ix2 r l)) (fun l => c (ix2 r l)) (fun l => s (ix2 r l)) l := by
  pointwise [turnedHead]
  unfold rotated
  have e : (⟨(l.val + 128 - 64) % 128, by omega⟩ : Fin 128) = ⟨(l.val + 64) % 128, by omega⟩ := Fin.ext (by
    show (l.val + 128 - 64) % 128 = (l.val + 64) % 128
    omega)
  rw [e]
  by_cases h : l.val < 64
  · have e1 : (⟨l.val, h⟩ : Fin 64) = ⟨l.val % 64, by omega⟩ := Fin.ext (Nat.mod_eq_of_lt h).symm
    rw [dif_pos h, dif_pos h, if_pos h, ← e1]
    exact congrArg _ (sign_moves _ _)
  · have e1 : (⟨l.val - 64, by omega⟩ : Fin 64) = ⟨l.val % 64, by omega⟩ := Fin.ext (by show l.val - 64 = l.val % 64; omega)
    rw [dif_neg h, dif_neg h, if_neg h, e1]

/-- An entry of the turned keys. -/
theorem turnedKeys_at (t u : FVec Ideal S256x128 .f32) (c s : FVec Ideal S256x64 .f32) (r n : Fin 256) :
    turnedKeys t u c s (ix2 r n) = rotated (fun l => if n.val < 128 then t (ix2 r l) else u (ix2 r l))
      (fun l => c (ix2 r l)) (fun l => s (ix2 r l)) ⟨n.val % 128, by omega⟩ := by
  have hc : turnedKeys t u c s (ix2 r n) = if h : n.val < 128 then turnedHead t c s (ix2 r ⟨n.val, h⟩)
      else turnedHead u c s (ix2 r ⟨n.val - 128, by omega⟩) := by
    unfold turnedKeys
    generalize turnedHead t c s = a
    generalize turnedHead u c s = b
    pointwise
  rw [hc]
  by_cases h : n.val < 128
  · rw [dif_pos h, turnedHead_at, show (⟨n.val % 128, by omega⟩ : Fin 128) = ⟨n.val, h⟩ from Fin.ext (Nat.mod_eq_of_lt h)]
    simp only [if_pos h]
  · rw [dif_neg h, turnedHead_at, show (⟨n.val % 128, by omega⟩ : Fin 128) = ⟨n.val - 128, by omega⟩ from
      Fin.ext (by show n.val % 128 = n.val - 128; omega)]
    simp only [if_neg h]

/-- A trip writes one piece of the keys' codes and one of the values'. -/
theorem tripQ_eq (𝒱 : Variants) (c : Dev nD) (bd : Option 𝒱.V) (i : grid0.Coords) (arg2 : Memref sig .tc .vmem S512x8192 .i32) (harg2 : arg2.IsWhole) (arg3 : Memref sig .tc .vmem S4096x512 .i8) (harg3 : arg3.IsWhole) (arg4 : Memref sig .tc .vmem S256x512 .i8) (harg4 : arg4.IsWhole) (arg5 : Memref sig .tc .vmem S1024x64 .f32) (harg5 : arg5.IsWhole) (arg6 : Memref sig .tc .vmem S1024x64 .f32) (harg6 : arg6.IsWhole) (arg7 : Memref sig .tc .vmem S1024x512 .bf16) (harg7 : arg7.IsWhole) (arg8 : Memref sig .tc .vmem S1024x256 .fp8e4m3) (harg8 : arg8.IsWhole) (arg9 : Memref sig .tc .vmem S1024x8 .i8) (harg9 : arg9.IsWhole) (arg10 : Memref sig .tc .vmem S512x2x256 .bf16) (harg10 : arg10.IsWhole) (arg11 : Memref sig .tc .vmem S1024x256 .fp8e4m3) (harg11 : arg11.IsWhole) (arg12 : Memref sig .tc .vmem S1024x8 .i8) (harg12 : arg12.IsWhole) (arg13 : Memref sig .tc .vmem S256x1024 .bf16) (harg13 : arg13.IsWhole) (arg14 : Memref sig .tc .vmem S256x512 .i32) (harg14 : arg14.IsWhole) (arg15 : Memref sig .tc .vmem S4096x2x512 .bf16) (harg15 : arg15.IsWhole) (arg16 : Memref sig .tc .vmem S1024x512 .f32) (harg16 : arg16.IsWhole) (arg17 : Memref sig .tc .vmem S128x128 .i32) (harg17 : arg17.IsWhole) (k0_h2 : k0_cond2 i = 1#1) (X5 : BufTy.Contents (Elt Ideal) arg5.view.ty) (X6 : BufTy.Contents (Elt Ideal) arg6.view.ty) (X16 : BufTy.Contents (Elt Ideal) arg16.view.ty) (k : Fin k0_t3_loop.trips) :
    (tripQ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 k).1
      = ([⟨Rect.unit (s := S1024x256) (k0_off12 k) S256x256.size (k0_off12_inb i k k0_h2),
          Cert.GKernelIdeal.Value.blockCodes (turnedKeys
            (arg16.view.readAt (Elt Ideal) (Rect.unit (s := S1024x512) (k0_off10 k) S256x128.size (k0_off10_inb i k k0_h2)).toLoadRect X16)
            (arg16.view.readAt (Elt Ideal) (Rect.unit (s := S1024x512) (k0_off11 k) S256x128.size (k0_off11_inb i k k0_h2)).toLoadRect X16)
            (arg5.view.readAt (Elt Ideal) (Rect.unit (s := S1024x64) (k0_off9 k) S256x64.size (k0_off9_inb i k k0_h2)).toLoadRect X5)
            (arg6.view.readAt (Elt Ideal) (Rect.unit (s := S1024x64) (k0_off9 k) S256x64.size (k0_off9_inb i k k0_h2)).toLoadRect X6))⟩],
        [⟨Rect.unit (s := S1024x256) (k0_off12 k) S256x256.size (k0_off12_inb i k k0_h2),
          Cert.GKernelIdeal.Value.blockCodes
            (arg16.view.readAt (Elt Ideal) (Rect.unit (s := S1024x512) (k0_off15 k) S256x256.size (k0_off15_inb i k k0_h2)).toLoadRect X16)⟩]) := by
  unfold tripQ
  sl_kernel_rfl

end Cert.QKernelIdeal.Value
-- ==== Proof.QEpilogue.lean ====
/-
  THE CODES A GRID POINT OF THE LAST COLUMN WRITES. The loop takes 256 rows a trip: it stores the codes of their turned keys and
  of their values; the four trips cover the two blocks.
-/
module

public import proofs.«01_k».proof.Proof.QAcc
public import proofs.«01_k».proof.Proof.QCodes

@[expose] public section

set_option maxRecDepth 16384

noncomputable section

open Idealize.ShloMosaic Idealize.ShloMosaic.TcCoe Idealize.SL.Sem

namespace Cert.QKernelIdeal.Value

open Cert.QKernelIdeal Cert.QKernelIdeal.Gen Cert.Words
open Cert.GKernelIdeal.Value (blockCodes block_at)

/-- The codes of a block, row by row. -/
theorem block_row (y : FVec Ideal S256x256 .f32) (r l : Fin 256) : blockCodes y (ix2 r l) = rowCode (fun n => y (ix2 r n)) l := by
  refine (block_at y r l).trans ?_
  have e : ∀ j : Fin 32, (⟨32 * (l.val / 32) + j.val, by omega⟩ : Fin 256) = ⟨l.val / 32 * 32 + j.val, by omega⟩ :=
    fun j => Fin.ext (by show 32 * (l.val / 32) + j.val = l.val / 32 * 32 + j.val; omega)
  simp only [e]
  rfl

/-- The turned key of a block of products, at a row and a column. -/
def keyOf (A : FVec Ideal S1024x512 .f32) (C S : FVec Ideal S1024x64 .f32) (r : Fin 1024) (n : Fin 256) : Ideal .f32 :=
  rotated (fun l => A (ix2 r ⟨n.val / 128 * 128 + l.val, by omega⟩)) (fun l => C (ix2 r l)) (fun l => S (ix2 r l)) ⟨n.val % 128, by omega⟩

/-- The codes of the turned keys. -/
def keysOf (A : FVec Ideal S1024x512 .f32) (C S : FVec Ideal S1024x64 .f32) (y : S1024x256.Idx) : Ideal .fp8e4m3 :=
  rowCode (keyOf A C S (y 0)) (y 1)

/-- The codes of the values. -/
def valuesOf (A : FVec Ideal S1024x512 .f32) (y : S1024x256.Idx) : Ideal .fp8e4m3 :=
  rowCode (fun n => A (ix2 (y 0) ⟨256 + n.val, by omega⟩)) (y 1)

theorem off9 : ∀ k : Fin k0_t3_loop.trips, k0_off9 k = ![256 * k.val, 0] := by decide +kernel
theorem off10 : ∀ k : Fin k0_t3_loop.trips, k0_off10 k = ![256 * k.val, 0] := by decide +kernel
theorem off11 : ∀ k : Fin k0_t3_loop.trips, k0_off11 k = ![256 * k.val, 128] := by decide +kernel
theorem off12 : ∀ k : Fin k0_t3_loop.trips, k0_off12 k = ![256 * k.val, 0] := by decide +kernel
theorem off15 : ∀ k : Fin k0_t3_loop.trips, k0_off15 k = ![256 * k.val, 256] := by decide +kernel
theorem trips3_eq : k0_t3_loop.trips = 4 := by decide +kernel
theorem trips3_word : Scf.trips (0#32) (Scalar.addi 0#32 4#32) 1#32 = k0_t3_loop.trips := rfl

/-- Where a trip's rows lie in the block. -/
theorem rows_emb (k : Fin k0_t3_loop.trips) (hb : ∀ a, k0_off12 k a + S256x256.size a ≤ S1024x256.size a) (r l : Fin 256) (hr : 256 * k.val + r.val < 1024) :
    (Rect.unit (s := S1024x256) (k0_off12 k) S256x256.size hb).emb (ix2 r l) = ix2 (⟨256 * k.val + r.val, hr⟩ : Fin 1024) l := by
  funext a
  apply Fin.ext
  refine (Rect.idx_unit_val _ _ hb _ a).trans ?_
  refine (congrArg (· + _) (congrFun (off12 k) a)).trans ?_
  match a with
  | ⟨0, _⟩ => rfl
  | ⟨1, _⟩ => exact Nat.zero_add _

/-- The codes of 256 rows of turned keys are those of the block there. -/
theorem keys_agree {κ κ' κ'' sp sp' sp''} (v : View sig κ sp S1024x512 .f32) (X : v.ty.Contents (Elt Ideal))
    (vc : View sig κ' sp' S1024x64 .f32) (Xc : vc.ty.Contents (Elt Ideal)) (vs : View sig κ'' sp'' S1024x64 .f32) (Xs : vs.ty.Contents (Elt Ideal))
    (k : Fin k0_t3_loop.trips) (h10 : ∀ a, k0_off10 k a + S256x128.size a ≤ S1024x512.size a)
    (h11 : ∀ a, k0_off11 k a + S256x128.size a ≤ S1024x512.size a) (h9 h9' : ∀ a, k0_off9 k a + S256x64.size a ≤ S1024x64.size a)
    (h12 : ∀ a, k0_off12 k a + S256x256.size a ≤ S1024x256.size a) (x : S256x256.Idx) :
    blockCodes (turnedKeys
        (v.readAt (Elt Ideal) (Rect.unit (s := S1024x512) (k0_off10 k) S256x128.size h10).toLoadRect X)
        (v.readAt (Elt Ideal) (Rect.unit (s := S1024x512) (k0_off11 k) S256x128.size h11).toLoadRect X)
        (vc.readAt (Elt Ideal) (Rect.unit (s := S1024x64) (k0_off9 k) S256x64.size h9).toLoadRect Xc)
        (vs.readAt (Elt Ideal) (Rect.unit (s := S1024x64) (k0_off9 k) S256x64.size h9').toLoadRect Xs)) x
      = keysOf (v.read (Elt Ideal) X) (vc.read (Elt Ideal) Xc) (vs.read (Elt Ideal) Xs)
          ((Rect.unit (s := S1024x256) (k0_off12 k) S256x256.size h12).emb x) := by
  have hk : k.val < 4 := lt_of_lt_of_eq k.isLt trips3_eq
  obtain ⟨r, l, rfl⟩ : ∃ (r l : Fin 256), x = ix2 r l :=
    ⟨x 0, x 1, funext fun a => by match a with | ⟨0, _⟩ => rfl | ⟨1, _⟩ => rfl⟩
  have ht : ∀ l : Fin 128, v.readAt (Elt Ideal) (Rect.unit (s := S1024x512) (k0_off10 k) S256x128.size h10).toLoadRect X (ix2 r l)
      = v.read (Elt Ideal) X (ix2 (⟨256 * k.val + r.val, by omega⟩ : Fin 1024) (⟨l.val, by omega⟩ : Fin 512)) := by
    intro l
    rw [View.readAt_eq_ld]
    refine View.ld_unit_apply_of _ _ _ _ _ _ fun a => Eq.trans ?_ (congrArg (· + _) (congrFun (off10 k) a).symm)
    match a with
    | ⟨0, _⟩ => rfl
    | ⟨1, _⟩ => exact (Nat.zero_add _).symm
  have hu : ∀ l : Fin 128, v.readAt (Elt Ideal) (Rect.unit (s := S1024x512) (k0_off11 k) S256x128.size h11).toLoadRect X (ix2 r l)
      = v.read (Elt Ideal) X (ix2 (⟨256 * k.val + r.val, by omega⟩ : Fin 1024) (⟨128 + l.val, by omega⟩ : Fin 512)) := by
    intro l
    rw [View.readAt_eq_ld]
    refine View.ld_unit_apply_of _ _ _ _ _ _ fun a => Eq.trans ?_ (congrArg (· + _) (congrFun (off11 k) a).symm)
    match a with
    | ⟨0, _⟩ => rfl
    | ⟨1, _⟩ => rfl
  have hc : ∀ l : Fin 64, vc.readAt (Elt Ideal) (Rect.unit (s := S1024x64) (k0_off9 k) S256x64.size h9).toLoadRect Xc (ix2 r l)
      = vc.read (Elt Ideal) Xc (ix2 (⟨256 * k.val + r.val, by omega⟩ : Fin 1024) l) := by
    intro l
    rw [View.readAt_eq_ld]
    refine View.ld_unit_apply_of _ _ _ _ _ _ fun a => Eq.trans ?_ (congrArg (· + _) (congrFun (off9 k) a).symm)
    match a with
    | ⟨0, _⟩ => rfl
    | ⟨1, _⟩ => exact (Nat.zero_add _).symm
  have hs : ∀ l : Fin 64, vs.readAt (Elt Ideal) (Rect.unit (s := S1024x64) (k0_off9 k) S256x64.size h9').toLoadRect Xs (ix2 r l)
      = vs.read (Elt Ideal) Xs (ix2 (⟨256 * k.val + r.val, by omega⟩ : Fin 1024) l) := by
    intro l
    rw [View.readAt_eq_ld]
    refine View.ld_unit_apply_of _ _ _ _ _ _ fun a => Eq.trans ?_ (congrArg (· + _) (congrFun (off9 k) a).symm)
    match a with
    | ⟨0, _⟩ => rfl
    | ⟨1, _⟩ => exact (Nat.zero_add _).symm
  rw [rows_emb k h12 r l (by omega), block_row]
  unfold keysOf
  refine congrArg (fun f => rowCode f l) (funext fun n => ?_)
  rw [turnedKeys_at]
  unfold keyOf
  simp only [ht, hu, hc, hs]
  refine congrArg (fun f => rotated f _ _ _) (funext fun l => ?_)
  by_cases h : n.val < 128
  · rw [if_pos h]
    exact congrArg (fun z => v.read (Elt Ideal) X (ix2 _ z)) (Fin.ext (by show l.val = n.val / 128 * 128 + l.val; omega))
  · rw [if_neg h]
    exact congrArg (fun z => v.read (Elt Ideal) X (ix2 _ z)) (Fin.ext (by show 128 + l.val = n.val / 128 * 128 + l.val; omega))

/-- The codes of 256 rows of values are those of the block there. -/
theorem values_agree {κ sp} (v : View sig κ sp S1024x512 .f32) (X : v.ty.Contents (Elt Ideal))
    (k : Fin k0_t3_loop.trips) (h15 : ∀ a, k0_off15 k a + S256x256.size a ≤ S1024x512.size a)
    (h12 : ∀ a, k0_off12 k a + S256x256.size a ≤ S1024x256.size a) (x : S256x256.Idx) :
    blockCodes (v.readAt (Elt Ideal) (Rect.unit (s := S1024x512) (k0_off15 k) S256x256.size h15).toLoadRect X) x
      = valuesOf (v.read (Elt Ideal) X) ((Rect.unit (s := S1024x256) (k0_off12 k) S256x256.size h12).emb x) := by
  have hk : k.val < 4 := lt_of_lt_of_eq k.isLt trips3_eq
  obtain ⟨r, l, rfl⟩ : ∃ (r l : Fin 256), x = ix2 r l :=
    ⟨x 0, x 1, funext fun a => by match a with | ⟨0, _⟩ => rfl | ⟨1, _⟩ => rfl⟩
  have hu : ∀ l : Fin 256, v.readAt (Elt Ideal) (Rect.unit (s := S1024x512) (k0_off15 k) S256x256.size h15).toLoadRect X (ix2 r l)
      = v.read (Elt Ideal) X (ix2 (⟨256 * k.val + r.val, by omega⟩ : Fin 1024) (⟨256 + l.val, by omega⟩ : Fin 512)) := by
    intro l
    rw [View.readAt_eq_ld]
    refine View.ld_unit_apply_of _ _ _ _ _ _ fun a => Eq.trans ?_ (congrArg (· + _) (congrFun (off15 k) a).symm)
    match a with
    | ⟨0, _⟩ => rfl
    | ⟨1, _⟩ => rfl
  rw [rows_emb k h12 r l (by omega)]
  refine (block_row _ r l).trans ?_
  simp only [hu]
  rfl

/-- A trip's rows hold every place of the block there. -/
theorem rows_mem (k : Fin k0_t3_loop.trips) (hb : ∀ a, k0_off12 k a + S256x256.size a ≤ S1024x256.size a) (y : S1024x256.Idx)
    (h0 : 256 * k.val ≤ (y 0).val) (h1 : (y 0).val < 256 * k.val + 256) :
    y ∈ (Rect.unit (s := S1024x256) (k0_off12 k) S256x256.size hb).set := by
  rw [Rect.mem_set_unit]
  intro a
  rw [off12]
  match a with
  | ⟨0, _⟩ => exact ⟨h0, h1⟩
  | ⟨1, _⟩ => exact ⟨Nat.zero_le _, lt_of_lt_of_eq (y 1).isLt (Nat.zero_add 256).symm⟩

section

variable (𝒱 : Variants) (c : Dev nD) (bd : Option 𝒱.V) (i : grid0.Coords)
  (arg2 : Memref sig .tc .vmem S512x8192 .i32) (harg2 : arg2.IsWhole)
  (arg3 : Memref sig .tc .vmem S4096x512 .i8) (harg3 : arg3.IsWhole)
  (arg4 : Memref sig .tc .vmem S256x512 .i8) (harg4 : arg4.IsWhole)
  (arg5 : Memref sig .tc .vmem S1024x64 .f32) (harg5 : arg5.IsWhole)
  (arg6 : Memref sig .tc .vmem S1024x64 .f32) (harg6 : arg6.IsWhole)
  (arg7 : Memref sig .tc .vmem S1024x512 .bf16) (harg7 : arg7.IsWhole)
  (arg8 : Memref sig .tc .vmem S1024x256 .fp8e4m3) (harg8 : arg8.IsWhole)
  (arg9 : Memref sig .tc .vmem S1024x8 .i8) (harg9 : arg9.IsWhole)
  (arg10 : Memref sig .tc .vmem S512x2x256 .bf16) (harg10 : arg10.IsWhole)
  (arg11 : Memref sig .tc .vmem S1024x256 .fp8e4m3) (harg11 : arg11.IsWhole)
  (arg12 : Memref sig .tc .vmem S1024x8 .i8) (harg12 : arg12.IsWhole)
  (arg13 : Memref sig .tc .vmem S256x1024 .bf16) (harg13 : arg13.IsWhole)
  (arg14 : Memref sig .tc .vmem S256x512 .i32) (harg14 : arg14.IsWhole)
  (arg15 : Memref sig .tc .vmem S4096x2x512 .bf16) (harg15 : arg15.IsWhole)
  (arg16 : Memref sig .tc .vmem S1024x512 .f32) (harg16 : arg16.IsWhole)
  (arg17 : Memref sig .tc .vmem S128x128 .i32) (harg17 : arg17.IsWhole)
  (k0_h2 : k0_cond2 i = 1#1) (X5 : arg5.view.ty.Contents (Elt Ideal)) (X6 : arg6.view.ty.Contents (Elt Ideal)) (X16 : arg16.view.ty.Contents (Elt Ideal))

/-- Every piece of the first `n` trips agrees with the block's codes of the keys. -/
theorem loop_keys_agree : ∀ n, n ≤ k0_t3_loop.trips →
    ∀ q ∈ pbK (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 n, ∀ x : q.1.shape.Idx, q.2 x = keysOf (arg16.view.read (Elt Ideal) X16) (arg5.view.read (Elt Ideal) X5) (arg6.view.read (Elt Ideal) X6) (q.1.emb x)
  | 0, _ => fun q hq => absurd hq List.not_mem_nil
  | n + 1, hn => by
    rw [pbK_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 ⟨n, hn⟩, tripQ_eq]
    intro q hq
    rcases List.mem_append.1 hq with h | h
    · obtain rfl := List.mem_singleton.1 h
      exact fun x => keys_agree arg16.view X16 arg5.view X5 arg6.view X6 ⟨n, hn⟩ (k0_off10_inb i ⟨n, hn⟩ k0_h2) (k0_off11_inb i ⟨n, hn⟩ k0_h2) (k0_off9_inb i ⟨n, hn⟩ k0_h2) (k0_off9_inb i ⟨n, hn⟩ k0_h2) (k0_off12_inb i ⟨n, hn⟩ k0_h2) x
    · exact loop_keys_agree n (by omega) q h

/-- The first `n` trips cover the rows below `256 n` of the keys. -/
theorem loop_keys_cover : ∀ n, n ≤ k0_t3_loop.trips → ∀ y : S1024x256.Idx, (y 0).val < 256 * n →
    ∃ q ∈ pbK (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 n, y ∈ q.1.set
  | 0, _ => fun y hy => by omega
  | n + 1, hn => by
    rw [pbK_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 ⟨n, hn⟩, tripQ_eq]
    intro y hy
    by_cases h : (y 0).val < 256 * n
    · obtain ⟨q, hq, hm⟩ := loop_keys_cover n (by omega) y h
      exact ⟨q, List.mem_append_right _ hq, hm⟩
    · exact ⟨_, List.mem_append_left _ (List.mem_singleton.2 rfl),
        rows_mem ⟨n, hn⟩ (k0_off12_inb i ⟨n, hn⟩ k0_h2) y (by show 256 * n ≤ _; omega) (by show _ < 256 * n + 256; omega)⟩

/-- What the loop leaves in the block of the keys' codes. -/
theorem canon_keys (n : ℕ) (hn : n = k0_t3_loop.trips) :
    View.canon (pbK (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 n) = keysOf (arg16.view.read (Elt Ideal) X16) (arg5.view.read (Elt Ideal) X5) (arg6.view.read (Elt Ideal) X6) := by
  subst hn
  funext y
  refine View.canon_apply_of_pieces _ _ (loop_keys_agree 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 _ le_rfl) y (loop_keys_cover 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 _ le_rfl y ?_)
  rw [trips3_eq]
  exact (y 0).isLt

/-- Every piece of the first `n` trips agrees with the block's codes of the values. -/
theorem loop_values_agree : ∀ n, n ≤ k0_t3_loop.trips →
    ∀ q ∈ pbV (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 n, ∀ x : q.1.shape.Idx, q.2 x = valuesOf (arg16.view.read (Elt Ideal) X16) (q.1.emb x)
  | 0, _ => fun q hq => absurd hq List.not_mem_nil
  | n + 1, hn => by
    rw [pbV_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 ⟨n, hn⟩, tripQ_eq]
    intro q hq
    rcases List.mem_append.1 hq with h | h
    · obtain rfl := List.mem_singleton.1 h
      exact fun x => values_agree arg16.view X16 ⟨n, hn⟩ (k0_off15_inb i ⟨n, hn⟩ k0_h2) (k0_off12_inb i ⟨n, hn⟩ k0_h2) x
    · exact loop_values_agree n (by omega) q h

/-- The first `n` trips cover the rows below `256 n` of the values. -/
theorem loop_values_cover : ∀ n, n ≤ k0_t3_loop.trips → ∀ y : S1024x256.Idx, (y 0).val < 256 * n →
    ∃ q ∈ pbV (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 n, y ∈ q.1.set
  | 0, _ => fun y hy => by omega
  | n + 1, hn => by
    rw [pbV_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 ⟨n, hn⟩, tripQ_eq]
    intro y hy
    by_cases h : (y 0).val < 256 * n
    · obtain ⟨q, hq, hm⟩ := loop_values_cover n (by omega) y h
      exact ⟨q, List.mem_append_right _ hq, hm⟩
    · exact ⟨_, List.mem_append_left _ (List.mem_singleton.2 rfl),
        rows_mem ⟨n, hn⟩ (k0_off12_inb i ⟨n, hn⟩ k0_h2) y (by show 256 * n ≤ _; omega) (by show _ < 256 * n + 256; omega)⟩

/-- What the loop leaves in the block of the values' codes. -/
theorem canon_values (n : ℕ) (hn : n = k0_t3_loop.trips) :
    View.canon (pbV (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 n) = valuesOf (arg16.view.read (Elt Ideal) X16) := by
  subst hn
  funext y
  refine View.canon_apply_of_pieces _ _ (loop_values_agree 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 _ le_rfl) y (loop_values_cover 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X5 X6 X16 _ le_rfl y ?_)
  rw [trips3_eq]
  exact (y 0).isLt

end

variable (m : (ℓ : Loc nD τ sig) → Buf (Elt Ideal) ℓ) (c : Dev nD) (t : Fin cfg0.N) (h : k0_cond2 (grid0.coords t) = 1#1)

/-- The keys' codes a grid point of the last column computes, from its input blocks. -/
theorem keysAt_eq : keysAt m c t h
    = keysOf (products (iblk m c 0 t) (iblk m c 1 t) (iblk m c 2 t)) (iblk m c 3 t) (iblk m c 4 t) := by
  unfold keysAt codesL runLast
  dsimp only
  rw [View.read_writes_junk_eq_canon, canon_keys _ _ _ _ _ _ _ _ _ _ _ _ _ _ _ _ _ _ _ _ _ _ _ _ _ _ _ _ _ _ _ _ _ _ _ _ _ _ _ _ _ trips3_word, Memref.IsWhole.read_unread, Memref.IsWhole.read_unread]
  exact congrArg (fun z => keysOf z _ _) (accumulated c (grid0.coords t) _ _ _ _ _ _ _ _ _ _ _ _ _ _ _ _ _ _ _ _ _ _ _ _ _ _ _ _ _ _ _ _ _ _ _)

/-- The values' codes. -/
theorem valuesAt_eq : valuesAt m c t h = valuesOf (products (iblk m c 0 t) (iblk m c 1 t) (iblk m c 2 t)) := by
  unfold valuesAt codesL runLast
  dsimp only
  rw [View.read_writes_junk_eq_canon, canon_values _ _ _ _ _ _ _ _ _ _ _ _ _ _ _ _ _ _ _ _ _ _ _ _ _ _ _ _ _ _ _ _ _ _ _ _ _ _ _ _ _ trips3_word]
  exact congrArg valuesOf (accumulated c (grid0.coords t) _ _ _ _ _ _ _ _ _ _ _ _ _ _ _ _ _ _ _ _ _ _ _ _ _ _ _ _ _ _ _ _ _ _ _)

end Cert.QKernelIdeal.Value
-- ==== Proof.QQueries.lean ====
/-
  THE QUERIES A GRID POINT OF AN EARLIER COLUMN WRITES. The loop takes 256 rows a trip: it turns the four heads of the block's columns
  by the angles of their rows; the four trips cover the block.
-/
module

public import proofs.«01_k».proof.Proof.QAcc
public import proofs.«01_k».proof.Proof.QCodes

@[expose] public section

set_option maxRecDepth 16384

noncomputable section

open Idealize.ShloMosaic Idealize.ShloMosaic.TcCoe Idealize.SL.Sem

namespace Cert.QKernelIdeal.Value

open Cert.QKernelIdeal Cert.QKernelIdeal.Gen Cert.Words

/-- A turned head, cast to the queries' type. -/
def turnedQueries (t : FVec Ideal S256x128 .f32) (c s : FVec Ideal S256x64 .f32) : FVec Ideal S256x128 .bf16 :=
  truncf .bf16 (turnedHead t c s) bitsLt_bf16_f32

/-- The turned queries of a block of products. -/
def queriesOf (A : FVec Ideal S1024x512 .f32) (C S : FVec Ideal S1024x64 .f32) (y : S1024x512.Idx) : Ideal .bf16 :=
  rotated (fun l => A (ix2 (y 0) ⟨(y 1).val / 128 * 128 + l.val, by have h := (y 1).isLt; have e : S1024x512.size 1 = 512 := rfl; omega⟩))
    (fun l => C (ix2 (y 0) l)) (fun l => S (ix2 (y 0) l)) ⟨(y 1).val % 128, by omega⟩

theorem off4 : ∀ k : Fin k0_t2_loop.trips, k0_off4 k = ![256 * k.val, 0] := by decide +kernel
theorem off5 : ∀ k : Fin k0_t2_loop.trips, k0_off5 k = ![256 * k.val, 128 * (0 : Fin 4).val] := by decide +kernel
theorem off6 : ∀ k : Fin k0_t2_loop.trips, k0_off6 k = ![256 * k.val, 128 * (1 : Fin 4).val] := by decide +kernel
theorem off7 : ∀ k : Fin k0_t2_loop.trips, k0_off7 k = ![256 * k.val, 128 * (2 : Fin 4).val] := by decide +kernel
theorem off8 : ∀ k : Fin k0_t2_loop.trips, k0_off8 k = ![256 * k.val, 128 * (3 : Fin 4).val] := by decide +kernel
theorem trips2_eq : k0_t2_loop.trips = 4 := by decide +kernel
theorem trips2_word : Scf.trips (0#32) (Scalar.addi 0#32 4#32) 1#32 = k0_t2_loop.trips := rfl

/-- The turned head `g` of 256 rows is the block's there. -/
theorem queries_agree {κ κ' κ'' sp sp' sp''} (v : View sig κ sp S1024x512 .f32) (X : v.ty.Contents (Elt Ideal))
    (vc : View sig κ' sp' S1024x64 .f32) (Xc : vc.ty.Contents (Elt Ideal)) (vs : View sig κ'' sp'' S1024x64 .f32) (Xs : vs.ty.Contents (Elt Ideal))
    (k : Fin k0_t2_loop.trips) (g : Fin 4) {o : Fin 2 → ℕ} (ho : o = ![256 * k.val, 128 * g.val])
    (hb : ∀ a, o a + S256x128.size a ≤ S1024x512.size a) (h4 h4' : ∀ a, k0_off4 k a + S256x64.size a ≤ S1024x64.size a) (x : S256x128.Idx) :
    turnedQueries
        (v.readAt (Elt Ideal) (Rect.unit (s := S1024x512) o S256x128.size hb).toLoadRect X)
        (vc.readAt (Elt Ideal) (Rect.unit (s := S1024x64) (k0_off4 k) S256x64.size h4).toLoadRect Xc)
        (vs.readAt (Elt Ideal) (Rect.unit (s := S1024x64) (k0_off4 k) S256x64.size h4').toLoadRect Xs) x
      = queriesOf (v.read (Elt Ideal) X) (vc.read (Elt Ideal) Xc) (vs.read (Elt Ideal) Xs)
          ((Rect.unit (s := S1024x512) o S256x128.size hb).emb x) := by
  have hk : k.val < 4 := lt_of_lt_of_eq k.isLt trips2_eq
  obtain ⟨r, l, rfl⟩ : ∃ (r : Fin 256) (l : Fin 128), x = ix2 r l :=
    ⟨x 0, x 1, funext fun a => by match a with | ⟨0, _⟩ => rfl | ⟨1, _⟩ => rfl⟩
  have he : (Rect.unit (s := S1024x512) o S256x128.size hb).emb (ix2 r l)
      = ix2 (⟨256 * k.val + r.val, by omega⟩ : Fin 1024) (⟨128 * g.val + l.val, by omega⟩ : Fin 512) := by
    funext a
    apply Fin.ext
    refine (Rect.idx_unit_val _ _ hb _ a).trans ?_
    refine (congrArg (· + _) (congrFun ho a)).trans ?_
    match a with
    | ⟨0, _⟩ => rfl
    | ⟨1, _⟩ => rfl
  have ht : ∀ l : Fin 128, v.readAt (Elt Ideal) (Rect.unit (s := S1024x512) o S256x128.size hb).toLoadRect X (ix2 r l)
      = v.read (Elt Ideal) X (ix2 (⟨256 * k.val + r.val, by omega⟩ : Fin 1024) (⟨128 * g.val + l.val, by omega⟩ : Fin 512)) := by
    intro l
    rw [View.readAt_eq_ld]
    refine View.ld_unit_apply_of _ _ _ _ _ _ fun a => Eq.trans ?_ (congrArg (· + _) (congrFun ho a).symm)
    match a with
    | ⟨0, _⟩ => rfl
    | ⟨1, _⟩ => rfl
  have hc : ∀ l : Fin 64, vc.readAt (Elt Ideal) (Rect.unit (s := S1024x64) (k0_off4 k) S256x64.size h4).toLoadRect Xc (ix2 r l)
      = vc.read (Elt Ideal) Xc (ix2 (⟨256 * k.val + r.val, by omega⟩ : Fin 1024) l) := by
    intro l
    rw [View.readAt_eq_ld]
    refine View.ld_unit_apply_of _ _ _ _ _ _ fun a => Eq.trans ?_ (congrArg (· + _) (congrFun (off4 k) a).symm)
    match a with
    | ⟨0, _⟩ => rfl
    | ⟨1, _⟩ => exact (Nat.zero_add _).symm
  have hs : ∀ l : Fin 64, vs.readAt (Elt Ideal) (Rect.unit (s := S1024x64) (k0_off4 k) S256x64.size h4').toLoadRect Xs (ix2 r l)
      = vs.read (Elt Ideal) Xs (ix2 (⟨256 * k.val + r.val, by omega⟩ : Fin 1024) l) := by
    intro l
    rw [View.readAt_eq_ld]
    refine View.ld_unit_apply_of _ _ _ _ _ _ fun a => Eq.trans ?_ (congrArg (· + _) (congrFun (off4 k) a).symm)
    match a with
    | ⟨0, _⟩ => rfl
    | ⟨1, _⟩ => exact (Nat.zero_add _).symm
  rw [he]
  refine (turnedHead_at _ _ _ r l).trans ?_
  unfold queriesOf
  simp only [ht, hc, hs]
  have e1 : (⟨(128 * g.val + l.val) % 128, by omega⟩ : Fin 128) = l := Fin.ext (by show (128 * g.val + l.val) % 128 = l.val; omega)
  have e2 : ∀ j : Fin 128, (⟨(128 * g.val + l.val) / 128 * 128 + j.val, by omega⟩ : Fin 512) = ⟨128 * g.val + j.val, by omega⟩ :=
    fun j => Fin.ext (by show (128 * g.val + l.val) / 128 * 128 + j.val = 128 * g.val + j.val; omega)
  show _ = rotated (fun j => v.read (Elt Ideal) X (ix2 _ (⟨(128 * g.val + l.val) / 128 * 128 + j.val, by omega⟩ : Fin 512))) _ _
    (⟨(128 * g.val + l.val) % 128, by omega⟩ : Fin 128)
  rw [e1]
  simp only [e2]
  rfl

/-- A trip's rows and the columns of head `g` hold every place of the block there. -/
theorem head_mem (k : Fin k0_t2_loop.trips) (g : Fin 4) {o : Fin 2 → ℕ} (ho : o = ![256 * k.val, 128 * g.val])
    (hb : ∀ a, o a + S256x128.size a ≤ S1024x512.size a) (y : S1024x512.Idx)
    (h0 : 256 * k.val ≤ (y 0).val) (h1 : (y 0).val < 256 * k.val + 256) (h2 : 128 * g.val ≤ (y 1).val) (h3 : (y 1).val < 128 * g.val + 128) :
    y ∈ (Rect.unit (s := S1024x512) o S256x128.size hb).set := by
  rw [Rect.mem_set_unit]
  intro a
  rw [ho]
  match a with
  | ⟨0, _⟩ => exact ⟨h0, h1⟩
  | ⟨1, _⟩ => exact ⟨h2, h3⟩

section

variable (𝒱 : Variants) (c : Dev nD) (bd : Option 𝒱.V) (i : grid0.Coords)
  (arg2 : Memref sig .tc .vmem S512x8192 .i32) (harg2 : arg2.IsWhole)
  (arg3 : Memref sig .tc .vmem S4096x512 .i8) (harg3 : arg3.IsWhole)
  (arg4 : Memref sig .tc .vmem S256x512 .i8) (harg4 : arg4.IsWhole)
  (arg5 : Memref sig .tc .vmem S1024x64 .f32) (harg5 : arg5.IsWhole)
  (arg6 : Memref sig .tc .vmem S1024x64 .f32) (harg6 : arg6.IsWhole)
  (arg7 : Memref sig .tc .vmem S1024x512 .bf16) (harg7 : arg7.IsWhole)
  (arg8 : Memref sig .tc .vmem S1024x256 .fp8e4m3) (harg8 : arg8.IsWhole)
  (arg9 : Memref sig .tc .vmem S1024x8 .i8) (harg9 : arg9.IsWhole)
  (arg10 : Memref sig .tc .vmem S512x2x256 .bf16) (harg10 : arg10.IsWhole)
  (arg11 : Memref sig .tc .vmem S1024x256 .fp8e4m3) (harg11 : arg11.IsWhole)
  (arg12 : Memref sig .tc .vmem S1024x8 .i8) (harg12 : arg12.IsWhole)
  (arg13 : Memref sig .tc .vmem S256x1024 .bf16) (harg13 : arg13.IsWhole)
  (arg14 : Memref sig .tc .vmem S256x512 .i32) (harg14 : arg14.IsWhole)
  (arg15 : Memref sig .tc .vmem S4096x2x512 .bf16) (harg15 : arg15.IsWhole)
  (arg16 : Memref sig .tc .vmem S1024x512 .f32) (harg16 : arg16.IsWhole)
  (arg17 : Memref sig .tc .vmem S128x128 .i32) (harg17 : arg17.IsWhole)
  (k0_h1 : k0_cond1 i = 1#1) (X5 : arg5.view.ty.Contents (Elt Ideal)) (X6 : arg6.view.ty.Contents (Elt Ideal)) (X16 : arg16.view.ty.Contents (Elt Ideal))

/-- A trip writes the four turned heads of its rows. -/
theorem trip2_eq (k : Fin k0_t2_loop.trips) :
    tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X5 X6 X16 k
      = [⟨Rect.unit (s := S1024x512) (k0_off8 k) S256x128.size (k0_off8_inb i k k0_h1),
          turnedQueries (arg16.view.readAt (Elt Ideal) (Rect.unit (s := S1024x512) (k0_off8 k) S256x128.size (k0_off8_inb i k k0_h1)).toLoadRect X16)
            (arg5.view.readAt (Elt Ideal) (Rect.unit (s := S1024x64) (k0_off4 k) S256x64.size (k0_off4_inb i k k0_h1)).toLoadRect X5)
            (arg6.view.readAt (Elt Ideal) (Rect.unit (s := S1024x64) (k0_off4 k) S256x64.size (k0_off4_inb i k k0_h1)).toLoadRect X6)⟩,
        ⟨Rect.unit (s := S1024x512) (k0_off7 k) S256x128.size (k0_off7_inb i k k0_h1),
          turnedQueries (arg16.view.readAt (Elt Ideal) (Rect.unit (s := S1024x512) (k0_off7 k) S256x128.size (k0_off7_inb i k k0_h1)).toLoadRect X16)
            (arg5.view.readAt (Elt Ideal) (Rect.unit (s := S1024x64) (k0_off4 k) S256x64.size (k0_off4_inb i k k0_h1)).toLoadRect X5)
            (arg6.view.readAt (Elt Ideal) (Rect.unit (s := S1024x64) (k0_off4 k) S256x64.size (k0_off4_inb i k k0_h1)).toLoadRect X6)⟩,
        ⟨Rect.unit (s := S1024x512) (k0_off6 k) S256x128.size (k0_off6_inb i k k0_h1),
          turnedQueries (arg16.view.readAt (Elt Ideal) (Rect.unit (s := S1024x512) (k0_off6 k) S256x128.size (k0_off6_inb i k k0_h1)).toLoadRect X16)
            (arg5.view.readAt (Elt Ideal) (Rect.unit (s := S1024x64) (k0_off4 k) S256x64.size (k0_off4_inb i k k0_h1)).toLoadRect X5)
            (arg6.view.readAt (Elt Ideal) (Rect.unit (s := S1024x64) (k0_off4 k) S256x64.size (k0_off4_inb i k k0_h1)).toLoadRect X6)⟩,
        ⟨Rect.unit (s := S1024x512) (k0_off5 k) S256x128.size (k0_off5_inb i k k0_h1),
          turnedQueries (arg16.view.readAt (Elt Ideal) (Rect.unit (s := S1024x512) (k0_off5 k) S256x128.size (k0_off5_inb i k k0_h1)).toLoadRect X16)
            (arg5.view.readAt (Elt Ideal) (Rect.unit (s := S1024x64) (k0_off4 k) S256x64.size (k0_off4_inb i k k0_h1)).toLoadRect X5)
            (arg6.view.readAt (Elt Ideal) (Rect.unit (s := S1024x64) (k0_off4 k) S256x64.size (k0_off4_inb i k k0_h1)).toLoadRect X6)⟩] := by
  unfold tripL_k0_t2 trip_k0_t2
  sl_kernel_rfl

/-- Every piece of the first `n` trips agrees with the block's turned queries. -/
theorem loop_queries_agree : ∀ n, n ≤ k0_t2_loop.trips →
    ∀ q ∈ pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X5 X6 X16 n, ∀ x : q.1.shape.Idx, q.2 x = queriesOf (arg16.view.read (Elt Ideal) X16) (arg5.view.read (Elt Ideal) X5) (arg6.view.read (Elt Ideal) X6) (q.1.emb x)
  | 0, _ => fun q hq => absurd hq List.not_mem_nil
  | n + 1, hn => by
    rw [pb_k0_t2_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X5 X6 X16 ⟨n, hn⟩, trip2_eq]
    intro q hq
    rcases List.mem_append.1 hq with h | h
    · rcases List.mem_cons.1 h with h | h
      · subst h
        exact fun x => queries_agree arg16.view X16 arg5.view X5 arg6.view X6 ⟨n, hn⟩ 3 (off8 ⟨n, hn⟩) (k0_off8_inb i ⟨n, hn⟩ k0_h1) (k0_off4_inb i ⟨n, hn⟩ k0_h1) (k0_off4_inb i ⟨n, hn⟩ k0_h1) x
      rcases List.mem_cons.1 h with h | h
      · subst h
        exact fun x => queries_agree arg16.view X16 arg5.view X5 arg6.view X6 ⟨n, hn⟩ 2 (off7 ⟨n, hn⟩) (k0_off7_inb i ⟨n, hn⟩ k0_h1) (k0_off4_inb i ⟨n, hn⟩ k0_h1) (k0_off4_inb i ⟨n, hn⟩ k0_h1) x
      rcases List.mem_cons.1 h with h | h
      · subst h
        exact fun x => queries_agree arg16.view X16 arg5.view X5 arg6.view X6 ⟨n, hn⟩ 1 (off6 ⟨n, hn⟩) (k0_off6_inb i ⟨n, hn⟩ k0_h1) (k0_off4_inb i ⟨n, hn⟩ k0_h1) (k0_off4_inb i ⟨n, hn⟩ k0_h1) x
      obtain rfl := List.mem_singleton.1 h
      exact fun x => queries_agree arg16.view X16 arg5.view X5 arg6.view X6 ⟨n, hn⟩ 0 (off5 ⟨n, hn⟩) (k0_off5_inb i ⟨n, hn⟩ k0_h1) (k0_off4_inb i ⟨n, hn⟩ k0_h1) (k0_off4_inb i ⟨n, hn⟩ k0_h1) x
    · exact loop_queries_agree n (by omega) q h

/-- The first `n` trips cover the rows below `256 n`. -/
theorem loop_queries_cover : ∀ n, n ≤ k0_t2_loop.trips → ∀ y : S1024x512.Idx, (y 0).val < 256 * n →
    ∃ q ∈ pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X5 X6 X16 n, y ∈ q.1.set
  | 0, _ => fun y hy => by omega
  | n + 1, hn => by
    rw [pb_k0_t2_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X5 X6 X16 ⟨n, hn⟩, trip2_eq]
    intro y hy
    by_cases h : (y 0).val < 256 * n
    · obtain ⟨q, hq, hm⟩ := loop_queries_cover n (by omega) y h
      exact ⟨q, List.mem_append_right _ hq, hm⟩
    · have hl : 256 * n ≤ (y 0).val := by omega
      have hu : (y 0).val < 256 * n + 256 := by omega
      have h4 : (y 1).val < 512 := (y 1).isLt
      by_cases h3 : 384 ≤ (y 1).val
      · exact ⟨_, List.mem_append_left _ (List.mem_cons_self ..), head_mem ⟨n, hn⟩ 3 (off8 ⟨n, hn⟩) (k0_off8_inb i ⟨n, hn⟩ k0_h1) y hl hu h3 h4⟩
      by_cases h2 : 256 ≤ (y 1).val
      · exact ⟨_, List.mem_append_left _ (List.mem_cons_of_mem _ (List.mem_cons_self ..)),
          head_mem ⟨n, hn⟩ 2 (off7 ⟨n, hn⟩) (k0_off7_inb i ⟨n, hn⟩ k0_h1) y hl hu h2 (Nat.lt_of_not_le h3)⟩
      by_cases h1 : 128 ≤ (y 1).val
      · exact ⟨_, List.mem_append_left _ (List.mem_cons_of_mem _ (List.mem_cons_of_mem _ (List.mem_cons_self ..))),
          head_mem ⟨n, hn⟩ 1 (off6 ⟨n, hn⟩) (k0_off6_inb i ⟨n, hn⟩ k0_h1) y hl hu h1 (Nat.lt_of_not_le h2)⟩
      · exact ⟨_, List.mem_append_left _ (List.mem_cons_of_mem _ (List.mem_cons_of_mem _ (List.mem_cons_of_mem _ (List.mem_cons_self ..)))),
          head_mem ⟨n, hn⟩ 0 (off5 ⟨n, hn⟩) (k0_off5_inb i ⟨n, hn⟩ k0_h1) y hl hu (Nat.zero_le _) (Nat.lt_of_not_le h1)⟩

/-- What the loop leaves in the block of the queries. -/
theorem canon_queries (n : ℕ) (hn : n = k0_t2_loop.trips) :
    View.canon (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X5 X6 X16 n) = queriesOf (arg16.view.read (Elt Ideal) X16) (arg5.view.read (Elt Ideal) X5) (arg6.view.read (Elt Ideal) X6) := by
  subst hn
  funext y
  refine View.canon_apply_of_pieces _ _ (loop_queries_agree 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X5 X6 X16 _ le_rfl) y (loop_queries_cover 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X5 X6 X16 _ le_rfl y ?_)
  rw [trips2_eq]
  exact (y 0).isLt

end

section

variable (c : Dev nD) (i : grid0.Coords)
  (arg2 : Memref sig .tc .vmem S512x8192 .i32) (harg2 : arg2.IsWhole)
  (arg3 : Memref sig .tc .vmem S4096x512 .i8) (harg3 : arg3.IsWhole)
  (arg4 : Memref sig .tc .vmem S256x512 .i8) (harg4 : arg4.IsWhole)
  (arg5 : Memref sig .tc .vmem S1024x64 .f32) (harg5 : arg5.IsWhole)
  (arg6 : Memref sig .tc .vmem S1024x64 .f32) (harg6 : arg6.IsWhole)
  (arg7 : Memref sig .tc .vmem S1024x512 .bf16) (harg7 : arg7.IsWhole)
  (arg8 : Memref sig .tc .vmem S1024x256 .fp8e4m3) (harg8 : arg8.IsWhole)
  (arg9 : Memref sig .tc .vmem S1024x8 .i8) (harg9 : arg9.IsWhole)
  (arg10 : Memref sig .tc .vmem S512x2x256 .bf16) (harg10 : arg10.IsWhole)
  (arg11 : Memref sig .tc .vmem S1024x256 .fp8e4m3) (harg11 : arg11.IsWhole)
  (arg12 : Memref sig .tc .vmem S1024x8 .i8) (harg12 : arg12.IsWhole)
  (arg13 : Memref sig .tc .vmem S256x1024 .bf16) (harg13 : arg13.IsWhole)
  (arg14 : Memref sig .tc .vmem S256x512 .i32) (harg14 : arg14.IsWhole)
  (arg15 : Memref sig .tc .vmem S4096x2x512 .bf16) (harg15 : arg15.IsWhole)
  (arg16 : Memref sig .tc .vmem S1024x512 .f32) (harg16 : arg16.IsWhole)
  (arg17 : Memref sig .tc .vmem S128x128 .i32) (harg17 : arg17.IsWhole)
  (x0 : Vec Ideal S512x8192 .i32) (x1 : Vec Ideal S4096x512 .i8) (x2 : Vec Ideal S256x512 .i8)

/-- The accumulator at an earlier column, read back. -/
theorem accumulated_first : arg16.view.read (Elt Ideal) (arg16.view.writes (Elt Ideal) arg16.view.junk (runFirst.sl.HS2_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2))
    = products x0 x1 x2 :=
  accumulated c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2

end

variable (m : (ℓ : Loc nD τ sig) → Buf (Elt Ideal) ℓ) (c : Dev nD) (t : Fin cfg0.N) (h : ¬ k0_cond2 (grid0.coords t) = 1#1)

/-- The queries a grid point of an earlier column computes, from its input blocks. -/
theorem queriesAt_eq : queriesAt m c t h
    = queriesOf (products (iblk m c 0 t) (iblk m c 1 t) (iblk m c 2 t)) (iblk m c 3 t) (iblk m c 4 t) := by
  unfold queriesAt queriesL runFirst
  dsimp only
  rw [View.read_writes_junk_eq_canon, canon_queries _ _ _ _ _ _ _ _ _ _ _ _ _ _ _ _ _ _ _ _ _ _ _ _ _ _ _ _ _ _ _ _ _ _ _ _ _ _ _ _ _ trips2_word, Memref.IsWhole.read_unread, Memref.IsWhole.read_unread]
  exact congrArg (fun z => queriesOf z _ _) (accumulated_first c (grid0.coords t) _ _ _ _ _ _ _ _ _ _ _ _ _ _ _ _ _ _ _ _ _ _ _ _ _ _ _ _ _ _ _ _ _ _ _)

end Cert.QKernelIdeal.Value
-- ==== Proof.QFinal.lean ====
/-
  WHAT THE CALL `_qkv` LEAVES IN THE QUERIES AND IN THE CODES OF THE KEYS AND VALUES. The last column's points write the codes, one
  row block each; the points of the four columns before it write the queries, one block each. The blocks tile each result, so
  the results are `qQuery`, and `qKey`'s and `qValue`'s codes, of the five argument arrays.
-/
module

public import proofs.«01_k».proof.Proof.QEpilogue
public import proofs.«01_k».proof.Proof.QQueries

@[expose] public section

set_option maxRecDepth 16384

noncomputable section

open Idealize.ShloMosaic Idealize.ShloMosaic.TcCoe Idealize.SL.Sem
open Idealize.ShloMosaic.Pipeline (Dat RDat)

namespace Cert.QKernelIdeal.Value

open Cert.QKernelIdeal Cert.QKernelIdeal.Gen Cert.Words

variable (m : (ℓ : Loc nD τ sig) → Buf (Elt Ideal) ℓ)

/-- A decoded entry of the scratch is the weight its byte and its scale stand for. -/
theorem decoded_at (w : Vec Ideal S4096x512 .i8) (e : Vec Ideal S256x512 .i8) (r : Fin 4096) (p : Fin 2) (c : Fin 512) :
    decoded w (k0_pay1 (F := Ideal) e) (ix3 r p c) = weight (w (ix2 r c)) (e (ix2 ⟨r.val / 16, by omega⟩ c)) p.val := by
  have hs : BitVec.extractLsb' (16 * p.val) 16 (k0_pay1 (F := Ideal) e (ix2 ⟨r.val / 16, by omega⟩ c)) = (e (ix2 ⟨r.val / 16, by omega⟩ c)).setWidth 16 <<< 7 := by
    pointwise [k0_pay1]
    exact scale_half _ p
  unfold weight scale
  rw [← hs]
  rfl

/-- A block of products, from the decoded weights it is given. -/
theorem pay3_at (x : Vec Ideal S512x8192 .i32) (w : Vec Ideal S4096x2x512 .bf16) (r : Fin 1024) (c : Fin 512) :
    k0_pay3 (F := Ideal) x w (ix2 r c)
      = ∑ k : Fin 8192, Ideal.ofBits .bf16 (BitVec.extractLsb' (16 * (r.val % 2)) 16 (x (ix2 ⟨r.val / 2, by omega⟩ k)))
        * w (ix3 ⟨k.val / 2, by omega⟩ ⟨k.val % 2, by omega⟩ c) := by
  pointwise [k0_pay3]
  refine Finset.sum_congr rfl fun k _ => ?_
  rw [bitcast_rows _ bitcasts_S512x8192_w32_S1024x8192_w16 _ _ (by omega)]
  rcases Nat.mod_two_eq_zero_or_one k.val with h | h
  · rw [if_pos h, show (⟨k.val % 2, by omega⟩ : Fin 2) = 0 from Fin.ext h]
  · rw [if_neg (by omega), show (⟨k.val % 2, by omega⟩ : Fin 2) = 1 from Fin.ext h]

/-- A block of products, from the packed weights. -/
theorem products_at (x : Vec Ideal S512x8192 .i32) (w : Vec Ideal S4096x512 .i8) (e : Vec Ideal S256x512 .i8)
    (r : Fin 1024) (c : Fin 512) : products x w e (ix2 r c)
      = ∑ k : Fin 8192, Ideal.ofBits .bf16 (BitVec.extractLsb' (16 * (r.val % 2)) 16 (x (ix2 ⟨r.val / 2, by omega⟩ k)))
        * weight (w (ix2 ⟨k.val / 2, by omega⟩ c)) (e (ix2 ⟨k.val / 2 / 16, by omega⟩ c)) (k.val % 2) := by
  unfold products
  rw [pay3_at]
  refine Finset.sum_congr rfl fun k _ => ?_
  rw [decoded_at]

/-- The blocks of grid point `t`: row block `t / 5`, column block `t % 5`. -/
theorem idx : ∀ t : Fin cfg0.N, win0_0.index t = ![t.val / 5, 0] ∧ win0_1.index t = ![0, t.val % 5]
    ∧ win0_2.index t = ![0, t.val % 5] ∧ win0_3.index t = ![t.val / 5, 0] ∧ win0_4.index t = ![t.val / 5, 0]
    ∧ win0_6.index t = ![t.val / 5, 0] ∧ win0_9.index t = ![t.val / 5, 0] :=
  (by decide +kernel : ∀ t : Fin grid0.N, win0_0.index t = ![t.val / 5, 0] ∧ win0_1.index t = ![0, t.val % 5]
    ∧ win0_2.index t = ![0, t.val % 5] ∧ win0_3.index t = ![t.val / 5, 0] ∧ win0_4.index t = ![t.val / 5, 0]
    ∧ win0_6.index t = ![t.val / 5, 0] ∧ win0_9.index t = ![t.val / 5, 0])

/-- The keys' codes are written back from the last column's points only, -/
theorem flush_keys : ∀ t : Fin cfg0.N, (cfg0.win 6).flush t = true → k0_cond2 (grid0.coords t) = 1#1 ∧ t.val % 5 = 4 :=
  (by decide +kernel : ∀ t : Fin grid0.N, win0_6.flush t = true → k0_cond2 (grid0.coords t) = 1#1 ∧ t.val % 5 = 4)
/-- and so are the values'. -/
theorem flush_values : ∀ t : Fin cfg0.N, (cfg0.win 9).flush t = true → k0_cond2 (grid0.coords t) = 1#1 ∧ t.val % 5 = 4 :=
  (by decide +kernel : ∀ t : Fin grid0.N, win0_9.flush t = true → k0_cond2 (grid0.coords t) = 1#1 ∧ t.val % 5 = 4)

/-- The products of grid point `t`. -/
abbrev blockProducts (c : Dev nD) (t : Fin cfg0.N) : FVec Ideal S1024x512 .f32 :=
  products (iblk m c 0 t) (iblk m c 1 t) (iblk m c 2 t)

/-- The products of a grid point are those of its rows and columns. -/
theorem point (c : Dev nD) (t : Fin cfg0.N) (a : Fin 1024) (b : Fin 512) (r : Fin 6144) (q : Fin 2560)
    (hr : r.val = t.val / 5 * 1024 + a.val) (hq : q.val = t.val % 5 * 512 + b.val) :
    blockProducts m c t (ix2 a b)
      = qProduct (m ((View.whole main_arg0).loc c.tc)) (m ((View.whole main_arg1).loc c.tc)) (m ((View.whole main_arg2).loc c.tc)) r q := by
  have e0 : ∀ k : Fin 8192, iblk m c 0 t (ix2 (⟨a.val / 2, by omega⟩ : Fin 512) k) = m ((View.whole main_arg0).loc c.tc) (ix2 (⟨r.val / 2, by omega⟩ : Fin 3072) k) := by
    intro k
    blk_point [iblk, V, idx t]
  have e1 : ∀ k : Fin 4096, iblk m c 1 t (ix2 k b) = m ((View.whole main_arg1).loc c.tc) (ix2 k q) := by
    intro k
    blk_point [iblk, V, idx t]
  have e2 : ∀ k : Fin 256, iblk m c 2 t (ix2 k b) = m ((View.whole main_arg2).loc c.tc) (ix2 k q) := by
    intro k
    blk_point [iblk, V, idx t]
  have hp : r.val % 2 = a.val % 2 := by omega
  refine (products_at _ _ _ a b).trans ?_
  unfold qProduct
  simp only [e0, e1, e2, hp]

/-- The turned keys of a point of the last column are those of its rows. -/
theorem point_key (c : Dev nD) (t : Fin cfg0.N) (ht : t.val % 5 = 4) (a : Fin 1024) (n : Fin 256) (r : Fin 6144)
    (hr : r.val = t.val / 5 * 1024 + a.val) :
    keyOf (blockProducts m c t) (iblk m c 3 t) (iblk m c 4 t) a n
      = qKey (m ((View.whole main_arg0).loc c.tc)) (m ((View.whole main_arg1).loc c.tc)) (m ((View.whole main_arg2).loc c.tc))
        (m ((View.whole main_arg3).loc c.tc)) (m ((View.whole main_arg4).loc c.tc)) r n := by
  have e3 : ∀ l : Fin 64, iblk m c 3 t (ix2 a l) = m ((View.whole main_arg3).loc c.tc) (ix2 r l) := by
    intro l
    blk_point [iblk, V, idx t]
  have e4 : ∀ l : Fin 64, iblk m c 4 t (ix2 a l) = m ((View.whole main_arg4).loc c.tc) (ix2 r l) := by
    intro l
    blk_point [iblk, V, idx t]
  unfold keyOf qKey
  simp only [e3, e4]
  exact congrArg (fun f => rotated f _ _ _) (funext fun l => point m c t a _ r _ hr (by
    show 2048 + n.val / 128 * 128 + l.val = t.val % 5 * 512 + (n.val / 128 * 128 + l.val); omega))

/-- The keys' codes of a point of the last column. -/
theorem point_keys (c : Dev nD) (t : Fin cfg0.N) (ht : t.val % 5 = 4) (a : Fin 1024) (n : Fin 256) (r : Fin 6144)
    (hr : r.val = t.val / 5 * 1024 + a.val) :
    keysOf (blockProducts m c t) (iblk m c 3 t) (iblk m c 4 t) (ix2 a n)
      = rowCode (qKey (m ((View.whole main_arg0).loc c.tc)) (m ((View.whole main_arg1).loc c.tc)) (m ((View.whole main_arg2).loc c.tc))
        (m ((View.whole main_arg3).loc c.tc)) (m ((View.whole main_arg4).loc c.tc)) r) n :=
  congrArg (fun f => rowCode f n) (funext fun n => point_key m c t ht a n r hr)

/-- The values' codes of a point of the last column. -/
theorem point_values (c : Dev nD) (t : Fin cfg0.N) (ht : t.val % 5 = 4) (a : Fin 1024) (n : Fin 256) (r : Fin 6144)
    (hr : r.val = t.val / 5 * 1024 + a.val) :
    valuesOf (blockProducts m c t) (ix2 a n)
      = rowCode (qValue (m ((View.whole main_arg0).loc c.tc)) (m ((View.whole main_arg1).loc c.tc)) (m ((View.whole main_arg2).loc c.tc)) r) n :=
  congrArg (fun f => rowCode f n) (funext fun n => point m c t a _ r _ hr (by
    show 2304 + n.val = t.val % 5 * 512 + (256 + n.val); omega))

/-- The blocks the last column's points write make up the keys' codes, whatever data name their contents. -/
theorem blocks_keys (c : Dev nD) (D : Dat τ (Elt Ideal) Unit ℕ (UR sig nD τ) ℕ cfg0 c)
    (hD : ∀ (t : Fin cfg0.N) (ht : (cfg0.win 6).flush t = true), D.after 6 t = keysAt m c t (flush_keys t ht).1) :
    D.arrAt 6 cfg0.N = fun y : S6144x256.Idx => rowCode (qKey (m ((View.whole main_arg0).loc c.tc)) (m ((View.whole main_arg1).loc c.tc)) (m ((View.whole main_arg2).loc c.tc))
        (m ((View.whole main_arg3).loc c.tc)) (m ((View.whole main_arg4).loc c.tc)) (y 0)) (y 1) := by
  refine D.arrAt_eq_of_covers 6 _ (by decide +kernel) fun t ht y => ?_
  rw [hD t ht, keysAt_eq]
  blk_simp
  have h0 : ((win0_6.blk t).view.emb y 0).val = t.val / 5 * 1024 + (y 0).val := by
    blk_simp
    simp [idx t]
  have h1 : (win0_6.blk t).view.emb y 1 = y 1 := by
    refine Fin.ext ?_
    blk_simp
    simp [idx t]
  rw [h1]
  generalize (win0_6.blk t).view.emb y 0 = r at h0
  exact congrArg (fun f => rowCode f (y 1)) (funext fun n => point_key m c t (flush_keys t ht).2 (y 0) n r h0)

/-- What a point of the last column may leave there is what it computes. -/
theorem left_keys (c : Dev nD) (t : Fin cfg0.N) (X : Vec Ideal S1024x256 .fp8e4m3)
    (hX : ((dats m 0 c).toRRel forgets0 (held m c)).Leaves 6 t X) (h : k0_cond2 (grid0.coords t) = 1#1) : X = keysAt m c t h :=
  Dat.toRRel_leaves (dat := dats m 0 c) (fgt := forgets0) (Rl := held m c) (w := 6) rfl hX h

/-- The keys' codes end holding those of the turned keys. -/
theorem final_keys (c : Dev nD) (G : Buf (Elt Ideal) ((c.tc : Thread nD τ).loc main_v0_1))
    (hG : ((dats m 0 c).toRRel forgets0 (held m c)).ArrAt 6 cfg0.N G) :
    G = fun y : S6144x256.Idx => rowCode (qKey (m ((View.whole main_arg0).loc c.tc)) (m ((View.whole main_arg1).loc c.tc)) (m ((View.whole main_arg2).loc c.tc))
        (m ((View.whole main_arg3).loc c.tc)) (m ((View.whole main_arg4).loc c.tc)) (y 0)) (y 1) := by
  obtain ⟨X, hX, hA⟩ := RDat.ArrAt.exists_exact (rd := (dats m 0 c).toRRel forgets0 (held m c)) (w := 6) (n := cfg0.N) (G := G) hG
  refine (hA (Function.update (fun _ _ _ => Classical.arbitrary _) 6 X) fun u _ _ => by rw [Function.update_self]).trans ?_
  refine blocks_keys m c _ fun t ht => ?_
  refine Eq.trans ?_ (left_keys m c t (X t) (hX t t.isLt ht) _)
  rw [RDat.withAfter_after, Function.update_self]

/-- The blocks the last column's points write make up the values' codes, whatever data name their contents. -/
theorem blocks_values (c : Dev nD) (D : Dat τ (Elt Ideal) Unit ℕ (UR sig nD τ) ℕ cfg0 c)
    (hD : ∀ (t : Fin cfg0.N) (ht : (cfg0.win 9).flush t = true), D.after 9 t = valuesAt m c t (flush_values t ht).1) :
    D.arrAt 9 cfg0.N = fun y : S6144x256.Idx => rowCode (qValue (m ((View.whole main_arg0).loc c.tc)) (m ((View.whole main_arg1).loc c.tc)) (m ((View.whole main_arg2).loc c.tc)) (y 0)) (y 1) := by
  refine D.arrAt_eq_of_covers 9 _ (by decide +kernel) fun t ht y => ?_
  rw [hD t ht, valuesAt_eq]
  blk_simp
  have h0 : ((win0_9.blk t).view.emb y 0).val = t.val / 5 * 1024 + (y 0).val := by
    blk_simp
    simp [idx t]
  have h1 : (win0_9.blk t).view.emb y 1 = y 1 := by
    refine Fin.ext ?_
    blk_simp
    simp [idx t]
  rw [h1]
  generalize (win0_9.blk t).view.emb y 0 = r at h0
  exact congrArg (fun f => rowCode f (y 1)) (funext fun n => point m c t (y 0) _ r _ h0 (by
    have h4 := (flush_values t ht).2
    show 2304 + n.val = t.val % 5 * 512 + (256 + n.val); omega))

/-- What a point of the last column may leave there is what it computes. -/
theorem left_values (c : Dev nD) (t : Fin cfg0.N) (X : Vec Ideal S1024x256 .fp8e4m3)
    (hX : ((dats m 0 c).toRRel forgets0 (held m c)).Leaves 9 t X) (h : k0_cond2 (grid0.coords t) = 1#1) : X = valuesAt m c t h :=
  Dat.toRRel_leaves (dat := dats m 0 c) (fgt := forgets0) (Rl := held m c) (w := 9) rfl hX h

/-- The values' codes end holding those of the values. -/
theorem final_values (c : Dev nD) (G : Buf (Elt Ideal) ((c.tc : Thread nD τ).loc main_v0_4))
    (hG : ((dats m 0 c).toRRel forgets0 (held m c)).ArrAt 9 cfg0.N G) :
    G = fun y : S6144x256.Idx => rowCode (qValue (m ((View.whole main_arg0).loc c.tc)) (m ((View.whole main_arg1).loc c.tc)) (m ((View.whole main_arg2).loc c.tc)) (y 0)) (y 1) := by
  obtain ⟨X, hX, hA⟩ := RDat.ArrAt.exists_exact (rd := (dats m 0 c).toRRel forgets0 (held m c)) (w := 9) (n := cfg0.N) (G := G) hG
  refine (hA (Function.update (fun _ _ _ => Classical.arbitrary _) 9 X) fun u _ _ => by rw [Function.update_self]).trans ?_
  refine blocks_values m c _ fun t ht => ?_
  refine Eq.trans ?_ (left_values m c t (X t) (hX t t.isLt ht) _)
  rw [RDat.withAfter_after, Function.update_self]

/-- The point whose run writes the queries' buffer as it stands at `t`: the one before it at the last column, `t` elsewhere. -/
def writer (t : Fin cfg0.N) : Fin cfg0.N := if t.val % 5 = 4 then ⟨t.val - 1, Nat.lt_of_le_of_lt (Nat.sub_le _ _) t.isLt⟩ else t

theorem writer_facts : ∀ t : Fin cfg0.N, ¬ k0_cond2 (grid0.coords (writer t)) = 1#1 ∧ (writer t).val / 5 = t.val / 5 ∧ (writer t).val % 5 < 4
    ∧ (k0_cond2 (grid0.coords t) = 1#1 → (writer t).val + 1 = t.val) ∧ (¬ k0_cond2 (grid0.coords t) = 1#1 → writer t = t) :=
  (by decide +kernel : ∀ t : Fin grid0.N, ¬ k0_cond2 (grid0.coords (writer t)) = 1#1 ∧ (writer t).val / 5 = t.val / 5 ∧ (writer t).val % 5 < 4
    ∧ (k0_cond2 (grid0.coords t) = 1#1 → (writer t).val + 1 = t.val) ∧ (¬ k0_cond2 (grid0.coords t) = 1#1 → writer t = t))

/-- The block of queries at `t`. -/
theorem idx_queries : ∀ t : Fin cfg0.N, win0_5.index t = ![t.val / 5, (writer t).val % 5] :=
  (by decide +kernel : ∀ t : Fin grid0.N, win0_5.index t = ![t.val / 5, (writer t).val % 5])

/-- The turned queries of a point of an earlier column are those of its rows and columns. -/
theorem point_query (c : Dev nD) (t : Fin cfg0.N) (ht : t.val % 5 < 4) (y : S1024x512.Idx) (r : Fin 6144) (n : Fin 2048)
    (hr : r.val = t.val / 5 * 1024 + (y 0).val) (hn : n.val = t.val % 5 * 512 + (y 1).val) :
    queriesOf (blockProducts m c t) (iblk m c 3 t) (iblk m c 4 t) y
      = qQuery (m ((View.whole main_arg0).loc c.tc)) (m ((View.whole main_arg1).loc c.tc)) (m ((View.whole main_arg2).loc c.tc))
        (m ((View.whole main_arg3).loc c.tc)) (m ((View.whole main_arg4).loc c.tc)) r n := by
  have e3 : ∀ l : Fin 64, iblk m c 3 t (ix2 (y 0) l) = m ((View.whole main_arg3).loc c.tc) (ix2 r l) := by
    intro l
    generalize y 0 = a at hr
    blk_point [iblk, V, idx t]
  have e4 : ∀ l : Fin 64, iblk m c 4 t (ix2 (y 0) l) = m ((View.whole main_arg4).loc c.tc) (ix2 r l) := by
    intro l
    generalize y 0 = a at hr
    blk_point [iblk, V, idx t]
  have hm : (⟨(y 1).val % 128, by omega⟩ : Fin 128) = ⟨n.val % 128, by omega⟩ := Fin.ext (by show (y 1).val % 128 = n.val % 128; omega)
  unfold queriesOf qQuery
  rw [hm]
  simp only [e3, e4]
  exact congrArg (fun f => rotated f _ _ _) (funext fun l => point m c t (y 0) _ r _ hr (by
    show n.val / 128 * 128 + l.val = t.val % 5 * 512 + ((y 1).val / 128 * 128 + l.val); omega))

/-- The blocks the points write make up the queries, whatever data name their contents. -/
theorem blocks_queries (c : Dev nD) (D : Dat τ (Elt Ideal) Unit ℕ (UR sig nD τ) ℕ cfg0 c)
    (hD : ∀ (t : Fin cfg0.N) (ht : (cfg0.win 5).flush t = true), D.after 5 t = queriesAt m c (writer t) (writer_facts t).1) :
    D.arrAt 5 cfg0.N = fun y : S6144x2048.Idx => qQuery (m ((View.whole main_arg0).loc c.tc)) (m ((View.whole main_arg1).loc c.tc)) (m ((View.whole main_arg2).loc c.tc))
        (m ((View.whole main_arg3).loc c.tc)) (m ((View.whole main_arg4).loc c.tc)) (y 0) (y 1) := by
  refine D.arrAt_eq_of_covers 5 _ (by decide +kernel) fun t ht y => ?_
  rw [hD t ht, queriesAt_eq]
  blk_simp
  have h0 : ((win0_5.blk t).view.emb y 0).val = t.val / 5 * 1024 + (y 0).val := by
    blk_simp
    simp [idx_queries t]
  have h1 : ((win0_5.blk t).view.emb y 1).val = (writer t).val % 5 * 512 + (y 1).val := by
    blk_simp
    simp [idx_queries t]
  generalize (win0_5.blk t).view.emb y 0 = r at h0
  generalize (win0_5.blk t).view.emb y 1 = n at h1
  obtain ⟨-, h5, h6, -⟩ := writer_facts t
  rw [← h5] at h0
  exact point_query m c (writer t) h6 y r n h0 h1

/-- What a point may leave in the queries' buffer is what the point that wrote it computes. -/
theorem left_queries (c : Dev nD) (t : Fin cfg0.N) (X : Vec Ideal S1024x512 .bf16)
    (hX : ((dats m 0 c).toRRel forgets0 (held m c)).Leaves 5 t X) : X = queriesAt m c (writer t) (writer_facts t).1 := by
  have hh : heldQueries m c t X := Dat.toRRel_leaves (dat := dats m 0 c) (fgt := forgets0) (Rl := held m c) (w := 5) rfl hX
  obtain ⟨h1, -, -, h2, h3⟩ := writer_facts t
  by_cases h : k0_cond2 (grid0.coords t) = 1#1
  · exact hh.2 (writer t) (h2 h) h h1
  · have e := h3 h
    have g := hh.1 h
    rw [g]
    congr 1
    exact e.symm

/-- The queries end as those of the arguments. -/
theorem final_queries (c : Dev nD) (G : Buf (Elt Ideal) ((c.tc : Thread nD τ).loc main_v0_0))
    (hG : ((dats m 0 c).toRRel forgets0 (held m c)).ArrAt 5 cfg0.N G) :
    G = fun y : S6144x2048.Idx => qQuery (m ((View.whole main_arg0).loc c.tc)) (m ((View.whole main_arg1).loc c.tc)) (m ((View.whole main_arg2).loc c.tc))
        (m ((View.whole main_arg3).loc c.tc)) (m ((View.whole main_arg4).loc c.tc)) (y 0) (y 1) := by
  obtain ⟨X, hX, hA⟩ := RDat.ArrAt.exists_exact (rd := (dats m 0 c).toRRel forgets0 (held m c)) (w := 5) (n := cfg0.N) (G := G) hG
  refine (hA (Function.update (fun _ _ _ => Classical.arbitrary _) 5 X) fun u _ _ => by rw [Function.update_self]).trans ?_
  refine blocks_queries m c _ fun t ht => ?_
  refine Eq.trans ?_ (left_queries m c t (X t) (hX t t.isLt ht))
  rw [RDat.withAfter_after, Function.update_self]

/-- The kernel's run: the queries are the turned ones, the codes those of the turned keys and of the values, the arguments are
    unchanged. -/
theorem run_codes (ρ : Dev nD → PrngReg) :
    θ_run defs (onTc (τ := τ) (main (F := Ideal))) ⟨m, fun _ => 0, ρ⟩ fun r => ∀ c : Dev nD,
      r.2.mem ((c.tc : Thread nD τ).loc main_v0_0) = (fun y : S6144x2048.Idx =>
          qQuery (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)) (y 0) (y 1))
      ∧ r.2.mem ((c.tc : Thread nD τ).loc main_v0_1) = (fun y : S6144x256.Idx =>
          rowCode (qKey (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)) (y 0)) (y 1))
      ∧ r.2.mem ((c.tc : Thread nD τ).loc main_v0_4) = (fun y : S6144x256.Idx =>
          rowCode (qValue (m ((c.tc : Thread nD τ).loc main_arg0)) (m ((c.tc : Thread nD τ).loc main_arg1))
            (m ((c.tc : Thread nD τ).loc main_arg2)) (y 0)) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨final_queries m c _ (h c).1.1, final_keys m c _ (h c).1.2.1, final_values m c _ (h c).1.2.2, (h c).2⟩) (Gen.run_codes m ρ)

end Cert.QKernelIdeal.Value
-- ==== Proof.QReference.lean ====
/-
  WHAT THE REFERENCE OF THE CALL `_qkv` COMPUTES, AT AN INDEX. Its host operations are read in five runs: the tables and scales,
  the weights, the product, the turning of the queries and keys, and the scaling of the groups. The one kernel after them clips.
-/
module

public import proofs.«01_k».proof.Proof.QTarget
public import proofs.«01_k».proof.Proof.Gen.QReferenceIdeal.Value
public import Idealize.ShloMosaic.Lib.BitcastConvert
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.QReferenceIdeal.Value

open Cert.QReferenceIdeal Cert.QReferenceIdeal.Gen Cert.Words

/-- The operations that make the codes' numbers and the scales. -/
def decoding : List (HloOp τ sig (Elt Ideal)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29]
/-- The operations that lay the two codes of a byte apart. -/
def spreading : List (HloOp τ sig (Elt Ideal)) := List.take 3 hostOps0_30
/-- The product, and its query, key and value columns. -/
def multiplying : List (HloOp τ sig (Elt Ideal)) := List.take 8 (List.drop 3 hostOps0_30)
/-- The turning of the queries and of the keys. -/
def turning : List (HloOp τ sig (Elt Ideal)) := List.take 25 (List.drop 11 hostOps0_30)
/-- The scaling of the groups. -/
def scaling : List (HloOp τ sig (Elt Ideal)) := List.drop 36 hostOps0_30

variable (m : (ℓ : Loc nD τ sig) → Buf (Elt Ideal) ℓ)

/-- The runs, one after the other, are all of them. -/
theorem all_runs : List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30]
    = decoding ++ (spreading ++ (multiplying ++ (turning ++ scaling))) := by
  sl_kernel_rfl

theorem scaling_keys (W : Valuation τ sig (Elt Ideal)) (r : Fin 6144) (n : Fin 256) (y : Fin 256 → Ideal .f32)
    (hy : ∀ n, (W main_v113 : FVec Ideal S6144x256 .f32) (ix2 r n) = y n) :
    (after scaling W main_v140 : FVec Ideal S6144x256 .f32) (ix2 r n)
      = y n * inverseScale (biased (greatest fun j => y ⟨n.val / 32 * 32 + j.val, by omega⟩)) := by
  unfold scaling
  simp only [List.drop]
  after_results_simp
  pointwise
  simp only [hy]
  refine congrArg₂ _ (congrArg y (Fin.ext (by show n.val / 32 * 32 + n.val % 32 = n.val; omega))) ?_
  rfl

theorem scaling_values (W : Valuation τ sig (Elt Ideal)) (r : Fin 6144) (n : Fin 256) (y : Fin 256 → Ideal .f32)
    (hy : ∀ n, (W main_v88 : FVec Ideal S6144x256 .f32) (ix2 r n) = y n) :
    (after scaling W main_v167 : FVec Ideal S6144x256 .f32) (ix2 r n)
      = y n * inverseScale (biased (greatest fun j => y ⟨n.val / 32 * 32 + j.val, by omega⟩)) := by
  unfold scaling
  simp only [List.drop]
  after_results_simp
  pointwise
  simp only [hy]
  refine congrArg₂ _ (congrArg y (Fin.ext (by show n.val / 32 * 32 + n.val % 32 = n.val; omega))) ?_
  rfl

theorem scaling_v103 (W : Valuation τ sig (Elt Ideal)) : after scaling W main_v103 = W main_v103 := by
  unfold scaling
  simp only [List.drop]
  after_results_simp

theorem turning_v88 (W : Valuation τ sig (Elt Ideal)) : after turning W main_v88 = W main_v88 := by
  unfold turning
  simp only [List.drop, List.take]
  after_results_simp

theorem turning_at (W : Valuation τ sig (Elt Ideal)) (r : Fin 6144) (n : Fin 256) (t : Fin 2 → Fin 128 → Ideal .f32)
    (ht : ∀ h l, (W main_v87 : FVec Ideal S6144x2x128 .f32) (ix3 r h l) = t h l) :
    (after turning W main_v113 : FVec Ideal S6144x256 .f32) (ix2 r n)
      = rotated (t ⟨n.val / 128, by omega⟩) (fun l => (W main_arg3 : FVec Ideal S6144x64 .f32) (ix2 r l))
          (fun l => (W main_arg4 : FVec Ideal S6144x64 .f32) (ix2 r l)) ⟨n.val % 128, by omega⟩ := by
  unfold turning
  simp only [List.drop, List.take]
  after_results_simp
  pointwise
  after_results_simp
  pointwise
  simp only [ht]
  unfold rotated
  have hn := Nat.mod_lt n.val (by decide : 0 < 128)
  by_cases h : n.val % 128 < 64
  · have h1 : (⟨n.val % 128 % 64, by omega⟩ : Fin 64) = ⟨n.val % 128, h⟩ := Fin.ext (by show n.val % 128 % 64 = n.val % 128; omega)
    have h2 : (⟨(n.val % 128 + 64) % 128, by omega⟩ : Fin 128) = ⟨64 + n.val % 128, by omega⟩ :=
      Fin.ext (by show (n.val % 128 + 64) % 128 = 64 + n.val % 128; omega)
    simp only [dif_pos h, if_pos h, h1, h2]
  · have h1 : (⟨n.val % 128 % 64, by omega⟩ : Fin 64) = ⟨n.val % 128 - 64, by omega⟩ := Fin.ext (by show n.val % 128 % 64 = n.val % 128 - 64; omega)
    have h2 : (⟨(n.val % 128 + 64) % 128, by omega⟩ : Fin 128) = ⟨n.val % 128 - 64, by omega⟩ :=
      Fin.ext (by show (n.val % 128 + 64) % 128 = n.val % 128 - 64; omega)
    simp only [dif_neg h, if_neg h, h1, h2]

theorem turning_queries (W : Valuation τ sig (Elt Ideal)) (r : Fin 6144) (n : Fin 2048) (t : Fin 16 → Fin 128 → Ideal .f32)
    (ht : ∀ h l, (W main_v85 : FVec Ideal S6144x16x128 .f32) (ix3 r h l) = t h l) :
    (after turning W main_v103 : FVec Ideal S6144x2048 .bf16) (ix2 r n)
      = rotated (t ⟨n.val / 128, by omega⟩) (fun l => (W main_arg3 : FVec Ideal S6144x64 .f32) (ix2 r l))
          (fun l => (W main_arg4 : FVec Ideal S6144x64 .f32) (ix2 r l)) ⟨n.val % 128, by omega⟩ := by
  unfold turning
  simp only [List.drop, List.take]
  after_results_simp
  pointwise
  after_results_simp
  pointwise
  simp only [ht]
  unfold rotated
  have hn := Nat.mod_lt n.val (by decide : 0 < 128)
  by_cases h : n.val % 128 < 64
  · have h1 : (⟨n.val % 128 % 64, by omega⟩ : Fin 64) = ⟨n.val % 128, h⟩ := Fin.ext (by show n.val % 128 % 64 = n.val % 128; omega)
    have h2 : (⟨(n.val % 128 + 64) % 128, by omega⟩ : Fin 128) = ⟨64 + n.val % 128, by omega⟩ :=
      Fin.ext (by show (n.val % 128 + 64) % 128 = 64 + n.val % 128; omega)
    simp only [dif_pos h, if_pos h, h1, h2]
  · have h1 : (⟨n.val % 128 % 64, by omega⟩ : Fin 64) = ⟨n.val % 128 - 64, by omega⟩ := Fin.ext (by show n.val % 128 % 64 = n.val % 128 - 64; omega)
    have h2 : (⟨(n.val % 128 + 64) % 128, by omega⟩ : Fin 128) = ⟨n.val % 128 - 64, by omega⟩ :=
      Fin.ext (by show (n.val % 128 + 64) % 128 = n.val % 128 - 64; omega)
    simp only [dif_neg h, if_neg h, h1, h2]

theorem multiplying_sum (W : Valuation τ sig (Elt Ideal)) (r : Fin 6144) (x : Fin 8192 → Ideal .bf16)
    (lo hi : Fin 4096 → Fin 2560 → Ideal .bf16)
    (hx : ∀ k, (W main_v2 : FVec Ideal S6144x8192 .bf16) (ix2 r k) = x k)
    (hlo : ∀ a q, (W main_v79 : FVec Ideal S4096x1x2560 .bf16) (ix3 a 0 q) = lo a q)
    (hhi : ∀ a q, (W main_v80 : FVec Ideal S4096x1x2560 .bf16) (ix3 a 0 q) = hi a q) :
    (∀ (h : Fin 16) (l : Fin 128), (after multiplying W main_v85 : FVec Ideal S6144x16x128 .f32) (ix3 r h l)
      = ∑ k : Fin 8192, x k * (if k.val % 2 = 0 then lo ⟨k.val / 2, by omega⟩ ⟨h.val * 128 + l.val, by omega⟩
          else hi ⟨k.val / 2, by omega⟩ ⟨h.val * 128 + l.val, by omega⟩))
    ∧ (∀ (h : Fin 2) (l : Fin 128), (after multiplying W main_v87 : FVec Ideal S6144x2x128 .f32) (ix3 r h l)
      = ∑ k : Fin 8192, x k * (if k.val % 2 = 0 then lo ⟨k.val / 2, by omega⟩ ⟨2048 + h.val * 128 + l.val, by omega⟩
          else hi ⟨k.val / 2, by omega⟩ ⟨2048 + h.val * 128 + l.val, by omega⟩))
    ∧ ∀ n : Fin 256, (after multiplying W main_v88 : FVec Ideal S6144x256 .f32) (ix2 r n)
      = ∑ k : Fin 8192, x k * (if k.val % 2 = 0 then lo ⟨k.val / 2, by omega⟩ ⟨2304 + n.val, by omega⟩
          else hi ⟨k.val / 2, by omega⟩ ⟨2304 + n.val, by omega⟩) := by
  have e : ∀ q : Fin 2560, ∀ k : Fin 8192,
      (if h : k.val % 2 < 1 then W (Proc.tc.devRef main_v79) (ix3 ⟨k.val / 2, by omega⟩ ⟨k.val % 2, by omega⟩ q)
        else W (Proc.tc.devRef main_v80) (ix3 ⟨k.val / 2, by omega⟩ ⟨k.val % 2 - 1, by omega⟩ q))
      = (if k.val % 2 = 0 then lo ⟨k.val / 2, by omega⟩ q else hi ⟨k.val / 2, by omega⟩ q : Ideal .bf16) := by
    intro q k
    split <;> rename_i h
    · rw [if_pos (by omega)]
      rw [show (⟨k.val % 2, by omega⟩ : Fin 1) = 0 from Fin.ext (by show k.val % 2 = 0; omega)]
      exact hlo _ _
    · rw [if_neg (by omega)]
      rw [show (⟨k.val % 2 - 1, by omega⟩ : Fin 1) = 0 from Fin.ext (by show k.val % 2 - 1 = 0; omega)]
      exact hhi _ _
  refine ⟨?_, ?_, ?_⟩
  · intro h l
    unfold multiplying
    simp only [List.drop, List.take]
    after_results_simp
    pointwise
    simp only [e, hx, Nat.add_assoc, Nat.zero_add]
  · intro h l
    unfold multiplying
    simp only [List.drop, List.take]
    after_results_simp
    pointwise
    simp only [e, hx, Nat.add_assoc]
  · intro n
    unfold multiplying
    simp only [List.drop, List.take]
    after_results_simp
    pointwise
    simp only [e, hx]

theorem spreading_v79 (W : Valuation τ sig (Elt Ideal)) (r : Fin 4096) (n : Fin 2560) :
    (after spreading W main_v79 : FVec Ideal S4096x1x2560 .bf16) (ix3 r 0 n) = (W main_v44 : FVec Ideal S4096x2560 .bf16) (ix2 r n) := by
  unfold spreading
  simp only [List.take]
  after_results_simp
  pointwise

theorem spreading_v80 (W : Valuation τ sig (Elt Ideal)) (r : Fin 4096) (n : Fin 2560) :
    (after spreading W main_v80 : FVec Ideal S4096x1x2560 .bf16) (ix3 r 0 n)
      = FloatOps.mulf (F := Ideal) (φ := .bf16) ((W main_v77 : FVec Ideal S4096x2560 .bf16) (ix2 r n)) ((W main_v9 : FVec Ideal S4096x2560 .bf16) (ix2 r n)) := by
  unfold spreading
  simp only [List.take]
  after_results_simp
  pointwise

theorem spreading_v2 (W : Valuation τ sig (Elt Ideal)) : after spreading W main_v2 = W main_v2 := by
  unfold spreading
  simp only [List.take]
  after_results_simp

theorem before_turning (W : Valuation τ sig (Elt Ideal)) :
    after multiplying (after spreading (after decoding W)) main_arg3 = W main_arg3
      ∧ after multiplying (after spreading (after decoding W)) main_arg4 = W main_arg4 := by
  constructor
  all_goals
    unfold multiplying spreading decoding
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29,
      List.drop, List.take, List.flatten, List.append, TRef.ternary, TRef.unary, TRef.toBuf, TRef.ofBuf, cast_eq, List.cons_append, List.nil_append]
    after_results_simp

theorem decoding_v2 (W : Valuation τ sig (Elt Ideal)) (r : Fin 6144) (k : Fin 8192) :
    (after decoding W main_v2 : FVec Ideal S6144x8192 .bf16) (ix2 r k)
      = Ideal.ofBits .bf16 (BitVec.extractLsb' (16 * (r.val % 2)) 16
          ((W main_arg0 : IVec S3072x8192 32) (ix2 ⟨r.val / 2, by omega⟩ k))) := by
  unfold decoding
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29,
    List.flatten, List.append, TRef.ternary, TRef.unary, TRef.toBuf, TRef.ofBuf, cast_eq, List.cons_append, List.nil_append]
  after_results_simp
  pointwise
  rw [Nat.mul_comm]
  refine congrArg (fun z => Ideal.ofBits .bf16 (BitVec.extractLsb' _ 16 z)) (congrArg _ (funext fun a => ?_))
  match a with
  | ⟨0, _⟩ => rfl
  | ⟨1, _⟩ => rfl

theorem decoding_v44 (W : Valuation τ sig (Elt Ideal)) (r : Fin 4096) (n : Fin 2560) :
    (after decoding W main_v44 : FVec Ideal S4096x2560 .bf16) (ix2 r n)
      = weight ((W main_arg1 : IVec S4096x2560 8) (ix2 r n)) ((W main_arg2 : IVec S256x2560 8) (ix2 ⟨r.val / 16, by omega⟩ n)) 0 := by
  unfold decoding
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29,
    List.flatten, List.append, TRef.ternary, TRef.unary, TRef.toBuf, TRef.ofBuf, cast_eq, List.cons_append, List.nil_append]
  after_results_simp
  pointwise
  refine congrArg₂ _ ?_ (scale_word _)
  exact (congrArg tableCode (low_nibble _)).trans (tableCode_eq _)

theorem decoding_high (W : Valuation τ sig (Elt Ideal)) (r : Fin 4096) (n : Fin 2560) :
    FloatOps.mulf (F := Ideal) (φ := .bf16) ((after decoding W main_v77 : FVec Ideal S4096x2560 .bf16) (ix2 r n))
        ((after decoding W main_v9 : FVec Ideal S4096x2560 .bf16) (ix2 r n))
      = weight ((W main_arg1 : IVec S4096x2560 8) (ix2 r n)) ((W main_arg2 : IVec S256x2560 8) (ix2 ⟨r.val / 16, by omega⟩ n)) 1 := by
  unfold decoding
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29,
    List.flatten, List.append, TRef.ternary, TRef.unary, TRef.toBuf, TRef.ofBuf, cast_eq, List.cons_append, List.nil_append]
  after_results_simp
  pointwise
  refine congrArg₂ _ ?_ (scale_word _)
  exact (congrArg tableCode (high_nibble _)).trans (tableCode_eq _)

/-- The product's sum with the two codes of a byte told apart is the sum of the weights. -/
theorem sum_weights (x : Fin 8192 → Ideal .bf16) (w : IVec S4096x2560 8) (e : IVec S256x2560 8) (q : Fin 2560) :
    (∑ k : Fin 8192, x k * (if k.val % 2 = 0 then weight (w (ix2 ⟨k.val / 2, by omega⟩ q)) (e (ix2 ⟨k.val / 2 / 16, by omega⟩ q)) 0
        else weight (w (ix2 ⟨k.val / 2, by omega⟩ q)) (e (ix2 ⟨k.val / 2 / 16, by omega⟩ q)) 1) : Ideal .f32)
      = ∑ k : Fin 8192, x k * weight (w (ix2 ⟨k.val / 2, by omega⟩ q)) (e (ix2 ⟨k.val / 2 / 16, by omega⟩ q)) (k.val % 2) := by
  refine Finset.sum_congr rfl fun k _ => congrArg _ ?_
  split <;> rename_i h
  · rw [h]
  · rw [(Nat.mod_two_eq_zero_or_one k.val).resolve_left h]

/-- The product's query and key columns, head by head, and its value columns. -/
theorem product_at (W : Valuation τ sig (Elt Ideal)) (r : Fin 6144) :
    (∀ (h : Fin 16) (l : Fin 128), (after multiplying (after spreading (after decoding W)) main_v85 : FVec Ideal S6144x16x128 .f32) (ix3 r h l)
      = qProduct (W main_arg0) (W main_arg1) (W main_arg2) r ⟨h.val * 128 + l.val, by omega⟩)
    ∧ (∀ (h : Fin 2) (l : Fin 128), (after multiplying (after spreading (after decoding W)) main_v87 : FVec Ideal S6144x2x128 .f32) (ix3 r h l)
      = qProduct (W main_arg0) (W main_arg1) (W main_arg2) r ⟨2048 + h.val * 128 + l.val, by omega⟩)
    ∧ ∀ n : Fin 256, (after multiplying (after spreading (after decoding W)) main_v88 : FVec Ideal S6144x256 .f32) (ix2 r n)
      = qProduct (W main_arg0) (W main_arg1) (W main_arg2) r ⟨2304 + n.val, by omega⟩ := by
  obtain ⟨hq, hk, hv⟩ := multiplying_sum (after spreading (after decoding W)) r
    (fun k => Ideal.ofBits .bf16 (BitVec.extractLsb' (16 * (r.val % 2)) 16 ((W main_arg0 : IVec S3072x8192 32) (ix2 ⟨r.val / 2, by omega⟩ k))))
    (fun a q => weight ((W main_arg1 : IVec S4096x2560 8) (ix2 a q)) ((W main_arg2 : IVec S256x2560 8) (ix2 ⟨a.val / 16, by omega⟩ q)) 0)
    (fun a q => weight ((W main_arg1 : IVec S4096x2560 8) (ix2 a q)) ((W main_arg2 : IVec S256x2560 8) (ix2 ⟨a.val / 16, by omega⟩ q)) 1)
    (fun k => by rw [spreading_v2]; exact decoding_v2 _ r k)
    (fun a q => by rw [spreading_v79]; exact decoding_v44 _ a q)
    (fun a q => by rw [spreading_v80]; exact decoding_high _ a q)
  exact ⟨fun h l => (hq h l).trans (sum_weights _ _ _ _), fun h l => (hk h l).trans (sum_weights _ _ _ _), fun n => (hv n).trans (sum_weights _ _ _ _)⟩

/-- The turned queries, at a row and a column. -/
theorem query_at (c : Dev nD) (r : Fin 6144) (n : Fin 2048) :
    (V m c main_v103 : FVec Ideal S6144x2048 .bf16) (ix2 r n) = qQuery (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) r n := by
  unfold V
  rw [all_runs, after_append, after_append, after_append, after_append, scaling_v103]
  refine (turning_queries _ r n _ (product_at _ r).1).trans ?_
  rw [(before_turning _).1, (before_turning _).2]
  rfl

/-- The turned keys the last kernel clips, already scaled, at a row and a column. -/
theorem key_at (c : Dev nD) (r : Fin 6144) (n : Fin 256) (y : Fin 256 → Ideal .f32)
    (hy : y = qKey (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) r) :
    (V m c main_v140 : FVec Ideal S6144x256 .f32) (ix2 r n)
      = y n * inverseScale (biased (greatest fun j => y ⟨n.val / 32 * 32 + j.val, by omega⟩)) := by
  subst hy
  unfold V
  rw [all_runs, after_append, after_append, after_append, after_append]
  refine scaling_keys _ r n _ fun n => ?_
  refine (turning_at _ r n _ (product_at _ r).2.1).trans ?_
  rw [(before_turning _).1, (before_turning _).2]
  rfl

/-- The values the last kernel clips, already scaled, at a row and a column. -/
theorem value_at (c : Dev nD) (r : Fin 6144) (n : Fin 256) (y : Fin 256 → Ideal .f32)
    (hy : y = qValue (m ((c.tc : Thread nD τ).loc main_arg0)) (m ((c.tc : Thread nD τ).loc main_arg1)) (m ((c.tc : Thread nD τ).loc main_arg2)) r) :
    (V m c main_v167 : FVec Ideal S6144x256 .f32) (ix2 r n)
      = y n * inverseScale (biased (greatest fun j => y ⟨n.val / 32 * 32 + j.val, by omega⟩)) := by
  subst hy
  unfold V
  rw [all_runs, after_append, after_append, after_append, after_append]
  refine scaling_values _ r n _ fun n => ?_
  rw [turning_v88]
  exact (product_at _ r).2.2 n

/-- The one grid point takes the whole arrays. -/
theorem idx : ∀ t : Fin cfg0.N, win0_2.index t = ![0, 0] ∧ win0_3.index t = ![0, 0] :=
  (by decide +kernel : ∀ t : Fin grid0.N, win0_2.index t = ![0, 0] ∧ win0_3.index t = ![0, 0])

/-- The block of keys read back is the array. -/
theorem whole_keys (P : FVec Ideal S6144x256 .f32) (t : Fin cfg0.N) (r : Fin 6144) (n : Fin 256) :
    View.ld (Val := Elt Ideal) (e' := .f32) (((cfg0.win 0).blk t).view.read (Elt Ideal) P) r0_0 (ix2_0 (ix2 r n)) = P (ix2 r n) := by
  have ht : t.val < 1 := t.isLt
  obtain rfl : t = ⟨0, by decide⟩ := Fin.ext (Nat.lt_one_iff.mp ht)
  refine congrArg P (funext fun a => Fin.ext ?_)
  match a with
  | ⟨0, _⟩ => show 0 * 6144 + 1 * (0 + 1 * r.val) = r.val; omega
  | ⟨1, _⟩ => show 0 * 256 + 1 * (0 + 1 * n.val) = n.val; omega

/-- The block of values read back is the array. -/
theorem whole_values (P : FVec Ideal S6144x256 .f32) (t : Fin cfg0.N) (r : Fin 6144) (n : Fin 256) :
    View.ld (Val := Elt Ideal) (e' := .f32) (((cfg0.win 1).blk t).view.read (Elt Ideal) P) r0_0 (ix3_0 (ix2 r n)) = P (ix2 r n) := by
  have ht : t.val < 1 := t.isLt
  obtain rfl : t = ⟨0, by decide⟩ := Fin.ext (Nat.lt_one_iff.mp ht)
  refine congrArg P (funext fun a => Fin.ext ?_)
  match a with
  | ⟨0, _⟩ => show 0 * 6144 + 1 * (0 + 1 * r.val) = r.val; omega
  | ⟨1, _⟩ => show 0 * 256 + 1 * (0 + 1 * n.val) = n.val; omega

/-- The turned keys of the arguments, row by row. -/
abbrev keyRow (c : Dev nD) (r : Fin 6144) : Fin 256 → Ideal .f32 :=
  qKey (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) r

/-- The values of the arguments, row by row. -/
abbrev valueRow (c : Dev nD) (r : Fin 6144) : Fin 256 → Ideal .f32 :=
  qValue (m ((c.tc : Thread nD τ).loc main_arg0)) (m ((c.tc : Thread nD τ).loc main_arg1)) (m ((c.tc : Thread nD τ).loc main_arg2)) r

/-- The first result is the codes of the turned keys. -/
theorem final_keys (c : Dev nD) : (dats m 0 c).arrAt 2 cfg0.N = fun y : S6144x256.Idx => rowCode (keyRow m c (y 0)) (y 1) := by
  refine (dats m 0 c).arrAt_eq_of_covers 2 _ (by decide +kernel) fun t _ y => ?_
  blk_simp
  rw [after0_2]
  unfold out0_2
  rw [canon2_eq]
  idx_vars y
  rw [show ((View.whole main_v168_0).slice (win0_2.rect t)).emb (ix2 y0 y1) 0 = y0 from Fin.ext (by blk_simp; simp [idx t]),
    show ((View.whole main_v168_0).slice (win0_2.rect t)).emb (ix2 y0 y1) 1 = y1 from Fin.ext (by blk_simp; simp [idx t])]
  refine congrArg (fun z : Ideal .f32 => min (Ideal.ofBits .f32 0x43E00000#32) (max (Ideal.ofBits .f32 0xC3E00000#32) z)) ?_
  refine Eq.trans ?_ (key_at m c y0 y1 _ rfl)
  exact whole_keys _ t y0 y1

/-- The second result is the codes of the values. -/
theorem final_values (c : Dev nD) : (dats m 0 c).arrAt 3 cfg0.N = fun y : S6144x256.Idx => rowCode (valueRow m c (y 0)) (y 1) := by
  refine (dats m 0 c).arrAt_eq_of_covers 3 _ (by decide +kernel) fun t _ y => ?_
  blk_simp
  rw [after0_3]
  unfold out0_3
  rw [canon3_eq]
  idx_vars y
  rw [show ((View.whole main_v168_1).slice (win0_3.rect t)).emb (ix2 y0 y1) 0 = y0 from Fin.ext (by blk_simp; simp [idx t]),
    show ((View.whole main_v168_1).slice (win0_3.rect t)).emb (ix2 y0 y1) 1 = y1 from Fin.ext (by blk_simp; simp [idx t])]
  refine congrArg (fun z : Ideal .f32 => min (Ideal.ofBits .f32 0x43E00000#32) (max (Ideal.ofBits .f32 0xC3E00000#32) z)) ?_
  refine Eq.trans ?_ (value_at m c y0 y1 _ rfl)
  exact whole_values _ t y0 y1

/-- The queries are made before the last kernel, which does not touch them. -/
theorem final_queries (c : Dev nD) (r : PUnit × MemSt nD τ sig (Elt Ideal)) (h : Pipeline.FramePost cfgs (dats m) 0 (V m) r) :
    r.2.mem ((c.tc : Thread nD τ).loc main_v103) = fun y : S6144x2048.Idx => qQuery (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (y 0) (y 1) := by
  refine ((h c).2 main_v103 (Pipeline.mem_restRefs_of main_v103 (by decide) (by decide))).trans (funext fun y => ?_)
  idx_vars y
  exact query_at m c y0 y1

/-- The reference's run: the results are the queries and the codes, the arguments are unchanged. -/
theorem run_codes (ρ : Dev nD → PrngReg) :
    θ_run defs (onTc (τ := τ) (main (F := Ideal))) ⟨m, fun _ => 0, ρ⟩ fun r => ∀ c : Dev nD,
      r.2.mem ((c.tc : Thread nD τ).loc main_v103) = (fun y : S6144x2048.Idx => qQuery (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (y 0) (y 1))
      ∧ r.2.mem ((c.tc : Thread nD τ).loc main_v168_0) = (fun y : S6144x256.Idx => rowCode (keyRow m c (y 0)) (y 1))
      ∧ r.2.mem ((c.tc : Thread nD τ).loc main_v168_1) = (fun y : S6144x256.Idx => rowCode (valueRow m c (y 0)) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨final_queries m c r h, (post2 m r h c).trans (final_keys m c), (post3 m r h c).trans (final_values m c),
      kept_main_arg0 m r h c, kept_main_arg1 m r h c, kept_main_arg2 m r h c, kept_main_arg3 m r h c, kept_main_arg4 m r h c⟩)
    (run_main m ρ)

end Cert.QReferenceIdeal.Value
-- ==== Proof.lean ====
/-
  The proof of `Cert.Claim`, for the down projection, the output projection (`o_`), the gate and up projections (`g_`) and
  the projection to queries, keys and values (`q_`): the three programs of each run to the end and leave their arguments
  alone; the idealized kernel rewrites nothing but packed bf16 words; over the extended reals the kernel and the reference
  end with the same result: the product of the activation rows with the decoded weights, or, of the gate and up
  projections, the fp8 codes of the activations, or, of the last, the turned queries and the fp8 codes of
  the turned keys and of the values.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.OKernel
public import proofs.«01_k».proof.Proof.Gen.OKernel.Skeleton
public import proofs.«01_k».proof.Proof.Gen.OKernel.Loops
public import proofs.«01_k».proof.Proof.Gen.OKernel.Launch
public import proofs.«01_k».proof.Proof.Gen.OKernel.Points
public import proofs.«01_k».proof.Proof.Gen.OKernel.Frame
public import proofs.«01_k».proof.Proof.Gen.OKernelIdeal
public import proofs.«01_k».proof.Proof.Gen.OKernelIdeal.Skeleton
public import proofs.«01_k».proof.Proof.Gen.OKernelIdeal.Loops
public import proofs.«01_k».proof.Proof.Gen.OKernelIdeal.Launch
public import proofs.«01_k».proof.Proof.Gen.OKernelIdeal.Points
public import proofs.«01_k».proof.Proof.Gen.OKernelIdeal.Frame
public import proofs.«01_k».proof.Proof.Gen.OReferenceIdeal
public import proofs.«01_k».proof.Proof.Gen.OKernelIdeal.Value
public import proofs.«01_k».proof.Proof.Gen.OReferenceIdeal.Run
public import proofs.«01_k».proof.Proof.Gen.GKernel
public import proofs.«01_k».proof.Proof.Gen.GKernel.Loops
public import proofs.«01_k».proof.Proof.Gen.GKernel.Frame
public import proofs.«01_k».proof.Proof.Gen.GKernelIdeal
public import proofs.«01_k».proof.Proof.Gen.GKernelIdeal.Loops
public import proofs.«01_k».proof.Proof.Gen.GKernelIdeal.Frame
public import proofs.«01_k».proof.Proof.Gen.GReferenceIdeal
public import proofs.«01_k».proof.Proof.Gen.GReferenceIdeal.Frame
public import proofs.«01_k».proof.Proof.Gen.GReferenceIdeal.Value
public import proofs.«01_k».proof.Proof.Gen.QKernel
public import proofs.«01_k».proof.Proof.Gen.QKernel.Loops
public import proofs.«01_k».proof.Proof.Gen.QKernel.Frame
public import proofs.«01_k».proof.Proof.Gen.QKernelIdeal
public import proofs.«01_k».proof.Proof.Gen.QKernelIdeal.Loops
public import proofs.«01_k».proof.Proof.Gen.QKernelIdeal.Frame
public import proofs.«01_k».proof.Proof.Gen.QReferenceIdeal
public import proofs.«01_k».proof.Proof.Gen.QReferenceIdeal.Frame
public import proofs.«01_k».proof.Proof.Gen.QReferenceIdeal.Value
public import proofs.«01_k».proof.Proof.Final
public import proofs.«01_k».proof.Proof.Reference
public import proofs.«01_k».proof.Proof.OFinal
public import proofs.«01_k».proof.Proof.OReference
public import proofs.«01_k».proof.Proof.GBitsFrame
public import proofs.«01_k».proof.Proof.GFinal
public import proofs.«01_k».proof.Proof.GReference
public import proofs.«01_k».proof.Proof.QBitsFrame
public import proofs.«01_k».proof.Proof.QFinal
public import proofs.«01_k».proof.Proof.QReference
public import Idealize.ShloMosaic.Lib.Bf16Pair
public import Idealize.ShloMosaic.Lib.Bf16PairInverse
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem Cert.Kernel

-- The down projection.

theorem frame_kernel : Cert.quiescent_Kernel (hKernel := Cert.Kernel.Gen.facts) := fun m g _ => Cert.Kernel.Gen.frame m g

theorem frame_kernelIdeal : Cert.quiescent_KernelIdeal (hKernelIdeal := Cert.KernelIdeal.Gen.facts) :=
  fun m g _ => Cert.KernelIdeal.Gen.frame m g

theorem preserves : Cert.preserves_Kernel_KernelIdeal :=
  ⟨IdealRules.bf16_pair.bufferStatement _ _, IdealRules.bf16_pair.statement _ _, IdealRules.bf16_pair.statement _ _,
    IdealRules.bf16_pair.statement _ _, IdealRules.bf16_pair.statement _ _⟩

theorem frame_referenceIdeal : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run m g)

theorem algebraic : Cert.algebraic_KernelIdeal_ReferenceIdeal (hKernelIdeal := Cert.KernelIdeal.Gen.facts)
    (hReferenceIdeal := Cert.ReferenceIdeal.Gen.facts) := by
  intro m g m' g' _ hagree
  refine ⟨_, Cert.KernelIdeal.Value.run_product m g,
    (θ_run Cert.ReferenceIdeal.defs _ _).mono (fun r h c => ⟨(h c).1.trans ?_, (h c).2⟩)
      (Cert.ReferenceIdeal.Value.run_product m' g')⟩
  rw [(hagree c).1, (hagree c).2.1, (hagree c).2.2]

-- The output projection.

theorem o_frame_kernel : Cert.quiescent_OKernel (hOKernel := Cert.OKernel.Gen.facts) := fun m g _ => Cert.OKernel.Gen.frame m g

theorem o_frame_kernelIdeal : Cert.quiescent_OKernelIdeal (hOKernelIdeal := Cert.OKernelIdeal.Gen.facts) :=
  fun m g _ => Cert.OKernelIdeal.Gen.frame m g

theorem o_preserves : Cert.preserves_OKernel_OKernelIdeal :=
  ⟨IdealRules.bf16_pair.bufferStatement _ _, IdealRules.bf16_pair.statement _ _, IdealRules.bf16_pair.statement _ _,
    IdealRules.bf16_pair.statement _ _, IdealRules.bf16_pair.statement _ _⟩

theorem o_frame_referenceIdeal : Cert.quiescent_OReferenceIdeal (hOReferenceIdeal := Cert.OReferenceIdeal.Gen.facts) :=
  fun m g _ => (θ_run Cert.OReferenceIdeal.defs _ _).mono
    (fun r h => ⟨fun c => (h c).2, sem_eq_zero_of_no_sems (by decide) r.2⟩) (Cert.OReferenceIdeal.Value.run m g)

theorem o_algebraic : Cert.algebraic_OKernelIdeal_OReferenceIdeal (hOKernelIdeal := Cert.OKernelIdeal.Gen.facts)
    (hOReferenceIdeal := Cert.OReferenceIdeal.Gen.facts) := by
  intro m g m' g' _ hagree
  refine ⟨_, Cert.OKernelIdeal.Value.run_product m g,
    (θ_run Cert.OReferenceIdeal.defs _ _).mono (fun r h c => ⟨(h c).1.trans ?_, (h c).2⟩)
      (Cert.OReferenceIdeal.Value.run_product m' g')⟩
  rw [(hagree c).1, (hagree c).2.1, (hagree c).2.2]

-- The gate and up projections.

theorem g_frame_kernel : Cert.quiescent_GKernel (hGKernel := Cert.GKernel.Gen.facts) := fun m g _ => Cert.GKernel.Gen.frame m g

theorem g_frame_kernelIdeal : Cert.quiescent_GKernelIdeal (hGKernelIdeal := Cert.GKernelIdeal.Gen.facts) :=
  fun m g _ => Cert.GKernelIdeal.Gen.frame m g

theorem g_preserves : Cert.preserves_GKernel_GKernelIdeal :=
  ⟨IdealRules.bf16_pair.bufferStatement _ _, IdealRules.bf16_pair.statement _ _, IdealRules.bf16_pair.statement _ _,
    IdealRules.bf16_pair.statement _ _, IdealRules.bf16_pair.statement _ _, IdealRules.bf16_pack.statement _,
    IdealRules.bf16_pair.statement _ _, IdealRules.bf16_pair.packStatement _, IdealRules.bf16_pair.statement _ _,
    IdealRules.bf16_pair.statement _ _⟩

theorem g_frame_referenceIdeal : Cert.quiescent_GReferenceIdeal (hGReferenceIdeal := Cert.GReferenceIdeal.Gen.facts) :=
  fun m g _ => Cert.GReferenceIdeal.Gen.frame m g

theorem g_algebraic : Cert.algebraic_GKernelIdeal_GReferenceIdeal (hGKernelIdeal := Cert.GKernelIdeal.Gen.facts)
    (hGReferenceIdeal := Cert.GReferenceIdeal.Gen.facts) := by
  intro m g m' g' _ hagree
  refine ⟨_, Cert.GKernelIdeal.Value.run_codes m g,
    (θ_run Cert.GReferenceIdeal.defs _ _).mono (fun r h c => ⟨(h c).1.trans ?_, (h c).2⟩)
      (Cert.GReferenceIdeal.Value.run_codes m' g')⟩
  rw [(hagree c).1, (hagree c).2.1, (hagree c).2.2]

-- The projection to queries, keys and values.

theorem q_frame_kernel : Cert.quiescent_QKernel (hQKernel := Cert.QKernel.Gen.facts) := fun m g _ => Cert.QKernel.Gen.frame m g

theorem q_frame_kernelIdeal : Cert.quiescent_QKernelIdeal (hQKernelIdeal := Cert.QKernelIdeal.Gen.facts) :=
  fun m g _ => Cert.QKernelIdeal.Gen.frame m g

theorem q_preserves : Cert.preserves_QKernel_QKernelIdeal :=
  ⟨IdealRules.bf16_pair.bufferStatement _ _, IdealRules.bf16_pair.bufferStatement _ _, IdealRules.bf16_pair.bufferStatement _ _,
    IdealRules.bf16_pair.statement _ _, IdealRules.bf16_pair.statement _ _, IdealRules.bf16_pair.statement _ _,
    IdealRules.bf16_pair.statement _ _, IdealRules.bf16_pack.statement _, IdealRules.bf16_pair.statement _ _,
    IdealRules.bf16_pair.packStatement _, IdealRules.bf16_pair.statement _ _, IdealRules.bf16_pair.statement _ _,
    IdealRules.bf16_pair.statement _ _, IdealRules.bf16_pair.statement _ _⟩

theorem q_frame_referenceIdeal : Cert.quiescent_QReferenceIdeal (hQReferenceIdeal := Cert.QReferenceIdeal.Gen.facts) :=
  fun m g _ => Cert.QReferenceIdeal.Gen.frame m g

theorem q_algebraic : Cert.algebraic_QKernelIdeal_QReferenceIdeal (hQKernelIdeal := Cert.QKernelIdeal.Gen.facts)
    (hQReferenceIdeal := Cert.QReferenceIdeal.Gen.facts) := by
  intro m g m' g' _ hagree
  refine ⟨_, _, _, Cert.QKernelIdeal.Value.run_codes m g,
    (θ_run Cert.QReferenceIdeal.defs _ _).mono (fun r h c => ⟨(h c).1.trans ?_, (h c).2.1.trans ?_, (h c).2.2.1.trans ?_, (h c).2.2.2⟩)
      (Cert.QReferenceIdeal.Value.run_codes m' g')⟩
  · rw [(hagree c).1, (hagree c).2.1, (hagree c).2.2.1, (hagree c).2.2.2.1, (hagree c).2.2.2.2]
  · unfold Cert.QReferenceIdeal.Value.keyRow
    rw [(hagree c).1, (hagree c).2.1, (hagree c).2.2.1, (hagree c).2.2.2.1, (hagree c).2.2.2.2]
  · unfold Cert.QReferenceIdeal.Value.valueRow
    rw [(hagree c).1, (hagree c).2.1, (hagree c).2.2.1]

theorem claim : Cert.Claim := ⟨Cert.Kernel.Gen.facts, Cert.KernelIdeal.Gen.facts, Cert.ReferenceIdeal.Gen.facts,
  Cert.OKernel.Gen.facts, Cert.OKernelIdeal.Gen.facts, Cert.OReferenceIdeal.Gen.facts,
  Cert.GKernel.Gen.facts, Cert.GKernelIdeal.Gen.facts, Cert.GReferenceIdeal.Gen.facts,
  Cert.QKernel.Gen.facts, Cert.QKernelIdeal.Gen.facts, Cert.QReferenceIdeal.Gen.facts,
  frame_kernel, frame_kernelIdeal, frame_referenceIdeal, o_frame_kernel, o_frame_kernelIdeal, o_frame_referenceIdeal,
  g_frame_kernel, g_frame_kernelIdeal, g_frame_referenceIdeal,
  q_frame_kernel, q_frame_kernelIdeal, q_frame_referenceIdeal,
  preserves, algebraic, o_preserves, o_algebraic, g_preserves, g_algebraic,
  q_preserves, q_algebraic⟩

end Cert.Proof

end
